-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_fit_KernelIdeal [hPre_scales_fit_KernelIdeal : Cert.Pre_scales_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_fit_ReferenceIdeal [hPre_scales_fit_ReferenceIdeal : Cert.Pre_scales_fit_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scales_fit_KernelIdeal [hKernelIdeal : Cert.KernelIdeal.Facts] [hPre_scales_fit_KernelIdeal : Cert.Pre_scales_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scales_fit_ReferenceIdeal [hReferenceIdeal : Cert.ReferenceIdeal.Facts] [hPre_scales_fit_ReferenceIdeal : Cert.Pre_scales_fit_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_fit_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scales_fit_KernelIdeal [hKernelIdeal : Cert.KernelIdeal.Facts] [hReferenceIdeal : Cert.ReferenceIdeal.Facts] [hPre_scales_fit_KernelIdeal : Cert.Pre_scales_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_fit_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scales_fit_KernelIdeal : Cert.Pre_scales_fit_KernelIdeal.Facts) (hPre_scales_fit_ReferenceIdeal : Cert.Pre_scales_fit_ReferenceIdeal.Facts),
    quiescent_Kernel (hKernel := hKernel)
    ∧ quiescent_KernelIdeal (hKernelIdeal := hKernelIdeal)
    ∧ quiescent_KernelIdeal_pre_scales_fit_KernelIdeal (hKernelIdeal := hKernelIdeal) (hPre_scales_fit_KernelIdeal := hPre_scales_fit_KernelIdeal)
    ∧ quiescent_ReferenceIdeal (hReferenceIdeal := hReferenceIdeal)
    ∧ quiescent_ReferenceIdeal_pre_scales_fit_ReferenceIdeal (hReferenceIdeal := hReferenceIdeal) (hPre_scales_fit_ReferenceIdeal := hPre_scales_fit_ReferenceIdeal)
    ∧ preserves_Kernel_KernelIdeal
    ∧ algebraic_KernelIdeal_ReferenceIdeal_pre_scales_fit_KernelIdeal (hKernelIdeal := hKernelIdeal) (hReferenceIdeal := hReferenceIdeal) (hPre_scales_fit_KernelIdeal := hPre_scales_fit_KernelIdeal)
-- ==== Pre_scales_fit_KernelIdeal.lean ====
abbrev S4096x128 : Shape := ⟨2, ![4096, 128]⟩
abbrev S128x8192 : Shape := ⟨2, ![128, 8192]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x128 .fp8e5m2) (main_arg1 : FVec F S128x8192 .fp8e5m2) (main_arg2 : FVec F S1 .f32) (main_arg3 : FVec F S1 .f32) : IVec S1 1 :=
  let main_v0 : FVec F S1 .f32 := mulf main_arg2 main_arg3
  let main_cst : FVec F S_ .f32 := constant S_ .f32 0x00000000#32
  let main_v1 : FVec F S1 .f32 := broadcastInDim S1 ![] bcast_S_S1 main_cst
  let main_v2 : IVec S1 1 := cmpf .oge main_v0 main_v1
  let main_cst_0 : FVec F S_ .f32 := constant S_ .f32 0x7F800000#32
  let main_v3 : FVec F S1 .f32 := broadcastInDim S1 ![] bcast_S_S1 main_cst_0
  let main_v4 : IVec S1 1 := cmpf .olt main_v0 main_v3
  let main_v5 : IVec S1 1 := andi main_v2 main_v4
  main_v5
-- ==== Pre_scales_fit_ReferenceIdeal.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x4096 .fp8e5m2) (main_arg1 : FVec F S4096x8192 .fp8e5m2) (main_arg2 : FVec F S1 .f32) (main_arg3 : FVec F S1 .f32) : IVec S1 1 :=
  let main_v0 : FVec F S1 .f32 := mulf main_arg2 main_arg3
  let main_cst : FVec F S_ .f32 := constant S_ .f32 0x00000000#32
  let main_v1 : FVec F S1 .f32 := broadcastInDim S1 ![] bcast_S_S1 main_cst
  let main_v2 : IVec S1 1 := cmpf .oge main_v0 main_v1
  let main_cst_0 : FVec F S_ .f32 := constant S_ .f32 0x7F800000#32
  let main_v3 : FVec F S1 .f32 := broadcastInDim S1 ![] bcast_S_S1 main_cst_0
  let main_v4 : IVec S1 1 := cmpf .olt main_v0 main_v3
  let main_v5 : IVec S1 1 := andi main_v2 main_v4
  main_v5
-- ==== Kernel.lean ====
abbrev S4096x128 : Shape := ⟨2, ![4096, 128]⟩
abbrev S128x8192 : Shape := ⟨2, ![128, 8192]⟩
abbrev S1 : Shape := ⟨1, ![1]⟩
abbrev S32 : Shape := ⟨1, ![32]⟩
abbrev S_ : Shape := ⟨0, ![]⟩
abbrev S9 : Shape := ⟨1, ![9]⟩
abbrev S4096x8192 : Shape := ⟨2, ![4096, 8192]⟩
abbrev S3x128x1408 : Shape := ⟨3, ![3, 128, 1408]⟩
abbrev S3x128x1280 : Shape := ⟨3, ![3, 128, 1280]⟩
abbrev S128x1408 : Shape := ⟨2, ![128, 1408]⟩
abbrev S128x1280 : Shape := ⟨2, ![128, 1280]⟩
abbrev S6x3 : Shape := ⟨2, ![6, 3]⟩
abbrev S6 : Shape := ⟨1, ![6]⟩
abbrev S128x128 : Shape := ⟨2, ![128, 128]⟩
abbrev S1x128x1408 : Shape := ⟨3, ![1, 128, 1408]⟩
abbrev S1x128x1280 : Shape := ⟨3, ![1, 128, 1280]⟩
abbrev S1x1 : Shape := ⟨2, ![1, 1]⟩

abbrev nBuf : Space → Nat
  | .hbm => 303
  | .vmem => 15
  | .smem => 3
  | _ => 0

abbrev hbmTy0_0 (i : Nat) : BufTy := match i % 128 with
  | 0 => ⟨S4096x128, .fp8e5m2⟩
  | 1 => ⟨S128x8192, .fp8e5m2⟩
  | 2 => ⟨S1, .f32⟩
  | 3 => ⟨S1, .f32⟩
  | 4 => ⟨S32, .i32⟩
  | 5 => ⟨S32, .i32⟩
  | 6 => ⟨S32, .i32⟩
  | 7 => ⟨S32, .i32⟩
  | 8 => ⟨S32, .i32⟩
  | 9 => ⟨S32, .i32⟩
  | 10 => ⟨S32, .i32⟩
  | 11 => ⟨S32, .i32⟩
  | 12 => ⟨S32, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S1, .i32⟩
  | 25 => ⟨S1, .i32⟩
  | 26 => ⟨S_, .i32⟩
  | 27 => ⟨S1, .i32⟩
  | 28 => ⟨S1, .i1⟩
  | 29 => ⟨S1, .i1⟩
  | 30 => ⟨S1, .i1⟩
  | 31 => ⟨S_, .i1⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i1⟩
  | 49 => ⟨S_, .i32⟩
  | 50 => ⟨S_, .i1⟩
  | 51 => ⟨S_, .i1⟩
  | 52 => ⟨S_, .i1⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S1, .i32⟩
  | 61 => ⟨S1, .i32⟩
  | 62 => ⟨S_, .i32⟩
  | 63 => ⟨S1, .i32⟩
  | 64 => ⟨S1, .i1⟩
  | 65 => ⟨S1, .i1⟩
  | 66 => ⟨S1, .i1⟩
  | 67 => ⟨S_, .i1⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i1⟩
  | 87 => ⟨S_, .i32⟩
  | 88 => ⟨S_, .i1⟩
  | 89 => ⟨S_, .i1⟩
  | 90 => ⟨S_, .i1⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S1, .i32⟩
  | 99 => ⟨S1, .i32⟩
  | 100 => ⟨S_, .i32⟩
  | 101 => ⟨S1, .i32⟩
  | 102 => ⟨S1, .i1⟩
  | 103 => ⟨S1, .i1⟩
  | 104 => ⟨S1, .i1⟩
  | 105 => ⟨S_, .i1⟩
  | 106 => ⟨S_, .i1⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S1, .i32⟩
  | 116 => ⟨S1, .i32⟩
  | 117 => ⟨S_, .i32⟩
  | 118 => ⟨S1, .i32⟩
  | 119 => ⟨S1, .i1⟩
  | 120 => ⟨S1, .i1⟩
  | 121 => ⟨S1, .i1⟩
  | 122 => ⟨S_, .i1⟩
  | 123 => ⟨S_, .i1⟩
  | 124 => ⟨S_, .i32⟩
  | 125 => ⟨S_, .i32⟩
  | 126 => ⟨S_, .i32⟩
  | 127 => ⟨S_, .i32⟩
  | _ => ⟨S4096x128, .fp8e5m2⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i1⟩
  | 12 => ⟨S_, .i32⟩
  | 13 => ⟨S_, .i1⟩
  | 14 => ⟨S_, .i1⟩
  | 15 => ⟨S_, .i1⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S1, .i32⟩
  | 24 => ⟨S1, .i32⟩
  | 25 => ⟨S_, .i32⟩
  | 26 => ⟨S1, .i32⟩
  | 27 => ⟨S1, .i1⟩
  | 28 => ⟨S1, .i1⟩
  | 29 => ⟨S1, .i1⟩
  | 30 => ⟨S_, .i1⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i1⟩
  | 50 => ⟨S_, .i32⟩
  | 51 => ⟨S_, .i1⟩
  | 52 => ⟨S_, .i1⟩
  | 53 => ⟨S_, .i1⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S1, .i32⟩
  | 62 => ⟨S1, .i32⟩
  | 63 => ⟨S_, .i32⟩
  | 64 => ⟨S1, .i32⟩
  | 65 => ⟨S1, .i1⟩
  | 66 => ⟨S1, .i1⟩
  | 67 => ⟨S1, .i1⟩
  | 68 => ⟨S_, .i1⟩
  | 69 => ⟨S_, .i1⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S1, .i32⟩
  | 79 => ⟨S1, .i32⟩
  | 80 => ⟨S_, .i32⟩
  | 81 => ⟨S1, .i32⟩
  | 82 => ⟨S1, .i1⟩
  | 83 => ⟨S1, .i1⟩
  | 84 => ⟨S1, .i1⟩
  | 85 => ⟨S_, .i1⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i1⟩
  | 103 => ⟨S_, .i32⟩
  | 104 => ⟨S_, .i1⟩
  | 105 => ⟨S_, .i1⟩
  | 106 => ⟨S_, .i1⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S1, .i32⟩
  | 115 => ⟨S1, .i32⟩
  | 116 => ⟨S_, .i32⟩
  | 117 => ⟨S1, .i32⟩
  | 118 => ⟨S1, .i1⟩
  | 119 => ⟨S1, .i1⟩
  | 120 => ⟨S1, .i1⟩
  | 121 => ⟨S_, .i1⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S4096x128, .fp8e5m2⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i1⟩
  | 13 => ⟨S_, .i32⟩
  | 14 => ⟨S_, .i1⟩
  | 15 => ⟨S_, .i1⟩
  | 16 => ⟨S_, .i1⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S1, .i32⟩
  | 25 => ⟨S1, .i32⟩
  | 26 => ⟨S_, .i32⟩
  | 27 => ⟨S1, .i32⟩
  | 28 => ⟨S1, .i1⟩
  | 29 => ⟨S1, .i1⟩
  | 30 => ⟨S1, .i1⟩
  | 31 => ⟨S_, .i1⟩
  | 32 => ⟨S_, .i1⟩
  | 33 => ⟨S_, .i32⟩
  | 34 => ⟨S_, .i32⟩
  | 35 => ⟨S_, .i32⟩
  | 36 => ⟨S1, .i32⟩
  | 37 => ⟨S1, .i32⟩
  | 38 => ⟨S1, .i32⟩
  | 39 => ⟨S1, .i32⟩
  | 40 => ⟨S1, .i32⟩
  | 41 => ⟨S1, .i32⟩
  | 42 => ⟨S1, .i32⟩
  | 43 => ⟨S1, .i32⟩
  | 44 => ⟨S1, .i32⟩
  | 45 => ⟨S9, .i32⟩
  | 46 => ⟨S4096x8192, .f32⟩
  | _ => ⟨S4096x128, .fp8e5m2⟩

abbrev hbmTy (i : Nat) : BufTy := match i / 128 with
  | 0 => hbmTy0_0 i
  | 1 => hbmTy0_1 i
  | 2 => hbmTy0_2 i
  | _ => ⟨S4096x128, .fp8e5m2⟩

abbrev bufTy : (tb : Table) → Fin (tcTables nBuf tb) → BufTy
  | .hbm, ⟨i, _⟩ => hbmTy i
  | .local _ .vmem, ⟨0, _⟩ => ⟨S4096x128, .fp8e5m2⟩
  | .local _ .vmem, ⟨1, _⟩ => ⟨S128x8192, .fp8e5m2⟩
  | .local _ .vmem, ⟨2, _⟩ => ⟨S3x128x1408, .f32⟩
  | .local _ .vmem, ⟨3, _⟩ => ⟨S3x128x1408, .f32⟩
  | .local _ .vmem, ⟨4, _⟩ => ⟨S3x128x1408, .f32⟩
  | .local _ .vmem, ⟨5, _⟩ => ⟨S3x128x1280, .f32⟩
  | .local _ .vmem, ⟨6, _⟩ => ⟨S3x128x1408, .f32⟩
  | .local _ .vmem, ⟨7, _⟩ => ⟨S3x128x1280, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1280, .f32⟩
  | .local _ .vmem, ⟨12, _⟩ => ⟨S128x1408, .f32⟩
  | .local _ .vmem, ⟨13, _⟩ => ⟨S128x1280, .f32⟩
  | .local _ .vmem, ⟨14, _⟩ => ⟨S128x8192, .bf16⟩
  | .local _ .smem, ⟨0, _⟩ => ⟨S1, .f32⟩
  | .local _ .smem, ⟨1, _⟩ => ⟨S1, .f32⟩
  | .local _ .smem, ⟨2, _⟩ => ⟨S9, .i32⟩
  | _, _ => ⟨S4096x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 7 47 bufScoped semScoped dmaSemScoped tileCredit tileCredit_eq_zero tileCredit_pos).withBarriers [(0, 6)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_c_8 : Ref sig .tc := ⟨.hbm, 13, rfl⟩
abbrev main_c_9 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_c : Ref sig .tc := ⟨.hbm, 19, rfl⟩
abbrev main_call0_v0 : Ref sig .tc := ⟨.hbm, 20, rfl⟩
abbrev main_call0_c_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_c_1 : Ref sig .tc := ⟨.hbm, 25, rfl⟩
abbrev main_call0_c_2 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_c_3 : Ref sig .tc := ⟨.hbm, 31, rfl⟩
abbrev main_call0_v8 : Ref sig .tc := ⟨.hbm, 32, rfl⟩
abbrev main_call0_v9 : Ref sig .tc := ⟨.hbm, 33, rfl⟩
abbrev main_call0_c_4 : Ref sig .tc := ⟨.hbm, 34, rfl⟩
abbrev main_v5 : Ref sig .tc := ⟨.hbm, 35, rfl⟩
abbrev main_c_10 : Ref sig .tc := ⟨.hbm, 36, rfl⟩
abbrev main_v6 : Ref sig .tc := ⟨.hbm, 37, rfl⟩
abbrev main_c_11 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_c_1 : Ref sig .tc := ⟨.hbm, 45, rfl⟩
abbrev main_call1_v4 : Ref sig .tc := ⟨.hbm, 46, rfl⟩
abbrev main_call1_c_2 : Ref sig .tc := ⟨.hbm, 47, rfl⟩
abbrev main_call1_v5 : Ref sig .tc := ⟨.hbm, 48, rfl⟩
abbrev main_call1_c_3 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_v7 : Ref sig .tc := ⟨.hbm, 54, rfl⟩
abbrev main_call2_c : Ref sig .tc := ⟨.hbm, 55, rfl⟩
abbrev main_call2_v0 : Ref sig .tc := ⟨.hbm, 56, rfl⟩
abbrev main_call2_c_0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_c_1 : Ref sig .tc := ⟨.hbm, 61, rfl⟩
abbrev main_call2_c_2 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_c_3 : Ref sig .tc := ⟨.hbm, 67, rfl⟩
abbrev main_call2_v8 : Ref sig .tc := ⟨.hbm, 68, rfl⟩
abbrev main_call2_v9 : Ref sig .tc := ⟨.hbm, 69, rfl⟩
abbrev main_call2_c_4 : Ref sig .tc := ⟨.hbm, 70, rfl⟩
abbrev main_v8 : Ref sig .tc := ⟨.hbm, 71, rfl⟩
abbrev main_c_12 : Ref sig .tc := ⟨.hbm, 72, rfl⟩
abbrev main_v9 : Ref sig .tc := ⟨.hbm, 73, rfl⟩
abbrev main_c_13 : Ref sig .tc := ⟨.hbm, 74, rfl⟩
abbrev main_v10 : Ref sig .tc := ⟨.hbm, 75, rfl⟩
abbrev main_c_14 : Ref sig .tc := ⟨.hbm, 76, rfl⟩
abbrev main_call3_v0 : Ref sig .tc := ⟨.hbm, 77, rfl⟩
abbrev main_call3_c : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_c_1 : Ref sig .tc := ⟨.hbm, 83, rfl⟩
abbrev main_call3_v4 : Ref sig .tc := ⟨.hbm, 84, rfl⟩
abbrev main_call3_c_2 : Ref sig .tc := ⟨.hbm, 85, rfl⟩
abbrev main_call3_v5 : Ref sig .tc := ⟨.hbm, 86, rfl⟩
abbrev main_call3_c_3 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_v11 : Ref sig .tc := ⟨.hbm, 92, rfl⟩
abbrev main_call4_c : Ref sig .tc := ⟨.hbm, 93, rfl⟩
abbrev main_call4_v0 : Ref sig .tc := ⟨.hbm, 94, rfl⟩
abbrev main_call4_c_0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_c_1 : Ref sig .tc := ⟨.hbm, 99, rfl⟩
abbrev main_call4_c_2 : Ref sig .tc := ⟨.hbm, 100, rfl⟩
abbrev main_call4_v4 : Ref sig .tc := ⟨.hbm, 101, rfl⟩
abbrev main_call4_v5 : Ref sig .tc := ⟨.hbm, 102, rfl⟩
abbrev main_call4_v6 : Ref sig .tc := ⟨.hbm, 103, rfl⟩
abbrev main_call4_v7 : Ref sig .tc := ⟨.hbm, 104, rfl⟩
abbrev main_call4_c_3 : Ref sig .tc := ⟨.hbm, 105, rfl⟩
abbrev main_call4_v8 : Ref sig .tc := ⟨.hbm, 106, rfl⟩
abbrev main_call4_v9 : Ref sig .tc := ⟨.hbm, 107, rfl⟩
abbrev main_call4_c_4 : Ref sig .tc := ⟨.hbm, 108, rfl⟩
abbrev main_v12 : Ref sig .tc := ⟨.hbm, 109, rfl⟩
abbrev main_call5_c : Ref sig .tc := ⟨.hbm, 110, rfl⟩
abbrev main_call5_v0 : Ref sig .tc := ⟨.hbm, 111, rfl⟩
abbrev main_call5_c_0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_c_1 : Ref sig .tc := ⟨.hbm, 116, rfl⟩
abbrev main_call5_c_2 : Ref sig .tc := ⟨.hbm, 117, rfl⟩
abbrev main_call5_v4 : Ref sig .tc := ⟨.hbm, 118, rfl⟩
abbrev main_call5_v5 : Ref sig .tc := ⟨.hbm, 119, rfl⟩
abbrev main_call5_v6 : Ref sig .tc := ⟨.hbm, 120, rfl⟩
abbrev main_call5_v7 : Ref sig .tc := ⟨.hbm, 121, rfl⟩
abbrev main_call5_c_3 : Ref sig .tc := ⟨.hbm, 122, rfl⟩
abbrev main_call5_v8 : Ref sig .tc := ⟨.hbm, 123, rfl⟩
abbrev main_call5_v9 : Ref sig .tc := ⟨.hbm, 124, rfl⟩
abbrev main_call5_c_4 : Ref sig .tc := ⟨.hbm, 125, rfl⟩
abbrev main_v13 : Ref sig .tc := ⟨.hbm, 126, rfl⟩
abbrev main_c_15 : Ref sig .tc := ⟨.hbm, 127, rfl⟩
abbrev main_v14 : Ref sig .tc := ⟨.hbm, 128, rfl⟩
abbrev main_c_16 : Ref sig .tc := ⟨.hbm, 129, rfl⟩
abbrev main_call6_v0 : Ref sig .tc := ⟨.hbm, 130, rfl⟩
abbrev main_call6_c : Ref sig .tc := ⟨.hbm, 131, rfl⟩
abbrev main_call6_v1 : Ref sig .tc := ⟨.hbm, 132, rfl⟩
abbrev main_call6_c_0 : Ref sig .tc := ⟨.hbm, 133, rfl⟩
abbrev main_call6_v2 : Ref sig .tc := ⟨.hbm, 134, rfl⟩
abbrev main_call6_v3 : Ref sig .tc := ⟨.hbm, 135, rfl⟩
abbrev main_call6_c_1 : Ref sig .tc := ⟨.hbm, 136, rfl⟩
abbrev main_call6_v4 : Ref sig .tc := ⟨.hbm, 137, rfl⟩
abbrev main_call6_c_2 : Ref sig .tc := ⟨.hbm, 138, rfl⟩
abbrev main_call6_v5 : Ref sig .tc := ⟨.hbm, 139, rfl⟩
abbrev main_call6_c_3 : Ref sig .tc := ⟨.hbm, 140, rfl⟩
abbrev main_call6_v6 : Ref sig .tc := ⟨.hbm, 141, rfl⟩
abbrev main_call6_v7 : Ref sig .tc := ⟨.hbm, 142, rfl⟩
abbrev main_call6_v8 : Ref sig .tc := ⟨.hbm, 143, rfl⟩
abbrev main_call6_v9 : Ref sig .tc := ⟨.hbm, 144, rfl⟩
abbrev main_v15 : Ref sig .tc := ⟨.hbm, 145, rfl⟩
abbrev main_call7_c : Ref sig .tc := ⟨.hbm, 146, rfl⟩
abbrev main_call7_v0 : Ref sig .tc := ⟨.hbm, 147, rfl⟩
abbrev main_call7_c_0 : Ref sig .tc := ⟨.hbm, 148, rfl⟩
abbrev main_call7_v1 : Ref sig .tc := ⟨.hbm, 149, rfl⟩
abbrev main_call7_v2 : Ref sig .tc := ⟨.hbm, 150, rfl⟩
abbrev main_call7_v3 : Ref sig .tc := ⟨.hbm, 151, rfl⟩
abbrev main_call7_c_1 : Ref sig .tc := ⟨.hbm, 152, rfl⟩
abbrev main_call7_c_2 : Ref sig .tc := ⟨.hbm, 153, rfl⟩
abbrev main_call7_v4 : Ref sig .tc := ⟨.hbm, 154, rfl⟩
abbrev main_call7_v5 : Ref sig .tc := ⟨.hbm, 155, rfl⟩
abbrev main_call7_v6 : Ref sig .tc := ⟨.hbm, 156, rfl⟩
abbrev main_call7_v7 : Ref sig .tc := ⟨.hbm, 157, rfl⟩
abbrev main_call7_c_3 : Ref sig .tc := ⟨.hbm, 158, rfl⟩
abbrev main_call7_v8 : Ref sig .tc := ⟨.hbm, 159, rfl⟩
abbrev main_call7_v9 : Ref sig .tc := ⟨.hbm, 160, rfl⟩
abbrev main_call7_c_4 : Ref sig .tc := ⟨.hbm, 161, rfl⟩
abbrev main_v16 : Ref sig .tc := ⟨.hbm, 162, rfl⟩
abbrev main_c_17 : Ref sig .tc := ⟨.hbm, 163, rfl⟩
abbrev main_v17 : Ref sig .tc := ⟨.hbm, 164, rfl⟩
abbrev main_c_18 : Ref sig .tc := ⟨.hbm, 165, rfl⟩
abbrev main_v18 : Ref sig .tc := ⟨.hbm, 166, rfl⟩
abbrev main_c_19 : Ref sig .tc := ⟨.hbm, 167, rfl⟩
abbrev main_call8_v0 : Ref sig .tc := ⟨.hbm, 168, rfl⟩
abbrev main_call8_c : Ref sig .tc := ⟨.hbm, 169, rfl⟩
abbrev main_call8_v1 : Ref sig .tc := ⟨.hbm, 170, rfl⟩
abbrev main_call8_c_0 : Ref sig .tc := ⟨.hbm, 171, rfl⟩
abbrev main_call8_v2 : Ref sig .tc := ⟨.hbm, 172, rfl⟩
abbrev main_call8_v3 : Ref sig .tc := ⟨.hbm, 173, rfl⟩
abbrev main_call8_c_1 : Ref sig .tc := ⟨.hbm, 174, rfl⟩
abbrev main_call8_v4 : Ref sig .tc := ⟨.hbm, 175, rfl⟩
abbrev main_call8_c_2 : Ref sig .tc := ⟨.hbm, 176, rfl⟩
abbrev main_call8_v5 : Ref sig .tc := ⟨.hbm, 177, rfl⟩
abbrev main_call8_c_3 : Ref sig .tc := ⟨.hbm, 178, rfl⟩
abbrev main_call8_v6 : Ref sig .tc := ⟨.hbm, 179, rfl⟩
abbrev main_call8_v7 : Ref sig .tc := ⟨.hbm, 180, rfl⟩
abbrev main_call8_v8 : Ref sig .tc := ⟨.hbm, 181, rfl⟩
abbrev main_call8_v9 : Ref sig .tc := ⟨.hbm, 182, rfl⟩
abbrev main_v19 : Ref sig .tc := ⟨.hbm, 183, rfl⟩
abbrev main_call9_c : Ref sig .tc := ⟨.hbm, 184, rfl⟩
abbrev main_call9_v0 : Ref sig .tc := ⟨.hbm, 185, rfl⟩
abbrev main_call9_c_0 : Ref sig .tc := ⟨.hbm, 186, rfl⟩
abbrev main_call9_v1 : Ref sig .tc := ⟨.hbm, 187, rfl⟩
abbrev main_call9_v2 : Ref sig .tc := ⟨.hbm, 188, rfl⟩
abbrev main_call9_v3 : Ref sig .tc := ⟨.hbm, 189, rfl⟩
abbrev main_call9_c_1 : Ref sig .tc := ⟨.hbm, 190, rfl⟩
abbrev main_call9_c_2 : Ref sig .tc := ⟨.hbm, 191, rfl⟩
abbrev main_call9_v4 : Ref sig .tc := ⟨.hbm, 192, rfl⟩
abbrev main_call9_v5 : Ref sig .tc := ⟨.hbm, 193, rfl⟩
abbrev main_call9_v6 : Ref sig .tc := ⟨.hbm, 194, rfl⟩
abbrev main_call9_v7 : Ref sig .tc := ⟨.hbm, 195, rfl⟩
abbrev main_call9_c_3 : Ref sig .tc := ⟨.hbm, 196, rfl⟩
abbrev main_call9_v8 : Ref sig .tc := ⟨.hbm, 197, rfl⟩
abbrev main_call9_v9 : Ref sig .tc := ⟨.hbm, 198, rfl⟩
abbrev main_call9_c_4 : Ref sig .tc := ⟨.hbm, 199, rfl⟩
abbrev main_v20 : Ref sig .tc := ⟨.hbm, 200, rfl⟩
abbrev main_call10_c : Ref sig .tc := ⟨.hbm, 201, rfl⟩
abbrev main_call10_v0 : Ref sig .tc := ⟨.hbm, 202, rfl⟩
abbrev main_call10_c_0 : Ref sig .tc := ⟨.hbm, 203, rfl⟩
abbrev main_call10_v1 : Ref sig .tc := ⟨.hbm, 204, rfl⟩
abbrev main_call10_v2 : Ref sig .tc := ⟨.hbm, 205, rfl⟩
abbrev main_call10_v3 : Ref sig .tc := ⟨.hbm, 206, rfl⟩
abbrev main_call10_c_1 : Ref sig .tc := ⟨.hbm, 207, rfl⟩
abbrev main_call10_c_2 : Ref sig .tc := ⟨.hbm, 208, rfl⟩
abbrev main_call10_v4 : Ref sig .tc := ⟨.hbm, 209, rfl⟩
abbrev main_call10_v5 : Ref sig .tc := ⟨.hbm, 210, rfl⟩
abbrev main_call10_v6 : Ref sig .tc := ⟨.hbm, 211, rfl⟩
abbrev main_call10_v7 : Ref sig .tc := ⟨.hbm, 212, rfl⟩
abbrev main_call10_c_3 : Ref sig .tc := ⟨.hbm, 213, rfl⟩
abbrev main_call10_v8 : Ref sig .tc := ⟨.hbm, 214, rfl⟩
abbrev main_call10_v9 : Ref sig .tc := ⟨.hbm, 215, rfl⟩
abbrev main_call10_c_4 : Ref sig .tc := ⟨.hbm, 216, rfl⟩
abbrev main_v21 : Ref sig .tc := ⟨.hbm, 217, rfl⟩
abbrev main_c_20 : Ref sig .tc := ⟨.hbm, 218, rfl⟩
abbrev main_v22 : Ref sig .tc := ⟨.hbm, 219, rfl⟩
abbrev main_c_21 : Ref sig .tc := ⟨.hbm, 220, rfl⟩
abbrev main_call11_v0 : Ref sig .tc := ⟨.hbm, 221, rfl⟩
abbrev main_call11_c : Ref sig .tc := ⟨.hbm, 222, rfl⟩
abbrev main_call11_v1 : Ref sig .tc := ⟨.hbm, 223, rfl⟩
abbrev main_call11_c_0 : Ref sig .tc := ⟨.hbm, 224, rfl⟩
abbrev main_call11_v2 : Ref sig .tc := ⟨.hbm, 225, rfl⟩
abbrev main_call11_v3 : Ref sig .tc := ⟨.hbm, 226, rfl⟩
abbrev main_call11_c_1 : Ref sig .tc := ⟨.hbm, 227, rfl⟩
abbrev main_call11_v4 : Ref sig .tc := ⟨.hbm, 228, rfl⟩
abbrev main_call11_c_2 : Ref sig .tc := ⟨.hbm, 229, rfl⟩
abbrev main_call11_v5 : Ref sig .tc := ⟨.hbm, 230, rfl⟩
abbrev main_call11_c_3 : Ref sig .tc := ⟨.hbm, 231, rfl⟩
abbrev main_call11_v6 : Ref sig .tc := ⟨.hbm, 232, rfl⟩
abbrev main_call11_v7 : Ref sig .tc := ⟨.hbm, 233, rfl⟩
abbrev main_call11_v8 : Ref sig .tc := ⟨.hbm, 234, rfl⟩
abbrev main_call11_v9 : Ref sig .tc := ⟨.hbm, 235, rfl⟩
abbrev main_v23 : Ref sig .tc := ⟨.hbm, 236, rfl⟩
abbrev main_call12_c : Ref sig .tc := ⟨.hbm, 237, rfl⟩
abbrev main_call12_v0 : Ref sig .tc := ⟨.hbm, 238, rfl⟩
abbrev main_call12_c_0 : Ref sig .tc := ⟨.hbm, 239, rfl⟩
abbrev main_call12_v1 : Ref sig .tc := ⟨.hbm, 240, rfl⟩
abbrev main_call12_v2 : Ref sig .tc := ⟨.hbm, 241, rfl⟩
abbrev main_call12_v3 : Ref sig .tc := ⟨.hbm, 242, rfl⟩
abbrev main_call12_c_1 : Ref sig .tc := ⟨.hbm, 243, rfl⟩
abbrev main_call12_c_2 : Ref sig .tc := ⟨.hbm, 244, rfl⟩
abbrev main_call12_v4 : Ref sig .tc := ⟨.hbm, 245, rfl⟩
abbrev main_call12_v5 : Ref sig .tc := ⟨.hbm, 246, rfl⟩
abbrev main_call12_v6 : Ref sig .tc := ⟨.hbm, 247, rfl⟩
abbrev main_call12_v7 : Ref sig .tc := ⟨.hbm, 248, rfl⟩
abbrev main_call12_c_3 : Ref sig .tc := ⟨.hbm, 249, rfl⟩
abbrev main_call12_v8 : Ref sig .tc := ⟨.hbm, 250, rfl⟩
abbrev main_call12_v9 : Ref sig .tc := ⟨.hbm, 251, rfl⟩
abbrev main_call12_c_4 : Ref sig .tc := ⟨.hbm, 252, rfl⟩
abbrev main_v24 : Ref sig .tc := ⟨.hbm, 253, rfl⟩
abbrev main_c_22 : Ref sig .tc := ⟨.hbm, 254, rfl⟩
abbrev main_v25 : Ref sig .tc := ⟨.hbm, 255, rfl⟩
abbrev main_c_23 : Ref sig .tc := ⟨.hbm, 256, rfl⟩
abbrev main_v26 : Ref sig .tc := ⟨.hbm, 257, rfl⟩
abbrev main_c_24 : Ref sig .tc := ⟨.hbm, 258, rfl⟩
abbrev main_call13_v0 : Ref sig .tc := ⟨.hbm, 259, rfl⟩
abbrev main_call13_c : Ref sig .tc := ⟨.hbm, 260, rfl⟩
abbrev main_call13_v1 : Ref sig .tc := ⟨.hbm, 261, rfl⟩
abbrev main_call13_c_0 : Ref sig .tc := ⟨.hbm, 262, rfl⟩
abbrev main_call13_v2 : Ref sig .tc := ⟨.hbm, 263, rfl⟩
abbrev main_call13_v3 : Ref sig .tc := ⟨.hbm, 264, rfl⟩
abbrev main_call13_c_1 : Ref sig .tc := ⟨.hbm, 265, rfl⟩
abbrev main_call13_v4 : Ref sig .tc := ⟨.hbm, 266, rfl⟩
abbrev main_call13_c_2 : Ref sig .tc := ⟨.hbm, 267, rfl⟩
abbrev main_call13_v5 : Ref sig .tc := ⟨.hbm, 268, rfl⟩
abbrev main_call13_c_3 : Ref sig .tc := ⟨.hbm, 269, rfl⟩
abbrev main_call13_v6 : Ref sig .tc := ⟨.hbm, 270, rfl⟩
abbrev main_call13_v7 : Ref sig .tc := ⟨.hbm, 271, rfl⟩
abbrev main_call13_v8 : Ref sig .tc := ⟨.hbm, 272, rfl⟩
abbrev main_call13_v9 : Ref sig .tc := ⟨.hbm, 273, rfl⟩
abbrev main_v27 : Ref sig .tc := ⟨.hbm, 274, rfl⟩
abbrev main_call14_c : Ref sig .tc := ⟨.hbm, 275, rfl⟩
abbrev main_call14_v0 : Ref sig .tc := ⟨.hbm, 276, rfl⟩
abbrev main_call14_c_0 : Ref sig .tc := ⟨.hbm, 277, rfl⟩
abbrev main_call14_v1 : Ref sig .tc := ⟨.hbm, 278, rfl⟩
abbrev main_call14_v2 : Ref sig .tc := ⟨.hbm, 279, rfl⟩
abbrev main_call14_v3 : Ref sig .tc := ⟨.hbm, 280, rfl⟩
abbrev main_call14_c_1 : Ref sig .tc := ⟨.hbm, 281, rfl⟩
abbrev main_call14_c_2 : Ref sig .tc := ⟨.hbm, 282, rfl⟩
abbrev main_call14_v4 : Ref sig .tc := ⟨.hbm, 283, rfl⟩
abbrev main_call14_v5 : Ref sig .tc := ⟨.hbm, 284, rfl⟩
abbrev main_call14_v6 : Ref sig .tc := ⟨.hbm, 285, rfl⟩
abbrev main_call14_v7 : Ref sig .tc := ⟨.hbm, 286, rfl⟩
abbrev main_call14_c_3 : Ref sig .tc := ⟨.hbm, 287, rfl⟩
abbrev main_call14_v8 : Ref sig .tc := ⟨.hbm, 288, rfl⟩
abbrev main_call14_v9 : Ref sig .tc := ⟨.hbm, 289, rfl⟩
abbrev main_call14_c_4 : Ref sig .tc := ⟨.hbm, 290, rfl⟩
abbrev main_v28 : Ref sig .tc := ⟨.hbm, 291, rfl⟩
abbrev main_v29 : Ref sig .tc := ⟨.hbm, 292, rfl⟩
abbrev main_v30 : Ref sig .tc := ⟨.hbm, 293, rfl⟩
abbrev main_v31 : Ref sig .tc := ⟨.hbm, 294, rfl⟩
abbrev main_v32 : Ref sig .tc := ⟨.hbm, 295, rfl⟩
abbrev main_v33 : Ref sig .tc := ⟨.hbm, 296, rfl⟩
abbrev main_v34 : Ref sig .tc := ⟨.hbm, 297, rfl⟩
abbrev main_v35 : Ref sig .tc := ⟨.hbm, 298, rfl⟩
abbrev main_v36 : Ref sig .tc := ⟨.hbm, 299, rfl⟩
abbrev main_v37 : Ref sig .tc := ⟨.hbm, 300, rfl⟩
abbrev main_v38 : Ref sig .tc := ⟨.hbm, 301, rfl⟩
abbrev main_v39 : Ref sig .tc := ⟨.hbm, 302, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 6

abbrev nD : Nat := 32
abbrev τ : Topo := Topo.v7x

variable {F : FTy → Type} [FloatOps F]

abbrev grid0 : Pipeline.Grid := .none

def k0_dev1 (v4 : BitVec 32) : Nat :=
  let c0_i32 : BitVec 32 := 0#32
  let c1_i32_1 : BitVec 32 := 1#32
  let v6 : BitVec 32 := Scalar.muli v4 c1_i32_1
  let v7 : BitVec 32 := Scalar.addi c0_i32 v6
  v7.toNat

def k0_chk1 (v4 : BitVec 32) : Prop :=
  ((k0_dev1 v4) < nD)
theorem k0_dev1_lt : ∀ (v4 : BitVec 32) (k0_hw1 : k0_chk1 v4), (k0_dev1 v4) < nD := fun v4 k0_hw1 => k0_hw1

def k0_dev2 (v5 : BitVec 32) : Nat :=
  let c0_i32_4 : BitVec 32 := 0#32
  let c1_i32_3 : BitVec 32 := 1#32
  let v8 : BitVec 32 := Scalar.muli v5 c1_i32_3
  let v9 : BitVec 32 := Scalar.addi c0_i32_4 v8
  v9.toNat

def k0_chk2 (v5 : BitVec 32) : Prop :=
  ((k0_dev2 v5) < nD)
theorem k0_dev2_lt : ∀ (v5 : BitVec 32) (k0_hw2 : k0_chk2 v5), (k0_dev2 v5) < nD := fun v5 k0_hw2 => k0_hw2

def k0_dev3 (v10 : BitVec 32) : Nat :=
  let c0_i32_7 : BitVec 32 := 0#32
  let c1_i32_6 : BitVec 32 := 1#32
  let v12 : BitVec 32 := Scalar.muli v10 c1_i32_6
  let v13 : BitVec 32 := Scalar.addi c0_i32_7 v12
  v13.toNat

def k0_chk3 (v10 : BitVec 32) : Prop :=
  ((k0_dev3 v10) < nD)
theorem k0_dev3_lt : ∀ (v10 : BitVec 32) (k0_hw3 : k0_chk3 v10), (k0_dev3 v10) < nD := fun v10 k0_hw3 => k0_hw3

def k0_dev4 (v11 : BitVec 32) : Nat :=
  let c0_i32_10 : BitVec 32 := 0#32
  let c1_i32_9 : BitVec 32 := 1#32
  let v14 : BitVec 32 := Scalar.muli v11 c1_i32_9
  let v15 : BitVec 32 := Scalar.addi c0_i32_10 v14
  v15.toNat

def k0_chk4 (v11 : BitVec 32) : Prop :=
  ((k0_dev4 v11) < nD)
theorem k0_dev4_lt : ∀ (v11 : BitVec 32) (k0_hw4 : k0_chk4 v11), (k0_dev4 v11) < nD := fun v11 k0_hw4 => k0_hw4

def k0_dev5 (v16 : BitVec 32) : Nat :=
  let c0_i32_13 : BitVec 32 := 0#32
  let c1_i32_12 : BitVec 32 := 1#32
  let v18 : BitVec 32 := Scalar.muli v16 c1_i32_12
  let v19 : BitVec 32 := Scalar.addi c0_i32_13 v18
  v19.toNat

def k0_chk5 (v16 : BitVec 32) : Prop :=
  ((k0_dev5 v16) < nD)
theorem k0_dev5_lt : ∀ (v16 : BitVec 32) (k0_hw5 : k0_chk5 v16), (k0_dev5 v16) < nD := fun v16 k0_hw5 => k0_hw5

def k0_dev6 (v17 : BitVec 32) : Nat :=
  let c0_i32_16 : BitVec 32 := 0#32
  let c1_i32_15 : BitVec 32 := 1#32
  let v20 : BitVec 32 := Scalar.muli v17 c1_i32_15
  let v21 : BitVec 32 := Scalar.addi c0_i32_16 v20
  v21.toNat

def k0_chk6 (v17 : BitVec 32) : Prop :=
  ((k0_dev6 v17) < nD)
theorem k0_dev6_lt : ∀ (v17 : BitVec 32) (k0_hw6 : k0_chk6 v17), (k0_dev6 v17) < nD := fun v17 k0_hw6 => k0_hw6

def k0_off1 (v28 : BitVec 32) : Fin 2 → Nat :=
  let c128_i32 : BitVec 32 := 128#32
  let v29 : BitVec 32 := Scalar.muli v28 c128_i32
  let v30 : Index := Scalar.indexCast v29
  let c0_22 : Index := 0#32
  ![v30.toNat, 0]

def k0_chk7 (v28 : BitVec 32) : Prop :=
  (∀ a, (k0_off1 v28) a + S128x128.size a ≤ S4096x128.size a)
theorem k0_off1_inb : ∀ (v28 : BitVec 32) (k0_hw7 : k0_chk7 v28), ∀ a, (k0_off1 v28) a + S128x128.size a ≤ S4096x128.size a := fun v28 k0_hw7 => k0_hw7

def k0_off2 (v45 : BitVec 32) : Fin 2 → Nat :=
  let c128_i32_33 : BitVec 32 := 128#32
  let v46 : BitVec 32 := Scalar.muli v45 c128_i32_33
  let v47 : Index := Scalar.indexCast v46
  let c0_34 : Index := 0#32
  ![v47.toNat, 0]

def k0_chk8 (v45 : BitVec 32) : Prop :=
  (∀ a, (k0_off2 v45) a + S128x128.size a ≤ S4096x128.size a)
theorem k0_off2_inb : ∀ (v45 : BitVec 32) (k0_hw8 : k0_chk8 v45), ∀ a, (k0_off2 v45) a + S128x128.size a ≤ S4096x128.size a := fun v45 k0_hw8 => k0_hw8

def k0_off3 (v62 : BitVec 32) : Fin 2 → Nat :=
  let c128_i32_44 : BitVec 32 := 128#32
  let v63 : BitVec 32 := Scalar.muli v62 c128_i32_44
  let v64 : Index := Scalar.indexCast v63
  let c0_45 : Index := 0#32
  ![v64.toNat, 0]

def k0_chk9 (v62 : BitVec 32) : Prop :=
  (∀ a, (k0_off3 v62) a + S128x128.size a ≤ S4096x128.size a)
theorem k0_off3_inb : ∀ (v62 : BitVec 32) (k0_hw9 : k0_chk9 v62), ∀ a, (k0_off3 v62) a + S128x128.size a ≤ S4096x128.size a := fun v62 k0_hw9 => k0_hw9

def k0_off4 (v79 : BitVec 32) : Fin 2 → Nat :=
  let c128_i32_56 : BitVec 32 := 128#32
  let v80 : BitVec 32 := Scalar.muli v79 c128_i32_56
  let v81 : Index := Scalar.indexCast v80
  let c0_57 : Index := 0#32
  ![v81.toNat, 0]

def k0_chk10 (v79 : BitVec 32) : Prop :=
  (∀ a, (k0_off4 v79) a + S128x128.size a ≤ S4096x128.size a)
theorem k0_off4_inb : ∀ (v79 : BitVec 32) (k0_hw10 : k0_chk10 v79), ∀ a, (k0_off4 v79) a + S128x128.size a ≤ S4096x128.size a := fun v79 k0_hw10 => k0_hw10

def k0_off5 (v96 : BitVec 32) : Fin 2 → Nat :=
  let c128_i32_67 : BitVec 32 := 128#32
  let v97 : BitVec 32 := Scalar.muli v96 c128_i32_67
  let v98 : Index := Scalar.indexCast v97
  let c0_68 : Index := 0#32
  ![v98.toNat, 0]

def k0_chk11 (v96 : BitVec 32) : Prop :=
  (∀ a, (k0_off5 v96) a + S128x128.size a ≤ S4096x128.size a)
theorem k0_off5_inb : ∀ (v96 : BitVec 32) (k0_hw11 : k0_chk11 v96), ∀ a, (k0_off5 v96) a + S128x128.size a ≤ S4096x128.size a := fun v96 k0_hw11 => k0_hw11

def k0_off6 (v113 : BitVec 32) : Fin 2 → Nat :=
  let c128_i32_79 : BitVec 32 := 128#32
  let v114 : BitVec 32 := Scalar.muli v113 c128_i32_79
  let v115 : Index := Scalar.indexCast v114
  let c0_80 : Index := 0#32
  ![v115.toNat, 0]

def k0_chk12 (v113 : BitVec 32) : Prop :=
  (∀ a, (k0_off6 v113) a + S128x128.size a ≤ S4096x128.size a)
theorem k0_off6_inb : ∀ (v113 : BitVec 32) (k0_hw12 : k0_chk12 v113), ∀ a, (k0_off6 v113) a + S128x128.size a ≤ S4096x128.size a := fun v113 k0_hw12 => k0_hw12

def k0_off7 (c2_i32 : BitVec 32) : Fin 2 → Nat :=
  let c0_i32_94 : BitVec 32 := 0#32
  let c3_i32 : BitVec 32 := 3#32
  let v131 : BitVec 32 := Scalar.remsi c2_i32 c3_i32
  ![0, v131.toNat]
def k0_off8 (c0_i32_91 : BitVec 32) : Fin 3 → Nat :=
  let c3_i32_92 : BitVec 32 := 3#32
  let v132 : BitVec 32 := Scalar.remsi c0_i32_91 c3_i32_92
  let c0_i32_97 : BitVec 32 := 0#32
  let c0_i32_98 : BitVec 32 := 0#32
  ![v132.toNat, 0, 0]
def k0_dev7 (v130 : BitVec 32) : Nat :=
  let c0_i32_96 : BitVec 32 := 0#32
  let c1_i32_95 : BitVec 32 := 1#32
  let v133 : BitVec 32 := Scalar.muli v130 c1_i32_95
  let v134 : BitVec 32 := Scalar.addi c0_i32_96 v133
  v134.toNat

def k0_chk13 (v130 : BitVec 32) : Prop :=
  ((k0_dev7 v130) < nD)
theorem k0_dev7_lt : ∀ (v130 : BitVec 32) (k0_hw13 : k0_chk13 v130), (k0_dev7 v130) < nD := fun v130 k0_hw13 => k0_hw13

def k0_off9 (c2_i32_102 : BitVec 32) : Fin 2 → Nat :=
  let c1_i32_107 : BitVec 32 := 1#32
  let c3_i32_103 : BitVec 32 := 3#32
  let v144 : BitVec 32 := Scalar.remsi c2_i32_102 c3_i32_103
  ![1, v144.toNat]
def k0_off10 (c0_i32_104 : BitVec 32) : Fin 3 → Nat :=
  let c3_i32_105 : BitVec 32 := 3#32
  let v145 : BitVec 32 := Scalar.remsi c0_i32_104 c3_i32_105
  let c0_i32_110 : BitVec 32 := 0#32
  let c0_i32_111 : BitVec 32 := 0#32
  ![v145.toNat, 0, 0]
def k0_dev8 (v143 : BitVec 32) : Nat :=
  let c0_i32_109 : BitVec 32 := 0#32
  let c1_i32_108 : BitVec 32 := 1#32
  let v146 : BitVec 32 := Scalar.muli v143 c1_i32_108
  let v147 : BitVec 32 := Scalar.addi c0_i32_109 v146
  v147.toNat

def k0_chk14 (v143 : BitVec 32) : Prop :=
  ((k0_dev8 v143) < nD)
theorem k0_dev8_lt : ∀ (v143 : BitVec 32) (k0_hw14 : k0_chk14 v143), (k0_dev8 v143) < nD := fun v143 k0_hw14 => k0_hw14

def k0_off11 (c2_i32_115 : BitVec 32) : Fin 2 → Nat :=
  let c2_i32_120 : BitVec 32 := 2#32
  let c3_i32_116 : BitVec 32 := 3#32
  let v157 : BitVec 32 := Scalar.remsi c2_i32_115 c3_i32_116
  ![2, v157.toNat]
def k0_off12 (c0_i32_117 : BitVec 32) : Fin 3 → Nat :=
  let c3_i32_118 : BitVec 32 := 3#32
  let v158 : BitVec 32 := Scalar.remsi c0_i32_117 c3_i32_118
  let c0_i32_123 : BitVec 32 := 0#32
  let c0_i32_124 : BitVec 32 := 0#32
  ![v158.toNat, 0, 0]
def k0_dev9 (v156 : BitVec 32) : Nat :=
  let c0_i32_122 : BitVec 32 := 0#32
  let c1_i32_121 : BitVec 32 := 1#32
  let v159 : BitVec 32 := Scalar.muli v156 c1_i32_121
  let v160 : BitVec 32 := Scalar.addi c0_i32_122 v159
  v160.toNat

def k0_chk15 (v156 : BitVec 32) : Prop :=
  ((k0_dev9 v156) < nD)
theorem k0_dev9_lt : ∀ (v156 : BitVec 32) (k0_hw15 : k0_chk15 v156), (k0_dev9 v156) < nD := fun v156 k0_hw15 => k0_hw15

def k0_off13 (c2_i32_128 : BitVec 32) : Fin 2 → Nat :=
  let c3_i32_133 : BitVec 32 := 3#32
  let c3_i32_129 : BitVec 32 := 3#32
  let v170 : BitVec 32 := Scalar.remsi c2_i32_128 c3_i32_129
  ![3, v170.toNat]
def k0_off14 (c0_i32_130 : BitVec 32) : Fin 3 → Nat :=
  let c3_i32_131 : BitVec 32 := 3#32
  let v171 : BitVec 32 := Scalar.remsi c0_i32_130 c3_i32_131
  let c0_i32_136 : BitVec 32 := 0#32
  let c0_i32_137 : BitVec 32 := 0#32
  ![v171.toNat, 0, 0]
def k0_dev10 (v169 : BitVec 32) : Nat :=
  let c0_i32_135 : BitVec 32 := 0#32
  let c1_i32_134 : BitVec 32 := 1#32
  let v172 : BitVec 32 := Scalar.muli v169 c1_i32_134
  let v173 : BitVec 32 := Scalar.addi c0_i32_135 v172
  v173.toNat

def k0_chk16 (v169 : BitVec 32) : Prop :=
  ((k0_dev10 v169) < nD)
theorem k0_dev10_lt : ∀ (v169 : BitVec 32) (k0_hw16 : k0_chk16 v169), (k0_dev10 v169) < nD := fun v169 k0_hw16 => k0_hw16

def k0_off15 (c2_i32_141 : BitVec 32) : Fin 2 → Nat :=
  let c4_i32_145 : BitVec 32 := 4#32
  let c3_i32_142 : BitVec 32 := 3#32
  let v183 : BitVec 32 := Scalar.remsi c2_i32_141 c3_i32_142
  ![4, v183.toNat]
def k0_off16 (c0_i32_143 : BitVec 32) : Fin 3 → Nat :=
  let c3_i32_144 : BitVec 32 := 3#32
  let v184 : BitVec 32 := Scalar.remsi c0_i32_143 c3_i32_144
  let c0_i32_148 : BitVec 32 := 0#32
  let c0_i32_149 : BitVec 32 := 0#32
  ![v184.toNat, 0, 0]
def k0_dev11 (v182 : BitVec 32) : Nat :=
  let c0_i32_147 : BitVec 32 := 0#32
  let c1_i32_146 : BitVec 32 := 1#32
  let v185 : BitVec 32 := Scalar.muli v182 c1_i32_146
  let v186 : BitVec 32 := Scalar.addi c0_i32_147 v185
  v186.toNat

def k0_chk17 (v182 : BitVec 32) : Prop :=
  ((k0_dev11 v182) < nD)
theorem k0_dev11_lt : ∀ (v182 : BitVec 32) (k0_hw17 : k0_chk17 v182), (k0_dev11 v182) < nD := fun v182 k0_hw17 => k0_hw17

def k0_off17 (c2_i32_153 : BitVec 32) : Fin 2 → Nat :=
  let c5_i32_157 : BitVec 32 := 5#32
  let c3_i32_154 : BitVec 32 := 3#32
  let v196 : BitVec 32 := Scalar.remsi c2_i32_153 c3_i32_154
  ![5, v196.toNat]
def k0_off18 (c0_i32_155 : BitVec 32) : Fin 3 → Nat :=
  let c3_i32_156 : BitVec 32 := 3#32
  let v197 : BitVec 32 := Scalar.remsi c0_i32_155 c3_i32_156
  let c0_i32_160 : BitVec 32 := 0#32
  let c0_i32_161 : BitVec 32 := 0#32
  ![v197.toNat, 0, 0]
def k0_dev12 (v195 : BitVec 32) : Nat :=
  let c0_i32_159 : BitVec 32 := 0#32
  let c1_i32_158 : BitVec 32 := 1#32
  let v198 : BitVec 32 := Scalar.muli v195 c1_i32_158
  let v199 : BitVec 32 := Scalar.addi c0_i32_159 v198
  v199.toNat

def k0_chk18 (v195 : BitVec 32) : Prop :=
  ((k0_dev12 v195) < nD)
theorem k0_dev12_lt : ∀ (v195 : BitVec 32) (k0_hw18 : k0_chk18 v195), (k0_dev12 v195) < nD := fun v195 k0_hw18 => k0_hw18

@[reducible] def k0_t1_loop : Scf.Loop 32 :=
  let c0_i32_164 : BitVec 32 := 0#32
  let c31_i32 : BitVec 32 := 31#32
  let v208 : BitVec 32 := Scalar.addi c0_i32_164 c31_i32
  let c1_i32_165 : BitVec 32 := 1#32
  ⟨c0_i32_164, v208, c1_i32_165⟩
def k0_off19 (k0_t1 : Fin k0_t1_loop.trips) (v339 : BitVec 32) : Fin 2 → Nat :=
  let c0_i32_164 : BitVec 32 := 0#32
  let c1_i32_165 : BitVec 32 := 1#32
  let arg23 : BitVec 32 := Scf.iv c0_i32_164 c1_i32_165 k0_t1
  let v340 : BitVec 32 := Scalar.subi v339 arg23
  let c1_i32_307 : BitVec 32 := 1#32
  let v341 : BitVec 32 := Scalar.subi v340 c1_i32_307
  let c64_i32 : BitVec 32 := 64#32
  let v342 : BitVec 32 := Scalar.addi v341 c64_i32
  let c32_i32_308 : BitVec 32 := 32#32
  let v343 : BitVec 32 := Scalar.remsi v342 c32_i32_308
  let c128_i32_309 : BitVec 32 := 128#32
  let v344 : BitVec 32 := Scalar.muli v343 c128_i32_309
  let v345 : Index := Scalar.indexCast v344
  let c0_310 : Index := 0#32
  ![v345.toNat, 0]

def k0_chk19 (k0_t1 : Fin k0_t1_loop.trips) (v339 : BitVec 32) : Prop :=
  (∀ a, (k0_off19 k0_t1 v339) a + S128x128.size a ≤ S4096x128.size a)
theorem k0_off19_inb : ∀ (k0_t1 : Fin k0_t1_loop.trips) (v339 : BitVec 32) (k0_hw19 : k0_chk19 k0_t1 v339), ∀ a, (k0_off19 k0_t1 v339) a + S128x128.size a ≤ S4096x128.size a := fun k0_t1 v339 k0_hw19 => k0_hw19

def k0_off20 (k0_t1 : Fin k0_t1_loop.trips) (v356 : BitVec 32) : Fin 2 → Nat :=
  let c0_i32_164 : BitVec 32 := 0#32
  let c1_i32_165 : BitVec 32 := 1#32
  let arg23 : BitVec 32 := Scf.iv c0_i32_164 c1_i32_165 k0_t1
  let v357 : BitVec 32 := Scalar.addi v356 arg23
  let c1_i32_317 : BitVec 32 := 1#32
  let v358 : BitVec 32 := Scalar.addi v357 c1_i32_317
  let c32_i32_318 : BitVec 32 := 32#32
  let v359 : BitVec 32 := Scalar.remsi v358 c32_i32_318
  let c128_i32_319 : BitVec 32 := 128#32
  let v360 : BitVec 32 := Scalar.muli v359 c128_i32_319
  let v361 : Index := Scalar.indexCast v360
  let c0_320 : Index := 0#32
  ![v361.toNat, 0]

def k0_chk20 (k0_t1 : Fin k0_t1_loop.trips) (v356 : BitVec 32) : Prop :=
  (∀ a, (k0_off20 k0_t1 v356) a + S128x128.size a ≤ S4096x128.size a)
theorem k0_off20_inb : ∀ (k0_t1 : Fin k0_t1_loop.trips) (v356 : BitVec 32) (k0_hw20 : k0_chk20 k0_t1 v356), ∀ a, (k0_off20 k0_t1 v356) a + S128x128.size a ≤ S4096x128.size a := fun k0_t1 v356 k0_hw20 => k0_hw20

def k0_off21 (k0_t1 : Fin k0_t1_loop.trips) (v372 : BitVec 32) : Fin 2 → Nat :=
  let c0_i32_164 : BitVec 32 := 0#32
  let c1_i32_165 : BitVec 32 := 1#32
  let arg23 : BitVec 32 := Scf.iv c0_i32_164 c1_i32_165 k0_t1
  let v373 : BitVec 32 := Scalar.subi v372 arg23
  let c1_i32_327 : BitVec 32 := 1#32
  let v374 : BitVec 32 := Scalar.subi v373 c1_i32_327
  let c64_i32_328 : BitVec 32 := 64#32
  let v375 : BitVec 32 := Scalar.addi v374 c64_i32_328
  let c32_i32_329 : BitVec 32 := 32#32
  let v376 : BitVec 32 := Scalar.remsi v375 c32_i32_329
  let c128_i32_330 : BitVec 32 := 128#32
  let v377 : BitVec 32 := Scalar.muli v376 c128_i32_330
  let v378 : Index := Scalar.indexCast v377
  let c0_331 : Index := 0#32
  ![v378.toNat, 0]

def k0_chk21 (k0_t1 : Fin k0_t1_loop.trips) (v372 : BitVec 32) : Prop :=
  (∀ a, (k0_off21 k0_t1 v372) a + S128x128.size a ≤ S4096x128.size a)
theorem k0_off21_inb : ∀ (k0_t1 : Fin k0_t1_loop.trips) (v372 : BitVec 32) (k0_hw21 : k0_chk21 k0_t1 v372), ∀ a, (k0_off21 k0_t1 v372) a + S128x128.size a ≤ S4096x128.size a := fun k0_t1 v372 k0_hw21 => k0_hw21

def k0_off22 (k0_t1 : Fin k0_t1_loop.trips) (v389 : BitVec 32) : Fin 2 → Nat :=
  let c0_i32_164 : BitVec 32 := 0#32
  let c1_i32_165 : BitVec 32 := 1#32
  let arg23 : BitVec 32 := Scf.iv c0_i32_164 c1_i32_165 k0_t1
  let v390 : BitVec 32 := Scalar.addi v389 arg23
  let c1_i32_338 : BitVec 32 := 1#32
  let v391 : BitVec 32 := Scalar.addi v390 c1_i32_338
  let c32_i32_339 : BitVec 32 := 32#32
  let v392 : BitVec 32 := Scalar.remsi v391 c32_i32_339
  let c128_i32_340 : BitVec 32 := 128#32
  let v393 : BitVec 32 := Scalar.muli v392 c128_i32_340
  let v394 : Index := Scalar.indexCast v393
  let c0_341 : Index := 0#32
  ![v394.toNat, 0]

def k0_chk22 (k0_t1 : Fin k0_t1_loop.trips) (v389 : BitVec 32) : Prop :=
  (∀ a, (k0_off22 k0_t1 v389) a + S128x128.size a ≤ S4096x128.size a)
theorem k0_off22_inb : ∀ (k0_t1 : Fin k0_t1_loop.trips) (v389 : BitVec 32) (k0_hw22 : k0_chk22 k0_t1 v389), ∀ a, (k0_off22 k0_t1 v389) a + S128x128.size a ≤ S4096x128.size a := fun k0_t1 v389 k0_hw22 => k0_hw22

def k0_off23 (k0_t1 : Fin k0_t1_loop.trips) (v405 : BitVec 32) : Fin 2 → Nat :=
  let c0_i32_164 : BitVec 32 := 0#32
  let c1_i32_165 : BitVec 32 := 1#32
  let arg23 : BitVec 32 := Scf.iv c0_i32_164 c1_i32_165 k0_t1
  let v406 : BitVec 32 := Scalar.subi v405 arg23
  let c1_i32_348 : BitVec 32 := 1#32
  let v407 : BitVec 32 := Scalar.subi v406 c1_i32_348
  let c64_i32_349 : BitVec 32 := 64#32
  let v408 : BitVec 32 := Scalar.addi v407 c64_i32_349
  let c32_i32_350 : BitVec 32 := 32#32
  let v409 : BitVec 32 := Scalar.remsi v408 c32_i32_350
  let c128_i32_351 : BitVec 32 := 128#32
  let v410 : BitVec 32 := Scalar.muli v409 c128_i32_351
  let v411 : Index := Scalar.indexCast v410
  let c0_352 : Index := 0#32
  ![v411.toNat, 0]

def k0_chk23 (k0_t1 : Fin k0_t1_loop.trips) (v405 : BitVec 32) : Prop :=
  (∀ a, (k0_off23 k0_t1 v405) a + S128x128.size a ≤ S4096x128.size a)
theorem k0_off23_inb : ∀ (k0_t1 : Fin k0_t1_loop.trips) (v405 : BitVec 32) (k0_hw23 : k0_chk23 k0_t1 v405), ∀ a, (k0_off23 k0_t1 v405) a + S128x128.size a ≤ S4096x128.size a := fun k0_t1 v405 k0_hw23 => k0_hw23

def k0_off24 (k0_t1 : Fin k0_t1_loop.trips) (v422 : BitVec 32) : Fin 2 → Nat :=
  let c0_i32_164 : BitVec 32 := 0#32
  let c1_i32_165 : BitVec 32 := 1#32
  let arg23 : BitVec 32 := Scf.iv c0_i32_164 c1_i32_165 k0_t1
  let v423 : BitVec 32 := Scalar.addi v422 arg23
  let c1_i32_359 : BitVec 32 := 1#32
  let v424 : BitVec 32 := Scalar.addi v423 c1_i32_359
  let c32_i32_360 : BitVec 32 := 32#32
  let v425 : BitVec 32 := Scalar.remsi v424 c32_i32_360
  let c128_i32_361 : BitVec 32 := 128#32
  let v426 : BitVec 32 := Scalar.muli v425 c128_i32_361
  let v427 : Index := Scalar.indexCast v426
  let c0_362 : Index := 0#32
  ![v427.toNat, 0]

def k0_chk24 (k0_t1 : Fin k0_t1_loop.trips) (v422 : BitVec 32) : Prop :=
  (∀ a, (k0_off24 k0_t1 v422) a + S128x128.size a ≤ S4096x128.size a)
theorem k0_off24_inb : ∀ (k0_t1 : Fin k0_t1_loop.trips) (v422 : BitVec 32) (k0_hw24 : k0_chk24 k0_t1 v422), ∀ a, (k0_off24 k0_t1 v422) a + S128x128.size a ≤ S4096x128.size a := fun k0_t1 v422 k0_hw24 => k0_hw24

def k0_off25 (k0_t1 : Fin k0_t1_loop.trips) : Fin 2 → Nat :=
  let c0_i32_375 : BitVec 32 := 0#32
  let c0_i32_164 : BitVec 32 := 0#32
  let c1_i32_165 : BitVec 32 := 1#32
  let arg23 : BitVec 32 := Scf.iv c0_i32_164 c1_i32_165 k0_t1
  let c3_i32_374 : BitVec 32 := 3#32
  let v444 : BitVec 32 := Scalar.remsi arg23 c3_i32_374
  ![0, v444.toNat]
def k0_off26 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_374 : BitVec 32 := 3#32
  let v444 : BitVec 32 := Scalar.remsi arg23 c3_i32_374
  let c0_i32_379 : BitVec 32 := 0#32
  let c0_i32_380 : BitVec 32 := 0#32
  ![v444.toNat, 0, 0]
def k0_off27 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_371 : BitVec 32 := 3#32
  let v441 : BitVec 32 := Scalar.addi arg23 c3_i32_371
  let c1_i32_372 : BitVec 32 := 1#32
  let v442 : BitVec 32 := Scalar.subi v441 c1_i32_372
  let c3_i32_373 : BitVec 32 := 3#32
  let v443 : BitVec 32 := Scalar.remsi v442 c3_i32_373
  let c0_i32_381 : BitVec 32 := 0#32
  let c0_i32_382 : BitVec 32 := 0#32
  ![v443.toNat, 0, 0]
def k0_off28 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_369 : BitVec 32 := 3#32
  let v439 : BitVec 32 := Scalar.remsi arg23 c3_i32_369
  let v453 : Index := Scalar.indexCast v439
  let c0_383 : Index := 0#32
  let c0_384 : Index := 0#32
  ![v453.toNat, 0, 0]
def k0_off29 (k0_t1 : Fin k0_t1_loop.trips) : Fin 2 → Nat :=
  let c0_i32_389 : BitVec 32 := 0#32
  let c0_i32_164 : BitVec 32 := 0#32
  let c1_i32_165 : BitVec 32 := 1#32
  let arg23 : BitVec 32 := Scf.iv c0_i32_164 c1_i32_165 k0_t1
  let c3_i32_371 : BitVec 32 := 3#32
  let v441 : BitVec 32 := Scalar.addi arg23 c3_i32_371
  let c1_i32_372 : BitVec 32 := 1#32
  let v442 : BitVec 32 := Scalar.subi v441 c1_i32_372
  let c3_i32_373 : BitVec 32 := 3#32
  let v443 : BitVec 32 := Scalar.remsi v442 c3_i32_373
  ![0, v443.toNat]
def k0_dev13 (v438 : BitVec 32) : Nat :=
  let c0_i32_399 : BitVec 32 := 0#32
  let c1_i32_398 : BitVec 32 := 1#32
  let v470 : BitVec 32 := Scalar.muli v438 c1_i32_398
  let v471 : BitVec 32 := Scalar.addi c0_i32_399 v470
  v471.toNat

def k0_chk25 (v438 : BitVec 32) : Prop :=
  ((k0_dev13 v438) < nD)
theorem k0_dev13_lt : ∀ (v438 : BitVec 32) (k0_hw25 : k0_chk25 v438), (k0_dev13 v438) < nD := fun v438 k0_hw25 => k0_hw25

def k0_cond1 (k0_t1 : Fin k0_t1_loop.trips) : BitVec 1 :=
  let c0_i32_164 : BitVec 32 := 0#32
  let c1_i32_165 : BitVec 32 := 1#32
  let arg23 : BitVec 32 := Scf.iv c0_i32_164 c1_i32_165 k0_t1
  let c61_i32 : BitVec 32 := 61#32
  let v472 : BitVec 1 := Scalar.cmpi .slt arg23 c61_i32
  let v473 : BitVec 32 := Scalar.extui v472
  let c0_i32_400 : BitVec 32 := 0#32
  let v474 : BitVec 1 := Scalar.cmpi .ne v473 c0_i32_400
  v474

def k0_off30 (k0_t1 : Fin k0_t1_loop.trips) : Fin 2 → Nat :=
  let c0_i32_580 : BitVec 32 := 0#32
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_575 : BitVec 32 := 3#32
  let v665 : BitVec 32 := Scalar.addi v663 c3_i32_575
  let c1_i32_576 : BitVec 32 := 1#32
  let v666 : BitVec 32 := Scalar.subi v665 c1_i32_576
  let c3_i32_577 : BitVec 32 := 3#32
  let v667 : BitVec 32 := Scalar.remsi v666 c3_i32_577
  ![0, v667.toNat]
def k0_off31 (k0_t1 : Fin k0_t1_loop.trips) : Fin 2 → Nat :=
  let c0_i32_579 : BitVec 32 := 0#32
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_578 : BitVec 32 := 3#32
  let v668 : BitVec 32 := Scalar.remsi v663 c3_i32_578
  ![0, v668.toNat]
def k0_off32 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_578 : BitVec 32 := 3#32
  let v668 : BitVec 32 := Scalar.remsi v663 c3_i32_578
  let c0_i32_583 : BitVec 32 := 0#32
  let c0_i32_584 : BitVec 32 := 0#32
  ![v668.toNat, 0, 0]
def k0_off33 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_575 : BitVec 32 := 3#32
  let v665 : BitVec 32 := Scalar.addi v663 c3_i32_575
  let c1_i32_576 : BitVec 32 := 1#32
  let v666 : BitVec 32 := Scalar.subi v665 c1_i32_576
  let c3_i32_577 : BitVec 32 := 3#32
  let v667 : BitVec 32 := Scalar.remsi v666 c3_i32_577
  let c0_i32_585 : BitVec 32 := 0#32
  let c0_i32_586 : BitVec 32 := 0#32
  ![v667.toNat, 0, 0]
def k0_dev14 (v664 : BitVec 32) : Nat :=
  let c0_i32_582 : BitVec 32 := 0#32
  let c1_i32_581 : BitVec 32 := 1#32
  let v669 : BitVec 32 := Scalar.muli v664 c1_i32_581
  let v670 : BitVec 32 := Scalar.addi c0_i32_582 v669
  v670.toNat

def k0_chk26 (k0_t1 : Fin k0_t1_loop.trips) (v664 : BitVec 32) : Prop :=
  (∀ (k0_h1 : k0_cond1 k0_t1 = 1#1), (k0_dev14 v664) < nD)
theorem k0_dev14_lt : ∀ (k0_t1 : Fin k0_t1_loop.trips) (v664 : BitVec 32) (k0_hw26 : k0_chk26 k0_t1 v664), ∀ (k0_h1 : k0_cond1 k0_t1 = 1#1), (k0_dev14 v664) < nD := fun k0_t1 v664 k0_hw26 k0_h1 => k0_hw26 k0_h1

def k0_off34 (k0_t1 : Fin k0_t1_loop.trips) : Fin 2 → Nat :=
  let c1_i32_408 : BitVec 32 := 1#32
  let c0_i32_164 : BitVec 32 := 0#32
  let c1_i32_165 : BitVec 32 := 1#32
  let arg23 : BitVec 32 := Scf.iv c0_i32_164 c1_i32_165 k0_t1
  let c3_i32_407 : BitVec 32 := 3#32
  let v481 : BitVec 32 := Scalar.remsi arg23 c3_i32_407
  ![1, v481.toNat]
def k0_off35 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_407 : BitVec 32 := 3#32
  let v481 : BitVec 32 := Scalar.remsi arg23 c3_i32_407
  let c0_i32_412 : BitVec 32 := 0#32
  let c0_i32_413 : BitVec 32 := 0#32
  ![v481.toNat, 0, 0]
def k0_off36 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_404 : BitVec 32 := 3#32
  let v478 : BitVec 32 := Scalar.addi arg23 c3_i32_404
  let c1_i32_405 : BitVec 32 := 1#32
  let v479 : BitVec 32 := Scalar.subi v478 c1_i32_405
  let c3_i32_406 : BitVec 32 := 3#32
  let v480 : BitVec 32 := Scalar.remsi v479 c3_i32_406
  let c0_i32_414 : BitVec 32 := 0#32
  let c0_i32_415 : BitVec 32 := 0#32
  ![v480.toNat, 0, 0]
def k0_off37 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_402 : BitVec 32 := 3#32
  let v476 : BitVec 32 := Scalar.remsi arg23 c3_i32_402
  let v490 : Index := Scalar.indexCast v476
  let c0_416 : Index := 0#32
  let c0_417 : Index := 0#32
  ![v490.toNat, 0, 0]
def k0_off38 (k0_t1 : Fin k0_t1_loop.trips) : Fin 2 → Nat :=
  let c1_i32_422 : BitVec 32 := 1#32
  let c0_i32_164 : BitVec 32 := 0#32
  let c1_i32_165 : BitVec 32 := 1#32
  let arg23 : BitVec 32 := Scf.iv c0_i32_164 c1_i32_165 k0_t1
  let c3_i32_404 : BitVec 32 := 3#32
  let v478 : BitVec 32 := Scalar.addi arg23 c3_i32_404
  let c1_i32_405 : BitVec 32 := 1#32
  let v479 : BitVec 32 := Scalar.subi v478 c1_i32_405
  let c3_i32_406 : BitVec 32 := 3#32
  let v480 : BitVec 32 := Scalar.remsi v479 c3_i32_406
  ![1, v480.toNat]
def k0_dev15 (v475 : BitVec 32) : Nat :=
  let c0_i32_432 : BitVec 32 := 0#32
  let c1_i32_431 : BitVec 32 := 1#32
  let v507 : BitVec 32 := Scalar.muli v475 c1_i32_431
  let v508 : BitVec 32 := Scalar.addi c0_i32_432 v507
  v508.toNat

def k0_chk27 (v475 : BitVec 32) : Prop :=
  ((k0_dev15 v475) < nD)
theorem k0_dev15_lt : ∀ (v475 : BitVec 32) (k0_hw27 : k0_chk27 v475), (k0_dev15 v475) < nD := fun v475 k0_hw27 => k0_hw27

def k0_cond3 (k0_t1 : Fin k0_t1_loop.trips) : BitVec 1 :=
  let c0_i32_164 : BitVec 32 := 0#32
  let c1_i32_165 : BitVec 32 := 1#32
  let arg23 : BitVec 32 := Scf.iv c0_i32_164 c1_i32_165 k0_t1
  let c61_i32_433 : BitVec 32 := 61#32
  let v509 : BitVec 1 := Scalar.cmpi .slt arg23 c61_i32_433
  let v510 : BitVec 32 := Scalar.extui v509
  let c0_i32_434 : BitVec 32 := 0#32
  let v511 : BitVec 1 := Scalar.cmpi .ne v510 c0_i32_434
  v511

def k0_off39 (k0_t1 : Fin k0_t1_loop.trips) : Fin 2 → Nat :=
  let c1_i32_580 : BitVec 32 := 1#32
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_575 : BitVec 32 := 3#32
  let v665 : BitVec 32 := Scalar.addi v663 c3_i32_575
  let c1_i32_576 : BitVec 32 := 1#32
  let v666 : BitVec 32 := Scalar.subi v665 c1_i32_576
  let c3_i32_577 : BitVec 32 := 3#32
  let v667 : BitVec 32 := Scalar.remsi v666 c3_i32_577
  ![1, v667.toNat]
def k0_off40 (k0_t1 : Fin k0_t1_loop.trips) : Fin 2 → Nat :=
  let c1_i32_579 : BitVec 32 := 1#32
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_578 : BitVec 32 := 3#32
  let v668 : BitVec 32 := Scalar.remsi v663 c3_i32_578
  ![1, v668.toNat]
def k0_off41 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_578 : BitVec 32 := 3#32
  let v668 : BitVec 32 := Scalar.remsi v663 c3_i32_578
  let c0_i32_583 : BitVec 32 := 0#32
  let c0_i32_584 : BitVec 32 := 0#32
  ![v668.toNat, 0, 0]
def k0_off42 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_575 : BitVec 32 := 3#32
  let v665 : BitVec 32 := Scalar.addi v663 c3_i32_575
  let c1_i32_576 : BitVec 32 := 1#32
  let v666 : BitVec 32 := Scalar.subi v665 c1_i32_576
  let c3_i32_577 : BitVec 32 := 3#32
  let v667 : BitVec 32 := Scalar.remsi v666 c3_i32_577
  let c0_i32_585 : BitVec 32 := 0#32
  let c0_i32_586 : BitVec 32 := 0#32
  ![v667.toNat, 0, 0]
def k0_dev16 (v664 : BitVec 32) : Nat :=
  let c0_i32_582 : BitVec 32 := 0#32
  let c1_i32_581 : BitVec 32 := 1#32
  let v669 : BitVec 32 := Scalar.muli v664 c1_i32_581
  let v670 : BitVec 32 := Scalar.addi c0_i32_582 v669
  v670.toNat

def k0_chk28 (k0_t1 : Fin k0_t1_loop.trips) (v664 : BitVec 32) : Prop :=
  (∀ (k0_h3 : k0_cond3 k0_t1 = 1#1), (k0_dev16 v664) < nD)
theorem k0_dev16_lt : ∀ (k0_t1 : Fin k0_t1_loop.trips) (v664 : BitVec 32) (k0_hw28 : k0_chk28 k0_t1 v664), ∀ (k0_h3 : k0_cond3 k0_t1 = 1#1), (k0_dev16 v664) < nD := fun k0_t1 v664 k0_hw28 k0_h3 => k0_hw28 k0_h3

def k0_off43 (k0_t1 : Fin k0_t1_loop.trips) : Fin 2 → Nat :=
  let c2_i32_442 : BitVec 32 := 2#32
  let c0_i32_164 : BitVec 32 := 0#32
  let c1_i32_165 : BitVec 32 := 1#32
  let arg23 : BitVec 32 := Scf.iv c0_i32_164 c1_i32_165 k0_t1
  let c3_i32_441 : BitVec 32 := 3#32
  let v518 : BitVec 32 := Scalar.remsi arg23 c3_i32_441
  ![2, v518.toNat]
def k0_off44 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_441 : BitVec 32 := 3#32
  let v518 : BitVec 32 := Scalar.remsi arg23 c3_i32_441
  let c0_i32_446 : BitVec 32 := 0#32
  let c0_i32_447 : BitVec 32 := 0#32
  ![v518.toNat, 0, 0]
def k0_off45 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_438 : BitVec 32 := 3#32
  let v515 : BitVec 32 := Scalar.addi arg23 c3_i32_438
  let c1_i32_439 : BitVec 32 := 1#32
  let v516 : BitVec 32 := Scalar.subi v515 c1_i32_439
  let c3_i32_440 : BitVec 32 := 3#32
  let v517 : BitVec 32 := Scalar.remsi v516 c3_i32_440
  let c0_i32_448 : BitVec 32 := 0#32
  let c0_i32_449 : BitVec 32 := 0#32
  ![v517.toNat, 0, 0]
def k0_off46 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_436 : BitVec 32 := 3#32
  let v513 : BitVec 32 := Scalar.remsi arg23 c3_i32_436
  let v527 : Index := Scalar.indexCast v513
  let c0_450 : Index := 0#32
  let c0_451 : Index := 0#32
  ![v527.toNat, 0, 0]
def k0_off47 (k0_t1 : Fin k0_t1_loop.trips) : Fin 2 → Nat :=
  let c2_i32_456 : BitVec 32 := 2#32
  let c0_i32_164 : BitVec 32 := 0#32
  let c1_i32_165 : BitVec 32 := 1#32
  let arg23 : BitVec 32 := Scf.iv c0_i32_164 c1_i32_165 k0_t1
  let c3_i32_438 : BitVec 32 := 3#32
  let v515 : BitVec 32 := Scalar.addi arg23 c3_i32_438
  let c1_i32_439 : BitVec 32 := 1#32
  let v516 : BitVec 32 := Scalar.subi v515 c1_i32_439
  let c3_i32_440 : BitVec 32 := 3#32
  let v517 : BitVec 32 := Scalar.remsi v516 c3_i32_440
  ![2, v517.toNat]
def k0_dev17 (v512 : BitVec 32) : Nat :=
  let c0_i32_466 : BitVec 32 := 0#32
  let c1_i32_465 : BitVec 32 := 1#32
  let v544 : BitVec 32 := Scalar.muli v512 c1_i32_465
  let v545 : BitVec 32 := Scalar.addi c0_i32_466 v544
  v545.toNat

def k0_chk29 (v512 : BitVec 32) : Prop :=
  ((k0_dev17 v512) < nD)
theorem k0_dev17_lt : ∀ (v512 : BitVec 32) (k0_hw29 : k0_chk29 v512), (k0_dev17 v512) < nD := fun v512 k0_hw29 => k0_hw29

def k0_cond5 (k0_t1 : Fin k0_t1_loop.trips) : BitVec 1 :=
  let c0_i32_164 : BitVec 32 := 0#32
  let c1_i32_165 : BitVec 32 := 1#32
  let arg23 : BitVec 32 := Scf.iv c0_i32_164 c1_i32_165 k0_t1
  let c61_i32_467 : BitVec 32 := 61#32
  let v546 : BitVec 1 := Scalar.cmpi .slt arg23 c61_i32_467
  let v547 : BitVec 32 := Scalar.extui v546
  let c0_i32_468 : BitVec 32 := 0#32
  let v548 : BitVec 1 := Scalar.cmpi .ne v547 c0_i32_468
  v548

def k0_off48 (k0_t1 : Fin k0_t1_loop.trips) : Fin 2 → Nat :=
  let c2_i32_580 : BitVec 32 := 2#32
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_575 : BitVec 32 := 3#32
  let v665 : BitVec 32 := Scalar.addi v663 c3_i32_575
  let c1_i32_576 : BitVec 32 := 1#32
  let v666 : BitVec 32 := Scalar.subi v665 c1_i32_576
  let c3_i32_577 : BitVec 32 := 3#32
  let v667 : BitVec 32 := Scalar.remsi v666 c3_i32_577
  ![2, v667.toNat]
def k0_off49 (k0_t1 : Fin k0_t1_loop.trips) : Fin 2 → Nat :=
  let c2_i32_579 : BitVec 32 := 2#32
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_578 : BitVec 32 := 3#32
  let v668 : BitVec 32 := Scalar.remsi v663 c3_i32_578
  ![2, v668.toNat]
def k0_off50 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_578 : BitVec 32 := 3#32
  let v668 : BitVec 32 := Scalar.remsi v663 c3_i32_578
  let c0_i32_583 : BitVec 32 := 0#32
  let c0_i32_584 : BitVec 32 := 0#32
  ![v668.toNat, 0, 0]
def k0_off51 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_575 : BitVec 32 := 3#32
  let v665 : BitVec 32 := Scalar.addi v663 c3_i32_575
  let c1_i32_576 : BitVec 32 := 1#32
  let v666 : BitVec 32 := Scalar.subi v665 c1_i32_576
  let c3_i32_577 : BitVec 32 := 3#32
  let v667 : BitVec 32 := Scalar.remsi v666 c3_i32_577
  let c0_i32_585 : BitVec 32 := 0#32
  let c0_i32_586 : BitVec 32 := 0#32
  ![v667.toNat, 0, 0]
def k0_dev18 (v664 : BitVec 32) : Nat :=
  let c0_i32_582 : BitVec 32 := 0#32
  let c1_i32_581 : BitVec 32 := 1#32
  let v669 : BitVec 32 := Scalar.muli v664 c1_i32_581
  let v670 : BitVec 32 := Scalar.addi c0_i32_582 v669
  v670.toNat

def k0_chk30 (k0_t1 : Fin k0_t1_loop.trips) (v664 : BitVec 32) : Prop :=
  (∀ (k0_h5 : k0_cond5 k0_t1 = 1#1), (k0_dev18 v664) < nD)
theorem k0_dev18_lt : ∀ (k0_t1 : Fin k0_t1_loop.trips) (v664 : BitVec 32) (k0_hw30 : k0_chk30 k0_t1 v664), ∀ (k0_h5 : k0_cond5 k0_t1 = 1#1), (k0_dev18 v664) < nD := fun k0_t1 v664 k0_hw30 k0_h5 => k0_hw30 k0_h5

def k0_off52 (k0_t1 : Fin k0_t1_loop.trips) : Fin 2 → Nat :=
  let c3_i32_476 : BitVec 32 := 3#32
  let c0_i32_164 : BitVec 32 := 0#32
  let c1_i32_165 : BitVec 32 := 1#32
  let arg23 : BitVec 32 := Scf.iv c0_i32_164 c1_i32_165 k0_t1
  let c3_i32_475 : BitVec 32 := 3#32
  let v555 : BitVec 32 := Scalar.remsi arg23 c3_i32_475
  ![3, v555.toNat]
def k0_off53 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_475 : BitVec 32 := 3#32
  let v555 : BitVec 32 := Scalar.remsi arg23 c3_i32_475
  let c0_i32_480 : BitVec 32 := 0#32
  let c0_i32_481 : BitVec 32 := 0#32
  ![v555.toNat, 0, 0]
def k0_off54 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_472 : BitVec 32 := 3#32
  let v552 : BitVec 32 := Scalar.addi arg23 c3_i32_472
  let c1_i32_473 : BitVec 32 := 1#32
  let v553 : BitVec 32 := Scalar.subi v552 c1_i32_473
  let c3_i32_474 : BitVec 32 := 3#32
  let v554 : BitVec 32 := Scalar.remsi v553 c3_i32_474
  let c0_i32_482 : BitVec 32 := 0#32
  let c0_i32_483 : BitVec 32 := 0#32
  ![v554.toNat, 0, 0]
def k0_off55 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_470 : BitVec 32 := 3#32
  let v550 : BitVec 32 := Scalar.remsi arg23 c3_i32_470
  let v564 : Index := Scalar.indexCast v550
  let c0_484 : Index := 0#32
  let c0_485 : Index := 0#32
  ![v564.toNat, 0, 0]
def k0_off56 (k0_t1 : Fin k0_t1_loop.trips) : Fin 2 → Nat :=
  let c3_i32_490 : BitVec 32 := 3#32
  let c0_i32_164 : BitVec 32 := 0#32
  let c1_i32_165 : BitVec 32 := 1#32
  let arg23 : BitVec 32 := Scf.iv c0_i32_164 c1_i32_165 k0_t1
  let c3_i32_472 : BitVec 32 := 3#32
  let v552 : BitVec 32 := Scalar.addi arg23 c3_i32_472
  let c1_i32_473 : BitVec 32 := 1#32
  let v553 : BitVec 32 := Scalar.subi v552 c1_i32_473
  let c3_i32_474 : BitVec 32 := 3#32
  let v554 : BitVec 32 := Scalar.remsi v553 c3_i32_474
  ![3, v554.toNat]
def k0_dev19 (v549 : BitVec 32) : Nat :=
  let c0_i32_500 : BitVec 32 := 0#32
  let c1_i32_499 : BitVec 32 := 1#32
  let v581 : BitVec 32 := Scalar.muli v549 c1_i32_499
  let v582 : BitVec 32 := Scalar.addi c0_i32_500 v581
  v582.toNat

def k0_chk31 (v549 : BitVec 32) : Prop :=
  ((k0_dev19 v549) < nD)
theorem k0_dev19_lt : ∀ (v549 : BitVec 32) (k0_hw31 : k0_chk31 v549), (k0_dev19 v549) < nD := fun v549 k0_hw31 => k0_hw31

def k0_cond7 (k0_t1 : Fin k0_t1_loop.trips) : BitVec 1 :=
  let c0_i32_164 : BitVec 32 := 0#32
  let c1_i32_165 : BitVec 32 := 1#32
  let arg23 : BitVec 32 := Scf.iv c0_i32_164 c1_i32_165 k0_t1
  let c61_i32_501 : BitVec 32 := 61#32
  let v583 : BitVec 1 := Scalar.cmpi .slt arg23 c61_i32_501
  let v584 : BitVec 32 := Scalar.extui v583
  let c0_i32_502 : BitVec 32 := 0#32
  let v585 : BitVec 1 := Scalar.cmpi .ne v584 c0_i32_502
  v585

def k0_off57 (k0_t1 : Fin k0_t1_loop.trips) : Fin 2 → Nat :=
  let c3_i32_580 : BitVec 32 := 3#32
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_575 : BitVec 32 := 3#32
  let v665 : BitVec 32 := Scalar.addi v663 c3_i32_575
  let c1_i32_576 : BitVec 32 := 1#32
  let v666 : BitVec 32 := Scalar.subi v665 c1_i32_576
  let c3_i32_577 : BitVec 32 := 3#32
  let v667 : BitVec 32 := Scalar.remsi v666 c3_i32_577
  ![3, v667.toNat]
def k0_off58 (k0_t1 : Fin k0_t1_loop.trips) : Fin 2 → Nat :=
  let c3_i32_579 : BitVec 32 := 3#32
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_578 : BitVec 32 := 3#32
  let v668 : BitVec 32 := Scalar.remsi v663 c3_i32_578
  ![3, v668.toNat]
def k0_off59 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_578 : BitVec 32 := 3#32
  let v668 : BitVec 32 := Scalar.remsi v663 c3_i32_578
  let c0_i32_583 : BitVec 32 := 0#32
  let c0_i32_584 : BitVec 32 := 0#32
  ![v668.toNat, 0, 0]
def k0_off60 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_575 : BitVec 32 := 3#32
  let v665 : BitVec 32 := Scalar.addi v663 c3_i32_575
  let c1_i32_576 : BitVec 32 := 1#32
  let v666 : BitVec 32 := Scalar.subi v665 c1_i32_576
  let c3_i32_577 : BitVec 32 := 3#32
  let v667 : BitVec 32 := Scalar.remsi v666 c3_i32_577
  let c0_i32_585 : BitVec 32 := 0#32
  let c0_i32_586 : BitVec 32 := 0#32
  ![v667.toNat, 0, 0]
def k0_dev20 (v664 : BitVec 32) : Nat :=
  let c0_i32_582 : BitVec 32 := 0#32
  let c1_i32_581 : BitVec 32 := 1#32
  let v669 : BitVec 32 := Scalar.muli v664 c1_i32_581
  let v670 : BitVec 32 := Scalar.addi c0_i32_582 v669
  v670.toNat

def k0_chk32 (k0_t1 : Fin k0_t1_loop.trips) (v664 : BitVec 32) : Prop :=
  (∀ (k0_h7 : k0_cond7 k0_t1 = 1#1), (k0_dev20 v664) < nD)
theorem k0_dev20_lt : ∀ (k0_t1 : Fin k0_t1_loop.trips) (v664 : BitVec 32) (k0_hw32 : k0_chk32 k0_t1 v664), ∀ (k0_h7 : k0_cond7 k0_t1 = 1#1), (k0_dev20 v664) < nD := fun k0_t1 v664 k0_hw32 k0_h7 => k0_hw32 k0_h7

def k0_off61 (k0_t1 : Fin k0_t1_loop.trips) : Fin 2 → Nat :=
  let c4_i32_510 : BitVec 32 := 4#32
  let c0_i32_164 : BitVec 32 := 0#32
  let c1_i32_165 : BitVec 32 := 1#32
  let arg23 : BitVec 32 := Scf.iv c0_i32_164 c1_i32_165 k0_t1
  let c3_i32_509 : BitVec 32 := 3#32
  let v592 : BitVec 32 := Scalar.remsi arg23 c3_i32_509
  ![4, v592.toNat]
def k0_off62 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_509 : BitVec 32 := 3#32
  let v592 : BitVec 32 := Scalar.remsi arg23 c3_i32_509
  let c0_i32_514 : BitVec 32 := 0#32
  let c0_i32_515 : BitVec 32 := 0#32
  ![v592.toNat, 0, 0]
def k0_off63 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_506 : BitVec 32 := 3#32
  let v589 : BitVec 32 := Scalar.addi arg23 c3_i32_506
  let c1_i32_507 : BitVec 32 := 1#32
  let v590 : BitVec 32 := Scalar.subi v589 c1_i32_507
  let c3_i32_508 : BitVec 32 := 3#32
  let v591 : BitVec 32 := Scalar.remsi v590 c3_i32_508
  let c0_i32_516 : BitVec 32 := 0#32
  let c0_i32_517 : BitVec 32 := 0#32
  ![v591.toNat, 0, 0]
def k0_off64 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_504 : BitVec 32 := 3#32
  let v587 : BitVec 32 := Scalar.remsi arg23 c3_i32_504
  let v601 : Index := Scalar.indexCast v587
  let c0_518 : Index := 0#32
  let c0_519 : Index := 0#32
  ![v601.toNat, 0, 0]
def k0_off65 (k0_t1 : Fin k0_t1_loop.trips) : Fin 2 → Nat :=
  let c4_i32_524 : BitVec 32 := 4#32
  let c0_i32_164 : BitVec 32 := 0#32
  let c1_i32_165 : BitVec 32 := 1#32
  let arg23 : BitVec 32 := Scf.iv c0_i32_164 c1_i32_165 k0_t1
  let c3_i32_506 : BitVec 32 := 3#32
  let v589 : BitVec 32 := Scalar.addi arg23 c3_i32_506
  let c1_i32_507 : BitVec 32 := 1#32
  let v590 : BitVec 32 := Scalar.subi v589 c1_i32_507
  let c3_i32_508 : BitVec 32 := 3#32
  let v591 : BitVec 32 := Scalar.remsi v590 c3_i32_508
  ![4, v591.toNat]
def k0_dev21 (v586 : BitVec 32) : Nat :=
  let c0_i32_534 : BitVec 32 := 0#32
  let c1_i32_533 : BitVec 32 := 1#32
  let v618 : BitVec 32 := Scalar.muli v586 c1_i32_533
  let v619 : BitVec 32 := Scalar.addi c0_i32_534 v618
  v619.toNat

def k0_chk33 (v586 : BitVec 32) : Prop :=
  ((k0_dev21 v586) < nD)
theorem k0_dev21_lt : ∀ (v586 : BitVec 32) (k0_hw33 : k0_chk33 v586), (k0_dev21 v586) < nD := fun v586 k0_hw33 => k0_hw33

def k0_cond9 (k0_t1 : Fin k0_t1_loop.trips) : BitVec 1 :=
  let c0_i32_164 : BitVec 32 := 0#32
  let c1_i32_165 : BitVec 32 := 1#32
  let arg23 : BitVec 32 := Scf.iv c0_i32_164 c1_i32_165 k0_t1
  let c61_i32_535 : BitVec 32 := 61#32
  let v620 : BitVec 1 := Scalar.cmpi .slt arg23 c61_i32_535
  let v621 : BitVec 32 := Scalar.extui v620
  let c0_i32_536 : BitVec 32 := 0#32
  let v622 : BitVec 1 := Scalar.cmpi .ne v621 c0_i32_536
  v622

def k0_off66 (k0_t1 : Fin k0_t1_loop.trips) : Fin 2 → Nat :=
  let c4_i32_580 : BitVec 32 := 4#32
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_575 : BitVec 32 := 3#32
  let v665 : BitVec 32 := Scalar.addi v663 c3_i32_575
  let c1_i32_576 : BitVec 32 := 1#32
  let v666 : BitVec 32 := Scalar.subi v665 c1_i32_576
  let c3_i32_577 : BitVec 32 := 3#32
  let v667 : BitVec 32 := Scalar.remsi v666 c3_i32_577
  ![4, v667.toNat]
def k0_off67 (k0_t1 : Fin k0_t1_loop.trips) : Fin 2 → Nat :=
  let c4_i32_579 : BitVec 32 := 4#32
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_578 : BitVec 32 := 3#32
  let v668 : BitVec 32 := Scalar.remsi v663 c3_i32_578
  ![4, v668.toNat]
def k0_off68 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_578 : BitVec 32 := 3#32
  let v668 : BitVec 32 := Scalar.remsi v663 c3_i32_578
  let c0_i32_583 : BitVec 32 := 0#32
  let c0_i32_584 : BitVec 32 := 0#32
  ![v668.toNat, 0, 0]
def k0_off69 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_575 : BitVec 32 := 3#32
  let v665 : BitVec 32 := Scalar.addi v663 c3_i32_575
  let c1_i32_576 : BitVec 32 := 1#32
  let v666 : BitVec 32 := Scalar.subi v665 c1_i32_576
  let c3_i32_577 : BitVec 32 := 3#32
  let v667 : BitVec 32 := Scalar.remsi v666 c3_i32_577
  let c0_i32_585 : BitVec 32 := 0#32
  let c0_i32_586 : BitVec 32 := 0#32
  ![v667.toNat, 0, 0]
def k0_dev22 (v664 : BitVec 32) : Nat :=
  let c0_i32_582 : BitVec 32 := 0#32
  let c1_i32_581 : BitVec 32 := 1#32
  let v669 : BitVec 32 := Scalar.muli v664 c1_i32_581
  let v670 : BitVec 32 := Scalar.addi c0_i32_582 v669
  v670.toNat

def k0_chk34 (k0_t1 : Fin k0_t1_loop.trips) (v664 : BitVec 32) : Prop :=
  (∀ (k0_h9 : k0_cond9 k0_t1 = 1#1), (k0_dev22 v664) < nD)
theorem k0_dev22_lt : ∀ (k0_t1 : Fin k0_t1_loop.trips) (v664 : BitVec 32) (k0_hw34 : k0_chk34 k0_t1 v664), ∀ (k0_h9 : k0_cond9 k0_t1 = 1#1), (k0_dev22 v664) < nD := fun k0_t1 v664 k0_hw34 k0_h9 => k0_hw34 k0_h9

def k0_off70 (k0_t1 : Fin k0_t1_loop.trips) : Fin 2 → Nat :=
  let c5_i32_544 : BitVec 32 := 5#32
  let c0_i32_164 : BitVec 32 := 0#32
  let c1_i32_165 : BitVec 32 := 1#32
  let arg23 : BitVec 32 := Scf.iv c0_i32_164 c1_i32_165 k0_t1
  let c3_i32_543 : BitVec 32 := 3#32
  let v629 : BitVec 32 := Scalar.remsi arg23 c3_i32_543
  ![5, v629.toNat]
def k0_off71 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_543 : BitVec 32 := 3#32
  let v629 : BitVec 32 := Scalar.remsi arg23 c3_i32_543
  let c0_i32_548 : BitVec 32 := 0#32
  let c0_i32_549 : BitVec 32 := 0#32
  ![v629.toNat, 0, 0]
def k0_off72 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_540 : BitVec 32 := 3#32
  let v626 : BitVec 32 := Scalar.addi arg23 c3_i32_540
  let c1_i32_541 : BitVec 32 := 1#32
  let v627 : BitVec 32 := Scalar.subi v626 c1_i32_541
  let c3_i32_542 : BitVec 32 := 3#32
  let v628 : BitVec 32 := Scalar.remsi v627 c3_i32_542
  let c0_i32_550 : BitVec 32 := 0#32
  let c0_i32_551 : BitVec 32 := 0#32
  ![v628.toNat, 0, 0]
def k0_off73 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c3_i32_538 : BitVec 32 := 3#32
  let v624 : BitVec 32 := Scalar.remsi arg23 c3_i32_538
  let v638 : Index := Scalar.indexCast v624
  let c0_552 : Index := 0#32
  let c0_553 : Index := 0#32
  ![v638.toNat, 0, 0]
def k0_off74 (k0_t1 : Fin k0_t1_loop.trips) : Fin 2 → Nat :=
  let c5_i32_558 : BitVec 32 := 5#32
  let c0_i32_164 : BitVec 32 := 0#32
  let c1_i32_165 : BitVec 32 := 1#32
  let arg23 : BitVec 32 := Scf.iv c0_i32_164 c1_i32_165 k0_t1
  let c3_i32_540 : BitVec 32 := 3#32
  let v626 : BitVec 32 := Scalar.addi arg23 c3_i32_540
  let c1_i32_541 : BitVec 32 := 1#32
  let v627 : BitVec 32 := Scalar.subi v626 c1_i32_541
  let c3_i32_542 : BitVec 32 := 3#32
  let v628 : BitVec 32 := Scalar.remsi v627 c3_i32_542
  ![5, v628.toNat]
def k0_dev23 (v623 : BitVec 32) : Nat :=
  let c0_i32_568 : BitVec 32 := 0#32
  let c1_i32_567 : BitVec 32 := 1#32
  let v655 : BitVec 32 := Scalar.muli v623 c1_i32_567
  let v656 : BitVec 32 := Scalar.addi c0_i32_568 v655
  v656.toNat

def k0_chk35 (v623 : BitVec 32) : Prop :=
  ((k0_dev23 v623) < nD)
theorem k0_dev23_lt : ∀ (v623 : BitVec 32) (k0_hw35 : k0_chk35 v623), (k0_dev23 v623) < nD := fun v623 k0_hw35 => k0_hw35

def k0_cond11 (k0_t1 : Fin k0_t1_loop.trips) : BitVec 1 :=
  let c0_i32_164 : BitVec 32 := 0#32
  let c1_i32_165 : BitVec 32 := 1#32
  let arg23 : BitVec 32 := Scf.iv c0_i32_164 c1_i32_165 k0_t1
  let c61_i32_569 : BitVec 32 := 61#32
  let v657 : BitVec 1 := Scalar.cmpi .slt arg23 c61_i32_569
  let v658 : BitVec 32 := Scalar.extui v657
  let c0_i32_570 : BitVec 32 := 0#32
  let v659 : BitVec 1 := Scalar.cmpi .ne v658 c0_i32_570
  v659

def k0_off75 (k0_t1 : Fin k0_t1_loop.trips) : Fin 2 → Nat :=
  let c5_i32_580 : BitVec 32 := 5#32
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_575 : BitVec 32 := 3#32
  let v665 : BitVec 32 := Scalar.addi v663 c3_i32_575
  let c1_i32_576 : BitVec 32 := 1#32
  let v666 : BitVec 32 := Scalar.subi v665 c1_i32_576
  let c3_i32_577 : BitVec 32 := 3#32
  let v667 : BitVec 32 := Scalar.remsi v666 c3_i32_577
  ![5, v667.toNat]
def k0_off76 (k0_t1 : Fin k0_t1_loop.trips) : Fin 2 → Nat :=
  let c5_i32_579 : BitVec 32 := 5#32
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_578 : BitVec 32 := 3#32
  let v668 : BitVec 32 := Scalar.remsi v663 c3_i32_578
  ![5, v668.toNat]
def k0_off77 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_578 : BitVec 32 := 3#32
  let v668 : BitVec 32 := Scalar.remsi v663 c3_i32_578
  let c0_i32_583 : BitVec 32 := 0#32
  let c0_i32_584 : BitVec 32 := 0#32
  ![v668.toNat, 0, 0]
def k0_off78 (k0_t1 : Fin k0_t1_loop.trips) : Fin 3 → Nat :=
  let c0_i32_164 : BitVec 32 := 0#32
  let c1_i32_165 : BitVec 32 := 1#32
  let arg23 : BitVec 32 := Scf.iv c0_i32_164 c1_i32_165 k0_t1
  let c1_i32_573 : BitVec 32 := 1#32
  let v663 : BitVec 32 := Scalar.addi arg23 c1_i32_573
  let c3_i32_575 : BitVec 32 := 3#32
  let v665 : BitVec 32 := Scalar.addi v663 c3_i32_575
  let c1_i32_576 : BitVec 32 := 1#32
  let v666 : BitVec 32 := Scalar.subi v665 c1_i32_576
  let c3_i32_577 : BitVec 32 := 3#32
  let v667 : BitVec 32 := Scalar.remsi v666 c3_i32_577
  let c0_i32_585 : BitVec 32 := 0#32
  let c0_i32_586 : BitVec 32 := 0#32
  ![v667.toNat, 0, 0]
def k0_dev24 (v664 : BitVec 32) : Nat :=
  let c0_i32_582 : BitVec 32 := 0#32
  let c1_i32_581 : BitVec 32 := 1#32
  let v669 : BitVec 32 := Scalar.muli v664 c1_i32_581
  let v670 : BitVec 32 := Scalar.addi c0_i32_582 v669
  v670.toNat

def k0_chk36 (k0_t1 : Fin k0_t1_loop.trips) (v664 : BitVec 32) : Prop :=
  (∀ (k0_h11 : k0_cond11 k0_t1 = 1#1), (k0_dev24 v664) < nD)
theorem k0_dev24_lt : ∀ (k0_t1 : Fin k0_t1_loop.trips) (v664 : BitVec 32) (k0_hw36 : k0_chk36 k0_t1 v664), ∀ (k0_h11 : k0_cond11 k0_t1 = 1#1), (k0_dev24 v664) < nD := fun k0_t1 v664 k0_hw36 k0_h11 => k0_hw36 k0_h11

def k0_off79 (v209 : BitVec 32) : Fin 2 → Nat :=
  let c1_i32_168 : BitVec 32 := 1#32
  let v210 : BitVec 32 := Scalar.addi v209 c1_i32_168
  let c32_i32 : BitVec 32 := 32#32
  let v211 : BitVec 32 := Scalar.remsi v210 c32_i32
  let c128_i32_169 : BitVec 32 := 128#32
  let v212 : BitVec 32 := Scalar.muli v211 c128_i32_169
  let c0_i32_172 : BitVec 32 := 0#32
  ![v212.toNat, 0]

def k0_chk37 (v209 : BitVec 32) : Prop :=
  (∀ a, (k0_off79 v209) a + S128x1408.size a ≤ S4096x8192.size a)
theorem k0_off79_inb : ∀ (v209 : BitVec 32) (k0_hw37 : k0_chk37 v209), ∀ a, (k0_off79 v209) a + S128x1408.size a ≤ S4096x8192.size a := fun v209 k0_hw37 => k0_hw37

def k0_off80 (v223 : BitVec 32) : Fin 2 → Nat :=
  let c32_i32_181 : BitVec 32 := 32#32
  let v224 : BitVec 32 := Scalar.addi v223 c32_i32_181
  let c1_i32_182 : BitVec 32 := 1#32
  let v225 : BitVec 32 := Scalar.subi v224 c1_i32_182
  let c32_i32_183 : BitVec 32 := 32#32
  let v226 : BitVec 32 := Scalar.remsi v225 c32_i32_183
  let c128_i32_184 : BitVec 32 := 128#32
  let v227 : BitVec 32 := Scalar.muli v226 c128_i32_184
  let c1408_i32 : BitVec 32 := 1408#32
  ![v227.toNat, 1408]

def k0_chk38 (v223 : BitVec 32) : Prop :=
  (∀ a, (k0_off80 v223) a + S128x1408.size a ≤ S4096x8192.size a)
theorem k0_off80_inb : ∀ (v223 : BitVec 32) (k0_hw38 : k0_chk38 v223), ∀ a, (k0_off80 v223) a + S128x1408.size a ≤ S4096x8192.size a := fun v223 k0_hw38 => k0_hw38

def k0_off81 (v238 : BitVec 32) : Fin 2 → Nat :=
  let c1_i32_195 : BitVec 32 := 1#32
  let v239 : BitVec 32 := Scalar.addi v238 c1_i32_195
  let c32_i32_196 : BitVec 32 := 32#32
  let v240 : BitVec 32 := Scalar.remsi v239 c32_i32_196
  let c128_i32_197 : BitVec 32 := 128#32
  let v241 : BitVec 32 := Scalar.muli v240 c128_i32_197
  let c2816_i32 : BitVec 32 := 2816#32
  ![v241.toNat, 2816]

def k0_chk39 (v238 : BitVec 32) : Prop :=
  (∀ a, (k0_off81 v238) a + S128x1408.size a ≤ S4096x8192.size a)
theorem k0_off81_inb : ∀ (v238 : BitVec 32) (k0_hw39 : k0_chk39 v238), ∀ a, (k0_off81 v238) a + S128x1408.size a ≤ S4096x8192.size a := fun v238 k0_hw39 => k0_hw39

def k0_off82 (v252 : BitVec 32) : Fin 2 → Nat :=
  let c32_i32_208 : BitVec 32 := 32#32
  let v253 : BitVec 32 := Scalar.addi v252 c32_i32_208
  let c1_i32_209 : BitVec 32 := 1#32
  let v254 : BitVec 32 := Scalar.subi v253 c1_i32_209
  let c32_i32_210 : BitVec 32 := 32#32
  let v255 : BitVec 32 := Scalar.remsi v254 c32_i32_210
  let c128_i32_211 : BitVec 32 := 128#32
  let v256 : BitVec 32 := Scalar.muli v255 c128_i32_211
  let c4224_i32 : BitVec 32 := 4224#32
  ![v256.toNat, 4224]

def k0_chk40 (v252 : BitVec 32) : Prop :=
  (∀ a, (k0_off82 v252) a + S128x1280.size a ≤ S4096x8192.size a)
theorem k0_off82_inb : ∀ (v252 : BitVec 32) (k0_hw40 : k0_chk40 v252), ∀ a, (k0_off82 v252) a + S128x1280.size a ≤ S4096x8192.size a := fun v252 k0_hw40 => k0_hw40

def k0_off83 (v267 : BitVec 32) : Fin 2 → Nat :=
  let c1_i32_222 : BitVec 32 := 1#32
  let v268 : BitVec 32 := Scalar.addi v267 c1_i32_222
  let c32_i32_223 : BitVec 32 := 32#32
  let v269 : BitVec 32 := Scalar.remsi v268 c32_i32_223
  let c128_i32_224 : BitVec 32 := 128#32
  let v270 : BitVec 32 := Scalar.muli v269 c128_i32_224
  let c5504_i32 : BitVec 32 := 5504#32
  ![v270.toNat, 5504]

def k0_chk41 (v267 : BitVec 32) : Prop :=
  (∀ a, (k0_off83 v267) a + S128x1408.size a ≤ S4096x8192.size a)
theorem k0_off83_inb : ∀ (v267 : BitVec 32) (k0_hw41 : k0_chk41 v267), ∀ a, (k0_off83 v267) a + S128x1408.size a ≤ S4096x8192.size a := fun v267 k0_hw41 => k0_hw41

def k0_off84 (v281 : BitVec 32) : Fin 2 → Nat :=
  let c32_i32_235 : BitVec 32 := 32#32
  let v282 : BitVec 32 := Scalar.addi v281 c32_i32_235
  let c1_i32_236 : BitVec 32 := 1#32
  let v283 : BitVec 32 := Scalar.subi v282 c1_i32_236
  let c32_i32_237 : BitVec 32 := 32#32
  let v284 : BitVec 32 := Scalar.remsi v283 c32_i32_237
  let c128_i32_238 : BitVec 32 := 128#32
  let v285 : BitVec 32 := Scalar.muli v284 c128_i32_238
  let c6912_i32 : BitVec 32 := 6912#32
  ![v285.toNat, 6912]

def k0_chk42 (v281 : BitVec 32) : Prop :=
  (∀ a, (k0_off84 v281) a + S128x1280.size a ≤ S4096x8192.size a)
theorem k0_off84_inb : ∀ (v281 : BitVec 32) (k0_hw42 : k0_chk42 v281), ∀ a, (k0_off84 v281) a + S128x1280.size a ≤ S4096x8192.size a := fun v281 k0_hw42 => k0_hw42

@[reducible] def k0_t2_loop : Scf.Loop 32 :=
  let c0_i32_248 : BitVec 32 := 0#32
  let c31_i32_249 : BitVec 32 := 31#32
  let v296 : BitVec 32 := Scalar.addi c0_i32_248 c31_i32_249
  let c1_i32_250 : BitVec 32 := 1#32
  ⟨c0_i32_248, v296, c1_i32_250⟩
def k0_off85 (k0_t2 : Fin k0_t2_loop.trips) : Fin 2 → Nat :=
  let c0_i32_317 : BitVec 32 := 0#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_316 : BitVec 32 := 3#32
  let v351 : BitVec 32 := Scalar.remsi v340 c3_i32_316
  ![0, v351.toNat]
def k0_off86 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_316 : BitVec 32 := 3#32
  let v351 : BitVec 32 := Scalar.remsi v340 c3_i32_316
  let c0_i32_321 : BitVec 32 := 0#32
  let c0_i32_322 : BitVec 32 := 0#32
  ![v351.toNat, 0, 0]
def k0_off87 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_313 : BitVec 32 := 3#32
  let v348 : BitVec 32 := Scalar.addi v340 c3_i32_313
  let c1_i32_314 : BitVec 32 := 1#32
  let v349 : BitVec 32 := Scalar.subi v348 c1_i32_314
  let c3_i32_315 : BitVec 32 := 3#32
  let v350 : BitVec 32 := Scalar.remsi v349 c3_i32_315
  let c0_i32_323 : BitVec 32 := 0#32
  let c0_i32_324 : BitVec 32 := 0#32
  ![v350.toNat, 0, 0]
def k0_cond13 (k0_t2 : Fin k0_t2_loop.trips) : BitVec 1 :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c32_i32_326 : BitVec 32 := 32#32
  let v361 : BitVec 1 := Scalar.cmpi .sge v340 c32_i32_326
  let v362 : BitVec 32 := Scalar.extui v361
  let c0_i32_328 : BitVec 32 := 0#32
  let v363 : BitVec 1 := Scalar.cmpi .ne v362 c0_i32_328
  v363

def k0_off88 (k0_t2 : Fin k0_t2_loop.trips) (v341 : BitVec 32) : Fin 2 → Nat :=
  let c0_i32_248 : BitVec 32 := 0#32
  let c1_i32_250 : BitVec 32 := 1#32
  let arg23 : BitVec 32 := Scf.iv c0_i32_248 c1_i32_250 k0_t2
  let v342 : BitVec 32 := Scalar.subi v341 arg23
  let c64_i32 : BitVec 32 := 64#32
  let v343 : BitVec 32 := Scalar.addi v342 c64_i32
  let c32_i32_309 : BitVec 32 := 32#32
  let v344 : BitVec 32 := Scalar.remsi v343 c32_i32_309
  let c128_i32_325 : BitVec 32 := 128#32
  let v360 : BitVec 32 := Scalar.muli v344 c128_i32_325
  let c0_i32_537 : BitVec 32 := 0#32
  ![v360.toNat, 0]

def k0_off89 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_311 : BitVec 32 := 3#32
  let v346 : BitVec 32 := Scalar.remsi v340 c3_i32_311
  let c0_i32_538 : BitVec 32 := 0#32
  let c0_i32_539 : BitVec 32 := 0#32
  ![v346.toNat, 0, 0]
def k0_off90 (k0_t2 : Fin k0_t2_loop.trips) (v341 : BitVec 32) : Fin 2 → Nat :=
  let c0_i32_248 : BitVec 32 := 0#32
  let c1_i32_250 : BitVec 32 := 1#32
  let arg23 : BitVec 32 := Scf.iv c0_i32_248 c1_i32_250 k0_t2
  let v342 : BitVec 32 := Scalar.subi v341 arg23
  let c64_i32 : BitVec 32 := 64#32
  let v343 : BitVec 32 := Scalar.addi v342 c64_i32
  let c32_i32_309 : BitVec 32 := 32#32
  let v344 : BitVec 32 := Scalar.remsi v343 c32_i32_309
  let c128_i32_325 : BitVec 32 := 128#32
  let v360 : BitVec 32 := Scalar.muli v344 c128_i32_325
  let c0_i32_330 : BitVec 32 := 0#32
  ![v360.toNat, 0]

def k0_chk43 (k0_t2 : Fin k0_t2_loop.trips) (v341 : BitVec 32) : Prop :=
  (∀ (k0_h13 : k0_cond13 k0_t2 = 1#1), ∀ a, (k0_off88 k0_t2 v341) a + S128x1408.size a ≤ S4096x8192.size a) ∧
  (∀ a, (k0_off90 k0_t2 v341) a + S128x1408.size a ≤ S4096x8192.size a)
theorem k0_off88_inb : ∀ (k0_t2 : Fin k0_t2_loop.trips) (v341 : BitVec 32) (k0_hw43 : k0_chk43 k0_t2 v341), ∀ (k0_h13 : k0_cond13 k0_t2 = 1#1), ∀ a, (k0_off88 k0_t2 v341) a + S128x1408.size a ≤ S4096x8192.size a := fun k0_t2 v341 k0_hw43 k0_h13 => k0_hw43.1 k0_h13
theorem k0_off90_inb : ∀ (k0_t2 : Fin k0_t2_loop.trips) (v341 : BitVec 32) (k0_hw43 : k0_chk43 k0_t2 v341), ∀ a, (k0_off90 k0_t2 v341) a + S128x1408.size a ≤ S4096x8192.size a := fun k0_t2 v341 k0_hw43 => k0_hw43.2

def k0_off91 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_311 : BitVec 32 := 3#32
  let v346 : BitVec 32 := Scalar.remsi v340 c3_i32_311
  let c0_i32_331 : BitVec 32 := 0#32
  let c0_i32_332 : BitVec 32 := 0#32
  ![v346.toNat, 0, 0]
def k0_off92 (k0_t2 : Fin k0_t2_loop.trips) : Fin 2 → Nat :=
  let c0_i32_333 : BitVec 32 := 0#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_313 : BitVec 32 := 3#32
  let v348 : BitVec 32 := Scalar.addi v340 c3_i32_313
  let c1_i32_314 : BitVec 32 := 1#32
  let v349 : BitVec 32 := Scalar.subi v348 c1_i32_314
  let c3_i32_315 : BitVec 32 := 3#32
  let v350 : BitVec 32 := Scalar.remsi v349 c3_i32_315
  ![0, v350.toNat]
def k0_off93 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_313 : BitVec 32 := 3#32
  let v348 : BitVec 32 := Scalar.addi v340 c3_i32_313
  let c1_i32_314 : BitVec 32 := 1#32
  let v349 : BitVec 32 := Scalar.subi v348 c1_i32_314
  let c3_i32_315 : BitVec 32 := 3#32
  let v350 : BitVec 32 := Scalar.remsi v349 c3_i32_315
  let c0_i32_336 : BitVec 32 := 0#32
  let c0_i32_337 : BitVec 32 := 0#32
  ![v350.toNat, 0, 0]
def k0_dev25 (v345 : BitVec 32) : Nat :=
  let c0_i32_343 : BitVec 32 := 0#32
  let c1_i32_342 : BitVec 32 := 1#32
  let v377 : BitVec 32 := Scalar.muli v345 c1_i32_342
  let v378 : BitVec 32 := Scalar.addi c0_i32_343 v377
  v378.toNat

def k0_chk44 (v345 : BitVec 32) : Prop :=
  ((k0_dev25 v345) < nD)
theorem k0_dev25_lt : ∀ (v345 : BitVec 32) (k0_hw44 : k0_chk44 v345), (k0_dev25 v345) < nD := fun v345 k0_hw44 => k0_hw44

def k0_cond14 (k0_t2 : Fin k0_t2_loop.trips) : BitVec 1 :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c61_i32 : BitVec 32 := 61#32
  let v379 : BitVec 1 := Scalar.cmpi .slt v340 c61_i32
  let v380 : BitVec 32 := Scalar.extui v379
  let c0_i32_344 : BitVec 32 := 0#32
  let v381 : BitVec 1 := Scalar.cmpi .ne v380 c0_i32_344
  v381

def k0_off94 (k0_t2 : Fin k0_t2_loop.trips) : Fin 2 → Nat :=
  let c0_i32_546 : BitVec 32 := 0#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_541 : BitVec 32 := 3#32
  let v589 : BitVec 32 := Scalar.addi v587 c3_i32_541
  let c1_i32_542 : BitVec 32 := 1#32
  let v590 : BitVec 32 := Scalar.subi v589 c1_i32_542
  let c3_i32_543 : BitVec 32 := 3#32
  let v591 : BitVec 32 := Scalar.remsi v590 c3_i32_543
  ![0, v591.toNat]
def k0_off95 (k0_t2 : Fin k0_t2_loop.trips) : Fin 2 → Nat :=
  let c0_i32_545 : BitVec 32 := 0#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_544 : BitVec 32 := 3#32
  let v592 : BitVec 32 := Scalar.remsi v587 c3_i32_544
  ![0, v592.toNat]
def k0_off96 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_544 : BitVec 32 := 3#32
  let v592 : BitVec 32 := Scalar.remsi v587 c3_i32_544
  let c0_i32_549 : BitVec 32 := 0#32
  let c0_i32_550 : BitVec 32 := 0#32
  ![v592.toNat, 0, 0]
def k0_off97 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_541 : BitVec 32 := 3#32
  let v589 : BitVec 32 := Scalar.addi v587 c3_i32_541
  let c1_i32_542 : BitVec 32 := 1#32
  let v590 : BitVec 32 := Scalar.subi v589 c1_i32_542
  let c3_i32_543 : BitVec 32 := 3#32
  let v591 : BitVec 32 := Scalar.remsi v590 c3_i32_543
  let c0_i32_551 : BitVec 32 := 0#32
  let c0_i32_552 : BitVec 32 := 0#32
  ![v591.toNat, 0, 0]
def k0_dev26 (v588 : BitVec 32) : Nat :=
  let c0_i32_548 : BitVec 32 := 0#32
  let c1_i32_547 : BitVec 32 := 1#32
  let v593 : BitVec 32 := Scalar.muli v588 c1_i32_547
  let v594 : BitVec 32 := Scalar.addi c0_i32_548 v593
  v594.toNat

def k0_chk45 (k0_t2 : Fin k0_t2_loop.trips) (v588 : BitVec 32) : Prop :=
  (∀ (k0_h14 : k0_cond14 k0_t2 = 1#1), (k0_dev26 v588) < nD)
theorem k0_dev26_lt : ∀ (k0_t2 : Fin k0_t2_loop.trips) (v588 : BitVec 32) (k0_hw45 : k0_chk45 k0_t2 v588), ∀ (k0_h14 : k0_cond14 k0_t2 = 1#1), (k0_dev26 v588) < nD := fun k0_t2 v588 k0_hw45 k0_h14 => k0_hw45 k0_h14

def k0_off98 (k0_t2 : Fin k0_t2_loop.trips) : Fin 2 → Nat :=
  let c1_i32_354 : BitVec 32 := 1#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_353 : BitVec 32 := 3#32
  let v391 : BitVec 32 := Scalar.remsi v340 c3_i32_353
  ![1, v391.toNat]
def k0_off99 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_353 : BitVec 32 := 3#32
  let v391 : BitVec 32 := Scalar.remsi v340 c3_i32_353
  let c0_i32_358 : BitVec 32 := 0#32
  let c0_i32_359 : BitVec 32 := 0#32
  ![v391.toNat, 0, 0]
def k0_off100 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_350 : BitVec 32 := 3#32
  let v388 : BitVec 32 := Scalar.addi v340 c3_i32_350
  let c1_i32_351 : BitVec 32 := 1#32
  let v389 : BitVec 32 := Scalar.subi v388 c1_i32_351
  let c3_i32_352 : BitVec 32 := 3#32
  let v390 : BitVec 32 := Scalar.remsi v389 c3_i32_352
  let c0_i32_360 : BitVec 32 := 0#32
  let c0_i32_361 : BitVec 32 := 0#32
  ![v390.toNat, 0, 0]
def k0_cond16 (k0_t2 : Fin k0_t2_loop.trips) : BitVec 1 :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c32_i32_363 : BitVec 32 := 32#32
  let v401 : BitVec 1 := Scalar.cmpi .sge v340 c32_i32_363
  let v402 : BitVec 32 := Scalar.extui v401
  let c0_i32_365 : BitVec 32 := 0#32
  let v403 : BitVec 1 := Scalar.cmpi .ne v402 c0_i32_365
  v403

def k0_off101 (k0_t2 : Fin k0_t2_loop.trips) (v382 : BitVec 32) : Fin 2 → Nat :=
  let c0_i32_248 : BitVec 32 := 0#32
  let c1_i32_250 : BitVec 32 := 1#32
  let arg23 : BitVec 32 := Scf.iv c0_i32_248 c1_i32_250 k0_t2
  let v383 : BitVec 32 := Scalar.addi v382 arg23
  let c32_i32_346 : BitVec 32 := 32#32
  let v384 : BitVec 32 := Scalar.remsi v383 c32_i32_346
  let c128_i32_362 : BitVec 32 := 128#32
  let v400 : BitVec 32 := Scalar.muli v384 c128_i32_362
  let c1408_i32_537 : BitVec 32 := 1408#32
  ![v400.toNat, 1408]

def k0_off102 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_348 : BitVec 32 := 3#32
  let v386 : BitVec 32 := Scalar.remsi v340 c3_i32_348
  let c0_i32_538 : BitVec 32 := 0#32
  let c0_i32_539 : BitVec 32 := 0#32
  ![v386.toNat, 0, 0]
def k0_off103 (k0_t2 : Fin k0_t2_loop.trips) (v382 : BitVec 32) : Fin 2 → Nat :=
  let c0_i32_248 : BitVec 32 := 0#32
  let c1_i32_250 : BitVec 32 := 1#32
  let arg23 : BitVec 32 := Scf.iv c0_i32_248 c1_i32_250 k0_t2
  let v383 : BitVec 32 := Scalar.addi v382 arg23
  let c32_i32_346 : BitVec 32 := 32#32
  let v384 : BitVec 32 := Scalar.remsi v383 c32_i32_346
  let c128_i32_362 : BitVec 32 := 128#32
  let v400 : BitVec 32 := Scalar.muli v384 c128_i32_362
  let c1408_i32_367 : BitVec 32 := 1408#32
  ![v400.toNat, 1408]

def k0_chk46 (k0_t2 : Fin k0_t2_loop.trips) (v382 : BitVec 32) : Prop :=
  (∀ (k0_h16 : k0_cond16 k0_t2 = 1#1), ∀ a, (k0_off101 k0_t2 v382) a + S128x1408.size a ≤ S4096x8192.size a) ∧
  (∀ a, (k0_off103 k0_t2 v382) a + S128x1408.size a ≤ S4096x8192.size a)
theorem k0_off101_inb : ∀ (k0_t2 : Fin k0_t2_loop.trips) (v382 : BitVec 32) (k0_hw46 : k0_chk46 k0_t2 v382), ∀ (k0_h16 : k0_cond16 k0_t2 = 1#1), ∀ a, (k0_off101 k0_t2 v382) a + S128x1408.size a ≤ S4096x8192.size a := fun k0_t2 v382 k0_hw46 k0_h16 => k0_hw46.1 k0_h16
theorem k0_off103_inb : ∀ (k0_t2 : Fin k0_t2_loop.trips) (v382 : BitVec 32) (k0_hw46 : k0_chk46 k0_t2 v382), ∀ a, (k0_off103 k0_t2 v382) a + S128x1408.size a ≤ S4096x8192.size a := fun k0_t2 v382 k0_hw46 => k0_hw46.2

def k0_off104 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_348 : BitVec 32 := 3#32
  let v386 : BitVec 32 := Scalar.remsi v340 c3_i32_348
  let c0_i32_368 : BitVec 32 := 0#32
  let c0_i32_369 : BitVec 32 := 0#32
  ![v386.toNat, 0, 0]
def k0_off105 (k0_t2 : Fin k0_t2_loop.trips) : Fin 2 → Nat :=
  let c1_i32_370 : BitVec 32 := 1#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_350 : BitVec 32 := 3#32
  let v388 : BitVec 32 := Scalar.addi v340 c3_i32_350
  let c1_i32_351 : BitVec 32 := 1#32
  let v389 : BitVec 32 := Scalar.subi v388 c1_i32_351
  let c3_i32_352 : BitVec 32 := 3#32
  let v390 : BitVec 32 := Scalar.remsi v389 c3_i32_352
  ![1, v390.toNat]
def k0_off106 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_350 : BitVec 32 := 3#32
  let v388 : BitVec 32 := Scalar.addi v340 c3_i32_350
  let c1_i32_351 : BitVec 32 := 1#32
  let v389 : BitVec 32 := Scalar.subi v388 c1_i32_351
  let c3_i32_352 : BitVec 32 := 3#32
  let v390 : BitVec 32 := Scalar.remsi v389 c3_i32_352
  let c0_i32_373 : BitVec 32 := 0#32
  let c0_i32_374 : BitVec 32 := 0#32
  ![v390.toNat, 0, 0]
def k0_dev27 (v385 : BitVec 32) : Nat :=
  let c0_i32_380 : BitVec 32 := 0#32
  let c1_i32_379 : BitVec 32 := 1#32
  let v417 : BitVec 32 := Scalar.muli v385 c1_i32_379
  let v418 : BitVec 32 := Scalar.addi c0_i32_380 v417
  v418.toNat

def k0_chk47 (v385 : BitVec 32) : Prop :=
  ((k0_dev27 v385) < nD)
theorem k0_dev27_lt : ∀ (v385 : BitVec 32) (k0_hw47 : k0_chk47 v385), (k0_dev27 v385) < nD := fun v385 k0_hw47 => k0_hw47

def k0_cond17 (k0_t2 : Fin k0_t2_loop.trips) : BitVec 1 :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c61_i32_381 : BitVec 32 := 61#32
  let v419 : BitVec 1 := Scalar.cmpi .slt v340 c61_i32_381
  let v420 : BitVec 32 := Scalar.extui v419
  let c0_i32_382 : BitVec 32 := 0#32
  let v421 : BitVec 1 := Scalar.cmpi .ne v420 c0_i32_382
  v421

def k0_off107 (k0_t2 : Fin k0_t2_loop.trips) : Fin 2 → Nat :=
  let c1_i32_546 : BitVec 32 := 1#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_541 : BitVec 32 := 3#32
  let v589 : BitVec 32 := Scalar.addi v587 c3_i32_541
  let c1_i32_542 : BitVec 32 := 1#32
  let v590 : BitVec 32 := Scalar.subi v589 c1_i32_542
  let c3_i32_543 : BitVec 32 := 3#32
  let v591 : BitVec 32 := Scalar.remsi v590 c3_i32_543
  ![1, v591.toNat]
def k0_off108 (k0_t2 : Fin k0_t2_loop.trips) : Fin 2 → Nat :=
  let c1_i32_545 : BitVec 32 := 1#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_544 : BitVec 32 := 3#32
  let v592 : BitVec 32 := Scalar.remsi v587 c3_i32_544
  ![1, v592.toNat]
def k0_off109 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_544 : BitVec 32 := 3#32
  let v592 : BitVec 32 := Scalar.remsi v587 c3_i32_544
  let c0_i32_549 : BitVec 32 := 0#32
  let c0_i32_550 : BitVec 32 := 0#32
  ![v592.toNat, 0, 0]
def k0_off110 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_541 : BitVec 32 := 3#32
  let v589 : BitVec 32 := Scalar.addi v587 c3_i32_541
  let c1_i32_542 : BitVec 32 := 1#32
  let v590 : BitVec 32 := Scalar.subi v589 c1_i32_542
  let c3_i32_543 : BitVec 32 := 3#32
  let v591 : BitVec 32 := Scalar.remsi v590 c3_i32_543
  let c0_i32_551 : BitVec 32 := 0#32
  let c0_i32_552 : BitVec 32 := 0#32
  ![v591.toNat, 0, 0]
def k0_dev28 (v588 : BitVec 32) : Nat :=
  let c0_i32_548 : BitVec 32 := 0#32
  let c1_i32_547 : BitVec 32 := 1#32
  let v593 : BitVec 32 := Scalar.muli v588 c1_i32_547
  let v594 : BitVec 32 := Scalar.addi c0_i32_548 v593
  v594.toNat

def k0_chk48 (k0_t2 : Fin k0_t2_loop.trips) (v588 : BitVec 32) : Prop :=
  (∀ (k0_h17 : k0_cond17 k0_t2 = 1#1), (k0_dev28 v588) < nD)
theorem k0_dev28_lt : ∀ (k0_t2 : Fin k0_t2_loop.trips) (v588 : BitVec 32) (k0_hw48 : k0_chk48 k0_t2 v588), ∀ (k0_h17 : k0_cond17 k0_t2 = 1#1), (k0_dev28 v588) < nD := fun k0_t2 v588 k0_hw48 k0_h17 => k0_hw48 k0_h17

def k0_off111 (k0_t2 : Fin k0_t2_loop.trips) : Fin 2 → Nat :=
  let c2_i32_393 : BitVec 32 := 2#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_392 : BitVec 32 := 3#32
  let v432 : BitVec 32 := Scalar.remsi v340 c3_i32_392
  ![2, v432.toNat]
def k0_off112 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_392 : BitVec 32 := 3#32
  let v432 : BitVec 32 := Scalar.remsi v340 c3_i32_392
  let c0_i32_397 : BitVec 32 := 0#32
  let c0_i32_398 : BitVec 32 := 0#32
  ![v432.toNat, 0, 0]
def k0_off113 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_389 : BitVec 32 := 3#32
  let v429 : BitVec 32 := Scalar.addi v340 c3_i32_389
  let c1_i32_390 : BitVec 32 := 1#32
  let v430 : BitVec 32 := Scalar.subi v429 c1_i32_390
  let c3_i32_391 : BitVec 32 := 3#32
  let v431 : BitVec 32 := Scalar.remsi v430 c3_i32_391
  let c0_i32_399 : BitVec 32 := 0#32
  let c0_i32_400 : BitVec 32 := 0#32
  ![v431.toNat, 0, 0]
def k0_cond19 (k0_t2 : Fin k0_t2_loop.trips) : BitVec 1 :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c32_i32_402 : BitVec 32 := 32#32
  let v442 : BitVec 1 := Scalar.cmpi .sge v340 c32_i32_402
  let v443 : BitVec 32 := Scalar.extui v442
  let c0_i32_404 : BitVec 32 := 0#32
  let v444 : BitVec 1 := Scalar.cmpi .ne v443 c0_i32_404
  v444

def k0_off114 (k0_t2 : Fin k0_t2_loop.trips) (v422 : BitVec 32) : Fin 2 → Nat :=
  let c0_i32_248 : BitVec 32 := 0#32
  let c1_i32_250 : BitVec 32 := 1#32
  let arg23 : BitVec 32 := Scf.iv c0_i32_248 c1_i32_250 k0_t2
  let v423 : BitVec 32 := Scalar.subi v422 arg23
  let c64_i32_384 : BitVec 32 := 64#32
  let v424 : BitVec 32 := Scalar.addi v423 c64_i32_384
  let c32_i32_385 : BitVec 32 := 32#32
  let v425 : BitVec 32 := Scalar.remsi v424 c32_i32_385
  let c128_i32_401 : BitVec 32 := 128#32
  let v441 : BitVec 32 := Scalar.muli v425 c128_i32_401
  let c2816_i32_537 : BitVec 32 := 2816#32
  ![v441.toNat, 2816]

def k0_off115 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_387 : BitVec 32 := 3#32
  let v427 : BitVec 32 := Scalar.remsi v340 c3_i32_387
  let c0_i32_538 : BitVec 32 := 0#32
  let c0_i32_539 : BitVec 32 := 0#32
  ![v427.toNat, 0, 0]
def k0_off116 (k0_t2 : Fin k0_t2_loop.trips) (v422 : BitVec 32) : Fin 2 → Nat :=
  let c0_i32_248 : BitVec 32 := 0#32
  let c1_i32_250 : BitVec 32 := 1#32
  let arg23 : BitVec 32 := Scf.iv c0_i32_248 c1_i32_250 k0_t2
  let v423 : BitVec 32 := Scalar.subi v422 arg23
  let c64_i32_384 : BitVec 32 := 64#32
  let v424 : BitVec 32 := Scalar.addi v423 c64_i32_384
  let c32_i32_385 : BitVec 32 := 32#32
  let v425 : BitVec 32 := Scalar.remsi v424 c32_i32_385
  let c128_i32_401 : BitVec 32 := 128#32
  let v441 : BitVec 32 := Scalar.muli v425 c128_i32_401
  let c2816_i32_406 : BitVec 32 := 2816#32
  ![v441.toNat, 2816]

def k0_chk49 (k0_t2 : Fin k0_t2_loop.trips) (v422 : BitVec 32) : Prop :=
  (∀ (k0_h19 : k0_cond19 k0_t2 = 1#1), ∀ a, (k0_off114 k0_t2 v422) a + S128x1408.size a ≤ S4096x8192.size a) ∧
  (∀ a, (k0_off116 k0_t2 v422) a + S128x1408.size a ≤ S4096x8192.size a)
theorem k0_off114_inb : ∀ (k0_t2 : Fin k0_t2_loop.trips) (v422 : BitVec 32) (k0_hw49 : k0_chk49 k0_t2 v422), ∀ (k0_h19 : k0_cond19 k0_t2 = 1#1), ∀ a, (k0_off114 k0_t2 v422) a + S128x1408.size a ≤ S4096x8192.size a := fun k0_t2 v422 k0_hw49 k0_h19 => k0_hw49.1 k0_h19
theorem k0_off116_inb : ∀ (k0_t2 : Fin k0_t2_loop.trips) (v422 : BitVec 32) (k0_hw49 : k0_chk49 k0_t2 v422), ∀ a, (k0_off116 k0_t2 v422) a + S128x1408.size a ≤ S4096x8192.size a := fun k0_t2 v422 k0_hw49 => k0_hw49.2

def k0_off117 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_387 : BitVec 32 := 3#32
  let v427 : BitVec 32 := Scalar.remsi v340 c3_i32_387
  let c0_i32_407 : BitVec 32 := 0#32
  let c0_i32_408 : BitVec 32 := 0#32
  ![v427.toNat, 0, 0]
def k0_off118 (k0_t2 : Fin k0_t2_loop.trips) : Fin 2 → Nat :=
  let c2_i32_409 : BitVec 32 := 2#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_389 : BitVec 32 := 3#32
  let v429 : BitVec 32 := Scalar.addi v340 c3_i32_389
  let c1_i32_390 : BitVec 32 := 1#32
  let v430 : BitVec 32 := Scalar.subi v429 c1_i32_390
  let c3_i32_391 : BitVec 32 := 3#32
  let v431 : BitVec 32 := Scalar.remsi v430 c3_i32_391
  ![2, v431.toNat]
def k0_off119 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_389 : BitVec 32 := 3#32
  let v429 : BitVec 32 := Scalar.addi v340 c3_i32_389
  let c1_i32_390 : BitVec 32 := 1#32
  let v430 : BitVec 32 := Scalar.subi v429 c1_i32_390
  let c3_i32_391 : BitVec 32 := 3#32
  let v431 : BitVec 32 := Scalar.remsi v430 c3_i32_391
  let c0_i32_412 : BitVec 32 := 0#32
  let c0_i32_413 : BitVec 32 := 0#32
  ![v431.toNat, 0, 0]
def k0_dev29 (v426 : BitVec 32) : Nat :=
  let c0_i32_419 : BitVec 32 := 0#32
  let c1_i32_418 : BitVec 32 := 1#32
  let v458 : BitVec 32 := Scalar.muli v426 c1_i32_418
  let v459 : BitVec 32 := Scalar.addi c0_i32_419 v458
  v459.toNat

def k0_chk50 (v426 : BitVec 32) : Prop :=
  ((k0_dev29 v426) < nD)
theorem k0_dev29_lt : ∀ (v426 : BitVec 32) (k0_hw50 : k0_chk50 v426), (k0_dev29 v426) < nD := fun v426 k0_hw50 => k0_hw50

def k0_cond20 (k0_t2 : Fin k0_t2_loop.trips) : BitVec 1 :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c61_i32_420 : BitVec 32 := 61#32
  let v460 : BitVec 1 := Scalar.cmpi .slt v340 c61_i32_420
  let v461 : BitVec 32 := Scalar.extui v460
  let c0_i32_421 : BitVec 32 := 0#32
  let v462 : BitVec 1 := Scalar.cmpi .ne v461 c0_i32_421
  v462

def k0_off120 (k0_t2 : Fin k0_t2_loop.trips) : Fin 2 → Nat :=
  let c2_i32_546 : BitVec 32 := 2#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_541 : BitVec 32 := 3#32
  let v589 : BitVec 32 := Scalar.addi v587 c3_i32_541
  let c1_i32_542 : BitVec 32 := 1#32
  let v590 : BitVec 32 := Scalar.subi v589 c1_i32_542
  let c3_i32_543 : BitVec 32 := 3#32
  let v591 : BitVec 32 := Scalar.remsi v590 c3_i32_543
  ![2, v591.toNat]
def k0_off121 (k0_t2 : Fin k0_t2_loop.trips) : Fin 2 → Nat :=
  let c2_i32_545 : BitVec 32 := 2#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_544 : BitVec 32 := 3#32
  let v592 : BitVec 32 := Scalar.remsi v587 c3_i32_544
  ![2, v592.toNat]
def k0_off122 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_544 : BitVec 32 := 3#32
  let v592 : BitVec 32 := Scalar.remsi v587 c3_i32_544
  let c0_i32_549 : BitVec 32 := 0#32
  let c0_i32_550 : BitVec 32 := 0#32
  ![v592.toNat, 0, 0]
def k0_off123 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_541 : BitVec 32 := 3#32
  let v589 : BitVec 32 := Scalar.addi v587 c3_i32_541
  let c1_i32_542 : BitVec 32 := 1#32
  let v590 : BitVec 32 := Scalar.subi v589 c1_i32_542
  let c3_i32_543 : BitVec 32 := 3#32
  let v591 : BitVec 32 := Scalar.remsi v590 c3_i32_543
  let c0_i32_551 : BitVec 32 := 0#32
  let c0_i32_552 : BitVec 32 := 0#32
  ![v591.toNat, 0, 0]
def k0_dev30 (v588 : BitVec 32) : Nat :=
  let c0_i32_548 : BitVec 32 := 0#32
  let c1_i32_547 : BitVec 32 := 1#32
  let v593 : BitVec 32 := Scalar.muli v588 c1_i32_547
  let v594 : BitVec 32 := Scalar.addi c0_i32_548 v593
  v594.toNat

def k0_chk51 (k0_t2 : Fin k0_t2_loop.trips) (v588 : BitVec 32) : Prop :=
  (∀ (k0_h20 : k0_cond20 k0_t2 = 1#1), (k0_dev30 v588) < nD)
theorem k0_dev30_lt : ∀ (k0_t2 : Fin k0_t2_loop.trips) (v588 : BitVec 32) (k0_hw51 : k0_chk51 k0_t2 v588), ∀ (k0_h20 : k0_cond20 k0_t2 = 1#1), (k0_dev30 v588) < nD := fun k0_t2 v588 k0_hw51 k0_h20 => k0_hw51 k0_h20

def k0_off124 (k0_t2 : Fin k0_t2_loop.trips) : Fin 2 → Nat :=
  let c3_i32_431 : BitVec 32 := 3#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_430 : BitVec 32 := 3#32
  let v472 : BitVec 32 := Scalar.remsi v340 c3_i32_430
  ![3, v472.toNat]
def k0_off125 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_430 : BitVec 32 := 3#32
  let v472 : BitVec 32 := Scalar.remsi v340 c3_i32_430
  let c0_i32_435 : BitVec 32 := 0#32
  let c0_i32_436 : BitVec 32 := 0#32
  ![v472.toNat, 0, 0]
def k0_off126 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_427 : BitVec 32 := 3#32
  let v469 : BitVec 32 := Scalar.addi v340 c3_i32_427
  let c1_i32_428 : BitVec 32 := 1#32
  let v470 : BitVec 32 := Scalar.subi v469 c1_i32_428
  let c3_i32_429 : BitVec 32 := 3#32
  let v471 : BitVec 32 := Scalar.remsi v470 c3_i32_429
  let c0_i32_437 : BitVec 32 := 0#32
  let c0_i32_438 : BitVec 32 := 0#32
  ![v471.toNat, 0, 0]
def k0_cond22 (k0_t2 : Fin k0_t2_loop.trips) : BitVec 1 :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c32_i32_440 : BitVec 32 := 32#32
  let v482 : BitVec 1 := Scalar.cmpi .sge v340 c32_i32_440
  let v483 : BitVec 32 := Scalar.extui v482
  let c0_i32_442 : BitVec 32 := 0#32
  let v484 : BitVec 1 := Scalar.cmpi .ne v483 c0_i32_442
  v484

def k0_off127 (k0_t2 : Fin k0_t2_loop.trips) (v463 : BitVec 32) : Fin 2 → Nat :=
  let c0_i32_248 : BitVec 32 := 0#32
  let c1_i32_250 : BitVec 32 := 1#32
  let arg23 : BitVec 32 := Scf.iv c0_i32_248 c1_i32_250 k0_t2
  let v464 : BitVec 32 := Scalar.addi v463 arg23
  let c32_i32_423 : BitVec 32 := 32#32
  let v465 : BitVec 32 := Scalar.remsi v464 c32_i32_423
  let c128_i32_439 : BitVec 32 := 128#32
  let v481 : BitVec 32 := Scalar.muli v465 c128_i32_439
  let c4224_i32_537 : BitVec 32 := 4224#32
  ![v481.toNat, 4224]

def k0_off128 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_425 : BitVec 32 := 3#32
  let v467 : BitVec 32 := Scalar.remsi v340 c3_i32_425
  let c0_i32_538 : BitVec 32 := 0#32
  let c0_i32_539 : BitVec 32 := 0#32
  ![v467.toNat, 0, 0]
def k0_off129 (k0_t2 : Fin k0_t2_loop.trips) (v463 : BitVec 32) : Fin 2 → Nat :=
  let c0_i32_248 : BitVec 32 := 0#32
  let c1_i32_250 : BitVec 32 := 1#32
  let arg23 : BitVec 32 := Scf.iv c0_i32_248 c1_i32_250 k0_t2
  let v464 : BitVec 32 := Scalar.addi v463 arg23
  let c32_i32_423 : BitVec 32 := 32#32
  let v465 : BitVec 32 := Scalar.remsi v464 c32_i32_423
  let c128_i32_439 : BitVec 32 := 128#32
  let v481 : BitVec 32 := Scalar.muli v465 c128_i32_439
  let c4224_i32_444 : BitVec 32 := 4224#32
  ![v481.toNat, 4224]

def k0_chk52 (k0_t2 : Fin k0_t2_loop.trips) (v463 : BitVec 32) : Prop :=
  (∀ (k0_h22 : k0_cond22 k0_t2 = 1#1), ∀ a, (k0_off127 k0_t2 v463) a + S128x1280.size a ≤ S4096x8192.size a) ∧
  (∀ a, (k0_off129 k0_t2 v463) a + S128x1280.size a ≤ S4096x8192.size a)
theorem k0_off127_inb : ∀ (k0_t2 : Fin k0_t2_loop.trips) (v463 : BitVec 32) (k0_hw52 : k0_chk52 k0_t2 v463), ∀ (k0_h22 : k0_cond22 k0_t2 = 1#1), ∀ a, (k0_off127 k0_t2 v463) a + S128x1280.size a ≤ S4096x8192.size a := fun k0_t2 v463 k0_hw52 k0_h22 => k0_hw52.1 k0_h22
theorem k0_off129_inb : ∀ (k0_t2 : Fin k0_t2_loop.trips) (v463 : BitVec 32) (k0_hw52 : k0_chk52 k0_t2 v463), ∀ a, (k0_off129 k0_t2 v463) a + S128x1280.size a ≤ S4096x8192.size a := fun k0_t2 v463 k0_hw52 => k0_hw52.2

def k0_off130 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_425 : BitVec 32 := 3#32
  let v467 : BitVec 32 := Scalar.remsi v340 c3_i32_425
  let c0_i32_445 : BitVec 32 := 0#32
  let c0_i32_446 : BitVec 32 := 0#32
  ![v467.toNat, 0, 0]
def k0_off131 (k0_t2 : Fin k0_t2_loop.trips) : Fin 2 → Nat :=
  let c3_i32_447 : BitVec 32 := 3#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_427 : BitVec 32 := 3#32
  let v469 : BitVec 32 := Scalar.addi v340 c3_i32_427
  let c1_i32_428 : BitVec 32 := 1#32
  let v470 : BitVec 32 := Scalar.subi v469 c1_i32_428
  let c3_i32_429 : BitVec 32 := 3#32
  let v471 : BitVec 32 := Scalar.remsi v470 c3_i32_429
  ![3, v471.toNat]
def k0_off132 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_427 : BitVec 32 := 3#32
  let v469 : BitVec 32 := Scalar.addi v340 c3_i32_427
  let c1_i32_428 : BitVec 32 := 1#32
  let v470 : BitVec 32 := Scalar.subi v469 c1_i32_428
  let c3_i32_429 : BitVec 32 := 3#32
  let v471 : BitVec 32 := Scalar.remsi v470 c3_i32_429
  let c0_i32_450 : BitVec 32 := 0#32
  let c0_i32_451 : BitVec 32 := 0#32
  ![v471.toNat, 0, 0]
def k0_dev31 (v466 : BitVec 32) : Nat :=
  let c0_i32_457 : BitVec 32 := 0#32
  let c1_i32_456 : BitVec 32 := 1#32
  let v498 : BitVec 32 := Scalar.muli v466 c1_i32_456
  let v499 : BitVec 32 := Scalar.addi c0_i32_457 v498
  v499.toNat

def k0_chk53 (v466 : BitVec 32) : Prop :=
  ((k0_dev31 v466) < nD)
theorem k0_dev31_lt : ∀ (v466 : BitVec 32) (k0_hw53 : k0_chk53 v466), (k0_dev31 v466) < nD := fun v466 k0_hw53 => k0_hw53

def k0_cond23 (k0_t2 : Fin k0_t2_loop.trips) : BitVec 1 :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c61_i32_458 : BitVec 32 := 61#32
  let v500 : BitVec 1 := Scalar.cmpi .slt v340 c61_i32_458
  let v501 : BitVec 32 := Scalar.extui v500
  let c0_i32_459 : BitVec 32 := 0#32
  let v502 : BitVec 1 := Scalar.cmpi .ne v501 c0_i32_459
  v502

def k0_off133 (k0_t2 : Fin k0_t2_loop.trips) : Fin 2 → Nat :=
  let c3_i32_546 : BitVec 32 := 3#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_541 : BitVec 32 := 3#32
  let v589 : BitVec 32 := Scalar.addi v587 c3_i32_541
  let c1_i32_542 : BitVec 32 := 1#32
  let v590 : BitVec 32 := Scalar.subi v589 c1_i32_542
  let c3_i32_543 : BitVec 32 := 3#32
  let v591 : BitVec 32 := Scalar.remsi v590 c3_i32_543
  ![3, v591.toNat]
def k0_off134 (k0_t2 : Fin k0_t2_loop.trips) : Fin 2 → Nat :=
  let c3_i32_545 : BitVec 32 := 3#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_544 : BitVec 32 := 3#32
  let v592 : BitVec 32 := Scalar.remsi v587 c3_i32_544
  ![3, v592.toNat]
def k0_off135 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_544 : BitVec 32 := 3#32
  let v592 : BitVec 32 := Scalar.remsi v587 c3_i32_544
  let c0_i32_549 : BitVec 32 := 0#32
  let c0_i32_550 : BitVec 32 := 0#32
  ![v592.toNat, 0, 0]
def k0_off136 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_541 : BitVec 32 := 3#32
  let v589 : BitVec 32 := Scalar.addi v587 c3_i32_541
  let c1_i32_542 : BitVec 32 := 1#32
  let v590 : BitVec 32 := Scalar.subi v589 c1_i32_542
  let c3_i32_543 : BitVec 32 := 3#32
  let v591 : BitVec 32 := Scalar.remsi v590 c3_i32_543
  let c0_i32_551 : BitVec 32 := 0#32
  let c0_i32_552 : BitVec 32 := 0#32
  ![v591.toNat, 0, 0]
def k0_dev32 (v588 : BitVec 32) : Nat :=
  let c0_i32_548 : BitVec 32 := 0#32
  let c1_i32_547 : BitVec 32 := 1#32
  let v593 : BitVec 32 := Scalar.muli v588 c1_i32_547
  let v594 : BitVec 32 := Scalar.addi c0_i32_548 v593
  v594.toNat

def k0_chk54 (k0_t2 : Fin k0_t2_loop.trips) (v588 : BitVec 32) : Prop :=
  (∀ (k0_h23 : k0_cond23 k0_t2 = 1#1), (k0_dev32 v588) < nD)
theorem k0_dev32_lt : ∀ (k0_t2 : Fin k0_t2_loop.trips) (v588 : BitVec 32) (k0_hw54 : k0_chk54 k0_t2 v588), ∀ (k0_h23 : k0_cond23 k0_t2 = 1#1), (k0_dev32 v588) < nD := fun k0_t2 v588 k0_hw54 k0_h23 => k0_hw54 k0_h23

def k0_off137 (k0_t2 : Fin k0_t2_loop.trips) : Fin 2 → Nat :=
  let c4_i32_470 : BitVec 32 := 4#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_469 : BitVec 32 := 3#32
  let v513 : BitVec 32 := Scalar.remsi v340 c3_i32_469
  ![4, v513.toNat]
def k0_off138 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_469 : BitVec 32 := 3#32
  let v513 : BitVec 32 := Scalar.remsi v340 c3_i32_469
  let c0_i32_474 : BitVec 32 := 0#32
  let c0_i32_475 : BitVec 32 := 0#32
  ![v513.toNat, 0, 0]
def k0_off139 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_466 : BitVec 32 := 3#32
  let v510 : BitVec 32 := Scalar.addi v340 c3_i32_466
  let c1_i32_467 : BitVec 32 := 1#32
  let v511 : BitVec 32 := Scalar.subi v510 c1_i32_467
  let c3_i32_468 : BitVec 32 := 3#32
  let v512 : BitVec 32 := Scalar.remsi v511 c3_i32_468
  let c0_i32_476 : BitVec 32 := 0#32
  let c0_i32_477 : BitVec 32 := 0#32
  ![v512.toNat, 0, 0]
def k0_cond25 (k0_t2 : Fin k0_t2_loop.trips) : BitVec 1 :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c32_i32_479 : BitVec 32 := 32#32
  let v523 : BitVec 1 := Scalar.cmpi .sge v340 c32_i32_479
  let v524 : BitVec 32 := Scalar.extui v523
  let c0_i32_481 : BitVec 32 := 0#32
  let v525 : BitVec 1 := Scalar.cmpi .ne v524 c0_i32_481
  v525

def k0_off140 (k0_t2 : Fin k0_t2_loop.trips) (v503 : BitVec 32) : Fin 2 → Nat :=
  let c0_i32_248 : BitVec 32 := 0#32
  let c1_i32_250 : BitVec 32 := 1#32
  let arg23 : BitVec 32 := Scf.iv c0_i32_248 c1_i32_250 k0_t2
  let v504 : BitVec 32 := Scalar.subi v503 arg23
  let c64_i32_461 : BitVec 32 := 64#32
  let v505 : BitVec 32 := Scalar.addi v504 c64_i32_461
  let c32_i32_462 : BitVec 32 := 32#32
  let v506 : BitVec 32 := Scalar.remsi v505 c32_i32_462
  let c128_i32_478 : BitVec 32 := 128#32
  let v522 : BitVec 32 := Scalar.muli v506 c128_i32_478
  let c5504_i32_537 : BitVec 32 := 5504#32
  ![v522.toNat, 5504]

def k0_off141 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_464 : BitVec 32 := 3#32
  let v508 : BitVec 32 := Scalar.remsi v340 c3_i32_464
  let c0_i32_538 : BitVec 32 := 0#32
  let c0_i32_539 : BitVec 32 := 0#32
  ![v508.toNat, 0, 0]
def k0_off142 (k0_t2 : Fin k0_t2_loop.trips) (v503 : BitVec 32) : Fin 2 → Nat :=
  let c0_i32_248 : BitVec 32 := 0#32
  let c1_i32_250 : BitVec 32 := 1#32
  let arg23 : BitVec 32 := Scf.iv c0_i32_248 c1_i32_250 k0_t2
  let v504 : BitVec 32 := Scalar.subi v503 arg23
  let c64_i32_461 : BitVec 32 := 64#32
  let v505 : BitVec 32 := Scalar.addi v504 c64_i32_461
  let c32_i32_462 : BitVec 32 := 32#32
  let v506 : BitVec 32 := Scalar.remsi v505 c32_i32_462
  let c128_i32_478 : BitVec 32 := 128#32
  let v522 : BitVec 32 := Scalar.muli v506 c128_i32_478
  let c5504_i32_483 : BitVec 32 := 5504#32
  ![v522.toNat, 5504]

def k0_chk55 (k0_t2 : Fin k0_t2_loop.trips) (v503 : BitVec 32) : Prop :=
  (∀ (k0_h25 : k0_cond25 k0_t2 = 1#1), ∀ a, (k0_off140 k0_t2 v503) a + S128x1408.size a ≤ S4096x8192.size a) ∧
  (∀ a, (k0_off142 k0_t2 v503) a + S128x1408.size a ≤ S4096x8192.size a)
theorem k0_off140_inb : ∀ (k0_t2 : Fin k0_t2_loop.trips) (v503 : BitVec 32) (k0_hw55 : k0_chk55 k0_t2 v503), ∀ (k0_h25 : k0_cond25 k0_t2 = 1#1), ∀ a, (k0_off140 k0_t2 v503) a + S128x1408.size a ≤ S4096x8192.size a := fun k0_t2 v503 k0_hw55 k0_h25 => k0_hw55.1 k0_h25
theorem k0_off142_inb : ∀ (k0_t2 : Fin k0_t2_loop.trips) (v503 : BitVec 32) (k0_hw55 : k0_chk55 k0_t2 v503), ∀ a, (k0_off142 k0_t2 v503) a + S128x1408.size a ≤ S4096x8192.size a := fun k0_t2 v503 k0_hw55 => k0_hw55.2

def k0_off143 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_464 : BitVec 32 := 3#32
  let v508 : BitVec 32 := Scalar.remsi v340 c3_i32_464
  let c0_i32_484 : BitVec 32 := 0#32
  let c0_i32_485 : BitVec 32 := 0#32
  ![v508.toNat, 0, 0]
def k0_off144 (k0_t2 : Fin k0_t2_loop.trips) : Fin 2 → Nat :=
  let c4_i32_486 : BitVec 32 := 4#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_466 : BitVec 32 := 3#32
  let v510 : BitVec 32 := Scalar.addi v340 c3_i32_466
  let c1_i32_467 : BitVec 32 := 1#32
  let v511 : BitVec 32 := Scalar.subi v510 c1_i32_467
  let c3_i32_468 : BitVec 32 := 3#32
  let v512 : BitVec 32 := Scalar.remsi v511 c3_i32_468
  ![4, v512.toNat]
def k0_off145 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_466 : BitVec 32 := 3#32
  let v510 : BitVec 32 := Scalar.addi v340 c3_i32_466
  let c1_i32_467 : BitVec 32 := 1#32
  let v511 : BitVec 32 := Scalar.subi v510 c1_i32_467
  let c3_i32_468 : BitVec 32 := 3#32
  let v512 : BitVec 32 := Scalar.remsi v511 c3_i32_468
  let c0_i32_489 : BitVec 32 := 0#32
  let c0_i32_490 : BitVec 32 := 0#32
  ![v512.toNat, 0, 0]
def k0_dev33 (v507 : BitVec 32) : Nat :=
  let c0_i32_496 : BitVec 32 := 0#32
  let c1_i32_495 : BitVec 32 := 1#32
  let v539 : BitVec 32 := Scalar.muli v507 c1_i32_495
  let v540 : BitVec 32 := Scalar.addi c0_i32_496 v539
  v540.toNat

def k0_chk56 (v507 : BitVec 32) : Prop :=
  ((k0_dev33 v507) < nD)
theorem k0_dev33_lt : ∀ (v507 : BitVec 32) (k0_hw56 : k0_chk56 v507), (k0_dev33 v507) < nD := fun v507 k0_hw56 => k0_hw56

def k0_cond26 (k0_t2 : Fin k0_t2_loop.trips) : BitVec 1 :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c61_i32_497 : BitVec 32 := 61#32
  let v541 : BitVec 1 := Scalar.cmpi .slt v340 c61_i32_497
  let v542 : BitVec 32 := Scalar.extui v541
  let c0_i32_498 : BitVec 32 := 0#32
  let v543 : BitVec 1 := Scalar.cmpi .ne v542 c0_i32_498
  v543

def k0_off146 (k0_t2 : Fin k0_t2_loop.trips) : Fin 2 → Nat :=
  let c4_i32_546 : BitVec 32 := 4#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_541 : BitVec 32 := 3#32
  let v589 : BitVec 32 := Scalar.addi v587 c3_i32_541
  let c1_i32_542 : BitVec 32 := 1#32
  let v590 : BitVec 32 := Scalar.subi v589 c1_i32_542
  let c3_i32_543 : BitVec 32 := 3#32
  let v591 : BitVec 32 := Scalar.remsi v590 c3_i32_543
  ![4, v591.toNat]
def k0_off147 (k0_t2 : Fin k0_t2_loop.trips) : Fin 2 → Nat :=
  let c4_i32_545 : BitVec 32 := 4#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_544 : BitVec 32 := 3#32
  let v592 : BitVec 32 := Scalar.remsi v587 c3_i32_544
  ![4, v592.toNat]
def k0_off148 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_544 : BitVec 32 := 3#32
  let v592 : BitVec 32 := Scalar.remsi v587 c3_i32_544
  let c0_i32_549 : BitVec 32 := 0#32
  let c0_i32_550 : BitVec 32 := 0#32
  ![v592.toNat, 0, 0]
def k0_off149 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_541 : BitVec 32 := 3#32
  let v589 : BitVec 32 := Scalar.addi v587 c3_i32_541
  let c1_i32_542 : BitVec 32 := 1#32
  let v590 : BitVec 32 := Scalar.subi v589 c1_i32_542
  let c3_i32_543 : BitVec 32 := 3#32
  let v591 : BitVec 32 := Scalar.remsi v590 c3_i32_543
  let c0_i32_551 : BitVec 32 := 0#32
  let c0_i32_552 : BitVec 32 := 0#32
  ![v591.toNat, 0, 0]
def k0_dev34 (v588 : BitVec 32) : Nat :=
  let c0_i32_548 : BitVec 32 := 0#32
  let c1_i32_547 : BitVec 32 := 1#32
  let v593 : BitVec 32 := Scalar.muli v588 c1_i32_547
  let v594 : BitVec 32 := Scalar.addi c0_i32_548 v593
  v594.toNat

def k0_chk57 (k0_t2 : Fin k0_t2_loop.trips) (v588 : BitVec 32) : Prop :=
  (∀ (k0_h26 : k0_cond26 k0_t2 = 1#1), (k0_dev34 v588) < nD)
theorem k0_dev34_lt : ∀ (k0_t2 : Fin k0_t2_loop.trips) (v588 : BitVec 32) (k0_hw57 : k0_chk57 k0_t2 v588), ∀ (k0_h26 : k0_cond26 k0_t2 = 1#1), (k0_dev34 v588) < nD := fun k0_t2 v588 k0_hw57 k0_h26 => k0_hw57 k0_h26

def k0_off150 (k0_t2 : Fin k0_t2_loop.trips) : Fin 2 → Nat :=
  let c5_i32_508 : BitVec 32 := 5#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_507 : BitVec 32 := 3#32
  let v553 : BitVec 32 := Scalar.remsi v340 c3_i32_507
  ![5, v553.toNat]
def k0_off151 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_507 : BitVec 32 := 3#32
  let v553 : BitVec 32 := Scalar.remsi v340 c3_i32_507
  let c0_i32_512 : BitVec 32 := 0#32
  let c0_i32_513 : BitVec 32 := 0#32
  ![v553.toNat, 0, 0]
def k0_off152 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_504 : BitVec 32 := 3#32
  let v550 : BitVec 32 := Scalar.addi v340 c3_i32_504
  let c1_i32_505 : BitVec 32 := 1#32
  let v551 : BitVec 32 := Scalar.subi v550 c1_i32_505
  let c3_i32_506 : BitVec 32 := 3#32
  let v552 : BitVec 32 := Scalar.remsi v551 c3_i32_506
  let c0_i32_514 : BitVec 32 := 0#32
  let c0_i32_515 : BitVec 32 := 0#32
  ![v552.toNat, 0, 0]
def k0_cond28 (k0_t2 : Fin k0_t2_loop.trips) : BitVec 1 :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c32_i32_517 : BitVec 32 := 32#32
  let v563 : BitVec 1 := Scalar.cmpi .sge v340 c32_i32_517
  let v564 : BitVec 32 := Scalar.extui v563
  let c0_i32_519 : BitVec 32 := 0#32
  let v565 : BitVec 1 := Scalar.cmpi .ne v564 c0_i32_519
  v565

def k0_off153 (k0_t2 : Fin k0_t2_loop.trips) (v544 : BitVec 32) : Fin 2 → Nat :=
  let c0_i32_248 : BitVec 32 := 0#32
  let c1_i32_250 : BitVec 32 := 1#32
  let arg23 : BitVec 32 := Scf.iv c0_i32_248 c1_i32_250 k0_t2
  let v545 : BitVec 32 := Scalar.addi v544 arg23
  let c32_i32_500 : BitVec 32 := 32#32
  let v546 : BitVec 32 := Scalar.remsi v545 c32_i32_500
  let c128_i32_516 : BitVec 32 := 128#32
  let v562 : BitVec 32 := Scalar.muli v546 c128_i32_516
  let c6912_i32_537 : BitVec 32 := 6912#32
  ![v562.toNat, 6912]

def k0_off154 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_502 : BitVec 32 := 3#32
  let v548 : BitVec 32 := Scalar.remsi v340 c3_i32_502
  let c0_i32_538 : BitVec 32 := 0#32
  let c0_i32_539 : BitVec 32 := 0#32
  ![v548.toNat, 0, 0]
def k0_off155 (k0_t2 : Fin k0_t2_loop.trips) (v544 : BitVec 32) : Fin 2 → Nat :=
  let c0_i32_248 : BitVec 32 := 0#32
  let c1_i32_250 : BitVec 32 := 1#32
  let arg23 : BitVec 32 := Scf.iv c0_i32_248 c1_i32_250 k0_t2
  let v545 : BitVec 32 := Scalar.addi v544 arg23
  let c32_i32_500 : BitVec 32 := 32#32
  let v546 : BitVec 32 := Scalar.remsi v545 c32_i32_500
  let c128_i32_516 : BitVec 32 := 128#32
  let v562 : BitVec 32 := Scalar.muli v546 c128_i32_516
  let c6912_i32_521 : BitVec 32 := 6912#32
  ![v562.toNat, 6912]

def k0_chk58 (k0_t2 : Fin k0_t2_loop.trips) (v544 : BitVec 32) : Prop :=
  (∀ (k0_h28 : k0_cond28 k0_t2 = 1#1), ∀ a, (k0_off153 k0_t2 v544) a + S128x1280.size a ≤ S4096x8192.size a) ∧
  (∀ a, (k0_off155 k0_t2 v544) a + S128x1280.size a ≤ S4096x8192.size a)
theorem k0_off153_inb : ∀ (k0_t2 : Fin k0_t2_loop.trips) (v544 : BitVec 32) (k0_hw58 : k0_chk58 k0_t2 v544), ∀ (k0_h28 : k0_cond28 k0_t2 = 1#1), ∀ a, (k0_off153 k0_t2 v544) a + S128x1280.size a ≤ S4096x8192.size a := fun k0_t2 v544 k0_hw58 k0_h28 => k0_hw58.1 k0_h28
theorem k0_off155_inb : ∀ (k0_t2 : Fin k0_t2_loop.trips) (v544 : BitVec 32) (k0_hw58 : k0_chk58 k0_t2 v544), ∀ a, (k0_off155 k0_t2 v544) a + S128x1280.size a ≤ S4096x8192.size a := fun k0_t2 v544 k0_hw58 => k0_hw58.2

def k0_off156 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_502 : BitVec 32 := 3#32
  let v548 : BitVec 32 := Scalar.remsi v340 c3_i32_502
  let c0_i32_522 : BitVec 32 := 0#32
  let c0_i32_523 : BitVec 32 := 0#32
  ![v548.toNat, 0, 0]
def k0_off157 (k0_t2 : Fin k0_t2_loop.trips) : Fin 2 → Nat :=
  let c5_i32_524 : BitVec 32 := 5#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_504 : BitVec 32 := 3#32
  let v550 : BitVec 32 := Scalar.addi v340 c3_i32_504
  let c1_i32_505 : BitVec 32 := 1#32
  let v551 : BitVec 32 := Scalar.subi v550 c1_i32_505
  let c3_i32_506 : BitVec 32 := 3#32
  let v552 : BitVec 32 := Scalar.remsi v551 c3_i32_506
  ![5, v552.toNat]
def k0_off158 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c3_i32_504 : BitVec 32 := 3#32
  let v550 : BitVec 32 := Scalar.addi v340 c3_i32_504
  let c1_i32_505 : BitVec 32 := 1#32
  let v551 : BitVec 32 := Scalar.subi v550 c1_i32_505
  let c3_i32_506 : BitVec 32 := 3#32
  let v552 : BitVec 32 := Scalar.remsi v551 c3_i32_506
  let c0_i32_527 : BitVec 32 := 0#32
  let c0_i32_528 : BitVec 32 := 0#32
  ![v552.toNat, 0, 0]
def k0_dev35 (v547 : BitVec 32) : Nat :=
  let c0_i32_534 : BitVec 32 := 0#32
  let c1_i32_533 : BitVec 32 := 1#32
  let v579 : BitVec 32 := Scalar.muli v547 c1_i32_533
  let v580 : BitVec 32 := Scalar.addi c0_i32_534 v579
  v580.toNat

def k0_chk59 (v547 : BitVec 32) : Prop :=
  ((k0_dev35 v547) < nD)
theorem k0_dev35_lt : ∀ (v547 : BitVec 32) (k0_hw59 : k0_chk59 v547), (k0_dev35 v547) < nD := fun v547 k0_hw59 => k0_hw59

def k0_cond29 (k0_t2 : Fin k0_t2_loop.trips) : BitVec 1 :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c61_i32_535 : BitVec 32 := 61#32
  let v581 : BitVec 1 := Scalar.cmpi .slt v340 c61_i32_535
  let v582 : BitVec 32 := Scalar.extui v581
  let c0_i32_536 : BitVec 32 := 0#32
  let v583 : BitVec 1 := Scalar.cmpi .ne v582 c0_i32_536
  v583

def k0_off159 (k0_t2 : Fin k0_t2_loop.trips) : Fin 2 → Nat :=
  let c5_i32_546 : BitVec 32 := 5#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_541 : BitVec 32 := 3#32
  let v589 : BitVec 32 := Scalar.addi v587 c3_i32_541
  let c1_i32_542 : BitVec 32 := 1#32
  let v590 : BitVec 32 := Scalar.subi v589 c1_i32_542
  let c3_i32_543 : BitVec 32 := 3#32
  let v591 : BitVec 32 := Scalar.remsi v590 c3_i32_543
  ![5, v591.toNat]
def k0_off160 (k0_t2 : Fin k0_t2_loop.trips) : Fin 2 → Nat :=
  let c5_i32_545 : BitVec 32 := 5#32
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_544 : BitVec 32 := 3#32
  let v592 : BitVec 32 := Scalar.remsi v587 c3_i32_544
  ![5, v592.toNat]
def k0_off161 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_544 : BitVec 32 := 3#32
  let v592 : BitVec 32 := Scalar.remsi v587 c3_i32_544
  let c0_i32_549 : BitVec 32 := 0#32
  let c0_i32_550 : BitVec 32 := 0#32
  ![v592.toNat, 0, 0]
def k0_off162 (k0_t2 : Fin k0_t2_loop.trips) : Fin 3 → Nat :=
  let c0_i32_248 : BitVec 32 := 0#32
  let c1_i32_250 : BitVec 32 := 1#32
  let arg23 : BitVec 32 := Scf.iv c0_i32_248 c1_i32_250 k0_t2
  let c32_i32_306 : BitVec 32 := 32#32
  let v339 : BitVec 32 := Scalar.addi arg23 c32_i32_306
  let c1_i32_307 : BitVec 32 := 1#32
  let v340 : BitVec 32 := Scalar.subi v339 c1_i32_307
  let c1_i32_539 : BitVec 32 := 1#32
  let v587 : BitVec 32 := Scalar.addi v340 c1_i32_539
  let c3_i32_541 : BitVec 32 := 3#32
  let v589 : BitVec 32 := Scalar.addi v587 c3_i32_541
  let c1_i32_542 : BitVec 32 := 1#32
  let v590 : BitVec 32 := Scalar.subi v589 c1_i32_542
  let c3_i32_543 : BitVec 32 := 3#32
  let v591 : BitVec 32 := Scalar.remsi v590 c3_i32_543
  let c0_i32_551 : BitVec 32 := 0#32
  let c0_i32_552 : BitVec 32 := 0#32
  ![v591.toNat, 0, 0]
def k0_dev36 (v588 : BitVec 32) : Nat :=
  let c0_i32_548 : BitVec 32 := 0#32
  let c1_i32_547 : BitVec 32 := 1#32
  let v593 : BitVec 32 := Scalar.muli v588 c1_i32_547
  let v594 : BitVec 32 := Scalar.addi c0_i32_548 v593
  v594.toNat

def k0_chk60 (k0_t2 : Fin k0_t2_loop.trips) (v588 : BitVec 32) : Prop :=
  (∀ (k0_h29 : k0_cond29 k0_t2 = 1#1), (k0_dev36 v588) < nD)
theorem k0_dev36_lt : ∀ (k0_t2 : Fin k0_t2_loop.trips) (v588 : BitVec 32) (k0_hw60 : k0_chk60 k0_t2 v588), ∀ (k0_h29 : k0_cond29 k0_t2 = 1#1), (k0_dev36 v588) < nD := fun k0_t2 v588 k0_hw60 k0_h29 => k0_hw60 k0_h29

abbrev stage0_0 : Fin 1 → Memref sig .tc .vmem S4096x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S9 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S1, .f32⟩
  | .local _ .vmem, ⟨3, _⟩ => ⟨S1, .f32⟩
  | .local _ .vmem, ⟨4, _⟩ => ⟨S4096x8192, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Streams.lean ====
/-
  The six streams of the kernel, as one program over a symbolic stream `k : Fin 6`. The printed kernel spells the same
  sequence of operations six times, at the buffers, columns and semaphores of each stream; here each sequence is written
  once, at stream `k`, and the printed trips are shown to be the six copies in turn (`t1_body_eq`, `t2_body_eq`, …).
-/
module

public import proofs.«01_k».proof.Proof.Gen.KernelIdeal.Skeleton
public import proofs.«01_k».proof.Proof.Gen.KernelIdeal.Points
public import proofs.«01_k».proof.Proof.Gen.KernelIdeal.Launch

@[expose] public section

set_option maxRecDepth 65536

noncomputable section

namespace Cert.Proof

open Cert.KernelIdeal Cert.KernelIdeal.Gen
open Idealize.ShloMosaic Idealize.ShloMosaic.TcCoe Idealize.SL.Sem

variable {F : FTy → Type} [FloatOps F]

/-! ### Widths, shapes and buffers of a stream -/

/-- How many columns stream `k` carries. -/
abbrev wd (k : Fin 6) : ℕ := match k with | 0 => 1408 | 1 => 1408 | 2 => 1408 | 3 => 1280 | 4 => 1408 | 5 => 1280
/-- The first column of stream `k`. -/
abbrev co (k : Fin 6) : ℕ := match k with | 0 => 0 | 1 => 1408 | 2 => 2816 | 3 => 4224 | 4 => 5504 | 5 => 6912

abbrev Sq3 (k : Fin 6) : Shape := ⟨3, ![3, 128, wd k]⟩
abbrev Sq1 (k : Fin 6) : Shape := ⟨3, ![1, 128, wd k]⟩
abbrev Sq2 (k : Fin 6) : Shape := ⟨2, ![128, wd k]⟩

/-- The three-slot buffer of stream `k`. -/
abbrev comm (k : Fin 6) : Memref sig .tc .vmem (Sq3 k) .f32 := match k with
  | 0 => Memref.whole cc0_scratch0 | 1 => Memref.whole cc0_scratch1 | 2 => Memref.whole cc0_scratch2
  | 3 => Memref.whole cc0_scratch3 | 4 => Memref.whole cc0_scratch4 | 5 => Memref.whole cc0_scratch5
/-- The partial-product buffer of stream `k`. -/
abbrev pbuf (k : Fin 6) : Memref sig .tc .vmem (Sq2 k) .f32 := match k with
  | 0 => Memref.whole cc0_scratch6 | 1 => Memref.whole cc0_scratch7 | 2 => Memref.whole cc0_scratch8
  | 3 => Memref.whole cc0_scratch9 | 4 => Memref.whole cc0_scratch10 | 5 => Memref.whole cc0_scratch11
/-- The narrowed weights. -/
abbrev wbM : Memref sig .tc .vmem S128x8192 .bf16 := Memref.whole cc0_scratch12
/-- The device's blocks of the arguments and the table of neighbours, staged. -/
abbrev xM : Memref sig .tc .vmem S4096x128 .fp8e5m2 := win0_0.stage (cfg0.slots t0_0 0)
abbrev wM : Memref sig .tc .vmem S128x8192 .fp8e5m2 := win0_1.stage (cfg0.slots t0_0 1)
abbrev sxM : Memref sig .tc .smem S1 .f32 := win0_2.stage (cfg0.slots t0_0 2)
abbrev swM : Memref sig .tc .smem S1 .f32 := win0_3.stage (cfg0.slots t0_0 3)
abbrev idM : Memref sig .tc .smem S9 .i32 := win0_4.stage (cfg0.slots t0_0 4)
abbrev outM : Memref sig .tc .hbm S4096x8192 .f32 := Memref.whole main_v39

theorem numSq1 (k : Fin 6) : 0 < (Sq1 k).numel := by fin_cases k <;> decide
theorem numSq2 (k : Fin 6) : 0 < (Sq2 k).numel := by fin_cases k <;> decide
theorem squeezesSq (k : Fin 6) : (Sq1 k).Squeezes (Sq2 k) := by fin_cases k <;> decide
theorem castsSq (k : Fin 6) : (Sq1 k).ShapeCasts (Sq2 k) := by fin_cases k <;> decide
theorem castsSq' (k : Fin 6) : (Sq2 k).ShapeCasts (Sq1 k) := by fin_cases k <;> decide
theorem castsSq2 (k : Fin 6) : (Sq2 k).ShapeCasts (Sq2 k) := by fin_cases k <;> decide

/-- The contraction of stream `k`'s product. -/
abbrev dotK (k : Fin 6) : DotDims S128x128 (Sq2 k) (Sq2 k) := match k with
  | 0 => dot_S128x128_S128x1408_S128x1408_1_0_0_1_n_n | 1 => dot_S128x128_S128x1408_S128x1408_1_0_0_1_n_n
  | 2 => dot_S128x128_S128x1408_S128x1408_1_0_0_1_n_n | 3 => dot_S128x128_S128x1280_S128x1280_1_0_0_1_n_n
  | 4 => dot_S128x128_S128x1408_S128x1408_1_0_0_1_n_n | 5 => dot_S128x128_S128x1280_S128x1280_1_0_0_1_n_n

/-- One scaled partial product. -/
def payP (k : Fin 6) (v2 : F .f32) (x : Vec F S128x128 .fp8e5m2) (w : Vec F (Sq2 k) .bf16) : FVec F (Sq2 k) .f32 :=
  shapeCast (Sq2 k) (mulf (matmul (dotK k) none (extf .bf16 (shapeCast S128x128 x shapeCasts_S128x128_S128x128)
    bitsLt_fp8e5m2_bf16) w (constant (Sq2 k) .f32 0x00000000#32)) (broadcast (Sq2 k) v2)) (castsSq2 k)

/-- The running sum plus a partial product. -/
def payA (k : Fin 6) (a : Vec F (Sq1 k) .f32) (b : Vec F (Sq2 k) .f32) : FVec F (Sq1 k) .f32 :=
  shapeCast (Sq1 k) (addf (shapeCast (Sq2 k) a (castsSq k)) b) (castsSq' k)

/-- A partial product put into a slot. -/
def payC (k : Fin 6) (a : Vec F (Sq2 k) .f32) : FVec F (Sq1 k) .f32 := shapeCast (Sq1 k) a (castsSq' k)

/-! ### Indices -/

theorem in9 (n : Fin 9) : ∀ a, (![n.val] : Fin 1 → ℕ) a + S1.size a ≤ S9.size a := by revert n; decide

/-- The `n`-th entry of the device's table of neighbours. -/
abbrev ldId (n : Fin 9) : Prog (TpuEff nD τ sig (Elt F) Λ₀ .tc) (Elt F .i32) :=
  smemLoad idM (Rect.unit (s := S9) ![n.val] S1.size (in9 n)) numel1_S1 rfl

/-- Where the table holds stream `k`'s own place, its upstream and its downstream neighbour. -/
abbrev iR (k : Fin 6) : Fin 9 := match k with | 0 => 0 | 1 => 0 | 2 => 3 | 3 => 3 | 4 => 6 | 5 => 6
abbrev iU (k : Fin 6) : Fin 9 := match k with | 0 => 1 | 1 => 2 | 2 => 4 | 3 => 5 | 4 => 7 | 5 => 8
abbrev iD (k : Fin 6) : Fin 9 := match k with | 0 => 2 | 1 => 1 | 2 => 5 | 3 => 4 | 4 => 8 | 5 => 7

theorem inSq3 (k : Fin 6) (off : Fin 3 → ℕ) (h : ∀ a, off a + S1x128x1408.size a ≤ S3x128x1408.size a) :
    ∀ a, off a + (Sq1 k).size a ≤ (Sq3 k).size a := by
  intro a
  have h0 := h 0; have h1 := h 1; have h2 := h 2
  fin_cases a
  · exact h0
  · exact h1
  · simp only [Fin.reduceFinMk] at *
    have : off 2 = 0 := by simpa using h2
    show off 2 + wd k ≤ wd k
    omega

/-- The slot of stream `k` at given offsets. -/
abbrev slotAt (k : Fin 6) (off : Fin 3 → ℕ) (h : ∀ a, off a + (Sq1 k).size a ≤ (Sq3 k).size a) :
    Memref sig .tc .vmem (Sq2 k) .f32 :=
  ((comm k).slice (Rect.unit (s := Sq3 k) off (Sq1 k).size h) (fun _ => rfl)).squeeze (Sq2 k) (squeezesSq k)

theorem inS6x3 (k : Fin 6) (n : ℕ) (h : n < 3) : ∀ a, (![k.val, n] : Fin 2 → ℕ) a + S1x1.size a ≤ S6x3.size a := by
  intro a
  have := k.isLt
  fin_cases a
  · show k.val + 1 ≤ 6; omega
  · show n + 1 ≤ 3; omega

/-- A cell of a 6×3 array of DMA semaphores. -/
abbrev semAt (A : DmaSems sig S6x3) (k : Fin 6) (n : ℕ) (h : n < 3) : DmaSem sig :=
  ((A.slice (Rect.unit (s := S6x3) ![k.val, n] S1x1.size (inS6x3 k n h))).squeeze S_ squeezes_S1x1_S_).sem

theorem inS6 (k : Fin 6) : ∀ a, (![k.val] : Fin 1 → ℕ) a + S1.size a ≤ S6.size a := by revert k; decide

/-- Stream `k`'s credit semaphore; its store semaphore. -/
abbrev credS (k : Fin 6) : Sem sig :=
  ((cc0_scratch15.slice (Rect.unit (s := S6) ![k.val] S1.size (inS6 k))).squeeze S_ squeezes_S1_S_).sem
abbrev storeS (k : Fin 6) : DmaSem sig :=
  ((cc0_scratch16.slice (Rect.unit (s := S6) ![k.val] S1.size (inS6 k))).squeeze S_ squeezes_S1_S_).sem

theorem lt3a (t : Fin k0_t1_loop.trips) : k0_off25 t 1 < 3 := by have := k0_off25_inb t 1; exact Nat.lt_of_succ_le this
theorem lt3b (t : Fin k0_t1_loop.trips) : k0_off29 t 1 < 3 := by have := k0_off29_inb t 1; exact Nat.lt_of_succ_le this
theorem lt3c (t : Fin k0_t1_loop.trips) (h : k0_cond1 t = 1#1) : k0_off30 t 1 < 3 := by have := k0_off30_inb t h 1; exact Nat.lt_of_succ_le this
theorem lt3d (t : Fin k0_t1_loop.trips) (h : k0_cond1 t = 1#1) : k0_off31 t 1 < 3 := by have := k0_off31_inb t h 1; exact Nat.lt_of_succ_le this

/-! ### The reduce-scatter trip -/

/-- Stream `k`'s partial product of the chunk that arrives at trip `t`. -/
def fillP (k : Fin 6) (v2 : F .f32) (off : Fin 2 → ℕ) (h : ∀ a, off a + S128x128.size a ≤ S4096x128.size a)
    (hc : ∀ a, (![0, co k] : Fin 2 → ℕ) a + (Sq2 k).size a ≤ S128x8192.size a)
    (hp : ∀ a, (![0, 0] : Fin 2 → ℕ) a + (Sq2 k).size a ≤ (Sq2 k).size a) :
    Prog (TpuEff nD τ sig (Elt F) Λ₀ .tc) PUnit := do
  let x : Vec F S128x128 .fp8e5m2 ← Prog.lift (.load xM (Rect.unit (s := S4096x128) off S128x128.size h).toLoadRect (View.loadsAt_vmem h_S128x128))
  let w : Vec F (Sq2 k) .bf16 ← Prog.lift (.load wbM (Rect.unit (s := S128x8192) ![0, co k] (Sq2 k).size hc).toLoadRect (View.loadsAt_vmem (numSq2 k)))
  let _d : Vec F (Sq2 k) .f32 ← Prog.lift (.load (pbuf k) (Rect.unit (s := Sq2 k) ![0, 0] (Sq2 k).size hp).toLoadRect (View.loadsAt_vmem (numSq2 k)))
  Prog.lift (.store (pbuf k) (Rect.unit (s := Sq2 k) ![0, 0] (Sq2 k).size hp) (payP k v2 x w) Finset.univ (View.stores_vmem_bits_univ (numSq2 k) rfl) (.inl rfl))

theorem inCol (k : Fin 6) : ∀ a, (![0, co k] : Fin 2 → ℕ) a + (Sq2 k).size a ≤ S128x8192.size a := by
  fin_cases k <;> decide
theorem inP (k : Fin 6) : ∀ a, (![0, 0] : Fin 2 → ℕ) a + (Sq2 k).size a ≤ (Sq2 k).size a := by
  fin_cases k <;> decide

/-- An even stream's chunk at trip `t`, of its ring place; an odd stream's. -/
def rsFill (k : Fin 6) (v2 : F .f32) (t : Fin k0_t1_loop.trips) : Prog (TpuEff nD τ sig (Elt F) Λ₀ .tc) PUnit :=
  if k.val % 2 = 0 then do
    let v ← ldId (iR k)
    have h : k0_chk19 t v := (← Prog.lift (TpuEff.assume (k0_chk19 t v) (k0_chk19.dec t v))).down
    fillP k v2 (k0_off19 t v) (k0_off19_inb t v h) (inCol k) (inP k)
  else do
    let v ← ldId (iR k)
    have h : k0_chk20 t v := (← Prog.lift (TpuEff.assume (k0_chk20 t v) (k0_chk20.dec t v))).down
    fillP k v2 (k0_off20 t v) (k0_off20_inb t v h) (inCol k) (inP k)

theorem rs_cond : ∀ t : Fin k0_t1_loop.trips, k0_cond1 t = 1#1 := by decide +kernel

/-- Stream `k`'s next copy of trip `t`: from the second trip on it awaits a credit first. -/
def rsSend (k : Fin 6) (t : Fin k0_t1_loop.trips) : Prog (TpuEff nD τ sig (Elt F) Λ₀ .tc) PUnit := do
  if 1 ≤ t.val then semWaitWord (credS k) 1#32 else pure ⟨⟩
  let d ← ldId (iD k)
  have hd : k0_chk26 t d := (← Prog.lift (TpuEff.assume (k0_chk26 t d) (k0_chk26.dec t d))).down
  Prog.lift (.enqueueDma (slotAt k (k0_off33 t) (inSq3 k _ (k0_off33_inb t (rs_cond t))))
      (.remote (Dev.tc (⟨k0_dev14 d, k0_dev14_lt t d hd (rs_cond t)⟩ : Dev nD)) (slotAt k (k0_off32 t) (inSq3 k _ (k0_off32_inb t (rs_cond t)))) (.dma (semAt cc0_scratch13 k (k0_off30 t 1) (lt3c t (rs_cond t)))))
      (.dma (semAt cc0_scratch14 k (k0_off31 t 1) (lt3d t (rs_cond t)))) ((View.wordExact_bits rfl).reshape _ _) ((View.wordExact_bits rfl).reshape _ _) ⟨⟨rfl, Or.inl rfl⟩, trivial⟩)

/-- Stream `k`'s trip `t` of the reduce-scatter loop after the fill. -/
def rsStep (k : Fin 6) (t : Fin k0_t1_loop.trips) : Prog (TpuEff nD τ sig (Elt F) Λ₀ .tc) PUnit := do
  let u ← ldId (iU k)
  have hu : k0_chk25 u := (← Prog.lift (TpuEff.assume (k0_chk25 u) (k0_chk25.dec u))).down
  let _d ← ldId (iD k)
  Prog.lift (.waitDma2 (semAt cc0_scratch14 k (k0_off25 t 1) (lt3a t))
    (slotAt k (k0_off27 t) (inSq3 k _ (k0_off27_inb t))) (slotAt k (k0_off26 t) (inSq3 k _ (k0_off26_inb t)))
    ((View.wordExact_bits rfl).reshape _ _) ((View.wordExact_bits rfl).reshape _ _))
  let a : Vec F (Sq1 k) .f32 ← Prog.lift (.load (comm k) (Rect.unit (s := Sq3 k) (k0_off28 t) (Sq1 k).size (inSq3 k _ (k0_off28_inb t))).toLoadRect (View.loadsAt_vmem (numSq1 k)))
  let b : Vec F (Sq2 k) .f32 ← Prog.lift (.load (pbuf k) (Rect.unit (s := Sq2 k) ![0, 0] (Sq2 k).size (inP k)).toLoadRect (View.loadsAt_vmem (numSq2 k)))
  let _e : Vec F (Sq1 k) .f32 ← Prog.lift (.load (comm k) (Rect.unit (s := Sq3 k) (k0_off28 t) (Sq1 k).size (inSq3 k _ (k0_off28_inb t))).toLoadRect (View.loadsAt_vmem (numSq1 k)))
  Prog.lift (.store (comm k) (Rect.unit (s := Sq3 k) (k0_off28 t) (Sq1 k).size (inSq3 k _ (k0_off28_inb t))) (payA k a b) Finset.univ (View.stores_vmem_bits_univ (numSq1 k) rfl) (.inl rfl))
  Prog.lift (.waitDma2 (semAt cc0_scratch13 k (k0_off29 t 1) (lt3b t))
    (slotAt k (k0_off26 t) (inSq3 k _ (k0_off26_inb t))) (slotAt k (k0_off27 t) (inSq3 k _ (k0_off27_inb t)))
    ((View.wordExact_bits rfl).reshape _ _) ((View.wordExact_bits rfl).reshape _ _))
  semSignalWord (⟨k0_dev13 u, k0_dev13_lt u hu⟩ : Dev nD) (credS k) 1#32
  rsSend k t

/-- The printed reduce-scatter trip: the six partial products, then the six streams' steps. -/
theorem t1_body_eq (v2 : F .f32) (v195 : Elt F .i32) (h : k0_chk18 v195) (a b : BitVec 32) (t : Fin k0_t1_loop.trips) :
    k0_t1_body (F := F) xM (hstage0_0 0) wM (hstage0_1 0) sxM (hstage0_2 0) swM (hstage0_3 0) idM (hstage0_4 0) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 v2 v195 h a b t () =
      (do rsFill 0 v2 t; rsFill 1 v2 t; rsFill 2 v2 t; rsFill 3 v2 t; rsFill 4 v2 t; rsFill 5 v2 t
          rsStep 0 t; rsStep 1 t; rsStep 2 t; rsStep 3 t; rsStep 4 t; rsStep 5 t) := by
  have c1 : k0_cond1 t = 1#1 := rs_cond t
  have c3 : k0_cond3 t = 1#1 := rs_cond t
  have c5 : k0_cond5 t = 1#1 := rs_cond t
  have c7 : k0_cond7 t = 1#1 := rs_cond t
  have c9 : k0_cond9 t = 1#1 := rs_cond t
  have c11 : k0_cond11 t = 1#1 := rs_cond t
  have g : (Scalar.cmpi .ne (Scalar.extui (Scalar.cmpi .sge (Scf.iv 0#32 1#32 t : BitVec 32) 1#32) : BitVec 32) 0#32 = 1#1) ↔ 1 ≤ t.val := by
    revert t; decide +kernel
  unfold k0_t1_body
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  by_cases ht : 1 ≤ t.val
  all_goals
    simp only [k0_part1_skel, k0_part2_skel, k0_part3_skel, k0_part4_skel, k0_part5_skel, k0_part6_skel, k0_part7_skel,
      k0_part8_skel, k0_part9_skel, k0_part10_skel, rsFill, rsStep, rsSend, fillP, Prog.lift, Prog.bind_op, Prog.bind_ret,
      Prog.pure_eq_ret, bind_assoc, smemLoad, semSignalWord, semWaitWord, c1, c3, c5, c7, c9, c11, g, ht, dite_true, dite_false, if_true, if_false]
    rfl

/-- One reduce-scatter trip. -/
def rsTrip (v2 : F .f32) (t : Fin k0_t1_loop.trips) : Prog (TpuEff nD τ sig (Elt F) Λ₀ .tc) PUnit := do
  rsFill 0 v2 t; rsFill 1 v2 t; rsFill 2 v2 t; rsFill 3 v2 t; rsFill 4 v2 t; rsFill 5 v2 t
  rsStep 0 t; rsStep 1 t; rsStep 2 t; rsStep 3 t; rsStep 4 t; rsStep 5 t

theorem t1_body_eq' (v2 : F .f32) (v195 : Elt F .i32) (h : k0_chk18 v195) (a b : BitVec 32) :
    k0_t1_body (F := F) xM (hstage0_0 0) wM (hstage0_1 0) sxM (hstage0_2 0) swM (hstage0_3 0) idM (hstage0_4 0) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 v2 v195 h a b = fun t _ => rsTrip v2 t := by
  funext t u
  exact t1_body_eq v2 v195 h a b t

/-! ### The result's rectangles -/

/-- Stream `k`'s columns of a band of 128 rows of the result fit. -/
def ChkOut (k : Fin 6) (row : ℕ) : Prop :=
  ∀ a, (![row, co k] : Fin 2 → ℕ) a + (Sq2 k).size a ≤ S4096x8192.size a
instance ChkOut.dec (k : Fin 6) (row : ℕ) : Decidable (ChkOut k row) :=
  decidable_of_iff' (∀ a, (![row, co k] : Fin 2 → ℕ) a + (Sq2 k).size a ≤ S4096x8192.size a) Iff.rfl

/-- Stream `k`'s rectangle of the result at row `row`. -/
abbrev outAt (k : Fin 6) (row : ℕ) (h : ChkOut k row) : Memref sig .tc .hbm (Sq2 k) .f32 :=
  outM.slice (Rect.unit (s := S4096x8192) ![row, co k] (Sq2 k).size h) (fun _ => rfl)

theorem chkOut0 (k : Fin 6) : ChkOut k 0 := by fin_cases k <;> (unfold ChkOut; decide)

/-! ### Before the loops -/

/-- The barrier semaphore. -/
abbrev barS : Sem sig := (SemArray.scalar (sig.barrier 0 rfl) : Sems sig S_).sem

/-- Two neighbours of one cycle told that this device is in the kernel. -/
def barPair (n n' : Fin 9) : Prog (TpuEff nD τ sig (Elt F) Λ₀ .tc) PUnit := do
  let u ← ldId n
  have hu : k0_chk25 u := (← Prog.lift (TpuEff.assume (k0_chk25 u) (k0_chk25.dec u))).down
  let v ← ldId n'
  have hv : k0_chk25 v := (← Prog.lift (TpuEff.assume (k0_chk25 v) (k0_chk25.dec v))).down
  semSignalWord (⟨k0_dev13 u, k0_dev13_lt u hu⟩ : Dev nD) barS 1#32
  semSignalWord (⟨k0_dev13 v, k0_dev13_lt v hv⟩ : Dev nD) barS 1#32

/-- The weights narrowed. -/
def narrowW : Prog (TpuEff nD τ sig (Elt F) Λ₀ .tc) PUnit := do
  let w : Vec F S128x8192 .fp8e5m2 ← Prog.lift (.load wM (Rect.unit (s := S128x8192) ![0, 0] S128x8192.size inb_S128x8192_S128x8192_0_0).toLoadRect (View.loadsAt_vmem h_S128x8192))
  let _d : Vec F S128x8192 .bf16 ← Prog.lift (.load wbM (Rect.unit (s := S128x8192) ![0, 0] S128x8192.size inb_S128x8192_S128x8192_0_0).toLoadRect (View.loadsAt_vmem h_S128x8192))
  Prog.lift (.store wbM (Rect.unit (s := S128x8192) ![0, 0] S128x8192.size inb_S128x8192_S128x8192_0_0) (k0_pay14 w) Finset.univ (View.stores_vmem h_S128x8192 ((Memref.isWhole_whole cc0_scratch12).storeExact_slice rfl _ packedbf16_S128x8192_S128x8192_0_0) (fun _ => rfl)) (.inl rfl))

theorem inSlot2 (k : Fin 6) : ∀ a, (![2, 0, 0] : Fin 3 → ℕ) a + (Sq1 k).size a ≤ (Sq3 k).size a := by
  fin_cases k <;> decide
theorem inSlot0 (k : Fin 6) : ∀ a, (![0, 0, 0] : Fin 3 → ℕ) a + (Sq1 k).size a ≤ (Sq3 k).size a := by
  fin_cases k <;> decide

/-- Stream `k`'s own chunk put into slot 2. -/
def initK (k : Fin 6) (v2 : F .f32) : Prog (TpuEff nD τ sig (Elt F) Λ₀ .tc) PUnit := do
  let v ← ldId (iR k)
  have h : k0_chk7 v := (← Prog.lift (TpuEff.assume (k0_chk7 v) (k0_chk7.dec v))).down
  fillP k v2 (k0_off1 v) (k0_off1_inb v h) (inCol k) (inP k)
  let a : Vec F (Sq2 k) .f32 ← Prog.lift (.load (pbuf k) (Rect.unit (s := Sq2 k) ![0, 0] (Sq2 k).size (inP k)).toLoadRect (View.loadsAt_vmem (numSq2 k)))
  let _d : Vec F (Sq1 k) .f32 ← Prog.lift (.load (comm k) (Rect.unit (s := Sq3 k) ![2, 0, 0] (Sq1 k).size (inSlot2 k)).toLoadRect (View.loadsAt_vmem (numSq1 k)))
  Prog.lift (.store (comm k) (Rect.unit (s := Sq3 k) ![2, 0, 0] (Sq1 k).size (inSlot2 k)) (payC k a) Finset.univ (View.stores_vmem_bits_univ (numSq1 k) rfl) (.inl rfl))

/-- Stream `k`'s first copy. -/
def copy0 (k : Fin 6) : Prog (TpuEff nD τ sig (Elt F) Λ₀ .tc) PUnit := do
  let d ← ldId (iD k)
  have hd : k0_chk13 d := (← Prog.lift (TpuEff.assume (k0_chk13 d) (k0_chk13.dec d))).down
  Prog.lift (.enqueueDma (slotAt k (k0_off8 2#32) (inSq3 k _ (k0_off8_inb 1)))
      (.remote (Dev.tc (⟨k0_dev7 d, k0_dev7_lt d hd⟩ : Dev nD)) (slotAt k (k0_off8 0#32) (inSq3 k _ (k0_off8_inb 0))) (.dma (semAt cc0_scratch13 k (k0_off7 2#32 1) (by decide))))
      (.dma (semAt cc0_scratch14 k (k0_off7 0#32 1) (by decide))) ((View.wordExact_bits rfl).reshape _ _) ((View.wordExact_bits rfl).reshape _ _) ⟨⟨rfl, Or.inl rfl⟩, trivial⟩)

/-! ### Between the loops -/

/-- The row of the chunk that stream `k` has finished after the reduce-scatter. -/
abbrev rowMid (k : Fin 6) (v : BitVec 32) : ℕ := if k.val % 2 = 0 then k0_off79 v 0 else k0_off80 v 0

/-- The finished chunk stored into the result. -/
def midK (k : Fin 6) : Prog (TpuEff nD τ sig (Elt F) Λ₀ .tc) PUnit := do
  let v ← ldId (iR k)
  have h : ChkOut k (rowMid k v) := (← Prog.lift (TpuEff.assume (ChkOut k (rowMid k v)) (ChkOut.dec k _))).down
  Prog.lift (.enqueueDma (slotAt k ![0, 0, 0] (inSlot0 k)) (.here (outAt k (rowMid k v) h)) (.dma (storeS k)) ((View.wordExact_bits rfl).reshape _ _) (View.wordExact_bits rfl) ⟨Or.inl rfl, trivial⟩)
  Prog.lift (.waitDma2 (storeS k) (slotAt k ![0, 0, 0] (inSlot0 k)) (outAt k (rowMid k v) h) ((View.wordExact_bits rfl).reshape _ _) (View.wordExact_bits rfl))

/-! ### The all-gather trip -/

/-- The row that trip `t` stores into. -/
abbrev rowAG (k : Fin 6) (t : Fin k0_t2_loop.trips) (v : BitVec 32) : ℕ := if k.val % 2 = 0 then k0_off90 t v 0 else k0_off101 t v 0

/-- The rectangle of trip `t`'s store fits (the wait for the previous store names the same one). -/
def ChkAG (k : Fin 6) (t : Fin k0_t2_loop.trips) (row : ℕ) : Prop :=
  (∀ (h : k0_cond13 t = 1#1), ChkOut k row) ∧ ChkOut k row
instance ChkAG.dec (k : Fin 6) (t : Fin k0_t2_loop.trips) (row : ℕ) : Decidable (ChkAG k t row) :=
  decidable_of_iff' ((∀ (h : k0_cond13 t = 1#1), ∀ a, (![row, co k] : Fin 2 → ℕ) a + (Sq2 k).size a ≤ S4096x8192.size a)
    ∧ ∀ a, (![row, co k] : Fin 2 → ℕ) a + (Sq2 k).size a ≤ S4096x8192.size a) Iff.rfl

theorem ag_cond13 : ∀ t : Fin k0_t2_loop.trips, k0_cond13 t = 1#1 ↔ 1 ≤ t.val := by decide +kernel
theorem ag_cond14 : ∀ t : Fin k0_t2_loop.trips, k0_cond14 t = 1#1 ↔ t.val < 30 := by decide +kernel

theorem lt3e (t : Fin k0_t2_loop.trips) : k0_off85 t 1 < 3 := Nat.lt_of_succ_le (k0_off85_inb t 1)
theorem lt3f (t : Fin k0_t2_loop.trips) : k0_off92 t 1 < 3 := Nat.lt_of_succ_le (k0_off92_inb t 1)
theorem lt3g (t : Fin k0_t2_loop.trips) (h : k0_cond14 t = 1#1) : k0_off94 t 1 < 3 := Nat.lt_of_succ_le (k0_off94_inb t h 1)
theorem lt3h (t : Fin k0_t2_loop.trips) (h : k0_cond14 t = 1#1) : k0_off95 t 1 < 3 := Nat.lt_of_succ_le (k0_off95_inb t h 1)

/-- Stream `k`'s next copy of trip `t`. -/
def agSend (k : Fin 6) (t : Fin k0_t2_loop.trips) (h : k0_cond14 t = 1#1) : Prog (TpuEff nD τ sig (Elt F) Λ₀ .tc) PUnit := do
  semWaitWord (credS k) 1#32
  let d ← ldId (iD k)
  have hd : k0_chk45 t d := (← Prog.lift (TpuEff.assume (k0_chk45 t d) (k0_chk45.dec t d))).down
  Prog.lift (.enqueueDma (slotAt k (k0_off97 t) (inSq3 k _ (k0_off97_inb t h)))
      (.remote (Dev.tc (⟨k0_dev26 d, k0_dev26_lt t d hd h⟩ : Dev nD)) (slotAt k (k0_off96 t) (inSq3 k _ (k0_off96_inb t h))) (.dma (semAt cc0_scratch13 k (k0_off94 t 1) (lt3g t h))))
      (.dma (semAt cc0_scratch14 k (k0_off95 t 1) (lt3h t h))) ((View.wordExact_bits rfl).reshape _ _) ((View.wordExact_bits rfl).reshape _ _) ⟨⟨rfl, Or.inl rfl⟩, trivial⟩)

/-- Stream `k`'s trip `t` of the all-gather loop. -/
def agStep (k : Fin 6) (t : Fin k0_t2_loop.trips) : Prog (TpuEff nD τ sig (Elt F) Λ₀ .tc) PUnit := do
  let v ← ldId (iR k)
  have h : ChkAG k t (rowAG k t v) := (← Prog.lift (TpuEff.assume (ChkAG k t (rowAG k t v)) (ChkAG.dec k t _))).down
  let u ← ldId (iU k)
  have hu : k0_chk25 u := (← Prog.lift (TpuEff.assume (k0_chk25 u) (k0_chk25.dec u))).down
  let _d ← ldId (iD k)
  Prog.lift (.waitDma2 (semAt cc0_scratch14 k (k0_off85 t 1) (lt3e t))
    (slotAt k (k0_off87 t) (inSq3 k _ (k0_off87_inb t))) (slotAt k (k0_off86 t) (inSq3 k _ (k0_off86_inb t)))
    ((View.wordExact_bits rfl).reshape _ _) ((View.wordExact_bits rfl).reshape _ _))
  if 1 ≤ t.val then
    Prog.lift (.waitDma2 (storeS k) (slotAt k (k0_off91 t) (inSq3 k _ (k0_off91_inb t))) (outAt k (rowAG k t v) h.2) ((View.wordExact_bits rfl).reshape _ _) (View.wordExact_bits rfl))
  else pure ⟨⟩
  Prog.lift (.enqueueDma (slotAt k (k0_off91 t) (inSq3 k _ (k0_off91_inb t))) (.here (outAt k (rowAG k t v) h.2)) (.dma (storeS k)) ((View.wordExact_bits rfl).reshape _ _) (View.wordExact_bits rfl) ⟨Or.inl rfl, trivial⟩)
  Prog.lift (.waitDma2 (semAt cc0_scratch13 k (k0_off92 t 1) (lt3f t))
    (slotAt k (k0_off91 t) (inSq3 k _ (k0_off91_inb t))) (slotAt k (k0_off93 t) (inSq3 k _ (k0_off93_inb t)))
    ((View.wordExact_bits rfl).reshape _ _) ((View.wordExact_bits rfl).reshape _ _))
  semSignalWord (⟨k0_dev13 u, k0_dev13_lt u hu⟩ : Dev nD) (credS k) 1#32
  if hc : k0_cond14 t = 1#1 then agSend k t hc else pure ⟨⟩

/-- One all-gather trip. -/
def agTrip (t : Fin k0_t2_loop.trips) : Prog (TpuEff nD τ sig (Elt F) Λ₀ .tc) PUnit := do
  agStep 0 t; agStep 1 t; agStep 2 t; agStep 3 t; agStep 4 t; agStep 5 t

/-- The printed all-gather trip. -/
theorem t2_body_eq (v267 : Elt F .i32) (h : k0_chk41 v267) (t : Fin k0_t2_loop.trips) :
    k0_t2_body (F := F) xM (hstage0_0 0) wM (hstage0_1 0) sxM (hstage0_2 0) swM (hstage0_3 0) idM (hstage0_4 0) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 v267 h t () = agTrip t := by
  have g : ∀ (a b : BitVec 32), (Scalar.cmpi .ne (Scalar.extui (Scalar.cmpi .sge (Scalar.subi (Scalar.addi (Scf.iv 0#32 1#32 t : BitVec 32) 32#32) 1#32) 1#32) : BitVec 32) 0#32 = 1#1) ↔ True := by
    intro _ _; revert t; decide +kernel
  unfold k0_t2_body agTrip
  simp only [k0_part11_eq_skeleton, k0_part12_eq_skeleton, k0_part13_eq_skeleton, k0_part14_eq_skeleton, k0_part15_eq_skeleton, k0_part16_eq_skeleton, k0_part17_eq_skeleton, k0_part18_eq_skeleton]
  have c13 : k0_cond13 t = 1#1 ↔ 1 ≤ t.val := ag_cond13 t
  have c16 : k0_cond16 t = 1#1 ↔ 1 ≤ t.val := ag_cond13 t
  have c19 : k0_cond19 t = 1#1 ↔ 1 ≤ t.val := ag_cond13 t
  have c22 : k0_cond22 t = 1#1 ↔ 1 ≤ t.val := ag_cond13 t
  have c25 : k0_cond25 t = 1#1 ↔ 1 ≤ t.val := ag_cond13 t
  have c28 : k0_cond28 t = 1#1 ↔ 1 ≤ t.val := ag_cond13 t
  have c14 : k0_cond14 t = 1#1 ↔ t.val < 30 := ag_cond14 t
  have c17 : k0_cond17 t = 1#1 ↔ t.val < 30 := ag_cond14 t
  have c20 : k0_cond20 t = 1#1 ↔ t.val < 30 := ag_cond14 t
  have c23 : k0_cond23 t = 1#1 ↔ t.val < 30 := ag_cond14 t
  have c26 : k0_cond26 t = 1#1 ↔ t.val < 30 := ag_cond14 t
  have c29 : k0_cond29 t = 1#1 ↔ t.val < 30 := ag_cond14 t
  by_cases ht : 1 ≤ t.val <;> by_cases ht' : t.val < 30
  all_goals
    simp only [k0_part11_skel, k0_part12_skel, k0_part13_skel, k0_part14_skel, k0_part15_skel, k0_part16_skel, k0_part17_skel, k0_part18_skel, agStep, agSend, Prog.lift, Prog.bind_op, Prog.bind_ret,
      Prog.pure_eq_ret, bind_assoc, smemLoad, semSignalWord, semWaitWord, c13, c16, c19, c22, c25, c28, c14, c17, c20, c23, c26, c29, g 0 0, ht, ht', dite_true, dite_false, if_true, if_false]
    rfl

theorem t2_body_eq' (v267 : Elt F .i32) (h : k0_chk41 v267) :
    k0_t2_body (F := F) xM (hstage0_0 0) wM (hstage0_1 0) sxM (hstage0_2 0) swM (hstage0_3 0) idM (hstage0_4 0) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 v267 h = fun t _ => agTrip t := by
  funext t u
  exact t2_body_eq v267 h t

/-! ### The whole body -/

/-- The end of stream `k`: its last store and its last two credits. -/
def endK (k : Fin 6) : Prog (TpuEff nD τ sig (Elt F) Λ₀ .tc) PUnit := do
  Prog.lift (.waitDma2 (storeS k) (slotAt k ![0, 0, 0] (inSlot0 k)) (outAt k 0 (chkOut0 k)) ((View.wordExact_bits rfl).reshape _ _) (View.wordExact_bits rfl))
  semWaitWord (credS k) 2#32

/-- The body before the loops, of the scale it has read. -/
def bodyHead (v2 : F .f32) : Prog (TpuEff nD τ sig (Elt F) Λ₀ .tc) PUnit := do
  barPair 1 2; barPair 4 5; barPair 7 8
  semWaitWord barS 6#32
  narrowW
  initK 0 v2; initK 1 v2; initK 2 v2; initK 3 v2; initK 4 v2; initK 5 v2
  copy0 0; copy0 1; copy0 2; copy0 3; copy0 4; copy0 5

/-- The kernel's body. -/
def bodyK : Prog (TpuEff nD τ sig (Elt F) Λ₀ .tc) PUnit := do
  let v0 : Elt F .f32 ← smemLoad sxM (Rect.unit (s := S1) ![0] S1.size inb_S1_S1_0) numel1_S1 rfl
  let v1 : Elt F .f32 ← smemLoad swM (Rect.unit (s := S1) ![0] S1.size inb_S1_S1_0) numel1_S1 rfl
  bodyHead (k0_pay13 v0 v1)
  Scf.Loop.for k0_t1_loop k0_t1_ok ⟨⟩ (fun t _ => rsTrip (k0_pay13 v0 v1) t)
  midK 0; midK 1; midK 2; midK 3; midK 4; midK 5
  Scf.Loop.for k0_t2_loop k0_t2_ok ⟨⟩ (fun t _ => agTrip t)
  endK 0; endK 1; endK 2; endK 3; endK 4; endK 5

/-- The printed body is this program. -/
theorem body_eq : bodyAt0 (F := F) t0_0 = bodyK := by
  show cc0_body (F := F) xM (hstage0_0 0) wM (hstage0_1 0) sxM (hstage0_2 0) swM (hstage0_3 0) idM (hstage0_4 0) outM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 = bodyK
  rw [cc0_body_eq_skeleton]
  unfold cc0_body_skel bodyK bodyHead
  simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  simp only [k0_part19_skel, k0_part20_skel, k0_part21_skel, k0_part22_skel, k0_part23_skel, k0_part24_skel, k0_part25_skel, k0_part26_skel, k0_part27_skel, k0_part28_skel, k0_part29_skel, k0_part30_skel, t1_body_eq', t2_body_eq', barPair, narrowW, initK, copy0, midK, endK, fillP, Prog.lift, Prog.bind_op, Prog.bind_ret,
      Prog.pure_eq_ret, bind_assoc, smemLoad, semSignalWord, semWaitWord]
  rfl

end Cert.Proof

end
-- ==== Proof.Tables.lean ====
/-
  The rings of the six streams. Streams 0 and 1 travel in the two directions of the first Hamiltonian cycle of the mesh,
  2 and 3 in those of the second, 4 and 5 in those of the third. Every stream is told in its own direction of travel:
  `pos k c` is the place of device `c`, `at' k n` the device at place `n`, `dn k c` the next device, `up k c` the one before.
  Then the closed forms of the offsets that the kernel computes.
-/
module

public import proofs.«01_k».proof.Proof.Streams

@[expose] public section

set_option maxRecDepth 65536

noncomputable section

namespace Cert.Proof

open Cert.KernelIdeal Cert.KernelIdeal.Gen
open Idealize.ShloMosaic Idealize.ShloMosaic.TcCoe Idealize.SL.Sem

/-! ### Places on the rings -/

/-- The place of each device on the three cycles. -/
def rposL : Fin 3 → List ℕ
  | 0 => [0,31,30,1,2,29,28,3,7,24,25,6,5,26,27,4,8,23,22,9,10,21,20,11,15,16,17,14,13,18,19,12]
  | 1 => [0,29,30,31,22,21,20,19,1,28,27,26,23,14,15,18,2,5,6,25,24,13,16,17,3,4,7,8,9,12,11,10]
  | 2 => [0,31,18,17,16,19,14,15,1,30,21,2,3,20,13,12,24,29,22,23,4,7,8,11,25,28,27,26,5,6,9,10]
/-- The devices of the three cycles in order. -/
def ordL : Fin 3 → List ℕ
  | 0 => [0,3,4,7,15,12,11,8,16,19,20,23,31,28,27,24,25,26,29,30,22,21,18,17,9,10,13,14,6,5,2,1]
  | 1 => [0,8,16,24,25,17,18,26,27,28,31,30,29,21,13,14,22,23,15,7,6,5,4,12,20,19,11,10,9,1,2,3]
  | 2 => [0,8,11,12,20,28,29,21,22,30,31,23,15,14,6,7,4,3,2,5,13,10,18,19,16,24,27,26,25,17,9,1]

/-- The cycle of a stream. -/
abbrev cyc (k : Fin 6) : Fin 3 := match k with | 0 => 0 | 1 => 0 | 2 => 1 | 3 => 1 | 4 => 2 | 5 => 2
/-- The stream of the same cycle in the other direction. -/
abbrev op (k : Fin 6) : Fin 6 := match k with | 0 => 1 | 1 => 0 | 2 => 3 | 3 => 2 | 4 => 5 | 5 => 4

/-- Device `c`'s place on the cycle of stream `k`. -/
def rp (k : Fin 6) (c : Dev nD) : ℕ := (rposL (cyc k)).getD c.val 0
/-- An odd stream runs the other way round: place `n` of the stream is place `32 - n` of the cycle; the chunk that belongs
    to a place is named by its place of the cycle. -/
def chunkOf (k : Fin 6) (n : ℕ) : ℕ := if k.val % 2 = 0 then n % 32 else (32 - n % 32) % 32
/-- Device `c`'s place on stream `k`. -/
def pos (k : Fin 6) (c : Dev nD) : ℕ := chunkOf k (rp k c)
/-- The device at place `n` of stream `k`. -/
def at' (k : Fin 6) (n : ℕ) : Dev nD := ⟨(ordL (cyc k)).getD (chunkOf k n) 0 % 32, Nat.mod_lt _ (by decide)⟩
/-- The device after `c`, the one before `c`. -/
def dn (k : Fin 6) (c : Dev nD) : Dev nD := at' k (pos k c + 1)
def up (k : Fin 6) (c : Dev nD) : Dev nD := at' k (pos k c + 31)
/-- The place whose chunk device `c` sends in copy `g`. -/
def lab (k : Fin 6) (c : Dev nD) (g : ℕ) : ℕ := (pos k c + 64 - g) % 32

theorem chunkOf_mod (k : Fin 6) (n : ℕ) : chunkOf k (n % 32) = chunkOf k n := by unfold chunkOf; rw [Nat.mod_mod]
theorem at'_mod (k : Fin 6) (n : ℕ) : at' k (n % 32) = at' k n := by unfold at'; simp only [chunkOf_mod]
theorem chunkOf_lt (k : Fin 6) (n : ℕ) : chunkOf k n < 32 := by unfold chunkOf; split <;> exact Nat.mod_lt _ (by decide)
theorem pos_lt (k : Fin 6) (c : Dev nD) : pos k c < 32 := chunkOf_lt k _
theorem lab_lt (k : Fin 6) (c : Dev nD) (g : ℕ) : lab k c g < 32 := Nat.mod_lt _ (by decide)
theorem rp_lt : ∀ (k : Fin 6) (c : Dev nD), rp k c < 32 := by decide +kernel
theorem at_pos : ∀ (k : Fin 6) (c : Dev nD), at' k (pos k c) = c := by decide +kernel
theorem pos_at_lt : ∀ (k : Fin 6) (n : Fin 32), pos k (at' k n.val) = n.val := by decide +kernel
theorem pos_at (k : Fin 6) (n : ℕ) : pos k (at' k n) = n % 32 := by
  rw [← at'_mod]; exact pos_at_lt k ⟨n % 32, Nat.mod_lt _ (by decide)⟩
theorem chunkOf_chunkOf_lt : ∀ (k : Fin 6) (n : Fin 32), chunkOf k (chunkOf k n.val) = n.val := by decide +kernel
theorem chunkOf_chunkOf (k : Fin 6) (n : ℕ) : chunkOf k (chunkOf k n) = n % 32 := by
  rw [← chunkOf_mod k n]; exact chunkOf_chunkOf_lt k ⟨n % 32, Nat.mod_lt _ (by decide)⟩
theorem chunkOf_pos (k : Fin 6) (c : Dev nD) : chunkOf k (pos k c) = rp k c := by
  unfold pos; rw [chunkOf_chunkOf, Nat.mod_eq_of_lt (rp_lt k c)]
theorem pos_dn (k : Fin 6) (c : Dev nD) : pos k (dn k c) = (pos k c + 1) % 32 := pos_at k _
theorem pos_up (k : Fin 6) (c : Dev nD) : pos k (up k c) = (pos k c + 31) % 32 := pos_at k _
theorem up_dn : ∀ (k : Fin 6) (c : Dev nD), up k (dn k c) = c := by decide +kernel
theorem dn_up : ∀ (k : Fin 6) (c : Dev nD), dn k (up k c) = c := by decide +kernel
theorem up_op : ∀ (k : Fin 6) (c : Dev nD), up (op k) c = dn k c := by decide +kernel
theorem dn_op : ∀ (k : Fin 6) (c : Dev nD), dn (op k) c = up k c := by decide +kernel
theorem op_op : ∀ k : Fin 6, op (op k) = k := by decide

theorem lab_up (k : Fin 6) (c : Dev nD) {g : ℕ} (h : g ≤ 63) : lab k (up k c) g = lab k c (g + 1) := by
  unfold lab; rw [pos_up]; omega
theorem lab_dn (k : Fin 6) (c : Dev nD) {g : ℕ} (h : g ≤ 63) : lab k (dn k c) (g + 1) = lab k c g := by
  unfold lab; rw [pos_dn]; omega
theorem lab_zero (k : Fin 6) (c : Dev nD) : lab k c 0 = pos k c := by
  unfold lab; have := pos_lt k c; omega
theorem lab_inj (k : Fin 6) (c : Dev nD) {g h : ℕ} (hg : 31 ≤ g) (hg' : g < 63) (hh : 31 ≤ h) (hh' : h < 63)
    (e : lab k c g = lab k c h) : g = h := by
  unfold lab at e; have := pos_lt k c; omega

/-! ### The table that a device reads -/

/-- The nine words that the kernel reads: per cycle the device's place, its left neighbour, its right neighbour. -/
def idTab (c : Dev nD) (n : Fin 9) : BitVec 32 := match n with
  | 0 => BitVec.ofNat 32 (rp 0 c) | 1 => BitVec.ofNat 32 (up 0 c).val | 2 => BitVec.ofNat 32 (dn 0 c).val
  | 3 => BitVec.ofNat 32 (rp 2 c) | 4 => BitVec.ofNat 32 (up 2 c).val | 5 => BitVec.ofNat 32 (dn 2 c).val
  | 6 => BitVec.ofNat 32 (rp 4 c) | 7 => BitVec.ofNat 32 (up 4 c).val | 8 => BitVec.ofNat 32 (dn 4 c).val

theorem idTab_iR : ∀ (k : Fin 6) (c : Dev nD), idTab c (iR k) = BitVec.ofNat 32 (rp k c) := by decide +kernel
theorem idTab_iU : ∀ (k : Fin 6) (c : Dev nD), idTab c (iU k) = BitVec.ofNat 32 (up k c).val := by decide +kernel
theorem idTab_iD : ∀ (k : Fin 6) (c : Dev nD), idTab c (iD k) = BitVec.ofNat 32 (dn k c).val := by decide +kernel

/-! ### Closed forms -/

theorem dev13_eq : ∀ d : Dev nD, k0_dev13 (BitVec.ofNat 32 d.val) = d.val := by decide +kernel
theorem dev7_eq : ∀ d : Dev nD, k0_dev7 (BitVec.ofNat 32 d.val) = d.val := by decide +kernel
theorem dev14_eq : ∀ d : Dev nD, k0_dev14 (BitVec.ofNat 32 d.val) = d.val := by decide +kernel
theorem dev26_eq : ∀ d : Dev nD, k0_dev26 (BitVec.ofNat 32 d.val) = d.val := by decide +kernel
theorem chk25_ok : ∀ d : Dev nD, k0_chk25 (BitVec.ofNat 32 d.val) := by decide +kernel
theorem chk13_ok : ∀ d : Dev nD, k0_chk13 (BitVec.ofNat 32 d.val) := by decide +kernel
theorem chk26_ok : ∀ (t : Fin k0_t1_loop.trips) (d : Dev nD), k0_chk26 t (BitVec.ofNat 32 d.val) := by decide +kernel
theorem chk45_ok : ∀ (t : Fin k0_t2_loop.trips) (d : Dev nD), k0_chk45 t (BitVec.ofNat 32 d.val) := by decide +kernel

theorem trips1 : k0_t1_loop.trips = 31 := by decide +kernel
theorem trips2 : k0_t2_loop.trips = 31 := by decide +kernel
theorem lt_trips1 (t : Fin k0_t1_loop.trips) : t.val < 31 := lt_of_lt_of_eq t.isLt trips1
theorem lt_trips2 (t : Fin k0_t2_loop.trips) : t.val < 31 := lt_of_lt_of_eq t.isLt trips2

theorem off25_eq : ∀ t : Fin k0_t1_loop.trips, k0_off25 t 1 = t.val % 3 := by decide +kernel
theorem off26_eq : ∀ t : Fin k0_t1_loop.trips, k0_off26 t = ![t.val % 3, 0, 0] := by decide +kernel
theorem off27_eq : ∀ t : Fin k0_t1_loop.trips, k0_off27 t = ![(t.val + 2) % 3, 0, 0] := by decide +kernel
theorem off28_eq : ∀ t : Fin k0_t1_loop.trips, k0_off28 t = ![t.val % 3, 0, 0] := by decide +kernel
theorem off29_eq : ∀ t : Fin k0_t1_loop.trips, k0_off29 t 1 = (t.val + 2) % 3 := by decide +kernel
theorem off30_eq : ∀ t : Fin k0_t1_loop.trips, k0_off30 t 1 = t.val % 3 := by decide +kernel
theorem off31_eq : ∀ t : Fin k0_t1_loop.trips, k0_off31 t 1 = (t.val + 1) % 3 := by decide +kernel
theorem off32_eq : ∀ t : Fin k0_t1_loop.trips, k0_off32 t = ![(t.val + 1) % 3, 0, 0] := by decide +kernel
theorem off33_eq : ∀ t : Fin k0_t1_loop.trips, k0_off33 t = ![t.val % 3, 0, 0] := by decide +kernel
theorem off85_eq : ∀ t : Fin k0_t2_loop.trips, k0_off85 t 1 = (t.val + 31) % 3 := by decide +kernel
theorem off86_eq : ∀ t : Fin k0_t2_loop.trips, k0_off86 t = ![(t.val + 31) % 3, 0, 0] := by decide +kernel
theorem off87_eq : ∀ t : Fin k0_t2_loop.trips, k0_off87 t = ![(t.val + 33) % 3, 0, 0] := by decide +kernel
theorem off91_eq : ∀ t : Fin k0_t2_loop.trips, k0_off91 t = ![(t.val + 31) % 3, 0, 0] := by decide +kernel
theorem off92_eq : ∀ t : Fin k0_t2_loop.trips, k0_off92 t 1 = (t.val + 33) % 3 := by decide +kernel
theorem off94_eq : ∀ t : Fin k0_t2_loop.trips, k0_off94 t 1 = (t.val + 31) % 3 := by decide +kernel
theorem off95_eq : ∀ t : Fin k0_t2_loop.trips, k0_off95 t 1 = (t.val + 32) % 3 := by decide +kernel
theorem off96_eq : ∀ t : Fin k0_t2_loop.trips, k0_off96 t = ![(t.val + 32) % 3, 0, 0] := by decide +kernel
theorem off97_eq : ∀ t : Fin k0_t2_loop.trips, k0_off97 t = ![(t.val + 31) % 3, 0, 0] := by decide +kernel

theorem off1_eq : ∀ r : Fin 32, k0_off1 (BitVec.ofNat 32 r.val) = ![128 * r.val, 0] := by decide +kernel
theorem off19_eq : ∀ (t : Fin k0_t1_loop.trips) (r : Fin 32),
    k0_off19 t (BitVec.ofNat 32 r.val) = ![128 * ((r.val + 63 - t.val) % 32), 0] := by decide +kernel
theorem off20_eq : ∀ (t : Fin k0_t1_loop.trips) (r : Fin 32),
    k0_off20 t (BitVec.ofNat 32 r.val) = ![128 * ((r.val + t.val + 1) % 32), 0] := by decide +kernel
theorem off79_eq : ∀ r : Fin 32, k0_off79 (BitVec.ofNat 32 r.val) 0 = 128 * ((r.val + 33) % 32) := by decide +kernel
theorem off80_eq : ∀ r : Fin 32, k0_off80 (BitVec.ofNat 32 r.val) 0 = 128 * ((r.val + 31) % 32) := by decide +kernel
theorem off90_eq : ∀ (t : Fin k0_t2_loop.trips) (r : Fin 32),
    k0_off90 t (BitVec.ofNat 32 r.val) 0 = 128 * ((r.val + 32 - t.val) % 32) := by decide +kernel
theorem off101_eq : ∀ (t : Fin k0_t2_loop.trips) (r : Fin 32),
    k0_off101 t (BitVec.ofNat 32 r.val) 0 = 128 * ((r.val + t.val) % 32) := by decide +kernel

/-- The chunk of a place. -/
theorem chunk_even (k : Fin 6) (hk : k.val % 2 = 0) (c : Dev nD) {g : ℕ} (h : g ≤ 64) :
    chunkOf k (lab k c g) = (rp k c + 64 - g) % 32 := by
  have := rp_lt k c
  unfold lab pos chunkOf; rw [if_pos hk, if_pos hk]; omega
theorem chunk_odd (k : Fin 6) (hk : ¬ k.val % 2 = 0) (c : Dev nD) {g : ℕ} (h : g ≤ 64) :
    chunkOf k (lab k c g) = (rp k c + g) % 32 := by
  have := rp_lt k c
  unfold lab pos chunkOf; rw [if_neg hk, if_neg hk]; omega

theorem row0_eq (k : Fin 6) (c : Dev nD) : k0_off1 (idTab c (iR k)) = ![128 * chunkOf k (lab k c 0), 0] := by
  rw [idTab_iR, lab_zero, chunkOf_pos]; exact off1_eq ⟨rp k c, rp_lt k c⟩
theorem rowFill_even (k : Fin 6) (hk : k.val % 2 = 0) (c : Dev nD) (t : Fin k0_t1_loop.trips) :
    k0_off19 t (idTab c (iR k)) = ![128 * chunkOf k (lab k c (t.val + 1)), 0] := by
  have := lt_trips1 t
  rw [idTab_iR, chunk_even k hk c (by omega), off19_eq t ⟨rp k c, rp_lt k c⟩]
  congr 3; show rp k c + 63 - t.val = _; omega
theorem rowFill_odd (k : Fin 6) (hk : ¬ k.val % 2 = 0) (c : Dev nD) (t : Fin k0_t1_loop.trips) :
    k0_off20 t (idTab c (iR k)) = ![128 * chunkOf k (lab k c (t.val + 1)), 0] := by
  have := lt_trips1 t
  rw [idTab_iR, chunk_odd k hk c (by omega), off20_eq t ⟨rp k c, rp_lt k c⟩]
  congr 3
theorem rowMid_eq (k : Fin 6) (c : Dev nD) : rowMid k (idTab c (iR k)) = 128 * chunkOf k (lab k c 31) := by
  unfold rowMid; rw [idTab_iR]
  split
  · next hk => rw [chunk_even k hk c (by omega), off79_eq ⟨rp k c, rp_lt k c⟩]; show 128 * ((rp k c + 33) % 32) = _; omega
  · next hk => rw [chunk_odd k hk c (by omega), off80_eq ⟨rp k c, rp_lt k c⟩]
theorem rowAG_eq (k : Fin 6) (c : Dev nD) (t : Fin k0_t2_loop.trips) :
    rowAG k t (idTab c (iR k)) = 128 * chunkOf k (lab k c (t.val + 32)) := by
  have := lt_trips2 t
  unfold rowAG; rw [idTab_iR]
  split
  · next hk =>
    rw [chunk_even k hk c (by omega), off90_eq t ⟨rp k c, rp_lt k c⟩]
    congr 1; show (rp k c + 32 - t.val) % 32 = _; omega
  · next hk =>
    rw [chunk_odd k hk c (by omega), off101_eq t ⟨rp k c, rp_lt k c⟩]
    congr 1; show (rp k c + t.val) % 32 = _; omega

theorem chkX (n : Fin 32) : ∀ a, (![128 * n.val, 0] : Fin 2 → ℕ) a + S128x128.size a ≤ S4096x128.size a := by
  revert n; decide
theorem chkOut_row (k : Fin 6) (n : ℕ) : ChkOut k (128 * chunkOf k n) := by
  have := chunkOf_lt k n
  intro a; fin_cases a
  · show 128 * chunkOf k n + 128 ≤ 4096; omega
  · show co k + wd k ≤ 8192; fin_cases k <;> decide

end Cert.Proof

end
-- ==== Proof.Protocol.lean ====
/-
  The protocol of the six streams: what each device's copies carry, the semaphore cells of a device, the schedule of what
  is credited to each cell and what each credit hands over, the levels, and what a device owes.

  A stream's copy number `g` (0..61) goes into slot `g % 3` of the next device and comes out of slot `(g + 2) % 3`. The first
  31 copies carry running sums, the others finished chunks. The credit that a reader returns in step `j` says that it has
  released the slot of copy `j + 2`.
-/
module

public import proofs.«01_k».proof.Proof.Tables
public import Idealize.ShloMosaic.Lib.Pipeline.Regions
public import Idealize.ShloMosaic.Lib.Pipeline.Kit
public import Idealize.ShloMosaic.Lib.Pipeline.RegionTalk
public import Idealize.ShloMosaic.Lib.StableHlo
public import Idealize.ShloMosaic.Lib.Tactic
public import Idealize.ShloMosaic.PureOps
public import Idealize.ShloMosaic.Harness.Basic
public import Mathlib.Algebra.BigOperators.Intervals
public import Idealize.ShloMosaic.Lib.Rounds
public import Idealize.ShloMosaic.Lib.Release
public import Idealize.ShloMosaic.Lib.MemrefSat
public import Idealize.ShloMosaic.Lib.Pipeline.FrameBody

@[expose] public section

set_option maxRecDepth 65536

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ### The numbers -/

/-- What the devices' staged arguments hold. -/
structure Inp (F : FTy → Type) where
  x : Dev nD → Vec F S4096x128 .fp8e5m2
  w : Dev nD → Vec F S128x8192 .fp8e5m2
  sx : Dev nD → Vec F S1 .f32
  sw : Dev nD → Vec F S1 .f32

/-- The one index of a one-element vector. -/
abbrev z1 : S1.Idx := Shape.Idx.first (numel1_S1 ▸ Nat.one_pos)

/-- Device `d`'s scale; its narrowed weights; its rows of the chunk of place `n`; its columns of stream `k`. -/
def Inp.scale (D : Inp F) (d : Dev nD) : F .f32 := k0_pay13 (D.sx d z1) (D.sw d z1)
def Inp.wb (D : Inp F) (d : Dev nD) : Vec F S128x8192 .bf16 := k0_pay14 (D.w d)
theorem inX (k : Fin 6) (n : ℕ) : ∀ a, (![128 * chunkOf k n, 0] : Fin 2 → ℕ) a + S128x128.size a ≤ S4096x128.size a :=
  chkX ⟨chunkOf k n, chunkOf_lt k n⟩
def Inp.xr (D : Inp F) (k : Fin 6) (d : Dev nD) (n : ℕ) : Vec F S128x128 .fp8e5m2 :=
  View.ld (Val := Elt F) (D.x d) (Rect.unit (s := S4096x128) ![128 * chunkOf k n, 0] S128x128.size (inX k n))
def Inp.wc (D : Inp F) (k : Fin 6) (d : Dev nD) : Vec F (Sq2 k) .bf16 :=
  View.ld (Val := Elt F) (D.wb d) (Rect.unit (s := S128x8192) ![0, co k] (Sq2 k).size (inCol k))

/-- Device `d`'s scaled product of the chunk of place `n`. -/
def Inp.part (D : Inp F) (k : Fin 6) (d : Dev nD) (n : ℕ) : FVec F (Sq2 k) .f32 := payP k (D.scale d) (D.xr k d n) (D.wc k d)

/-- The chunk of place `q` after `n` additions. -/
def Inp.acc (D : Inp F) (k : Fin 6) (q : ℕ) : ℕ → FVec F (Sq2 k) .f32
  | 0 => D.part k (at' k q) q
  | n + 1 => addf (Inp.acc D k q n) (D.part k (at' k (q + n + 1)) q)

/-- What device `c`'s copy `g` carries. -/
def Inp.ct (D : Inp F) (k : Fin 6) (c : Dev nD) (g : ℕ) : FVec F (Sq2 k) .f32 := D.acc k (lab k c g) (min g 31)

theorem Inp.ct_zero (D : Inp F) (k : Fin 6) (c : Dev nD) : D.ct k c 0 = D.part k c (lab k c 0) := by
  show D.part k (at' k (lab k c 0)) (lab k c 0) = _
  rw [show at' k (lab k c 0) = c by rw [lab_zero, at_pos]]

theorem at_lab (k : Fin 6) (c : Dev nD) {g : ℕ} (hg : g ≤ 64) : at' k (lab k c g + g) = c := by
  rw [← at'_mod, show (lab k c g + g) % 32 = pos k c by unfold lab; have := pos_lt k c; omega, at_pos]

/-- A reduce-scatter step: what came, plus the device's own product. -/
theorem Inp.ct_add (D : Inp F) (k : Fin 6) (c : Dev nD) {g : ℕ} (hg : g < 31) :
    addf (D.ct k (up k c) g) (D.part k c (lab k c (g + 1))) = D.ct k c (g + 1) := by
  unfold Inp.ct
  rw [lab_up k c (by omega), min_eq_left (by omega : g ≤ 31), min_eq_left (by omega : g + 1 ≤ 31)]
  show _ = addf (D.acc k _ g) (D.part k (at' k (lab k c (g + 1) + g + 1)) _)
  rw [show lab k c (g + 1) + g + 1 = lab k c (g + 1) + (g + 1) by omega, at_lab k c (by omega)]

/-- An all-gather step: what came goes on. -/
theorem Inp.ct_fwd (D : Inp F) (k : Fin 6) (c : Dev nD) {g : ℕ} (hg : 31 ≤ g) (hg' : g ≤ 63) :
    D.ct k (up k c) g = D.ct k c (g + 1) := by
  unfold Inp.ct
  rw [lab_up k c (by omega), min_eq_right hg, min_eq_right (by omega)]

/-! ### Views and cells -/

theorem inSlot (k : Fin 6) (n : ℕ) : ∀ a, (![n % 3, 0, 0] : Fin 3 → ℕ) a + (Sq1 k).size a ≤ (Sq3 k).size a := by
  intro a
  have := Nat.mod_lt n (show 0 < 3 by decide)
  fin_cases a
  · show n % 3 + 1 ≤ 3; omega
  · show 0 + 128 ≤ 128; omega
  · show 0 + wd k ≤ wd k; omega

/-- Slot `n % 3` of stream `k`. -/
abbrev slotM (k : Fin 6) (n : ℕ) : Memref sig .tc .vmem (Sq2 k) .f32 := slotAt k ![n % 3, 0, 0] (inSlot k n)

theorem slot_eq (k : Fin 6) (n : ℕ) {off : Fin 3 → ℕ} (h) (e : off = ![n % 3, 0, 0]) : slotAt k off h = slotM k n := by
  subst e; rfl
theorem slot_mod (k : Fin 6) {n n' : ℕ} (e : n % 3 = n' % 3) : slotM k n = slotM k n' :=
  slot_eq k n' _ (by rw [e])

/-- Stream `k`'s rectangle of the result, of the chunk of place `n`. -/
abbrev outL (k : Fin 6) (n : ℕ) : Memref sig .tc .hbm (Sq2 k) .f32 := outAt k (128 * chunkOf k n) (chkOut_row k n)
theorem out_eq (k : Fin 6) (n : ℕ) {row : ℕ} (h) (e : row = 128 * chunkOf k n) : outAt k row h = outL k n := by subst e; rfl

abbrev sendS (k : Fin 6) (g : ℕ) : DmaSem sig := semAt cc0_scratch13 k (g % 3) (Nat.mod_lt _ (by decide))
abbrev recvS (k : Fin 6) (g : ℕ) : DmaSem sig := semAt cc0_scratch14 k (g % 3) (Nat.mod_lt _ (by decide))
theorem sem_eq (A : DmaSems sig S6x3) (k : Fin 6) (g : ℕ) {n : ℕ} (h : n < 3) (e : n = g % 3) :
    semAt A k n h = semAt A k (g % 3) (Nat.mod_lt _ (by decide)) := by subst e; rfl

/-- The cells of device `c`: where copy `g` is credited at its source and at its target, the store's, the credits', the
    barrier's. -/
abbrev sendC (c : Dev nD) (k : Fin 6) (g : ℕ) : GSem nD τ sig := ((c : Thread nD τ), .dma (sendS k (g + 2)))
abbrev recvC (c : Dev nD) (k : Fin 6) (g : ℕ) : GSem nD τ sig := ((c : Thread nD τ), .dma (recvS k g))
abbrev storeC (c : Dev nD) (k : Fin 6) : GSem nD τ sig := ((c : Thread nD τ), .dma (storeS k))
abbrev credC (c : Dev nD) (k : Fin 6) : GSem nD τ sig := ((c : Thread nD τ), .reg (credS k))
abbrev barC (c : Dev nD) : GSem nD τ sig := ((c : Thread nD τ), .reg barS)

theorem recvC_add3 (c : Dev nD) (k : Fin 6) (g : ℕ) : recvC c k (g + 3) = recvC c k g := by
  unfold recvC recvS; rw [sem_eq cc0_scratch14 k g (n := (g + 3) % 3) _ (by omega)]
theorem sendC_add3 (c : Dev nD) (k : Fin 6) (g : ℕ) : sendC c k (g + 3) = sendC c k g := by
  unfold sendC sendS; rw [sem_eq cc0_scratch13 k (g + 2) (n := (g + 3 + 2) % 3) _ (by omega)]

/-- A semaphore's part. -/
inductive Kind' where
  | send (k : Fin 6) (i : ℕ) | recv (k : Fin 6) (i : ℕ) | store (k : Fin 6) | cred (k : Fin 6) | bar | other
  deriving DecidableEq

/-- The stream with the given number. -/
abbrev f6 (n : ℕ) : Fin 6 := ⟨n % 6, Nat.mod_lt _ (by decide)⟩

/-- The part that a semaphore plays, by its number. -/
def kind : SemLoc sig → Kind'
  | .dma s => if s.val < 5 then .other else if s.val < 23 then .send (f6 ((s.val - 5) / 3)) ((s.val - 5) % 3)
      else if s.val < 41 then .recv (f6 ((s.val - 23) / 3)) ((s.val - 23) % 3) else .store (f6 (s.val - 41))
  | .reg s => if s.val < 6 then .cred (f6 s.val) else .bar

theorem kind_send' : ∀ (k : Fin 6) (i : Fin 3), kind (.dma (sendS k i.val)) = .send k i.val := by decide +kernel
theorem kind_recv' : ∀ (k : Fin 6) (i : Fin 3), kind (.dma (recvS k i.val)) = .recv k i.val := by decide +kernel
theorem kind_store : ∀ k : Fin 6, kind (.dma (storeS k)) = .store k := by decide +kernel
theorem kind_cred : ∀ k : Fin 6, kind (.reg (credS k)) = .cred k := by decide +kernel
theorem kind_bar : kind (.reg barS) = .bar := by decide +kernel
theorem kind_send (k : Fin 6) (g : ℕ) : kind (.dma (sendS k g)) = .send k (g % 3) := by
  have := kind_send' k ⟨g % 3, Nat.mod_lt _ (by decide)⟩
  rw [← this]; unfold sendS; rw [sem_eq cc0_scratch13 k (g % 3) (n := g % 3) _ (by omega)]
theorem kind_recv (k : Fin 6) (g : ℕ) : kind (.dma (recvS k g)) = .recv k (g % 3) := by
  have := kind_recv' k ⟨g % 3, Nat.mod_lt _ (by decide)⟩
  rw [← this]; unfold recvS; rw [sem_eq cc0_scratch14 k (g % 3) (n := g % 3) _ (by omega)]

/-- What one copy of stream `k` is credited. -/
def N (k : Fin 6) : ℕ := (slotM k 0).view.dmaCredit
theorem N_pos (k : Fin 6) : 0 < N k := View.dmaCredit_pos _ (numSq2 k)
theorem slot_credit (k : Fin 6) (off h) : (slotAt k off h).view.dmaCredit = N k := by
  fin_cases k <;> rfl
theorem out_credit (k : Fin 6) (row : ℕ) (h) : (outAt k row h).view.dmaCredit = N k := by
  fin_cases k <;> rfl

/-! ### The resource algebra -/

/-- The key of a slot: its device, its stream, its number. -/
abbrev Key := Dev nD × Fin 6 × ℕ
/-- The protocol's part of the algebra: rounds of the cells, and the slots' releases. -/
abbrev UP : Type := URounds (GSem nD τ sig) ℕ × USlots Key
abbrev UU : Type := UR sig nD τ × UP

local notation "𝕄" => MT nD τ sig ℕ (Elt F) ℕ UU ℕ

abbrev EP : Emb (UR sig nD τ) (MT nD τ sig ℕ (Elt F) ℕ UU ℕ) := embL
def EX : Emb UP (MT nD τ sig ℕ (Elt F) ℕ UU ℕ) := embR
def ER : Emb (URounds (GSem nD τ sig) ℕ) (MT nD τ sig ℕ (Elt F) ℕ UU ℕ) := Emb.inl.trans EX
def EK : Emb (USlots Key) (MT nD τ sig ℕ (Elt F) ℕ UU ℕ) := Emb.inr.trans EX
instance EX_lands : (EX (F := F)).LandsIn (upEmb : UEmb _ 𝕄) := by unfold EX; infer_instance
instance ER_lands : (ER (F := F)).LandsIn (upEmb : UEmb _ 𝕄) := by unfold ER; infer_instance
instance EK_lands : (EK (F := F)).LandsIn (upEmb : UEmb _ 𝕄) := by unfold EK; infer_instance

abbrev 𝒱₀ : Variants := Variants.none

/-- A half of an ownership. -/
abbrev hL : PosShare TreeShare := fullShare.left
abbrev hR : PosShare TreeShare := fullShare.right

/-- A view of device `c`'s at the given values. -/
abbrev own' (c : Dev nD) {sp : Space} {s : Shape} {e : EltTy} (m : Memref sig .tc sp s e) (q : PosShare TreeShare)
    (X : s.Idx → Elt F e) : sProp 𝕄 := owns (c : Thread nD τ) m q X

/-! ### The schedule -/

/-- The key of copy `g`'s slot on device `d`, and what the slot is. -/
abbrev keyOf (d : Dev nD) (k : Fin 6) (g : ℕ) : Key := (d, k, g % 3)
def slotS (x : Key) : sProp 𝕄 := iprop(∃ X, own' x.1 (slotM x.2.1 x.2.2) fullShare X)
instance slotS_storable (x : Key) : BI.Storable (upEmb : UEmb _ 𝕄) (slotS (F := F) x) := by unfold slotS; infer_instance

/-- Device `d` has released the slot of copy `g`, and its cell is ready for the copy. -/
def Rel (d : Dev nD) (k : Fin 6) (g : ℕ) : sProp 𝕄 :=
  iprop(released EK (keyOf d k g) (g / 3 + 1) ∗ reached ER (recvC d k g) (g / 3))
instance Rel_persistent (d : Dev nD) (k : Fin 6) (g : ℕ) : BI.Persistent (Rel (F := F) d k g) := by unfold Rel; infer_instance
instance Rel_storable (d : Dev nD) (k : Fin 6) (g : ℕ) : BI.Storable (upEmb : UEmb _ 𝕄) (Rel (F := F) d k g) := by
  unfold Rel; infer_instance
/-- All of the copies up to `n`. -/
def Rels (d : Dev nD) (k : Fin 6) (n : ℕ) : sProp 𝕄 := bigSep (Finset.range (n + 1)) (Rel d k)
instance Rels_persistent (d : Dev nD) (k : Fin 6) (n : ℕ) : BI.Persistent (Rels (F := F) d k n) := by unfold Rels; infer_instance
instance Rels_storable (d : Dev nD) (k : Fin 6) (n : ℕ) : BI.Storable (upEmb : UEmb _ 𝕄) (Rels (F := F) d k n) := by
  unfold Rels; infer_instance

/-- What the neighbour that stream `k` leads to says at the barrier. -/
def barPay (d : Dev nD) (k : Fin 6) : sProp 𝕄 :=
  iprop(Rel (dn k d) k 0 ∗ Rel (dn k d) k 1 ∗ reached ER (credC (dn k d) (op k)) 0)
instance barPay_persistent (d : Dev nD) (k : Fin 6) : BI.Persistent (barPay (F := F) d k) := by unfold barPay; infer_instance
instance barPay_storable (d : Dev nD) (k : Fin 6) : BI.Storable (upEmb : UEmb _ 𝕄) (barPay (F := F) d k) := by
  unfold barPay; infer_instance

def sendPay (D : Inp F) (d : Dev nD) (k : Fin 6) (g : ℕ) : sProp 𝕄 := own' d (slotM k (g + 2)) hL (D.ct k d g)
def recvPay (D : Inp F) (d : Dev nD) (k : Fin 6) (g : ℕ) : sProp 𝕄 := own' d (slotM k g) fullShare (D.ct k (up k d) g)
def storePay (D : Inp F) (d : Dev nD) (k : Fin 6) (r : ℕ) : sProp 𝕄 :=
  iprop(own' d (outL k (lab k d (31 + r))) fullShare (D.ct k d (31 + r)) ∗ own' d (slotM k (30 + r)) hR (D.ct k d (31 + r)))
instance sendPay_storable (D : Inp F) (d k g) : BI.Storable (upEmb : UEmb _ 𝕄) (sendPay D d k g) := by unfold sendPay; infer_instance
instance recvPay_storable (D : Inp F) (d k g) : BI.Storable (upEmb : UEmb _ 𝕄) (recvPay D d k g) := by unfold recvPay; infer_instance
instance storePay_storable (D : Inp F) (d k r) : BI.Storable (upEmb : UEmb _ 𝕄) (storePay D d k r) := by unfold storePay; infer_instance

/-- The duties of a part in a round. -/
def dutiesOf (t : Kind') (r : ℕ) : Finset ℕ := match t with
  | .send _ i => if 3 * r + (i + 1) % 3 < 62 then {0} else ∅
  | .recv _ i => if 3 * r + i < 62 then {0} else ∅
  | .store _ => if r < 32 then {0} else ∅
  | .cred _ => if r = 0 then Finset.range 62 else ∅
  | .bar => if r = 0 then Finset.range 6 else ∅
  | .other => ∅

def amountOf (t : Kind') : ℕ := match t with
  | .send k _ => N k | .recv k _ => N k | .store k => N k | _ => 1

def payOf (D : Inp F) (d : Dev nD) (t : Kind') (r j : ℕ) : sProp 𝕄 := match t with
  | .send k i => sendPay D d k (3 * r + (i + 1) % 3)
  | .recv k i => recvPay D d k (3 * r + i)
  | .store k => storePay D d k r
  | .cred k => Rels (dn k d) k (j + 2)
  | .bar => barPay d (f6 j)
  | .other => iprop(emp)
instance payOf_storable (D : Inp F) (d t r j) : BI.Storable (upEmb : UEmb _ 𝕄) (payOf D d t r j) := by
  cases t <;> (unfold payOf; infer_instance)

/-- The schedule of the six streams. -/
def Rd (D : Inp F) : Rounds.Schedule (GSem nD τ sig) ℕ 𝕄 where
  duties g r := dutiesOf (kind g.2) r
  unitless _ := False
  amount g _ _ := amountOf (kind g.2)
  payload g r j := payOf D g.1.1 (kind g.2) r j
  amount_pos g _ _ _ := by
    cases kind g.2 <;> first | exact N_pos _ | exact Nat.one_pos
instance Rd_storable (D : Inp F) (g : GSem nD τ sig) (r j : ℕ) : BI.Storable (upEmb : UEmb _ 𝕄) ((Rd D).payload g r j) := by
  show BI.Storable upEmb (payOf D g.1.1 (kind g.2) r j); infer_instance

theorem Rd_duties (D : Inp F) (g : GSem nD τ sig) (r : ℕ) : (Rd D).duties g r = dutiesOf (kind g.2) r := rfl
theorem Rd_amount (D : Inp F) (g : GSem nD τ sig) (r j : ℕ) : (Rd D).amount g r j = amountOf (kind g.2) := rfl
theorem Rd_payload (D : Inp F) (g : GSem nD τ sig) (r j : ℕ) : (Rd D).payload g r j = payOf D g.1.1 (kind g.2) r j := rfl

section Sched
variable (D : Inp F) (c : Dev nD) (k : Fin 6)

theorem duties_send {g : ℕ} (hg : g < 62) : (Rd D).duties (sendC c k g) (g / 3) = {0} := by
  show dutiesOf (kind (.dma (sendS k (g + 2)))) _ = _
  rw [kind_send]; exact if_pos (by omega)
theorem duties_recv {g : ℕ} (hg : g < 62) : (Rd D).duties (recvC c k g) (g / 3) = {0} := by
  show dutiesOf (kind (.dma (recvS k g))) _ = _
  rw [kind_recv]; exact if_pos (by omega)
theorem duties_store {r : ℕ} (hr : r < 32) : (Rd D).duties (storeC c k) r = {0} := by
  show dutiesOf (kind (.dma (storeS k))) _ = _
  rw [kind_store]; exact if_pos hr
theorem duties_cred : (Rd D).duties (credC c k) 0 = Finset.range 62 := by
  rw [Rd_duties, kind_cred]; unfold dutiesOf; exact if_pos rfl
theorem duties_bar : (Rd D).duties (barC c) 0 = Finset.range 6 := by
  rw [Rd_duties, kind_bar]; unfold dutiesOf; exact if_pos rfl

theorem done_send {g : ℕ} (hg : 62 ≤ g) : ∀ r, g / 3 ≤ r → (Rd D).duties (sendC c k g) r = ∅ := fun r hr => by
  show dutiesOf (kind (.dma (sendS k (g + 2)))) _ = _
  rw [kind_send]; exact if_neg (by omega)
theorem done_recv {g : ℕ} (hg : 62 ≤ g) : ∀ r, g / 3 ≤ r → (Rd D).duties (recvC c k g) r = ∅ := fun r hr => by
  show dutiesOf (kind (.dma (recvS k g))) _ = _
  rw [kind_recv]; exact if_neg (by omega)
theorem done_store : ∀ r, 32 ≤ r → (Rd D).duties (storeC c k) r = ∅ := fun r hr => by
  show dutiesOf (kind (.dma (storeS k))) _ = _
  rw [kind_store]; exact if_neg (by omega)
theorem done_cred : ∀ r, 1 ≤ r → (Rd D).duties (credC c k) r = ∅ := fun r hr => by
  show dutiesOf (kind (.reg (credS k))) _ = _
  rw [kind_cred]; exact if_neg (by omega)
theorem done_bar : ∀ r, 1 ≤ r → (Rd D).duties (barC c) r = ∅ := fun r hr => by
  rw [Rd_duties, kind_bar]; exact if_neg (by omega)

theorem amount_send (g r j : ℕ) : (Rd D).amount (sendC c k g) r j = N k := by
  show amountOf (kind (.dma (sendS k (g + 2)))) = _; rw [kind_send]; rfl
theorem amount_recv (g r j : ℕ) : (Rd D).amount (recvC c k g) r j = N k := by
  show amountOf (kind (.dma (recvS k g))) = _; rw [kind_recv]; rfl
theorem amount_store (r j : ℕ) : (Rd D).amount (storeC c k) r j = N k := by
  show amountOf (kind (.dma (storeS k))) = _; rw [kind_store]; rfl
theorem amount_cred (r j : ℕ) : (Rd D).amount (credC c k) r j = 1 := by
  show amountOf (kind (.reg (credS k))) = _; rw [kind_cred]; rfl
theorem amount_bar (r j : ℕ) : (Rd D).amount (barC c) r j = 1 := by
  rw [Rd_amount, kind_bar]; rfl

theorem expect_send {g : ℕ} (hg : g < 62) : (Rd D).expect (sendC c k g) (g / 3) = N k := by
  unfold Schedule.expect Schedule.amountOf; rw [duties_send D c k hg, Finset.sum_singleton, amount_send]
theorem expect_recv {g : ℕ} (hg : g < 62) : (Rd D).expect (recvC c k g) (g / 3) = N k := by
  unfold Schedule.expect Schedule.amountOf; rw [duties_recv D c k hg, Finset.sum_singleton, amount_recv]
theorem expect_store {r : ℕ} (hr : r < 32) : (Rd D).expect (storeC c k) r = N k := by
  unfold Schedule.expect Schedule.amountOf; rw [duties_store D c k hr, Finset.sum_singleton, amount_store]
theorem expect_cred : (Rd D).expect (credC c k) 0 = 62 := by
  unfold Schedule.expect Schedule.amountOf; rw [duties_cred D c k]; simp only [amount_cred, Finset.sum_const, Finset.card_range]; rfl
theorem expect_bar : (Rd D).expect (barC c) 0 = 6 := by
  unfold Schedule.expect Schedule.amountOf; rw [duties_bar D c]; simp only [amount_bar, Finset.sum_const, Finset.card_range]; rfl

theorem pay_send (g : ℕ) : (Rd D).payload (sendC c k g) (g / 3) 0 = sendPay D c k g := by
  show payOf D c (kind (.dma (sendS k (g + 2)))) _ _ = _; rw [kind_send]
  show sendPay D c k _ = _; congr 1; omega
theorem pay_recv (g : ℕ) : (Rd D).payload (recvC c k g) (g / 3) 0 = recvPay D c k g := by
  show payOf D c (kind (.dma (recvS k g))) _ _ = _; rw [kind_recv]
  show recvPay D c k _ = _; congr 1; omega
theorem pay_store (r : ℕ) : (Rd D).payload (storeC c k) r 0 = storePay D c k r := by
  show payOf D c (kind (.dma (storeS k))) _ _ = _; rw [kind_store]; rfl
theorem pay_cred (j : ℕ) : (Rd D).payload (credC c k) 0 j = Rels (dn k c) k (j + 2) := by
  show payOf D c (kind (.reg (credS k))) _ _ = _; rw [kind_cred]; rfl
theorem pay_bar (j : ℕ) : (Rd D).payload (barC c) 0 j = barPay c (f6 j) := by
  rw [Rd_payload, kind_bar]; rfl

theorem rest_send {g : ℕ} (hg : g < 62) :
    bigSep ((Rd D).duties (sendC c k g) (g / 3) \ ∅) (fun u => (Rd D).payload (sendC c k g) (g / 3) u) = sendPay D c k g := by
  rw [Finset.sdiff_empty, duties_send D c k hg, bigSep_singleton, pay_send]
theorem rest_recv {g : ℕ} (hg : g < 62) :
    bigSep ((Rd D).duties (recvC c k g) (g / 3) \ ∅) (fun u => (Rd D).payload (recvC c k g) (g / 3) u) = recvPay D c k g := by
  rw [Finset.sdiff_empty, duties_recv D c k hg, bigSep_singleton, pay_recv]
theorem rest_store {r : ℕ} (hr : r < 32) :
    bigSep ((Rd D).duties (storeC c k) r \ ∅) (fun u => (Rd D).payload (storeC c k) r u) = storePay D c k r := by
  rw [Finset.sdiff_empty, duties_store D c k hr, bigSep_singleton, pay_store]
theorem rest_bar :
    bigSep ((Rd D).duties (barC c) 0 \ ∅) (fun u => (Rd D).payload (barC c) 0 u) = bigSep (Finset.range 6) (fun j => barPay (F := F) c (f6 j)) := by
  rw [Finset.sdiff_empty, duties_bar D c]; exact bigSep_congr fun j _ => pay_bar D c j

end Sched

/-! ### Levels, and what a device owes -/

/-- Every index is below 100; the scalar cores have none. -/
def L (g : GSem nD τ sig) : Finset ℕ := if g.1.2 = .tc then Finset.range 100 else ∅
/-- The order of the waits: the barrier, then a step's arrival, then its credit. -/
def lv (g : GSem nD τ sig) (n : ℕ) : ℕ := match kind g.2 with
  | .bar => 1 | .recv _ _ => 2 * n + 2 | .cred _ => 2 * n + 3 | _ => 0

theorem L_of_ne (g : GSem nD τ sig) (h : g.1.2 ≠ .tc) : L g = ∅ := if_neg h
theorem L_tc (c : Dev nD) (sm : SemLoc sig) : L ((c : Thread nD τ), sm) = Finset.range 100 := if_pos rfl
theorem lv_recv (c : Dev nD) (k : Fin 6) (g n : ℕ) : lv (recvC c k g) n = 2 * n + 2 := by
  unfold lv; rw [kind_recv]
theorem lv_cred (c : Dev nD) (k : Fin 6) (n : ℕ) : lv (credC c k) n = 2 * n + 3 := by
  unfold lv; rw [kind_cred]
theorem lv_bar (c : Dev nD) (n : ℕ) : lv (barC c) n = 1 := by
  unfold lv; rw [kind_bar]
theorem lv_send (c : Dev nD) (k : Fin 6) (g n : ℕ) : lv (sendC c k g) n = 0 := by
  unfold lv; rw [kind_send]
theorem lv_store (c : Dev nD) (k : Fin 6) (n : ℕ) : lv (storeC c k) n = 0 := by
  unfold lv; rw [kind_store]

/-- Everything owed lies above level `n`. -/
def Above (n : ℕ) (O : CellTallies nD τ sig ℕ) : Prop := ∀ g u, 0 < O g u → u ∈ L g ∧ n < lv g u

theorem Above.zero (n : ℕ) : Above n 0 := fun g u h => absurd h (Nat.lt_irrefl 0)
theorem Above.add {n : ℕ} {O O' : CellTallies nD τ sig ℕ} (h : Above n O) (h' : Above n O') : Above n (O + O') := fun g u hu => by
  rcases Nat.eq_zero_or_pos (O g u) with h0 | h0
  · refine h' g u ?_
    have : (O + O') g u = O g u + O' g u := rfl
    omega
  · exact h g u h0
theorem Above.sum {ι : Type} (n : ℕ) (s : Finset ι) (f : ι → CellTallies nD τ sig ℕ) (h : ∀ i ∈ s, Above n (f i)) :
    Above n (∑ i ∈ s, f i) := by
  classical
  induction s using Finset.induction_on with
  | empty => rw [Finset.sum_empty]; exact Above.zero n
  | insert a s ha ih =>
    rw [Finset.sum_insert ha]
    exact (h a (Finset.mem_insert_self _ _)).add (ih fun i hi => h i (Finset.mem_insert_of_mem hi))
theorem Above.mono {n n' : ℕ} (hn : n' ≤ n) {O : CellTallies nD τ sig ℕ} (h : Above n O) : Above n' O :=
  fun g u hu => ⟨(h g u hu).1, lt_of_le_of_lt hn (h g u hu).2⟩
theorem Above.tally {n : ℕ} (g : GSem nD τ sig) (u m : ℕ) (hL : u ∈ L g) (hn : n < lv g u) : Above n (tallyAt g u m) := fun g' u' h => by
  rw [tallyAt_apply] at h
  by_cases e : g' = g ∧ u' = u
  · rw [e.1, e.2]; exact ⟨hL, hn⟩
  · rw [if_neg e] at h; exact absurd h (Nat.lt_irrefl 0)

/-- What is awaited lies below all that is owed. -/
theorem Above.mayOwe {n : ℕ} {O : CellTallies nD τ sig ℕ} (h : Above n O) (c : Dev nD) (W : Waits sig ℕ)
    (hW : ∀ p ∈ W, p.2 < 100 ∧ lv ((c : Thread nD τ), p.1) p.2 ≤ n) :
    (levAts L lv : sProp 𝕄) ⊢ MayOwe (c : Thread nD τ) W O :=
  MayOwe.of_cut (L := L) (lev := lv) n
    (fun p hp => by rw [L_tc]; exact Finset.mem_range.mpr (hW p hp).1)
    (fun g u hu => (h g u hu).1) (fun p hp => (hW p hp).2) (fun g u hu => (h g u hu).2)
theorem Above.mayWait {n : ℕ} {O : CellTallies nD τ sig ℕ} (h : Above n O) (c : Dev nD) (sm : SemLoc sig) (u : ℕ)
    (hu : u < 100) (hl : lv ((c : Thread nD τ), sm) u ≤ n) :
    (levAts L lv : sProp 𝕄) ⊢ MayWait (c : Thread nD τ) sm u O :=
  h.mayOwe c _ (fun p hp => by rw [Finset.mem_singleton.mp hp]; exact ⟨hu, hl⟩)

/-- What device `c` owes on stream `k`: its copies from `a` on, its credits from `b` on. -/
def OwR (c : Dev nD) (k : Fin 6) (a b : ℕ) : CellTallies nD τ sig ℕ :=
  ∑ h ∈ Finset.Ico a 62, tallyAt (recvC (dn k c) k h) h (N k) + ∑ h ∈ Finset.Ico b 62, tallyAt (credC (up k c) k) h 1

theorem OwR_copy (c : Dev nD) (k : Fin 6) {a : ℕ} (b : ℕ) (ha : a < 62) :
    OwR c k a b = OwR c k (a + 1) b + tallyAt (recvC (dn k c) k a) a (N k) := by
  unfold OwR
  rw [Finset.sum_eq_sum_Ico_succ_bot ha, add_comm (tallyAt (recvC (dn k c) k a) a (N k)), add_right_comm]
theorem OwR_cred (c : Dev nD) (k : Fin 6) (a : ℕ) {b : ℕ} (hb : b < 62) :
    OwR c k a b = OwR c k a (b + 1) + tallyAt (credC (up k c) k) b 1 := by
  unfold OwR
  rw [Finset.sum_eq_sum_Ico_succ_bot hb, add_comm (tallyAt (credC (up k c) k) b 1), ← add_assoc]
theorem OwR_end (c : Dev nD) (k : Fin 6) {a b : ℕ} (ha : 62 ≤ a) (hb : 62 ≤ b) : OwR c k a b = 0 := by
  unfold OwR; rw [Finset.Ico_eq_empty (by omega), Finset.Ico_eq_empty (by omega), Finset.sum_empty, Finset.sum_empty, add_zero]
theorem OwR_end' (c : Dev nD) (k : Fin 6) {a a' : ℕ} (b : ℕ) (ha : 62 ≤ a) (ha' : 62 ≤ a') : OwR c k a b = OwR c k a' b := by
  unfold OwR; rw [Finset.Ico_eq_empty (a := a) (by omega), Finset.Ico_eq_empty (a := a') (by omega)]

theorem Above.owr (c : Dev nD) (k : Fin 6) {n a b : ℕ} (ha : n < 2 * a + 2) (hb : n < 2 * b + 3) : Above n (OwR c k a b) := by
  refine Above.add (Above.sum _ _ _ fun h hh => ?_) (Above.sum _ _ _ fun h hh => ?_)
  · have := Finset.mem_Ico.mp hh
    exact Above.tally _ _ _ (by rw [L_tc]; exact Finset.mem_range.mpr (by omega)) (by rw [lv_recv]; omega)
  · have := Finset.mem_Ico.mp hh
    exact Above.tally _ _ _ (by rw [L_tc]; exact Finset.mem_range.mpr (by omega)) (by rw [lv_cred]; omega)

end Cert.Proof

end
-- ==== Proof.Mem.lean ====
/-
  Steps of a device's program on its own memory, in terms of what its views hold: loads, stores, the words of its table,
  a slot read and written through the three-slot buffer.
-/
module

public import proofs.«01_k».proof.Proof.Streams
public import proofs.«01_k».proof.Proof.Protocol
public import Idealize.ShloMosaic.Rules.Step

@[expose] public section

set_option maxRecDepth 65536

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- Device `c` runs `p` and ends in `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wp_seq (c : Dev nD) {α β : Type} (p : Prog (TpuEff nD τ sig (Elt F) Λ₀ .tc) β)
    (k : β → Prog (TpuEff nD τ sig (Elt F) Λ₀ .tc) α) (Q : α → sProp 𝕄) :
    WP c p (fun x => WP c (k x) Q) ⊢ WP c (p >>= k) Q := by
  unfold WP; rw [wp_bind]

/-- A load of a rectangle. -/
theorem wp_ld (c : Dev nD) {cs : CoreSpace} {s : Shape} {e : EltTy} (m : Memref sig .tc cs s e) (r : Rect s) (hl)
    (q : PosShare TreeShare) (X : s.Idx → Elt F e) {α : Type}
    (k : (r.shape.Idx → Elt F e) → Prog (TpuEff nD τ sig (Elt F) Λ₀ .tc) α) (Q : α → sProp 𝕄) :
    own' c m q X ⊢ iprop((own' c m q X -∗ WP c (k (View.ld (Val := Elt F) X r)) Q) -∗ WP c (.op (.load m r.toLoadRect hl) k) Q) := by
  unfold own' owns
  iintro ⟨%f, %hf, H⟩ Hk
  iapply (wp_load_rect (defs := defs₀ (F := F)) 𝒱₀ (c : Thread nD τ) none Set.univ (m := m) (r := r) (k := k) (View.set_slice_subset m.view r)) $$ H
  iintro H
  have e : (m.access r).read (Elt F) f = View.ld (Val := Elt F) X r := by
    rw [← hf]; rfl
  rw [e]
  iapply Hk
  iexists f
  isplitr
  · ipureintro; exact hf
  · iexact H

/-- A word loaded. -/
theorem wp_ldW (c : Dev nD) {s : Shape} {e : EltTy} (m : Memref sig .tc .smem s e) (r : Rect s) (h1 : r.shape.numel = 1) (hp : e.packing = 1)
    (q : PosShare TreeShare) (X : s.Idx → Elt F e) {α : Type}
    (k : Elt F e → Prog (TpuEff nD τ sig (Elt F) Λ₀ .tc) α) (Q : α → sProp 𝕄) :
    own' c m q X ⊢ iprop((own' c m q X -∗ WP c (k (X (r.emb (Shape.Idx.first (h1.symm ▸ Nat.one_pos))))) Q)
      -∗ WP c (smemLoad m r h1 hp >>= k) Q) := by
  unfold own' owns
  iintro ⟨%f, %hf, H⟩ Hk
  iapply (wp_smemLoadElt (defs := defs₀ (F := F)) 𝒱₀ (c : Thread nD τ) none Set.univ (m := m) (r := r)
    (hw := View.loads_smem_one hp h1) (x := Shape.Idx.first (h1.symm ▸ Nat.one_pos)) (k := k) (View.set_slice_subset m.view _)) $$ H
  iintro H
  have e : (m.access r).read (Elt F) f (Shape.Idx.first (h1.symm ▸ Nat.one_pos)) = X (r.emb (Shape.Idx.first (h1.symm ▸ Nat.one_pos))) := by
    rw [← hf]; rfl
  rw [e]
  iapply Hk
  iexists f
  isplitr
  · ipureintro; exact hf
  · iexact H

/-- The device's table, staged. -/
abbrev Ids (c : Dev nD) : sProp 𝕄 := own' c idM fullShare (fun i => idTab c (i 0))

/-- A word of the device's table. -/
theorem wp_ldId (c : Dev nD) (n : Fin 9) {α : Type}
    (k : Elt F .i32 → Prog (TpuEff nD τ sig (Elt F) Λ₀ .tc) α) (Q : α → sProp 𝕄) :
    Ids c ⊢ iprop((Ids c -∗ WP c (k (idTab c n)) Q) -∗ WP c (ldId (F := F) n >>= k) Q) := by
  have e : idTab c ((Rect.unit (s := S9) ![n.val] S1.size (in9 n)).emb (Shape.Idx.first (numel1_S1.symm ▸ Nat.one_pos)) 0) = idTab c n := by
    congr 1
  have := wp_ldW (F := F) c idM (Rect.unit (s := S9) ![n.val] S1.size (in9 n)) numel1_S1 rfl fullShare (fun i => idTab c (i 0)) k Q
  rw [e] at this
  exact this

/-- A store of a rectangle that is all of the view. -/
theorem wp_st (c : Dev nD) {cs : CoreSpace} {s : Shape} {e : EltTy} (m : Memref sig .tc cs s e) (r : Rect s)
    (hr : ∀ i : s.Idx, ∃ j : r.shape.Idx, r.emb j = i) (w : r.shape.Idx → Elt F e) (Y : s.Idx → Elt F e) (hY : ∀ j, Y (r.emb j) = w j)
    (hx hm) (X : s.Idx → Elt F e) {α : Type}
    (k : PUnit → Prog (TpuEff nD τ sig (Elt F) Λ₀ .tc) α) (Q : α → sProp 𝕄) :
    own' c m fullShare X ⊢ iprop((own' c m fullShare Y -∗ WP c (k ⟨⟩) Q) -∗ WP c (.op (.store m r w Finset.univ hx hm) k) Q) := by
  unfold own' owns
  iintro ⟨%f, %hf, H⟩ Hk
  iapply (wp_store (defs := defs₀ (F := F)) 𝒱₀ (c : Thread nD τ) none Set.univ (m := m) (r := r) (w := w) (Mk := Finset.univ) (hx := hx) (hm := hm) (k := k)
    (View.set_slice_subset m.view r)) $$ H
  iintro H
  iapply Hk
  iexists _
  isplitr
  swap
  · iexact H
  · ipureintro
    funext i
    obtain ⟨j, rfl⟩ := hr i
    rw [hY]
    exact congrFun (View.read_write_univ (v := m.access r) f w) j

/-- A slot loaded through the three-slot buffer. -/
theorem wp_ldSlot (c : Dev nD) (k : Fin 6) (off : Fin 3 → ℕ) (h) (hl) (q : PosShare TreeShare) (X : (Sq2 k).Idx → Elt F .f32) {α : Type}
    (kk : ((Sq1 k).Idx → Elt F .f32) → Prog (TpuEff nD τ sig (Elt F) Λ₀ .tc) α) (Q : α → sProp 𝕄) :
    own' c (slotAt k off h) q X ⊢ iprop((∀ a, ⌜shapeCast (Sq2 k) a (castsSq k) = X⌝ -∗ own' c (slotAt k off h) q X -∗ WP c (kk a) Q)
      -∗ WP c (.op (.load (comm k) (Rect.unit (s := Sq3 k) off (Sq1 k).size h).toLoadRect hl) kk) Q) := by
  have hs : ((comm k).access (Rect.unit (s := Sq3 k) off (Sq1 k).size h)).set ⊆ (slotAt k off h).view.set :=
    (View.set_reshape ((comm k).access (Rect.unit (s := Sq3 k) off (Sq1 k).size h)) (squeezesSq k).numel_eq).symm.subset
  unfold own' owns
  iintro ⟨%f, %hf, H⟩ Hk
  iapply (wp_load_rect (defs := defs₀ (F := F)) 𝒱₀ (c : Thread nD τ) none Set.univ (m := comm k) (r := Rect.unit (s := Sq3 k) off (Sq1 k).size h) (k := kk) hs) $$ H
  iintro H
  iapply Hk
  · ipureintro
    rw [← hf]; rfl
  · iexists f
    isplitr
    · ipureintro; exact hf
    · iexact H

/-- A slot stored through the three-slot buffer. -/
theorem wp_stSlot (c : Dev nD) (k : Fin 6) (off : Fin 3 → ℕ) (h) (hx hm) (X : (Sq2 k).Idx → Elt F .f32) (w : (Sq1 k).Idx → Elt F .f32) {α : Type}
    (kk : PUnit → Prog (TpuEff nD τ sig (Elt F) Λ₀ .tc) α) (Q : α → sProp 𝕄) :
    own' c (slotAt k off h) fullShare X ⊢ iprop((own' c (slotAt k off h) fullShare (shapeCast (Sq2 k) w (castsSq k)) -∗ WP c (kk ⟨⟩) Q)
      -∗ WP c (.op (.store (comm k) (Rect.unit (s := Sq3 k) off (Sq1 k).size h) w Finset.univ hx hm) kk) Q) := by
  have hs : ((comm k).access (Rect.unit (s := Sq3 k) off (Sq1 k).size h)).set ⊆ (slotAt k off h).view.set :=
    (View.set_reshape ((comm k).access (Rect.unit (s := Sq3 k) off (Sq1 k).size h)) (squeezesSq k).numel_eq).symm.subset
  unfold own' owns
  iintro ⟨%f, %hf, H⟩ Hk
  iapply (wp_store (defs := defs₀ (F := F)) 𝒱₀ (c : Thread nD τ) none Set.univ (m := comm k) (r := Rect.unit (s := Sq3 k) off (Sq1 k).size h) (w := w) (Mk := Finset.univ)
    (hx := hx) (hm := hm) (k := kk) hs) $$ H
  iintro H
  iapply Hk
  iexists _
  isplitr
  swap
  · iexact H
  · ipureintro
    funext i
    exact congrFun (View.read_write_univ (v := (comm k).access (Rect.unit (s := Sq3 k) off (Sq1 k).size h)) f w) (Shape.reshapeEquiv (castsSq k) i)

theorem cast_payA (k : Fin 6) (a : Vec F (Sq1 k) .f32) (b : Vec F (Sq2 k) .f32) :
    shapeCast (Sq2 k) (payA k a b) (castsSq k) = addf (shapeCast (Sq2 k) a (castsSq k)) b := by
  funext i
  show addf (shapeCast (Sq2 k) a (castsSq k)) b (Shape.reshapeEquiv _ (Shape.reshapeEquiv _ i)) = _
  rw [Shape.reshapeEquiv_reshapeEquiv, Shape.reshapeEquiv_self]
theorem cast_payC (k : Fin 6) (a : Vec F (Sq2 k) .f32) : shapeCast (Sq2 k) (payC k a) (castsSq k) = a := by
  funext i
  show a (Shape.reshapeEquiv _ (Shape.reshapeEquiv _ i)) = _
  rw [Shape.reshapeEquiv_reshapeEquiv, Shape.reshapeEquiv_self]

/-- The whole-buffer rectangle. -/
theorem emb00 {d₀ d₁ : ℕ} (h) (j : (Rect.unit (s := ⟨2, ![d₀, d₁]⟩) ![0, 0] ![d₀, d₁] h).shape.Idx) :
    (Rect.unit (s := ⟨2, ![d₀, d₁]⟩) ![0, 0] ![d₀, d₁] h).emb j = j := by
  funext a
  apply Fin.ext
  fin_cases a
  · show 0 + 1 * (j 0).val = _; simp
  · show 0 + 1 * (j 1).val = _; simp

end Cert.Proof

end
-- ==== Proof.Prims.lean ====
/-
  One synchronisation step each of a device on its cells: the waits for an arrival, for a copy's source, for a store, for a
  credit; a credit returned; a copy started towards the next device; a store started.
-/
module

public import proofs.«01_k».proof.Proof.Mem

@[expose] public section

set_option maxRecDepth 65536

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ### The cells and the slots of all devices -/

/-- The scoped semaphores of a device: of each stream three for departures, three for arrivals, the store's, the credits'. -/
def osem (x : Fin 6 × Fin 8) : SemLoc sig :=
  if x.2.val < 3 then .dma (sendS x.1 x.2.val) else if x.2.val < 6 then .dma (recvS x.1 x.2.val)
  else if x.2.val = 6 then .dma (storeS x.1) else .reg (credS x.1)
theorem osem_inj : Function.Injective osem := by decide +kernel
theorem osem_ne_bar : ∀ x, osem x ≠ .reg barS := by decide +kernel

def barEmb : Dev nD ↪ GSem nD τ sig := ⟨fun c => barC c, fun _ _ h => congrArg (fun g : GSem nD τ sig => g.1.1) h⟩
def scEmb : Dev nD × (Fin 6 × Fin 8) ↪ GSem nD τ sig :=
  ⟨fun x => ((x.1 : Thread nD τ), osem x.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem mem_bar (c : Dev nD) : barC c ∈ (barCells ∪ scCells : Finset (GSem nD τ sig)) :=
  Finset.mem_union_left _ (Finset.mem_map_of_mem barEmb (Finset.mem_univ c))
theorem mem_sc (c : Dev nD) (x : Fin 6 × Fin 8) {g : GSem nD τ sig} (h : g = ((c : Thread nD τ), osem x)) :
    g ∈ (barCells ∪ scCells : Finset (GSem nD τ sig)) := by
  subst h; exact Finset.mem_union_right _ (Finset.mem_map_of_mem scEmb (Finset.mem_univ (c, x)))
theorem mem_send (c : Dev nD) (k : Fin 6) (g : ℕ) : sendC c k g ∈ (barCells ∪ scCells : Finset (GSem nD τ sig)) :=
  mem_sc c (k, ⟨(g + 2) % 3, by omega⟩) (by
    unfold osem
    rw [if_pos (show (g + 2) % 3 < 3 by omega)]
    unfold sendC sendS; rw [sem_eq cc0_scratch13 k ((g + 2) % 3) (n := (g + 2) % 3) _ (by omega)])
theorem mem_recv (c : Dev nD) (k : Fin 6) (g : ℕ) : recvC c k g ∈ (barCells ∪ scCells : Finset (GSem nD τ sig)) :=
  mem_sc c (k, ⟨g % 3 + 3, by omega⟩) (by
    unfold osem
    rw [if_neg (show ¬ g % 3 + 3 < 3 by omega), if_pos (show g % 3 + 3 < 6 by omega)]
    unfold recvC recvS; rw [sem_eq cc0_scratch14 k (g % 3 + 3) (n := g % 3) _ (by omega)])
theorem mem_store (c : Dev nD) (k : Fin 6) : storeC c k ∈ (barCells ∪ scCells : Finset (GSem nD τ sig)) :=
  mem_sc c (k, 6) rfl
theorem mem_cred (c : Dev nD) (k : Fin 6) : credC c k ∈ (barCells ∪ scCells : Finset (GSem nD τ sig)) :=
  mem_sc c (k, 7) rfl

/-- Every slot of every device. -/
abbrev keys : Finset Key := Finset.univ ×ˢ (Finset.univ ×ˢ Finset.range 3)
theorem mem_key (d : Dev nD) (k : Fin 6) (g : ℕ) : keyOf d k g ∈ keys :=
  Finset.mem_product.mpr ⟨Finset.mem_univ _, Finset.mem_product.mpr ⟨Finset.mem_univ _, Finset.mem_range.mpr (Nat.mod_lt _ (by decide))⟩⟩

instance slotInv_persistent (n : ℕ) (x : Key) (S : sProp 𝕄) : BI.Persistent (slotInv (Name := ℕ) EK n x S) := by
  unfold slotInv; infer_instance

/-- What every device may consult: the levels, the cells' invariants, the slots'. -/
def Env (D : Inp F) (κ : GSem nD τ sig → ℕ) (κ' : Key → ℕ) : sProp 𝕄 :=
  iprop(levAts L lv ∗ (bigSep (barCells ∪ scCells) fun g => cellInv ER (Rd D) (κ g) g)
    ∗ bigSep keys fun x => slotInv EK (κ' x) x (slotS x))
instance Env_persistent (D : Inp F) (κ κ') : BI.Persistent (Env D κ κ') := by unfold Env; infer_instance

/-- A device owing `O`, whatever it has recorded. -/
def Owes (c : Dev nD) (O : CellTallies nD τ sig ℕ) : sProp 𝕄 := iprop(∃ W, owes (c : Thread nD τ) O W)

variable (D : Inp F) (κ : GSem nD τ sig → ℕ) (κ' : Key → ℕ) (c : Dev nD) (k : Fin 6)

theorem Env.lev : Env D κ κ' ⊢ levAts L lv := by unfold Env; iintro ⟨H, -, -⟩; iexact H
theorem Env.cell {g : GSem nD τ sig} (hg : g ∈ (barCells ∪ scCells : Finset (GSem nD τ sig))) :
    Env D κ κ' ⊢ cellInv ER (Rd D) (κ g) g := by
  unfold Env; iintro ⟨-, H, -⟩
  iapply (show (bigSep (barCells ∪ scCells) fun g => (cellInv ER (Rd D) (κ g) g : sProp 𝕄)) ⊢ cellInv ER (Rd D) (κ g) g from bigSep_elim hg)
  iexact H
theorem Env.slot (d : Dev nD) (g : ℕ) : Env D κ κ' ⊢ slotInv EK (κ' (keyOf d k g)) (keyOf d k g) (slotS (keyOf d k g)) := by
  unfold Env; iintro ⟨-, -, H⟩
  iapply (show (bigSep keys fun x => (slotInv EK (κ' x) x (slotS x) : sProp 𝕄)) ⊢ slotInv EK (κ' (keyOf d k g)) (keyOf d k g) (slotS (keyOf d k g)) from bigSep_elim (mem_key d k g))
  iexact H

/-- Where a device stands on a cell. -/
def At (g : GSem nD τ sig) (r : ℕ) : sProp 𝕄 := iprop(atPos ER g r ∅ 0 ∗ reached ER g r)

/-- A wait for all of a cell's open round, of one payer. -/
theorem wp_round {α : Type} {w : TpuEff nD τ sig (Elt F) Λ₀ .tc PUnit} {sm : SemLoc sig} {n : ℕ}
    (hw : ∀ K : PUnit → sProp 𝕄, wpE' (defs₀ (F := F)) 𝒱₀ (c : Thread nD τ) none .empty Set.univ w K = waitSpec (c : Thread nD τ) Set.univ sm n K)
    (hm : ((c : Thread nD τ), sm) ∈ (barCells ∪ scCells : Finset (GSem nD τ sig)))
    (u r l : ℕ) (hu : u < 100) (he : (Rd D).expect ((c : Thread nD τ), sm) r = n) (hl : lv ((c : Thread nD τ), sm) u ≤ l)
    (O : CellTallies nD τ sig ℕ) (hO : Above l O) (pay : sProp 𝕄)
    (hp : bigSep ((Rd D).duties ((c : Thread nD τ), sm) r \ ∅) (fun u => (Rd D).payload ((c : Thread nD τ), sm) r u) = pay)
    (kk : PUnit → Prog (TpuEff nD τ sig (Elt F) Λ₀ .tc) α) (Q : α → sProp 𝕄) :
    iprop(Env D κ κ' ∗ At ((c : Thread nD τ), sm) r ∗ cred (tallyAt ((c : Thread nD τ), sm) u n) ∗ Owes c O)
      ⊢ iprop((At ((c : Thread nD τ), sm) (r + 1) -∗ Owes c O -∗ pay -∗ WP c (kk ⟨⟩) Q) -∗ WP c (.op w kk) Q) := by
  unfold At Owes
  iintro ⟨#HE, ⟨Hat, -⟩, Hc, ⟨%W, HO⟩⟩ Hk
  iapply (Rounds.wp_wait_rest_token (defs := defs₀ (F := F)) 𝒱₀ ER (Rd D) (c : Thread nD τ) none (κ := κ ((c : Thread nD τ), sm))
    hw (Set.mem_univ _) u (O := O) (W := W) (R := r) (m := 0) (T := ∅) ((Nat.zero_add _).trans he.symm)) $$ [Hc HO Hat]
  · isplitr; · iapply (Env.cell D κ κ' hm); iexact HE
    isplitl [Hc]; · iexact Hc
    isplitl [HO]; · iexact HO
    isplitr
    · iapply (hO.mayWait c sm u hu hl)
      iapply (Env.lev D κ κ'); iexact HE
    iexact Hat
  subst hp
  iintro ⟨HO, Hat, Hr, Hp⟩
  iapply Hk $$ [Hat Hr] [HO] [Hp]
  · isplitl [Hat] <;> iassumption
  · iexists _; iexact HO
  · iexact Hp

/-- The wait for copy `g`'s arrival. -/
theorem wp_recv {α : Type} {g : ℕ} (hg : g < 62) {n : ℕ} (h : n < 3) (e : n = g % 3) {sp sp' : Space} (src : Memref sig .tc sp (Sq2 k) .f32)
    (dst : Memref sig .tc sp' (Sq2 k) .f32) (hd : dst.view.dmaCredit = N k) (h1 h2) (O : CellTallies nD τ sig ℕ) (hO : Above (2 * g + 2) O)
    (kk : PUnit → Prog (TpuEff nD τ sig (Elt F) Λ₀ .tc) α) (Q : α → sProp 𝕄) :
    iprop(Env D κ κ' ∗ At (recvC c k g) (g / 3) ∗ cred (tallyAt (recvC c k g) g (N k)) ∗ Owes c O)
      ⊢ iprop((At (recvC c k (g + 3)) ((g + 3) / 3) -∗ Owes c O -∗ own' c (slotM k g) fullShare (D.ct k (up k c) g) -∗ WP c (kk ⟨⟩) Q)
        -∗ WP c (.op (.waitDma2 (semAt cc0_scratch14 k n h) src dst h1 h2) kk) Q) := by
  subst e
  have := wp_round D κ κ' c (w := .waitDma2 (recvS k g) src dst h1 h2) (sm := .dma (recvS k g)) (n := dst.view.dmaCredit)
    (wpE_waitDma2_eq 𝒱₀ (c : Thread nD τ) none Set.univ) (mem_recv c k g) g (g / 3) (2 * g + 2) (by omega)
    ((expect_recv D c k hg).trans hd.symm) (lv_recv c k g g).le O hO _ (rest_recv D c k hg) kk Q
  rw [hd] at this
  rw [recvC_add3, show (g + 3) / 3 = g / 3 + 1 by omega]
  exact this

/-- The wait for copy `g`'s source. -/
theorem wp_sent {α : Type} {g : ℕ} (hg : g < 62) {n : ℕ} (h : n < 3) (e : n = (g + 2) % 3) {sp sp' : Space} (src : Memref sig .tc sp (Sq2 k) .f32)
    (dst : Memref sig .tc sp' (Sq2 k) .f32) (hd : dst.view.dmaCredit = N k) (h1 h2) (O : CellTallies nD τ sig ℕ) (hO : Above 0 O)
    (kk : PUnit → Prog (TpuEff nD τ sig (Elt F) Λ₀ .tc) α) (Q : α → sProp 𝕄) :
    iprop(Env D κ κ' ∗ At (sendC c k g) (g / 3) ∗ cred (tallyAt (sendC c k g) 0 (N k)) ∗ Owes c O)
      ⊢ iprop((At (sendC c k (g + 3)) ((g + 3) / 3) -∗ Owes c O -∗ own' c (slotM k (g + 2)) hL (D.ct k c g) -∗ WP c (kk ⟨⟩) Q)
        -∗ WP c (.op (.waitDma2 (semAt cc0_scratch13 k n h) src dst h1 h2) kk) Q) := by
  subst e
  have := wp_round D κ κ' c (w := .waitDma2 (sendS k (g + 2)) src dst h1 h2) (sm := .dma (sendS k (g + 2))) (n := dst.view.dmaCredit)
    (wpE_waitDma2_eq 𝒱₀ (c : Thread nD τ) none Set.univ) (mem_send c k g) 0 (g / 3) 0 (by omega)
    ((expect_send D c k hg).trans hd.symm) (lv_send c k g 0).le O hO _ (rest_send D c k hg) kk Q
  rw [hd] at this
  rw [sendC_add3, show (g + 3) / 3 = g / 3 + 1 by omega]
  exact this

/-- The wait for store `r`. -/
theorem wp_stored {α : Type} {r : ℕ} (hr : r < 32) {sp sp' : Space} (src : Memref sig .tc sp (Sq2 k) .f32)
    (dst : Memref sig .tc sp' (Sq2 k) .f32) (hd : dst.view.dmaCredit = N k) (h1 h2) (O : CellTallies nD τ sig ℕ) (hO : Above 0 O)
    (kk : PUnit → Prog (TpuEff nD τ sig (Elt F) Λ₀ .tc) α) (Q : α → sProp 𝕄) :
    iprop(Env D κ κ' ∗ At (storeC c k) r ∗ cred (tallyAt (storeC c k) 0 (N k)) ∗ Owes c O)
      ⊢ iprop((At (storeC c k) (r + 1) -∗ Owes c O -∗ storePay D c k r -∗ WP c (kk ⟨⟩) Q)
        -∗ WP c (.op (.waitDma2 (storeS k) src dst h1 h2) kk) Q) := by
  have := wp_round D κ κ' c (w := .waitDma2 (storeS k) src dst h1 h2) (sm := .dma (storeS k)) (n := dst.view.dmaCredit)
    (wpE_waitDma2_eq 𝒱₀ (c : Thread nD τ) none Set.univ) (mem_store c k) 0 r 0 (by omega)
    ((expect_store D c k hr).trans hd.symm) (lv_store c k 0).le O hO _ (rest_store D c k hr) kk Q
  rw [hd] at this
  exact this

/-- The wait at the barrier. -/
theorem wp_bar {α : Type} (O : CellTallies nD τ sig ℕ) (hO : Above 1 O)
    (kk : PUnit → Prog (TpuEff nD τ sig (Elt F) Λ₀ .tc) α) (Q : α → sProp 𝕄) :
    iprop(Env D κ κ' ∗ At (barC c) 0 ∗ cred (tallyAt (barC c) 0 6) ∗ Owes c O)
      ⊢ iprop((At (barC c) 1 -∗ Owes c O -∗ (bigSep (Finset.range 6) fun j => barPay (F := F) c (f6 j)) -∗ WP c (kk ⟨⟩) Q)
        -∗ WP c (semWaitWord barS 6#32 >>= kk) Q) :=
  wp_round D κ κ' c (w := .semWait barS 6) (sm := .reg barS) (n := 6)
    (wpE_semWait_eq 𝒱₀ (c : Thread nD τ) none Set.univ) (mem_bar c) 0 0 1 (by omega)
    (expect_bar D c) (lv_bar c 0).le O hO _ (rest_bar D c) kk Q

/-! ### Credits -/

/-- Stream `k` has taken `m` of the credits returned to it. -/
def CrPos (m : ℕ) : sProp 𝕄 :=
  iprop(∃ T : Finset ℕ, ⌜T ⊆ Finset.range 62 ∧ m ≤ T.card⌝ ∗ atPos ER (credC c k) 0 T m ∗ bigSep T (fun j => Rels (dn k c) k (j + 2)))

theorem Rels_get {d : Dev nD} {n m : ℕ} (h : m ≤ n) : Rels (F := F) d k n ⊢ Rel d k m := by
  unfold Rels
  exact bigSep_elim (Finset.mem_range.mpr (by omega))

/-- The next credit. -/
theorem wp_credit {α : Type} (m : ℕ) (hm : m < 62) (O : CellTallies nD τ sig ℕ) (hO : Above (2 * m + 3) O)
    (kk : PUnit → Prog (TpuEff nD τ sig (Elt F) Λ₀ .tc) α) (Q : α → sProp 𝕄) :
    iprop(Env D κ κ' ∗ CrPos c k m ∗ cred (tallyAt (credC c k) m 1) ∗ Owes c O)
      ⊢ iprop((CrPos c k (m + 1) -∗ Owes c O -∗ Rel (dn k c) k (m + 2) -∗ WP c (kk ⟨⟩) Q)
        -∗ WP c (semWaitWord (credS k) 1#32 >>= kk) Q) := by
  unfold CrPos Owes
  iintro ⟨#HE, ⟨%T, %hT, Hat, #HT⟩, Hc, ⟨%W, HO⟩⟩ Hk
  iapply (Rounds.wp_wait (defs := defs₀ (F := F)) 𝒱₀ ER (Rd D) (c : Thread nD τ) none (κ := κ (credC c k)) (w := .semWait (credS k) 1) (sm := .reg (credS k))
    (k' := 1) (wpE_semWait_eq 𝒱₀ (c : Thread nD τ) none Set.univ) (Set.mem_univ _) (k := kk) (cr := Finsupp.single m 1) (O := O) (W := W) {(SemLoc.reg (credS k), m)} (R := 0)
    (m := m) (T := T) (by rw [Util.total_single]) (image_single_subset _ m 1)) $$ [Hc HO Hat]
  · isplitr; · iapply (Env.cell D κ κ' (mem_cred c k)); iexact HE
    isplitl [Hc]; · iexact Hc
    isplitl [HO]; · iexact HO
    isplitr
    · iapply (hO.mayOwe c _ (fun p hp => by rw [Finset.mem_singleton.mp hp]; exact ⟨by omega, (lv_cred c k m).le⟩))
      iapply (Env.lev D κ κ'); iexact HE
    iexact Hat
  iintro %S ⟨%hS, HO, Hat, Hp⟩
  have hd := duties_cred D c k
  have hx := expect_cred D c k
  rw [hd, hx] at hS
  obtain ⟨h1, h2, h3⟩ := hS
  have hc : m + 1 ≤ S.card := by
    have := Finset.card_sdiff_add_card_eq_card h2
    rw [Finset.card_range] at this
    omega
  ihave Hall := (show iprop((bigSep T (fun j => Rels (F := F) (dn k c) k (j + 2)))
      ∗ bigSep (S \ T) (fun j => (Rd D).payload (credC c k) 0 j)) ⊢ bigSep S (fun j => Rels (F := F) (dn k c) k (j + 2)) from by
    rw [bigSep_congr (s := S \ T) (fun j _ => pay_cred D c k j)]
    conv_rhs => rw [← Finset.union_sdiff_of_subset h1, bigSep_union Finset.disjoint_sdiff]
    exact Entails.of_eq rfl) $$ [Hp]
  · isplitr
    · iexact HT
    · iexact Hp
  icases Hall with #Hall
  have ⟨j, hj, hjm⟩ : ∃ j ∈ S, m ≤ j := by
    by_contra hne
    have hss : S ⊆ Finset.range m := fun j hj => Finset.mem_range.mpr (by
      by_contra hh; exact hne ⟨j, hj, by omega⟩)
    have := Finset.card_le_card hss
    rw [Finset.card_range] at this
    omega
  iapply Hk $$ [Hat] [HO] []
  · iexists S
    isplitr; · ipureintro; exact ⟨h2, hc⟩
    isplitl [Hat]; · iexact Hat
    iexact Hall
  · iexists _; iexact HO
  · iapply (Rels_get k (d := dn k c) (n := j + 2) (m := m + 2) (by omega))
    iapply (show (bigSep S (fun j => Rels (F := F) (dn k c) k (j + 2))) ⊢ Rels (dn k c) k (j + 2) from bigSep_elim hj)
    iexact Hall

theorem slotS_excl (x : Key) : iprop(slotS (F := F) x ∗ slotS x) ⊢ (False : sProp 𝕄) := by
  unfold slotS own' owns
  iintro ⟨⟨%X, %f, -, H⟩, ⟨%X', %f', -, H'⟩⟩
  obtain ⟨i, hi⟩ := View.set_nonempty (v := (slotM x.2.1 x.2.2).view) (numSq2 x.2.1)
  ihave Hf := (pointsTo_full_full_false (I := (slotM x.2.1 x.2.2).view.set) (J := (slotM x.2.1 x.2.2).view.set) (f := f) (g := f')
    (ℓ := (slotM x.2.1 x.2.2).view.loc (x.1 : Thread nD τ)) hi hi) $$ [H H']
  · isplitl [H] <;> iassumption
  icases Hf with %hf
  exact hf.elim

/-- A slot given back to the next writer. -/
theorem release (g : ℕ) (X : (Sq2 k).Idx → Elt F .f32) :
    iprop(Env D κ κ' ∗ readerAt EK (keyOf c k g) (g / 3) ∗ own' c (slotM k g) fullShare X)
      ⊢ (|={Set.univ}=> (readerAt EK (keyOf c k (g + 3)) ((g + 3) / 3) ∗ released EK (keyOf c k g) (g / 3 + 1)) : sProp 𝕄) := by
  iintro ⟨#HE, Hr, Hs⟩
  imod (slot_release EK (ι := κ' (keyOf c k g)) (S := slotS (keyOf c k g)) (Es := Set.univ) (Set.mem_univ _) (slotS_excl _) (g / 3)) $$ [Hr Hs] with ⟨Hr, Hq⟩
  · isplitr; · iapply (Env.slot D κ κ' k c g); iexact HE
    isplitl [Hr]; · iexact Hr
    unfold slotS
    iexists X
    rw [show slotM k (g % 3) = slotM k g from slot_mod k (by omega)]
    iexact Hs
  imodintro
  rw [show keyOf c k (g + 3) = keyOf c k g from by unfold keyOf; rw [Nat.add_mod_right], show (g + 3) / 3 = g / 3 + 1 by omega]
  isplitl [Hr] <;> iassumption

/-- A slot taken by its next writer. -/
theorem take (d : Dev nD) (g : ℕ) :
    iprop(Env D κ κ' ∗ released EK (keyOf d k g) (g / 3 + 1) ∗ writeTok EK (keyOf d k g) (g / 3 + 1))
      ⊢ (|={Set.univ}=> (∃ X, own' d (slotM k g) fullShare X) : sProp 𝕄) := by
  iintro ⟨#HE, Hr, Hs⟩
  imod (slot_take EK (ι := κ' (keyOf d k g)) (S := slotS (keyOf d k g)) (Es := Set.univ) (Set.mem_univ _) (g / 3 + 1)) $$ [Hr Hs] with H
  · isplitr; · iapply (Env.slot D κ κ' k d g); iexact HE
    isplitl [Hr] <;> iassumption
  imodintro
  unfold slotS
  rw [show slotM k (g % 3) = slotM k g from slot_mod k (by omega)]
  iexact H

/-- A credit returned. -/
theorem wp_giveCredit {α : Type} {j : ℕ} (hj : j < 62) (d : Dev nD) (e : d = up k c) (O : CellTallies nD τ sig ℕ)
    (kk : PUnit → Prog (TpuEff nD τ sig (Elt F) Λ₀ .tc) α) (Q : α → sProp 𝕄) :
    iprop(Env D κ κ' ∗ Owes c (O + tallyAt (credC (up k c) k) j 1) ∗ dutyTok ER (credC (up k c) k) 0 j ∗ Rels c k (j + 2) ∗ reached ER (credC (up k c) k) 0)
      ⊢ iprop((Owes c O -∗ WP c (kk ⟨⟩) Q) -∗ WP c (semSignalWord d (credS k) 1#32 >>= kk) Q) := by
  subst e
  unfold Owes
  iintro ⟨#HE, ⟨%W, HO⟩, Ht, Hp, Hr⟩ Hk
  iapply (Rounds.wp_signal (defs := defs₀ (F := F)) 𝒱₀ ER (Rd D) (c : Thread nD τ) none (dst := (up k c : Thread nD τ)) (sem := credS k) (r := 0) (d := j) (k' := 1)
    (κ := κ (credC (up k c) k)) (k := kk) (by rw [duties_cred D (up k c) k]; exact Finset.mem_range.mpr hj) (amount_cred D (up k c) k 0 j) j O rfl (W := W)) $$ [HO Ht Hp Hr]
  · isplitr; · iapply (Env.cell D κ κ' (mem_cred (up k c) k)); iexact HE
    isplitl [HO]; · iexact HO
    isplitl [Ht]; · iexact Ht
    isplitl [Hp]
    · rw [pay_cred D (up k c) k j, dn_up]; iexact Hp
    iexact Hr
  iintro HO
  iapply Hk
  iexists W; iexact HO

/-- A neighbour told at the barrier. -/
theorem wp_giveBar {α : Type} (d : Dev nD) (e : d = up k c) (O : CellTallies nD τ sig ℕ)
    (kk : PUnit → Prog (TpuEff nD τ sig (Elt F) Λ₀ .tc) α) (Q : α → sProp 𝕄) :
    iprop(Env D κ κ' ∗ Owes c (O + tallyAt (barC (up k c)) 0 1) ∗ dutyTok ER (barC (up k c)) 0 k.val ∗ Rel c k 0 ∗ Rel c k 1
        ∗ reached ER (credC c (op k)) 0 ∗ reached ER (barC (up k c)) 0)
      ⊢ iprop((Owes c O -∗ WP c (kk ⟨⟩) Q) -∗ WP c (semSignalWord d barS 1#32 >>= kk) Q) := by
  subst e
  unfold Owes
  iintro ⟨#HE, ⟨%W, HO⟩, Ht, Hp0, Hp1, Hr, Hrb⟩ Hk
  have hf : f6 k.val = k := Fin.ext (Nat.mod_eq_of_lt k.isLt)
  iapply (Rounds.wp_signal (defs := defs₀ (F := F)) 𝒱₀ ER (Rd D) (c : Thread nD τ) none (dst := (up k c : Thread nD τ)) (sem := barS) (r := 0) (d := k.val) (k' := 1)
    (κ := κ (barC (up k c))) (k := kk) (by rw [duties_bar D (up k c)]; exact Finset.mem_range.mpr k.isLt) (amount_bar D (up k c) 0 k.val) 0 O rfl (W := W)) $$ [HO Ht Hp0 Hp1 Hr Hrb]
  · isplitr; · iapply (Env.cell D κ κ' (mem_bar (up k c))); iexact HE
    isplitl [HO]; · iexact HO
    isplitl [Ht]; · iexact Ht
    isplitl [Hp0 Hp1 Hr]
    · rw [pay_bar D (up k c) k.val, hf]; unfold barPay; rw [dn_up]
      isplitl [Hp0]; · iexact Hp0
      isplitl [Hp1] <;> iassumption
    iexact Hrb
  iintro HO
  iapply Hk
  iexists W; iexact HO

/-! ### Copies and stores -/

/-- What a device spends on copy `g`. -/
def Snd (g : ℕ) : sProp 𝕄 :=
  iprop(dutyTok ER (sendC c k g) (g / 3) 0 ∗ dutyTok ER (recvC (dn k c) k g) (g / 3) 0 ∗ writeTok EK (keyOf (dn k c) k g) (g / 3 + 1))

/-- Copy `g` started. -/
theorem wp_copy {α : Type} {g : ℕ} (hg : g < 62) (d : Dev nD) (ed : d = dn k c) (src dst : Memref sig .tc .vmem (Sq2 k) .f32)
    (es : src = slotM k (g + 2)) (et : dst = slotM k g) (n₁ n₂ : ℕ) (h₁ : n₁ < 3) (h₂ : n₂ < 3) (e₁ : n₁ = (g + 2) % 3) (e₂ : n₂ = g % 3) (a1 a2 a3 a4)
    (O : CellTallies nD τ sig ℕ)
    (kk : PUnit → Prog (TpuEff nD τ sig (Elt F) Λ₀ .tc) α) (Q : α → sProp 𝕄) :
    iprop(Env D κ κ' ∗ Owes c (O + tallyAt (recvC (dn k c) k g) g (N k)) ∗ At (sendC c k g) (g / 3) ∗ Snd c k g ∗ Rel (dn k c) k g
        ∗ own' c (slotM k (g + 2)) hL (D.ct k c g))
      ⊢ iprop((Owes c O -∗ At (sendC c k g) (g / 3) -∗ cred (tallyAt (sendC c k g) 0 (N k)) -∗ WP c (kk ⟨⟩) Q)
        -∗ WP c (.op (.enqueueDma src (.remote (Dev.tc d) dst (.dma (semAt cc0_scratch13 k n₁ h₁)) a1) (.dma (semAt cc0_scratch14 k n₂ h₂)) a2 a3 a4) kk) Q) := by
  subst ed es et e₁ e₂
  unfold Owes Snd Rel At
  iintro ⟨#HE, ⟨%W, HO⟩, ⟨Hat, #Hrs⟩, ⟨Ht1, Ht2, Hw⟩, ⟨#Hrel, #Hrr⟩, Hsrc⟩ Hk
  iapply fupd_wp
  imod (take D κ κ' k (dn k c) g) $$ [Hw] with ⟨%X, Hd⟩
  · isplitr; · iexact HE
    isplitr; · iexact Hrel
    iexact Hw
  unfold own' owns
  icases Hd with ⟨%fd, -, Hd⟩
  icases Hsrc with ⟨%fs, %hfs, Hsrc⟩
  imodintro
  iapply (Rounds.wp_send_pointsTo (defs := defs₀ (F := F)) 𝒱₀ ER (Rd D) (c : Thread nD τ) none (c' := (dn k c : Thread nD τ)) (src := slotM k (g + 2)) (dst := slotM k g)
    (sS := .dma (sendS k (g + 2))) (sem := .dma (recvS k g)) (k := kk) (q := hL) (fs := fs) (fd := fd) (r₁ := g / 3) (r₂ := g / 3) (d₁ := 0) (d₂ := 0)
    (κ₁ := κ (sendC c k g)) (κ₂ := κ (recvC (dn k c) k g))
    (by rw [duties_send D c k hg]; exact Finset.mem_singleton_self _) (by rw [duties_recv D (dn k c) k hg]; exact Finset.mem_singleton_self _)
    g 0 (N k) (slot_credit k _ _) (amount_send D c k g _ _) (amount_recv D (dn k c) k g _ _) O rfl (W := W)
    (by
      rw [pay_send D c k g]; unfold sendPay own' owns
      iintro H; iexists fs; isplitr; · ipureintro; exact hfs
      iexact H)
    (by
      rw [pay_recv D (dn k c) k g]; unfold recvPay own' owns
      rw [up_dn]
      iintro H; iexists _; isplitr
      swap
      · iexact H
      · ipureintro; rw [View.read_write_univ]; exact hfs)) $$ [Hsrc Hd HO Ht1 Ht2]
  · isplitr; · iapply (Env.cell D κ κ' (mem_send c k g)); iexact HE
    isplitr; · iapply (Env.cell D κ κ' (mem_recv (dn k c) k g)); iexact HE
    isplitl [Hsrc]; · iexact Hsrc
    isplitl [Hd]; · iexact Hd
    isplitl [HO]; · iexact HO
    isplitl [Ht1]; · iexact Ht1
    isplitr; · iexact Hrs
    isplitl [Ht2]; · iexact Ht2
    iexact Hrr
  iintro ⟨Hc, HO⟩
  iapply Hk $$ [HO] [Hat] [Hc]
  · iexists W; iexact HO
  · isplitl [Hat]; · iexact Hat
    iexact Hrs
  · iexact Hc

/-- Store `r` started. -/
theorem wp_storeOut {α : Type} {r : ℕ} (hr : r < 32) (src : Memref sig .tc .vmem (Sq2 k) .f32) (dst : Memref sig .tc .hbm (Sq2 k) .f32)
    (es : src = slotM k (30 + r)) (et : dst = outL k (lab k c (31 + r))) (a1 a2 a3)
    (kk : PUnit → Prog (TpuEff nD τ sig (Elt F) Λ₀ .tc) α) (Q : α → sProp 𝕄) :
    iprop(Env D κ κ' ∗ At (storeC c k) r ∗ dutyTok ER (storeC c k) r 0 ∗ own' c (slotM k (30 + r)) hR (D.ct k c (31 + r))
        ∗ (∃ Y, own' c (outL k (lab k c (31 + r))) fullShare Y))
      ⊢ iprop((At (storeC c k) r -∗ cred (tallyAt (storeC c k) 0 (N k)) -∗ WP c (kk ⟨⟩) Q)
        -∗ WP c (.op (.enqueueDma src (.here dst) (.dma (storeS k)) a1 a2 a3) kk) Q) := by
  subst es et
  unfold At own' owns
  iintro ⟨#HE, ⟨Hat, #Hrs⟩, Ht, ⟨%fs, %hfs, Hsrc⟩, ⟨%Y, %fd, -, Hd⟩⟩ Hk
  iapply (Rounds.wp_copy_pointsTo (defs := defs₀ (F := F)) 𝒱₀ ER (Rd D) (c : Thread nD τ) none (src := slotM k (30 + r)) (dst := outL k (lab k c (31 + r)))
    (sem := .dma (storeS k)) (k := kk) (q := hR) (fs := fs) (fd := fd) (r := r) (d := 0) (κ := κ (storeC c k))
    (by rw [duties_store D c k hr]; exact Finset.mem_singleton_self _) 0 (N k) (out_credit k _ _) (amount_store D c k _ _)
    (by
      rw [pay_store D c k r]; unfold storePay own' owns
      iintro ⟨Hd, Hs⟩
      isplitl [Hd]
      · iexists _; isplitr
        swap
        · iexact Hd
        · ipureintro; rw [View.read_write_univ]; exact hfs
      · iexists fs; isplitr; · ipureintro; exact hfs
        iexact Hs)) $$ [Hsrc Hd Ht]
  · isplitr; · iapply (Env.cell D κ κ' (mem_store c k)); iexact HE
    isplitl [Hsrc]; · iexact Hsrc
    isplitl [Hd]; · iexact Hd
    isplitl [Ht]; · iexact Ht
    iexact Hrs
  iintro Hc
  iapply Hk $$ [Hat] [Hc]
  · isplitl [Hat]; · iexact Hat
    iexact Hrs
  · iexact Hc

end Cert.Proof

end
-- ==== Proof.Steps.lean ====
/-
  One stream's steps on one device: what a stream holds between two trips (`Core`, `SR`, `SA`), and that a trip of the
  reduce-scatter, of the all-gather, takes it to the next.
-/
module

public import proofs.«01_k».proof.Proof.Prims
public import Idealize.SL.BI.BigOpNat

@[expose] public section

set_option maxRecDepth 65536
set_option maxHeartbeats 1600000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ### Windows of three -/

def W3 (Φ : ℕ → sProp 𝕄) (g : ℕ) : sProp 𝕄 := iprop(Φ g ∗ Φ (g + 1) ∗ Φ (g + 2))
theorem W3_succ (Φ : ℕ → sProp 𝕄) (g : ℕ) : W3 Φ g ⊢ iprop(Φ g ∗ (Φ (g + 3) -∗ W3 Φ (g + 1))) := by
  unfold W3
  iintro ⟨H0, H1, H2⟩
  isplitl [H0]; · iexact H0
  iintro H3
  isplitl [H1]; · iexact H1
  isplitl [H2] <;> iassumption

/-- A condition assumed that holds. -/
theorem wp_as (c : Dev nD) {α : Type} {P : Prop} {d : Decidable P} {k : PLift P → Prog (TpuEff nD τ sig (Elt F) Λ₀ .tc) α} {Q : α → sProp 𝕄} (h : P) :
    WP c (k ⟨h⟩) Q ⊢ WP c (.op (.assume P d) k) Q := wp_assume 𝒱₀ (c : Thread nD τ) none Set.univ h

theorem wp_done (c : Dev nD) {Q : PUnit → sProp 𝕄} : Q ⟨⟩ ⊢ WP c (.ret ⟨⟩) Q := by
  unfold WP; rw [wp_ret]; iintro H; imodintro; iexact H

/-- The first of an interval's parts, apart. -/
theorem Ico_first {a b : ℕ} (h : a < b) (Φ : ℕ → sProp 𝕄) : bigSep (Finset.Ico a b) Φ = iprop(Φ a ∗ bigSep (Finset.Ico (a + 1) b) Φ) :=
  bigSep_Ico_succ_bot h Φ

section
variable (c : Dev nD) (k : Fin 6)

def RecvPos (h : ℕ) : sProp 𝕄 := At (recvC c k h) (h / 3)
def SendPos (h : ℕ) : sProp 𝕄 := At (sendC c k h) (h / 3)
def Rdr (h : ℕ) : sProp 𝕄 := readerAt EK (keyOf c k h) (h / 3)
/-- What a device spends on the arrival of copy `h`. -/
def Rcv (h : ℕ) : sProp 𝕄 := iprop(cred (tallyAt (recvC c k h) h (N k)) ∗ dutyTok ER (credC (up k c) k) 0 h)
/-- The credits still to come. -/
def Crd (j : ℕ) : sProp 𝕄 := cred (tallyAt (credC c k) j 1)

/-- Stream `k` of device `c` at the boundary before step `g`, with the tokens of its copies from `s` on and `m` credits taken;
    the arrivals taken up to `r`, the departures up to `v`, the slots released up to `u`. -/
def Core' (r v u s m : ℕ) : sProp 𝕄 :=
  iprop(W3 (RecvPos c k) r ∗ W3 (SendPos c k) v ∗ W3 (Rdr c k) (u + 2) ∗ Rels c k (u + 1) ∗ CrPos c k m
    ∗ (bigSep (Finset.Ico s 62) (Snd c k)) ∗ (bigSep (Finset.Ico r 62) (Rcv c k)) ∗ (bigSep (Finset.Ico m 62) (Crd c k))
    ∗ reached ER (credC (up k c) k) 0 ∗ Rel (dn k c) k 1)

theorem Core'_rel (r v u s m : ℕ) : Core' (F := F) c k r v u s m ⊢ iprop(Core' c k r v u s m ∗ Rel (dn k c) k 1) := by
  unfold Core'
  iintro ⟨HR, HS, HD, HRel, HCr, HSnd, HRcv, HCrd, Hrc, #Hr1⟩
  isplitl
  · isplitl [HR]; · iexact HR
    isplitl [HS]; · iexact HS
    isplitl [HD]; · iexact HD
    isplitl [HRel]; · iexact HRel
    isplitl [HCr]; · iexact HCr
    isplitl [HSnd]; · iexact HSnd
    isplitl [HRcv]; · iexact HRcv
    isplitl [HCrd]; · iexact HCrd
    isplitl [Hrc]; · iexact Hrc
    iexact Hr1
  iexact Hr1

variable (D : Inp F) (κ : GSem nD τ sig → ℕ) (κ' : Key → ℕ)

/-- The arrival of copy `g`. -/
theorem step_recv {α : Type} {g v u s m : ℕ} (hg : g < 62) (O : CellTallies nD τ sig ℕ) (hO : Above (2 * g + 2) O) {n : ℕ} (h : n < 3) (e : n = g % 3)
    {sp sp' : Space} (src : Memref sig .tc sp (Sq2 k) .f32)
    (dst : Memref sig .tc sp' (Sq2 k) .f32) (hd : dst.view.dmaCredit = N k) (h1 h2)
    (kk : PUnit → Prog (TpuEff nD τ sig (Elt F) Λ₀ .tc) α) (Q : α → sProp 𝕄) :
    iprop(Env D κ κ' ∗ Core' c k g v u s m ∗ Owes c O)
      ⊢ iprop((Core' c k (g + 1) v u s m -∗ dutyTok ER (credC (up k c) k) 0 g -∗ Owes c O
          -∗ own' c (slotM k g) fullShare (D.ct k (up k c) g) -∗ WP c (kk ⟨⟩) Q)
        -∗ WP c (.op (.waitDma2 (semAt cc0_scratch14 k n h) src dst h1 h2) kk) Q) := by
  unfold Core'
  rw [Ico_first hg (Rcv c k)]
  iintro ⟨#HE, ⟨HR, HS, HD, HRel, HCr, HSnd, ⟨HRcv, HRcvs⟩, HCrd, Hp⟩, HO⟩ Hk
  ihave HR := (W3_succ (RecvPos c k) g) $$ HR
  icases HR with ⟨HR, HRk⟩
  unfold Rcv
  icases HRcv with ⟨Hc, Ht⟩
  iapply (wp_recv D κ κ' c k hg h e src dst hd h1 h2 O hO kk Q) $$ [HR Hc HO]
  · isplitr; · iexact HE
    isplitl [HR]; · unfold RecvPos; iexact HR
    isplitl [Hc] <;> iassumption
  iintro HR HO Hs
  iapply Hk $$ [HR HRk HS HD HRel HCr HSnd HRcvs HCrd Hp] [Ht] [HO] [Hs]
  · isplitl [HR HRk]; · iapply HRk; unfold RecvPos; iexact HR
    isplitl [HS]; · iexact HS
    isplitl [HD]; · iexact HD
    isplitl [HRel]; · iexact HRel
    isplitl [HCr]; · iexact HCr
    isplitl [HSnd]; · iexact HSnd
    isplitl [HRcvs]; · iexact HRcvs
    isplitl [HCrd] <;> iassumption
  · iexact Ht
  · iexact HO
  · iexact Hs

/-- The end of copy `g`'s departure. -/
theorem step_sent {α : Type} {g r u s m : ℕ} (hg : g < 62) (O : CellTallies nD τ sig ℕ) (hO : Above 0 O) {n : ℕ} (h : n < 3) (e : n = (g + 2) % 3)
    {sp sp' : Space} (src : Memref sig .tc sp (Sq2 k) .f32)
    (dst : Memref sig .tc sp' (Sq2 k) .f32) (hd : dst.view.dmaCredit = N k) (h1 h2)
    (kk : PUnit → Prog (TpuEff nD τ sig (Elt F) Λ₀ .tc) α) (Q : α → sProp 𝕄) :
    iprop(Env D κ κ' ∗ Core' c k r g u s m ∗ cred (tallyAt (sendC c k g) 0 (N k)) ∗ Owes c O)
      ⊢ iprop((Core' c k r (g + 1) u s m -∗ Owes c O
          -∗ own' c (slotM k (g + 2)) hL (D.ct k c g) -∗ WP c (kk ⟨⟩) Q)
        -∗ WP c (.op (.waitDma2 (semAt cc0_scratch13 k n h) src dst h1 h2) kk) Q) := by
  unfold Core'
  iintro ⟨#HE, ⟨HR, HS, Hp⟩, Hc, HO⟩ Hk
  ihave HS := (W3_succ (SendPos c k) g) $$ HS
  icases HS with ⟨HS, HSk⟩
  iapply (wp_sent D κ κ' c k hg h e src dst hd h1 h2 O hO kk Q) $$ [HS Hc HO]
  · isplitr; · iexact HE
    isplitl [HS]; · unfold SendPos; iexact HS
    isplitl [Hc] <;> iassumption
  iintro HS HO Hs
  iapply Hk $$ [HR HS HSk Hp] [HO] [Hs]
  · isplitl [HR]; · iexact HR
    isplitl [HS HSk]; · iapply HSk; unfold SendPos; iexact HS
    iexact Hp
  · iexact HO
  · iexact Hs

theorem Rels_succ (d : Dev nD) (n : ℕ) : iprop(Rels (F := F) d k n ∗ Rel d k (n + 1)) ⊢ Rels d k (n + 1) := by
  unfold Rels
  have e : bigSep (Finset.range (n + 1 + 1)) (Rel (F := F) d k) = iprop(Rel d k (n + 1) ∗ bigSep (Finset.range (n + 1)) (Rel d k)) := bigSep_range_succ _ _
  rw [e]
  iintro ⟨H1, H2⟩
  isplitl [H2] <;> iassumption

theorem dev_up (u : BitVec 32) (hu : k0_chk25 u) (e : u = BitVec.ofNat 32 (up k c).val) : (⟨k0_dev13 u, k0_dev13_lt u hu⟩ : Dev nD) = up k c :=
  Fin.ext (by subst e; exact dev13_eq _)

/-- The slot of copy `g`'s source released, and the credit returned. -/
theorem step_credit {α : Type} {g s m : ℕ} (hg : g < 62) (Or : CellTallies nD τ sig ℕ) (a : ℕ) (X : (Sq2 k).Idx → Elt F .f32)
    (d : Dev nD) (e : d = up k c)
    (kk : PUnit → Prog (TpuEff nD τ sig (Elt F) Λ₀ .tc) α) (Q : α → sProp 𝕄) :
    iprop(Env D κ κ' ∗ Core' c k (g + 1) (g + 1) g s m ∗ dutyTok ER (credC (up k c) k) 0 g ∗ own' c (slotM k (g + 2)) fullShare X ∗ Owes c (Or + OwR c k a g))
      ⊢ iprop((Core' c k (g + 1) (g + 1) (g + 1) s m -∗ Owes c (Or + OwR c k a (g + 1)) -∗ WP c (kk ⟨⟩) Q)
        -∗ WP c (semSignalWord d (credS k) 1#32 >>= kk) Q) := by
  unfold Core'
  iintro ⟨#HE, ⟨HR, HS, HD, HRel, HCr, HSnd, HRcv, HCrd, #Hrc, #Hr1⟩, Ht, Hs, HO⟩ Hk
  ihave HD := (W3_succ (Rdr c k) (g + 2)) $$ HD
  icases HD with ⟨HD, HDk⟩
  unfold W3 RecvPos At
  icases HR with ⟨HR0, ⟨HR1, #Hreach⟩, HR2⟩
  iapply fupd_wp
  imod (release D κ κ' c k (g + 2) X) $$ [HD Hs] with ⟨HD, Hrel⟩
  · isplitr; · iexact HE
    isplitl [HD]; · unfold Rdr; iexact HD
    iexact Hs
  imodintro
  ihave HRel := (Rels_succ (F := F) k c (g + 1)) $$ [HRel Hrel]
  · isplitl [HRel]; · iexact HRel
    unfold Rel
    isplitl [Hrel]; · iexact Hrel
    iexact Hreach
  icases HRel with #HRel
  rw [OwR_cred c k a hg, ← add_assoc]
  iapply (wp_giveCredit D κ κ' c k hg d e (Or + OwR c k a (g + 1)) kk Q) $$ [HO Ht]
  · isplitr; · iexact HE
    isplitl [HO]; · iexact HO
    isplitl [Ht]; · iexact Ht
    isplitr; · iexact HRel
    iexact Hrc
  iintro HO
  iapply Hk $$ [HR0 HR1 HR2 HS HD HDk HCr HSnd HRcv HCrd] [HO]
  · isplitl [HR0 HR1 HR2]
    · isplitl [HR0]; · iexact HR0
      isplitl [HR1]
      · isplitl [HR1]; · iexact HR1
        iexact Hreach
      iexact HR2
    isplitl [HS]; · iexact HS
    isplitl [HD HDk]
    · iapply HDk; unfold Rdr; iexact HD
    isplitr; · iexact HRel
    isplitl [HCr]; · iexact HCr
    isplitl [HSnd]; · iexact HSnd
    isplitl [HRcv]; · iexact HRcv
    isplitl [HCrd]; · iexact HCrd
    isplitr; · iexact Hrc
    iexact Hr1
  · iexact HO

/-- The next credit taken. -/
theorem step_take {α : Type} {r v u s m : ℕ} (hm : m < 62) (O : CellTallies nD τ sig ℕ) (hO : Above (2 * m + 3) O)
    (kk : PUnit → Prog (TpuEff nD τ sig (Elt F) Λ₀ .tc) α) (Q : α → sProp 𝕄) :
    iprop(Env D κ κ' ∗ Core' c k r v u s m ∗ Owes c O)
      ⊢ iprop((Core' c k r v u s (m + 1) -∗ Owes c O -∗ Rel (dn k c) k (m + 2) -∗ WP c (kk ⟨⟩) Q)
        -∗ WP c (semWaitWord (credS k) 1#32 >>= kk) Q) := by
  unfold Core'
  rw [Ico_first hm (Crd c k)]
  iintro ⟨#HE, ⟨HR, HS, HD, HRel, HCr, HSnd, HRcv, ⟨HCrd, HCrds⟩, Hp⟩, HO⟩ Hk
  iapply (wp_credit D κ κ' c k m hm O hO kk Q) $$ [HCr HCrd HO]
  · isplitr; · iexact HE
    isplitl [HCr]; · iexact HCr
    isplitl [HCrd]; · unfold Crd; iexact HCrd
    iexact HO
  iintro HCr HO Hr
  iapply Hk $$ [HR HS HD HRel HCr HSnd HRcv HCrds Hp] [HO] [Hr]
  · isplitl [HR]; · iexact HR
    isplitl [HS]; · iexact HS
    isplitl [HD]; · iexact HD
    isplitl [HRel]; · iexact HRel
    isplitl [HCr]; · iexact HCr
    isplitl [HSnd]; · iexact HSnd
    isplitl [HRcv]; · iexact HRcv
    isplitl [HCrds] <;> iassumption
  · iexact HO
  · iexact Hr

/-- Copy `g` started. -/
theorem step_copy {α : Type} {r g u m b : ℕ} (hg : g < 62) (Or : CellTallies nD τ sig ℕ) (d : Dev nD) (ed : d = dn k c) (src dst : Memref sig .tc .vmem (Sq2 k) .f32)
    (es : src = slotM k (g + 2)) (et : dst = slotM k g) (n₁ n₂ : ℕ) (h₁ : n₁ < 3) (h₂ : n₂ < 3) (e₁ : n₁ = (g + 2) % 3) (e₂ : n₂ = g % 3) (a1 a2 a3 a4)
    (kk : PUnit → Prog (TpuEff nD τ sig (Elt F) Λ₀ .tc) α) (Q : α → sProp 𝕄) :
    iprop(Env D κ κ' ∗ Core' c k r g u g m ∗ Rel (dn k c) k g ∗ own' c (slotM k (g + 2)) hL (D.ct k c g) ∗ Owes c (Or + OwR c k g b))
      ⊢ iprop((Core' c k r g u (g + 1) m -∗ Owes c (Or + OwR c k (g + 1) b) -∗ cred (tallyAt (sendC c k g) 0 (N k)) -∗ WP c (kk ⟨⟩) Q)
        -∗ WP c (.op (.enqueueDma src (.remote (Dev.tc d) dst (.dma (semAt cc0_scratch13 k n₁ h₁)) a1) (.dma (semAt cc0_scratch14 k n₂ h₂)) a2 a3 a4) kk) Q) := by
  unfold Core'
  rw [Ico_first hg (Snd c k), OwR_copy c k b hg, ← add_assoc]
  iintro ⟨#HE, ⟨HR, HS, HD, HRel, HCr, ⟨HSnd, HSnds⟩, Hp⟩, Hrel, Hs, HO⟩ Hk
  unfold W3
  icases HS with ⟨HS0, HS⟩
  iapply (wp_copy D κ κ' c k hg d ed src dst es et n₁ n₂ h₁ h₂ e₁ e₂ a1 a2 a3 a4 (Or + OwR c k (g + 1) b) kk Q) $$ [HS0 HSnd Hrel Hs HO]
  · isplitr; · iexact HE
    isplitl [HO]; · iexact HO
    isplitl [HS0]; · unfold SendPos; iexact HS0
    isplitl [HSnd]; · iexact HSnd
    isplitl [Hrel] <;> iassumption
  iintro HO HS0 Hc
  iapply Hk $$ [HR HS0 HS HD HRel HCr HSnds Hp] [HO] [Hc]
  · isplitl [HR]; · iexact HR
    isplitl [HS0 HS]; · unfold SendPos; isplitl [HS0] <;> iassumption
    isplitl [HD]; · iexact HD
    isplitl [HRel]; · iexact HRel
    isplitl [HCr]; · iexact HCr
    isplitl [HSnds] <;> iassumption
  · iexact HO
  · iexact Hc

/-! ### Slots named by the printed offsets -/

theorem wp_ldSlotN (n : ℕ) (off : Fin 3 → ℕ) (e : off = ![n % 3, 0, 0]) (h) (hl) (q : PosShare TreeShare) (X : (Sq2 k).Idx → Elt F .f32) {α : Type}
    (kk : ((Sq1 k).Idx → Elt F .f32) → Prog (TpuEff nD τ sig (Elt F) Λ₀ .tc) α) (Q : α → sProp 𝕄) :
    own' c (slotM k n) q X ⊢ iprop((∀ a, ⌜shapeCast (Sq2 k) a (castsSq k) = X⌝ -∗ own' c (slotM k n) q X -∗ WP c (kk a) Q)
      -∗ WP c (.op (.load (comm k) (Rect.unit (s := Sq3 k) off (Sq1 k).size h).toLoadRect hl) kk) Q) := by
  subst e; exact wp_ldSlot c k _ h hl q X kk Q
theorem wp_stSlotN (n : ℕ) (off : Fin 3 → ℕ) (e : off = ![n % 3, 0, 0]) (h) (hx hm) (X : (Sq2 k).Idx → Elt F .f32) (w : (Sq1 k).Idx → Elt F .f32) {α : Type}
    (kk : PUnit → Prog (TpuEff nD τ sig (Elt F) Λ₀ .tc) α) (Q : α → sProp 𝕄) :
    own' c (slotM k n) fullShare X ⊢ iprop((own' c (slotM k n) fullShare (shapeCast (Sq2 k) w (castsSq k)) -∗ WP c (kk ⟨⟩) Q)
      -∗ WP c (.op (.store (comm k) (Rect.unit (s := Sq3 k) off (Sq1 k).size h) w Finset.univ hx hm) kk) Q) := by
  subst e; exact wp_stSlot c k _ h hx hm X w kk Q
theorem ld00 (X : (Sq2 k).Idx → Elt F .f32) : View.ld (Val := Elt F) X (Rect.unit (s := Sq2 k) ![0, 0] (Sq2 k).size (inP k)) = X :=
  funext fun j => congrArg X (emb00 (inP k) j)

/-! ### The reduce-scatter trip -/

/-- What stream `k` holds before trip `g` of the reduce-scatter. -/
def SR (g : ℕ) : sProp 𝕄 :=
  iprop(cred (tallyAt (sendC c k g) 0 (N k)) ∗ own' c (slotM k (g + 2)) hR (D.ct k c g) ∗ Core' c k g g g (g + 1) (g - 1))

theorem rs_copy (t : Fin k0_t1_loop.trips) (Or : CellTallies nD τ sig ℕ) (Q : PUnit → sProp 𝕄) :
    iprop(Env D κ κ' ∗ Ids c ∗ Rel (dn k c) k (t.val + 1) ∗ Core' c k (t.val + 1) (t.val + 1) (t.val + 1) (t.val + 1) t.val
      ∗ Owes c (Or + OwR c k (t.val + 1) (t.val + 1)) ∗ own' c (slotM k (t.val + 1 + 2)) hL (D.ct k c (t.val + 1)))
      ⊢ iprop((Ids c -∗ Owes c (Or + OwR c k (t.val + 2) (t.val + 1)) -∗ Core' c k (t.val + 1) (t.val + 1) (t.val + 1) (t.val + 2) t.val
          -∗ cred (tallyAt (sendC c k (t.val + 1)) 0 (N k)) -∗ Q ⟨⟩) -∗ WP c (do
        let d ← ldId (F := F) (iD k)
        have hd : k0_chk26 t d := (← Prog.lift (TpuEff.assume (k0_chk26 t d) (k0_chk26.dec t d))).down
        Prog.lift (.enqueueDma (slotAt k (k0_off33 t) (inSq3 k _ (k0_off33_inb t (rs_cond t))))
            (.remote (Dev.tc (⟨k0_dev14 d, k0_dev14_lt t d hd (rs_cond t)⟩ : Dev nD)) (slotAt k (k0_off32 t) (inSq3 k _ (k0_off32_inb t (rs_cond t)))) (.dma (semAt cc0_scratch13 k (k0_off30 t 1) (lt3c t (rs_cond t)))))
            (.dma (semAt cc0_scratch14 k (k0_off31 t 1) (lt3d t (rs_cond t)))) ((View.wordExact_bits rfl).reshape _ _) ((View.wordExact_bits rfl).reshape _ _) ⟨⟨rfl, .inl rfl⟩, trivial⟩)) Q) := by
    have ht := lt_trips1 t
    have hD : k0_chk26 t (idTab c (iD k)) := by rw [idTab_iD]; exact chk26_ok t _
    simp only [Prog.lift, Prog.bind_op, Prog.bind_ret, Prog.pure_eq_ret, bind_assoc]
    iintro ⟨#HE, HI, Hrel, HC, HO, Hs⟩ Hk
    iapply (wp_ldId c (iD k)) $$ HI
    iintro HI
    iapply (wp_as c hD)
    iapply (step_copy c k D κ κ' (g := t.val + 1) (by omega) Or _ (Fin.ext (show k0_dev14 (idTab c (iD k)) = _ by rw [idTab_iD]; exact dev14_eq _)) _ _
      (slot_eq k _ _ ((off33_eq t).trans (by congr 1; omega))) (slot_eq k _ _ (off32_eq t)) _ _ _ _ ((off30_eq t).trans (by omega)) (off31_eq t)) $$ [HC Hrel Hs HO]
    · isplitr; · iexact HE
      isplitl [HC]; · iexact HC
      isplitl [Hrel]; · iexact Hrel
      isplitl [Hs] <;> iassumption
    iintro HC HO Hc
    iapply (wp_done c)
    iapply Hk $$ HI HO HC Hc

theorem rs_step (t : Fin k0_t1_loop.trips) (Or : CellTallies nD τ sig ℕ) (hO : Above (2 * t.val + 2) Or) (Q : PUnit → sProp 𝕄) :
    iprop(Env D κ κ' ∗ Ids c ∗ Owes c (Or + OwR c k (t.val + 1) t.val) ∗ SR c k D t.val ∗ own' c (pbuf k) fullShare (D.part k c (lab k c (t.val + 1))))
      ⊢ iprop((Ids c -∗ Owes c (Or + OwR c k (t.val + 2) (t.val + 1)) -∗ SR c k D (t.val + 1) -∗ (∃ X, own' c (pbuf k) fullShare X) -∗ Q ⟨⟩)
        -∗ WP c (rsStep k t) Q) := by
  have ht := lt_trips1 t
  have hU : k0_chk25 (idTab c (iU k)) := by rw [idTab_iU]; exact chk25_ok _
  have hD : k0_chk26 t (idTab c (iD k)) := by rw [idTab_iD]; exact chk26_ok t _
  unfold SR rsStep
  simp only [Prog.lift, Prog.bind_op, Prog.bind_ret, Prog.pure_eq_ret, bind_assoc]
  iintro ⟨#HE, HI, HO, ⟨Hc, HhR, HC⟩, Hp⟩ Hk
  iapply (wp_ldId c (iU k)) $$ HI
  iintro HI
  iapply (wp_as c hU)
  iapply (wp_ldId c (iD k)) $$ HI
  iintro HI
  iapply (step_recv c k D κ κ' (g := t.val) (by omega) (Or + OwR c k (t.val + 1) t.val) (hO.add (Above.owr c k (by omega) (by omega))) (lt3a t) (off25_eq t)
    _ _ (slot_credit k _ _)) $$ [HC HO]
  · isplitr; · iexact HE
    isplitl [HC] <;> iassumption
  iintro HC Ht HO Hs
  iapply (wp_ldSlotN c k t.val _ (off28_eq t)) $$ Hs
  iintro %a %ha Hs
  iapply (wp_ld c (pbuf k)) $$ Hp
  iintro Hp
  iapply (wp_ldSlotN c k t.val _ (off28_eq t)) $$ Hs
  iintro %a' %ha' Hs
  iapply (wp_stSlotN c k t.val _ (off28_eq t)) $$ Hs
  rw [cast_payA, ha, ld00, D.ct_add k c ht]
  iintro Hs
  iapply (step_sent c k D κ κ' (g := t.val) (by omega) (Or + OwR c k (t.val + 1) t.val) ((hO.mono (by omega)).add (Above.owr c k (by omega) (by omega))) (lt3b t) (off29_eq t)
    _ _ (slot_credit k _ _)) $$ [HC HO Hc]
  · isplitr; · iexact HE
    isplitl [HC]; · iexact HC
    isplitl [Hc] <;> iassumption
  iintro HC HO HhL
  ihave Hfull := (owns_halves (c : Thread nD τ) (slotM k (t.val + 2)) fullShare (D.ct k c t.val)).2 $$ [HhL HhR]
  · isplitl [HhL] <;> iassumption
  iapply (step_credit c k D κ κ' (g := t.val) (by omega) Or (t.val + 1) _ _ (dev_up c k _ hU (idTab_iU k c))) $$ [HC Ht Hfull HO]
  · isplitr; · iexact HE
    isplitl [HC]; · iexact HC
    isplitl [Ht]; · iexact Ht
    isplitl [Hfull] <;> iassumption
  iintro HC HO
  ihave Hs := (owns_halves (c : Thread nD τ) (slotM k t.val) fullShare (D.ct k c (t.val + 1))).1 $$ Hs
  icases Hs with ⟨HhL, HhR⟩
  rw [show slotM k t.val = slotM k (t.val + 1 + 2) from slot_mod k (by omega)]
  unfold rsSend
  simp only [Prog.lift, Prog.bind_op, Prog.bind_ret, Prog.pure_eq_ret, bind_assoc]
  have hsend := rs_copy c k D κ κ' t Or Q
  simp only [Prog.lift, Prog.bind_op, Prog.bind_ret, Prog.pure_eq_ret, bind_assoc] at hsend
  by_cases h1 : 1 ≤ t.val
  · rw [if_pos h1]
    have hm : t.val - 1 + 1 = t.val := by omega
    iapply (step_take c k D κ κ' (m := t.val - 1) (by omega) (Or + OwR c k (t.val + 1) (t.val + 1)) ((hO.mono (by omega)).add (Above.owr c k (by omega) (by omega)))) $$ [HC HO]
    · isplitr; · iexact HE
      isplitl [HC] <;> iassumption
    rw [hm, show t.val - 1 + 2 = t.val + 1 by omega]
    iintro HC HO Hrel
    iapply hsend $$ [HI HC HO Hrel HhL]
    · isplitr; · iexact HE
      isplitl [HI]; · iexact HI
      isplitl [Hrel]; · iexact Hrel
      isplitl [HC]; · iexact HC
      isplitl [HO] <;> iassumption
    iintro HI HO HC Hc
    iapply Hk $$ HI HO [HC Hc HhR] [Hp]
    · rw [Nat.add_sub_cancel]
      isplitl [Hc]; · iexact Hc
      isplitl [HhR] <;> iassumption
    · iexists _; iexact Hp
  · rw [if_neg h1]
    have h0 : t.val = 0 := by omega
    rw [h0, show 0 - 1 = 0 from rfl]
    ihave HC := (Core'_rel c k _ _ _ _ _) $$ HC
    icases HC with ⟨HC, Hrel⟩
    rw [h0] at hsend
    iapply hsend $$ [HI HC HO Hrel HhL]
    · isplitr; · iexact HE
      isplitl [HI]; · iexact HI
      isplitl [Hrel]; · iexact Hrel
      isplitl [HC]; · iexact HC
      isplitl [HO] <;> iassumption
    iintro HI HO HC Hc
    iapply Hk $$ HI HO [HC Hc HhR] [Hp]
    · isplitl [Hc]; · iexact Hc
      isplitl [HhR] <;> iassumption
    · iexists _; iexact Hp

end

end Cert.Proof

end
-- ==== Proof.Gather.lean ====
/-
  The rest of a stream's steps on one device: a partial product, the store between the loops, a trip of the all-gather, the
  end; and the steps before the loops.
-/
module

public import proofs.«01_k».proof.Proof.Steps

@[expose] public section

set_option maxRecDepth 65536
set_option maxHeartbeats 1600000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section
variable (c : Dev nD) (k : Fin 6) (D : Inp F) (κ : GSem nD τ sig → ℕ) (κ' : Key → ℕ)

/-! ### Partial products -/

/-- The device's rows of the data and its narrowed weights. -/
def XW : sProp 𝕄 := iprop(own' c xM fullShare (D.x c) ∗ own' c wbM fullShare (D.wb c))
/-- A buffer at some values. -/
def AnyP : sProp 𝕄 := iprop(∃ X, own' c (pbuf k) fullShare X)

theorem whole00 {d₀ d₁ : ℕ} (h) (i : (⟨2, ![d₀, d₁]⟩ : Shape).Idx) :
    ∃ j : (Rect.unit (s := ⟨2, ![d₀, d₁]⟩) ![0, 0] ![d₀, d₁] h).shape.Idx, (Rect.unit (s := ⟨2, ![d₀, d₁]⟩) ![0, 0] ![d₀, d₁] h).emb j = i :=
  ⟨i, emb00 h i⟩

/-- A partial product computed into the stream's buffer. -/
theorem fill {α : Type} (n : ℕ) (off : Fin 2 → ℕ) (e : off = ![128 * chunkOf k n, 0]) (h hc hp)
    (kk : PUnit → Prog (TpuEff nD τ sig (Elt F) Λ₀ .tc) α) (Q : α → sProp 𝕄) :
    iprop(XW c D ∗ AnyP (F := F) c k) ⊢ iprop((XW c D -∗ own' c (pbuf k) fullShare (D.part k c n) -∗ WP c (kk ⟨⟩) Q)
      -∗ WP c (fillP k (D.scale c) off h hc hp >>= kk) Q) := by
  subst e
  unfold XW AnyP fillP
  simp only [Prog.lift, Prog.bind_op, Prog.bind_ret, Prog.pure_eq_ret, bind_assoc]
  iintro ⟨⟨HX, HW⟩, ⟨%P, HP⟩⟩ Hk
  iapply (wp_ld c xM) $$ HX
  iintro HX
  iapply (wp_ld c wbM) $$ HW
  iintro HW
  iapply (wp_ld c (pbuf k)) $$ HP
  iintro HP
  iapply (wp_st c (pbuf k) (Rect.unit (s := Sq2 k) ![0, 0] (Sq2 k).size hp) (whole00 hp) _ (D.part k c n) (fun j => congrArg (D.part k c n) (emb00 hp j))) $$ HP
  iintro HP
  iapply Hk $$ [HX HW] [HP]
  · isplitl [HX] <;> iassumption
  · iexact HP

theorem chk19_ok (t : Fin k0_t1_loop.trips) (hk : k.val % 2 = 0) : k0_chk19 t (idTab c (iR k)) := by
  have := lt_trips1 t
  show ∀ a, k0_off19 t (idTab c (iR k)) a + S128x128.size a ≤ S4096x128.size a
  rw [rowFill_even k hk c t]; exact chkX ⟨_, chunkOf_lt k _⟩
theorem chk20_ok (t : Fin k0_t1_loop.trips) (hk : ¬ k.val % 2 = 0) : k0_chk20 t (idTab c (iR k)) := by
  have := lt_trips1 t
  show ∀ a, k0_off20 t (idTab c (iR k)) a + S128x128.size a ≤ S4096x128.size a
  rw [rowFill_odd k hk c t]; exact chkX ⟨_, chunkOf_lt k _⟩
theorem chk7_ok : k0_chk7 (idTab c (iR k)) := by
  show ∀ a, k0_off1 (idTab c (iR k)) a + S128x128.size a ≤ S4096x128.size a
  rw [row0_eq]; exact chkX ⟨_, chunkOf_lt k _⟩

/-- The partial product of trip `t`. -/
theorem rs_fill (t : Fin k0_t1_loop.trips) (Q : PUnit → sProp 𝕄) :
    iprop(Ids c ∗ XW c D ∗ AnyP (F := F) c k)
      ⊢ iprop((Ids c -∗ XW c D -∗ own' c (pbuf k) fullShare (D.part k c (lab k c (t.val + 1))) -∗ Q ⟨⟩)
        -∗ WP c (rsFill k (D.scale c) t) Q) := by
  unfold rsFill
  by_cases hk : k.val % 2 = 0
  · rw [if_pos hk]
    simp only [Prog.lift, Prog.bind_op, Prog.bind_ret, Prog.pure_eq_ret]
    iintro ⟨HI, HX, HP⟩ Hk
    iapply (wp_ldId c (iR k)) $$ HI
    iintro HI
    iapply (wp_as c (chk19_ok c k t hk))
    rw [← bind_pure (fillP k _ _ _ _ _)]
    iapply (fill c k D (lab k c (t.val + 1)) _ (rowFill_even k hk c t)) $$ [HX HP]
    · isplitl [HX] <;> iassumption
    iintro HX HP
    iapply (wp_done c)
    iapply Hk $$ HI HX HP
  · rw [if_neg hk]
    simp only [Prog.lift, Prog.bind_op, Prog.bind_ret, Prog.pure_eq_ret]
    iintro ⟨HI, HX, HP⟩ Hk
    iapply (wp_ldId c (iR k)) $$ HI
    iintro HI
    iapply (wp_as c (chk20_ok c k t hk))
    rw [← bind_pure (fillP k _ _ _ _ _)]
    iapply (fill c k D (lab k c (t.val + 1)) _ (rowFill_odd k hk c t)) $$ [HX HP]
    · isplitl [HX] <;> iassumption
    iintro HX HP
    iapply (wp_done c)
    iapply Hk $$ HI HX HP

/-- The stream's own chunk, computed into slot 2. -/
theorem init_step (Q : PUnit → sProp 𝕄) :
    iprop(Ids c ∗ XW c D ∗ AnyP (F := F) c k ∗ (∃ X, own' c (slotM k 2) fullShare X))
      ⊢ iprop((Ids c -∗ XW c D -∗ AnyP (F := F) c k -∗ own' c (slotM k 2) fullShare (D.ct k c 0) -∗ Q ⟨⟩)
        -∗ WP c (initK k (D.scale c)) Q) := by
  unfold initK
  simp only [Prog.lift, Prog.bind_op, Prog.bind_ret, Prog.pure_eq_ret, bind_assoc]
  iintro ⟨HI, HX, HP, ⟨%X, HS⟩⟩ Hk
  iapply (wp_ldId c (iR k)) $$ HI
  iintro HI
  iapply (wp_as c (chk7_ok c k))
  iapply (fill c k D (lab k c 0) _ (row0_eq k c)) $$ [HX HP]
  · isplitl [HX] <;> iassumption
  iintro HX HP
  iapply (wp_ld c (pbuf k)) $$ HP
  iintro HP
  iapply (wp_ldSlotN c k 2 _ rfl) $$ HS
  iintro %a %ha HS
  iapply (wp_stSlotN c k 2 _ rfl) $$ HS
  rw [cast_payC, ld00, ← D.ct_zero k c]
  iintro HS
  iapply (wp_done c)
  iapply Hk $$ HI HX [HP] HS
  unfold AnyP
  iexists _; iexact HP

/-- What stream `k` holds before its first copy. -/
def S0 : sProp 𝕄 := iprop(own' c (slotM k 2) fullShare (D.ct k c 0) ∗ Rel (dn k c) k 0 ∗ Core' c k 0 0 0 0 0)

theorem off8_2 : k0_off8 2#32 = ![(0 + 2) % 3, 0, 0] := by decide +kernel
theorem off8_0 : k0_off8 0#32 = ![0 % 3, 0, 0] := by decide +kernel
theorem off7_2 : k0_off7 2#32 1 = (0 + 2) % 3 := by decide +kernel
theorem off7_0 : k0_off7 0#32 1 = 0 % 3 := by decide +kernel

theorem copy0_step (Or : CellTallies nD τ sig ℕ) (Q : PUnit → sProp 𝕄) :
    iprop(Env D κ κ' ∗ Ids c ∗ Owes c (Or + OwR c k 0 0) ∗ S0 c k D)
      ⊢ iprop((Ids c -∗ Owes c (Or + OwR c k 1 0) -∗ SR c k D 0 -∗ Q ⟨⟩) -∗ WP c (copy0 k) Q) := by
  have hD : k0_chk13 (idTab c (iD k)) := by rw [idTab_iD]; exact chk13_ok _
  unfold copy0 S0 SR
  simp only [Prog.lift, Prog.bind_op, Prog.bind_ret, Prog.pure_eq_ret, bind_assoc]
  iintro ⟨#HE, HI, HO, ⟨HS, Hrel, HC⟩⟩ Hk
  iapply (wp_ldId c (iD k)) $$ HI
  iintro HI
  iapply (wp_as c hD)
  ihave HS := (owns_halves (c : Thread nD τ) (slotM k (0 + 2)) fullShare (D.ct k c 0)).1 $$ HS
  icases HS with ⟨HhL, HhR⟩
  iapply (step_copy c k D κ κ' (g := 0) (by omega) Or _ (Fin.ext (show k0_dev7 (idTab c (iD k)) = _ by rw [idTab_iD]; exact dev7_eq _)) _ _
      (slot_eq k _ _ off8_2) (slot_eq k _ _ off8_0) _ _ _ _ off7_2 off7_0) $$ [HC Hrel HhL HO]
  · isplitr; · iexact HE
    isplitl [HC]; · iexact HC
    isplitl [Hrel]; · iexact Hrel
    isplitl [HhL] <;> iassumption
  iintro HC HO Hc
  iapply (wp_done c)
  iapply Hk $$ HI HO [HC Hc HhR]
  isplitl [Hc]; · iexact Hc
  isplitl [HhR] <;> iassumption

/-! ### The result's rectangles -/

def Sto (r : ℕ) : sProp 𝕄 := dutyTok ER (storeC c k) r 0
/-- The rectangle that store `g - 31` fills, filled; not yet. -/
def OutDone (g : ℕ) : sProp 𝕄 := own' c (outL k (lab k c g)) fullShare (D.ct k c g)
def OutTodo (g : ℕ) : sProp 𝕄 := iprop(∃ Y, own' c (outL k (lab k c g)) fullShare Y)

/-- The store outstanding before trip `t`; before trip 0 there is none. -/
def StP (t : ℕ) : sProp 𝕄 :=
  if t = 0 then iprop(own' c (slotM k 33) hR (D.ct k c 31) ∗ OutDone c k D 31 ∗ At (storeC c k) 1)
  else iprop(cred (tallyAt (storeC c k) 0 (N k)) ∗ At (storeC c k) t)
/-- The copy outstanding before trip `t`; before the end there is none. -/
def CpP (t : ℕ) : sProp 𝕄 :=
  if t < 31 then cred (tallyAt (sendC c k (31 + t)) 0 (N k)) else own' c (slotM k (33 + t)) hL (D.ct k c (31 + t))

/-- What stream `k` holds before trip `t` of the all-gather. -/
def SA (t : ℕ) : sProp 𝕄 :=
  iprop(CpP c k D t ∗ StP c k D t ∗ Core' c k (31 + t) (31 + t) (31 + t) (32 + t) (min (30 + t) 60)
    ∗ (bigSep (Finset.Ico (t + 1) 32) (Sto c k)) ∗ (bigSep (Finset.Ico 31 (31 + t)) (OutDone c k D)) ∗ bigSep (Finset.Ico (32 + t) 63) (OutTodo (F := F) c k))

/-- What the store side holds before the loops. -/
def SM0 : sProp 𝕄 :=
  iprop(At (storeC c k) 0 ∗ (bigSep (Finset.Ico 0 32) (Sto c k)) ∗ bigSep (Finset.Ico 31 63) (OutTodo (F := F) c k))

theorem mid_step (Or : CellTallies nD τ sig ℕ) (hO : Above 0 Or) (Q : PUnit → sProp 𝕄) :
    iprop(Env D κ κ' ∗ Ids c ∗ Owes c Or ∗ SR c k D 31 ∗ SM0 (F := F) c k)
      ⊢ iprop((Ids c -∗ Owes c Or -∗ SA c k D 0 -∗ Q ⟨⟩) -∗ WP c (midK k) Q) := by
  have hC : ChkOut k (rowMid k (idTab c (iR k))) := by rw [rowMid_eq]; exact chkOut_row k _
  unfold midK SR SM0
  rw [Ico_first (by omega : 0 < 32) (Sto c k), Ico_first (by omega : 31 < 63) (OutTodo (F := F) c k)]
  simp only [Prog.lift, Prog.bind_op, Prog.bind_ret, Prog.pure_eq_ret, bind_assoc]
  iintro ⟨#HE, HI, HO, ⟨Hc, HhR, HC⟩, ⟨Hat, ⟨Ht, Hts⟩, ⟨Hout, Houts⟩⟩⟩ Hk
  iapply (wp_ldId c (iR k)) $$ HI
  iintro HI
  iapply (wp_as c hC)
  rw [show slotM k (31 + 2) = slotM k (30 + 0) from slot_mod k (by omega)]
  unfold Sto OutTodo
  iapply (wp_storeOut D κ κ' c k (r := 0) (by omega) _ _ (slot_eq k _ _ rfl) (out_eq k _ _ (rowMid_eq k c))) $$ [Hat Ht HhR Hout]
  · isplitr; · iexact HE
    isplitl [Hat]; · iexact Hat
    isplitl [Ht]; · iexact Ht
    isplitl [HhR] <;> iassumption
  iintro Hat Hcs
  iapply (wp_stored D κ κ' c k (r := 0) (by omega) _ _ (out_credit k _ _) _ _ Or hO) $$ [Hat Hcs HO]
  · isplitr; · iexact HE
    isplitl [Hat]; · iexact Hat
    isplitl [Hcs] <;> iassumption
  unfold storePay
  iintro Hat HO ⟨Hout, HhR⟩
  iapply (wp_done c)
  iapply Hk $$ HI HO [Hc HC Hat Hts Houts Hout HhR]
  unfold SA CpP StP OutDone
  rw [if_pos (by omega : 0 < 31), if_pos rfl]
  isplitl [Hc]; · iexact Hc
  isplitl [HhR Hout Hat]
  · rw [show slotM k 33 = slotM k (30 + 0) from slot_mod k (by omega)]
    isplitl [HhR]; · iexact HhR
    isplitl [Hout] <;> iassumption
  isplitl [HC]; · iexact HC
  isplitl [Hts]; · iexact Hts
  rw [Finset.Ico_self, bigSep_empty]
  isplitr
  · iempintro
  · iexact Houts

theorem off93_eq : ∀ t : Fin k0_t2_loop.trips, k0_off93 t = ![(t.val + 33) % 3, 0, 0] := by decide +kernel

/-- Before trip `t` stores: the wait for the store before. -/
theorem ag_stored {α : Type} (t : ℕ) (ht : t < 32) (O : CellTallies nD τ sig ℕ) (hO : Above 0 O) {sp sp' : Space} (src : Memref sig .tc sp (Sq2 k) .f32)
    (dst : Memref sig .tc sp' (Sq2 k) .f32) (hd : dst.view.dmaCredit = N k) (h1 h2)
    (kk : PUnit → Prog (TpuEff nD τ sig (Elt F) Λ₀ .tc) α) (Q : α → sProp 𝕄) :
    iprop(Env D κ κ' ∗ StP c k D t ∗ Owes c O)
      ⊢ iprop((At (storeC c k) (t + 1) -∗ OutDone c k D (31 + t) -∗ own' c (slotM k (33 + t)) hR (D.ct k c (31 + t)) -∗ Owes c O -∗ WP c (kk ⟨⟩) Q)
        -∗ WP c (if 1 ≤ t then .op (.waitDma2 (storeS k) src dst h1 h2) kk else kk ⟨⟩) Q) := by
  unfold StP
  by_cases h0 : t = 0
  · subst h0
    rw [if_pos rfl, if_neg (by omega)]
    iintro ⟨#HE, ⟨Hs, Hout, Hat⟩, HO⟩ Hk
    iapply Hk $$ Hat Hout Hs HO
  · rw [if_neg h0, if_pos (by omega)]
    iintro ⟨#HE, ⟨Hc, Hat⟩, HO⟩ Hk
    iapply (wp_stored D κ κ' c k (r := t) ht src dst hd h1 h2 O hO) $$ [Hat Hc HO]
    · isplitr; · iexact HE
      isplitl [Hat]; · iexact Hat
      isplitl [Hc] <;> iassumption
    unfold storePay OutDone
    rw [show slotM k (30 + t) = slotM k (33 + t) from slot_mod k (by omega)]
    iintro Hat HO ⟨Hout, HhR⟩
    iapply Hk $$ Hat Hout HhR HO

theorem Ico_last {a b : ℕ} (h : a ≤ b) (Φ : ℕ → sProp 𝕄) : iprop(bigSep (Finset.Ico a b) Φ ∗ Φ b) ⊢ bigSep (Finset.Ico a (b + 1)) Φ := by
  have e : bigSep (Finset.Ico a (b + 1)) Φ = iprop(Φ b ∗ bigSep (Finset.Ico a b) Φ) := by
    rw [← Finset.insert_Ico_right_eq_Ico_add_one h, bigSep_insert (by simp)]; rfl
  rw [e]
  iintro ⟨H1, H2⟩
  isplitl [H2] <;> iassumption

theorem ag_copy (t : Fin k0_t2_loop.trips) (hc : k0_cond14 t = 1#1) (Or : CellTallies nD τ sig ℕ) (hO : Above (2 * (31 + t.val) + 2) Or) (Q : PUnit → sProp 𝕄) :
    iprop(Env D κ κ' ∗ Ids c ∗ Core' c k (32 + t.val) (32 + t.val) (32 + t.val) (32 + t.val) (30 + t.val)
      ∗ Owes c (Or + OwR c k (32 + t.val) (32 + t.val)) ∗ own' c (slotM k (31 + t.val)) hL (D.ct k c (32 + t.val)))
      ⊢ iprop((Ids c -∗ Owes c (Or + OwR c k (33 + t.val) (32 + t.val)) -∗ Core' c k (32 + t.val) (32 + t.val) (32 + t.val) (33 + t.val) (31 + t.val)
          -∗ cred (tallyAt (sendC c k (32 + t.val)) 0 (N k)) -∗ Q ⟨⟩) -∗ WP c (agSend (F := F) k t hc) Q) := by
  have ht := (ag_cond14 t).mp hc
  have hD : k0_chk45 t (idTab c (iD k)) := by rw [idTab_iD]; exact chk45_ok t _
  unfold agSend
  simp only [Prog.lift, Prog.bind_op, Prog.bind_ret, Prog.pure_eq_ret, bind_assoc]
  iintro ⟨#HE, HI, HC, HO, Hs⟩ Hk
  iapply (step_take c k D κ κ' (m := 30 + t.val) (by omega) (Or + OwR c k (32 + t.val) (32 + t.val)) ((hO.mono (by omega)).add (Above.owr c k (by omega) (by omega)))) $$ [HC HO]
  · isplitr; · iexact HE
    isplitl [HC] <;> iassumption
  rw [show 30 + t.val + 1 = 31 + t.val by omega, show 30 + t.val + 2 = 32 + t.val by omega]
  iintro HC HO Hrel
  iapply (wp_ldId c (iD k)) $$ HI
  iintro HI
  iapply (wp_as c hD)
  rw [show slotM k (31 + t.val) = slotM k (32 + t.val + 2) from slot_mod k (by omega)]
  iapply (step_copy c k D κ κ' (g := 32 + t.val) (by omega) Or _ (Fin.ext (show k0_dev26 (idTab c (iD k)) = _ by rw [idTab_iD]; exact dev26_eq _)) _ _
      (slot_eq k _ _ ((off97_eq t).trans (by rw [show (t.val + 31) % 3 = (32 + t.val + 2) % 3 by omega]))) (slot_eq k _ _ ((off96_eq t).trans (by rw [add_comm])))
      _ _ _ _ ((off94_eq t).trans (by omega)) ((off95_eq t).trans (by omega))) $$ [HC Hrel Hs HO]
  · isplitr; · iexact HE
    isplitl [HC]; · iexact HC
    isplitl [Hrel]; · iexact Hrel
    isplitl [Hs] <;> iassumption
  rw [show 32 + t.val + 1 = 33 + t.val by omega]
  iintro HC HO Hc
  iapply (wp_done c)
  iapply Hk $$ HI HO HC Hc

theorem ag_step (t : Fin k0_t2_loop.trips) (Or : CellTallies nD τ sig ℕ) (hO : Above (2 * (31 + t.val) + 2) Or) (Q : PUnit → sProp 𝕄) :
    iprop(Env D κ κ' ∗ Ids c ∗ Owes c (Or + OwR c k (32 + t.val) (31 + t.val)) ∗ SA c k D t.val)
      ⊢ iprop((Ids c -∗ Owes c (Or + OwR c k (33 + t.val) (32 + t.val)) -∗ SA c k D (t.val + 1) -∗ Q ⟨⟩)
        -∗ WP c (agStep (F := F) k t) Q) := by
  have ht := lt_trips2 t
  have hU : k0_chk25 (idTab c (iU k)) := by rw [idTab_iU]; exact chk25_ok _
  have hC : ChkAG k t (rowAG k t (idTab c (iR k))) := by rw [rowAG_eq]; exact ⟨fun _ => chkOut_row k _, chkOut_row k _⟩
  unfold SA agStep CpP
  rw [if_pos ht, Ico_first (by omega : t.val + 1 < 32) (Sto c k), Ico_first (by omega : 32 + t.val < 63) (OutTodo (F := F) c k)]
  simp only [Prog.lift, Prog.bind_op, Prog.bind_ret, Prog.pure_eq_ret, bind_assoc]
  iintro ⟨#HE, HI, HO, ⟨Hc, HSt, HC, ⟨Ht, Hts⟩, Hdone, ⟨Hout, Houts⟩⟩⟩ Hk
  iapply (wp_ldId c (iR k)) $$ HI
  iintro HI
  iapply (wp_as c hC)
  iapply (wp_ldId c (iU k)) $$ HI
  iintro HI
  iapply (wp_as c hU)
  iapply (wp_ldId c (iD k)) $$ HI
  iintro HI
  have hA : Above (2 * (31 + t.val) + 2) (Or + OwR c k (32 + t.val) (31 + t.val)) := hO.add (Above.owr c k (by omega) (by omega))
  iapply (step_recv c k D κ κ' (g := 31 + t.val) (by omega) (Or + OwR c k (32 + t.val) (31 + t.val)) hA (lt3e t) ((off85_eq t).trans (by rw [add_comm]))
    _ _ (slot_credit k _ _)) $$ [HC HO]
  · isplitr; · iexact HE
    isplitl [HC] <;> iassumption
  rw [D.ct_fwd k c (by omega : 31 ≤ 31 + t.val) (by omega), show 31 + t.val + 1 = 32 + t.val by omega]
  iintro HC Htok HO Hs
  ihave Hs := (owns_halves (c : Thread nD τ) (slotM k (31 + t.val)) fullShare (D.ct k c (32 + t.val))).1 $$ Hs
  icases Hs with ⟨HsL, HsR⟩
  iapply (ag_stored c k D κ κ' t.val (by omega) (Or + OwR c k (32 + t.val) (31 + t.val)) (hA.mono (by omega)) _ _ (out_credit k _ _)) $$ [HSt HO]
  · isplitr; · iexact HE
    isplitl [HSt] <;> iassumption
  iintro Hat Hd HhR HO
  ihave Hdone := (Ico_last (a := 31) (b := 31 + t.val) (by omega) (OutDone c k D)) $$ [Hdone Hd]
  · isplitl [Hdone] <;> iassumption
  unfold Sto OutTodo
  rw [show slotM k (31 + t.val) = slotM k (30 + (t.val + 1)) from slot_mod k (by omega), show 32 + t.val = 31 + (t.val + 1) by omega]
  iapply (wp_storeOut D κ κ' c k (r := t.val + 1) (by omega) _ _ (slot_eq k _ _ ((off91_eq t).trans (by rw [show (t.val + 31) % 3 = (30 + (t.val + 1)) % 3 by omega])))
    (out_eq k _ _ ((rowAG_eq k c t).trans (by rw [show t.val + 32 = 31 + (t.val + 1) by omega])))) $$ [Hat Ht HsR Hout]
  · isplitr; · iexact HE
    isplitl [Hat]; · iexact Hat
    isplitl [Ht]; · iexact Ht
    isplitl [HsR] <;> iassumption
  iintro Hat Hcs
  rw [show slotM k (30 + (t.val + 1)) = slotM k (31 + t.val) from slot_mod k (by omega), show 31 + (t.val + 1) = 32 + t.val by omega]
  iapply (step_sent c k D κ κ' (g := 31 + t.val) (by omega) (Or + OwR c k (32 + t.val) (31 + t.val)) (hA.mono (by omega)) (lt3f t) ((off92_eq t).trans (by omega))
    _ _ (slot_credit k _ _)) $$ [HC HO Hc]
  · isplitr; · iexact HE
    isplitl [HC]; · iexact HC
    isplitl [Hc] <;> iassumption
  rw [show slotM k (33 + t.val) = slotM k (31 + t.val + 2) from slot_mod k (by omega)]
  iintro HC HO HhL
  ihave Hfull := (owns_halves (c : Thread nD τ) (slotM k (31 + t.val + 2)) fullShare (D.ct k c (31 + t.val))).2 $$ [HhL HhR]
  · isplitl [HhL] <;> iassumption
  rw [show 32 + t.val = 31 + t.val + 1 by omega]
  iapply (step_credit c k D κ κ' (g := 31 + t.val) (by omega) Or (31 + t.val + 1) _ _ (dev_up c k _ hU (idTab_iU k c))) $$ [HC Htok Hfull HO]
  · isplitr; · iexact HE
    isplitl [HC]; · iexact HC
    isplitl [Htok]; · iexact Htok
    isplitl [Hfull] <;> iassumption
  rw [show 31 + t.val + 1 = 32 + t.val by omega]
  iintro HC HO
  unfold StP
  rw [if_neg (by omega : ¬ t.val + 1 = 0), show 32 + t.val + 1 = 33 + t.val by omega, show 32 + (t.val + 1) = 33 + t.val by omega,
    show 30 + (t.val + 1) = 31 + t.val by omega, show 33 + (t.val + 1) = 34 + t.val by omega]
  by_cases hc : k0_cond14 t = 1#1
  · have h30 := (ag_cond14 t).mp hc
    rw [dif_pos hc, if_pos (by omega : t.val + 1 < 31), min_eq_left (by omega : 30 + t.val ≤ 60), min_eq_left (by omega : 31 + t.val ≤ 60)]
    iapply (ag_copy c k D κ κ' t hc Or hO) $$ [HI HC HO HsL]
    · isplitr; · iexact HE
      isplitl [HI]; · iexact HI
      isplitl [HC]; · iexact HC
      isplitl [HO] <;> iassumption
    iintro HI HO HC Hc
    iapply Hk $$ HI HO [HC Hc Hat Hcs Hts Hdone Houts]
    isplitl [Hc]; · iexact Hc
    isplitl [Hat Hcs]; · isplitl [Hcs] <;> iassumption
    isplitl [HC]; · iexact HC
    isplitl [Hts]; · iexact Hts
    isplitl [Hdone] <;> iassumption
  · have h30 : t.val = 30 := by have := mt (ag_cond14 t).mpr hc; omega
    rw [dif_neg hc, if_neg (by omega : ¬ t.val + 1 < 31), min_eq_right (by omega : 60 ≤ 30 + t.val), min_eq_right (by omega : 60 ≤ 31 + t.val)]
    rw [OwR_end' c k (a := 32 + t.val) (a' := 33 + t.val) (32 + t.val) (by omega) (by omega), show slotM k (34 + t.val) = slotM k (31 + t.val) from slot_mod k (by omega)]
    iapply (wp_done c)
    iapply Hk $$ HI HO [HC HsL Hat Hcs Hts Hdone Houts]
    isplitl [HsL]; · iexact HsL
    isplitl [Hat Hcs]; · isplitl [Hcs] <;> iassumption
    isplitl [HC]
    · unfold Core'
      rw [Finset.Ico_eq_empty (a := 32 + t.val) (b := 62) (by omega), Finset.Ico_eq_empty (a := 33 + t.val) (b := 62) (by omega)]
      iexact HC
    isplitl [Hts]; · iexact Hts
    isplitl [Hdone] <;> iassumption

end

end Cert.Proof

end
-- ==== Proof.End.lean ====
/-
  The end of a stream on one device: its last store and its last two credits awaited, its three slots taken back, its
  semaphores found at zero.
-/
module

public import proofs.«01_k».proof.Proof.Gather

@[expose] public section

set_option maxRecDepth 65536
set_option maxHeartbeats 1600000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section
variable (c : Dev nD) (k : Fin 6) (D : Inp F) (κ : GSem nD τ sig → ℕ) (κ' : Key → ℕ)

/-- Two units at two indices. -/
abbrev two (a b : ℕ) : ℕ →₀ ℕ := Finsupp.single a 1 + Finsupp.single b 1
theorem two_total (a b : ℕ) : Util.total (two a b) = 2 := by rw [Util.total_add, Util.total_single, Util.total_single]
theorem two_tally (g : GSem nD τ sig) (a b : ℕ) : (tallyOn g (two a b) : CellTallies nD τ sig ℕ) = tallyAt g a 1 + tallyAt g b 1 := by
  unfold tallyAt tallyOn; rw [← Pi.single_add]
theorem two_support (sm : SemLoc sig) (a b : ℕ) : (two a b).support.image (sm, ·) ⊆ {(sm, a), (sm, b)} := by
  intro p hp
  obtain ⟨u, hu, rfl⟩ := Finset.mem_image.mp hp
  have := Finsupp.support_add hu
  rcases Finset.mem_union.mp this with h | h
  · have := Finset.mem_singleton.mp (Finsupp.support_single_subset h)
    subst this; exact Finset.mem_insert_self _ _
  · have := Finset.mem_singleton.mp (Finsupp.support_single_subset h)
    subst this; exact Finset.mem_insert_of_mem (Finset.mem_singleton_self _)

/-- The last two credits. -/
theorem wp_credits {α : Type} (O : CellTallies nD τ sig ℕ) (hO : Above 125 O)
    (kk : PUnit → Prog (TpuEff nD τ sig (Elt F) Λ₀ .tc) α) (Q : α → sProp 𝕄) :
    iprop(Env D κ κ' ∗ CrPos c k 60 ∗ cred (tallyAt (credC c k) 60 1) ∗ cred (tallyAt (credC c k) 61 1) ∗ Owes c O)
      ⊢ iprop((At (credC c k) 1 -∗ Owes c O -∗ WP c (kk ⟨⟩) Q)
        -∗ WP c (semWaitWord (credS k) 2#32 >>= kk) Q) := by
  unfold CrPos Owes At
  iintro ⟨#HE, ⟨%T, %hT, Hat, -⟩, Hc1, Hc2, ⟨%W, HO⟩⟩ Hk
  iapply (Rounds.wp_wait_rest (defs := defs₀ (F := F)) 𝒱₀ ER (Rd D) (c : Thread nD τ) none (κ := κ (credC c k)) (w := .semWait (credS k) 2) (sm := .reg (credS k))
    (k' := 2) (wpE_semWait_eq 𝒱₀ (c : Thread nD τ) none Set.univ) (Set.mem_univ _) (k := kk) (cr := two 60 61) (O := O) (W := W)
    {(SemLoc.reg (credS k), 60), (SemLoc.reg (credS k), 61)} (R := 0)
    (m := 60) (T := T) (by rw [expect_cred]) (two_total 60 61) (two_support _ 60 61)) $$ [Hc1 Hc2 HO Hat]
  · isplitr; · iapply (Env.cell D κ κ' (mem_cred c k)); iexact HE
    isplitl [Hc1 Hc2]
    · rw [two_tally]
      iapply (cred_add _ _).2
      isplitl [Hc1] <;> iassumption
    isplitl [HO]; · iexact HO
    isplitr
    · iapply (hO.mayOwe c _ (fun p hp => by
        rcases Finset.mem_insert.mp hp with h | h
        · rw [h]; exact ⟨by omega, (lv_cred c k 60).le.trans (by omega)⟩
        · rw [Finset.mem_singleton.mp h]; exact ⟨by omega, (lv_cred c k 61).le⟩))
      iapply (Env.lev D κ κ'); iexact HE
    iexact Hat
  iintro ⟨HO, Hat, Hr, -⟩
  iapply Hk $$ [Hat Hr] [HO]
  · isplitl [Hat] <;> iassumption
  · iexists _; iexact HO

/-- A cell that owes nothing more is found at zero. -/
theorem close {g : GSem nD τ sig} (hm : g ∈ (barCells ∪ scCells : Finset (GSem nD τ sig))) (r : ℕ) (hd : ∀ r', r ≤ r' → (Rd D).duties g r' = ∅) :
    iprop(Env D κ κ' ∗ At g r) ⊢ (|={Set.univ}=> semVal g 0 : sProp 𝕄) := by
  unfold At
  iintro ⟨#HE, ⟨Hat, -⟩⟩
  iapply (cell_close ER (Rd D) (κ := κ g) (Es := Set.univ) (Set.mem_univ _) (fun h => h) hd)
  isplitr
  · iapply (Env.cell D κ κ' hm); iexact HE
  · iexact Hat

/-- The tokens by which a device takes its slots back at the end. -/
def Wt : sProp 𝕄 := iprop(writeTok EK (keyOf c k 62) (62 / 3 + 1) ∗ writeTok EK (keyOf c k 63) (63 / 3 + 1))

def AnySlot (g : ℕ) : sProp 𝕄 := iprop(∃ X, own' c (slotM k g) fullShare X)

/-- What stream `k` leaves. -/
def Fin' : sProp 𝕄 :=
  iprop((bigSep (Finset.Ico 31 63) (OutDone c k D)) ∗ (AnySlot (F := F) c k 0 ∗ AnySlot (F := F) c k 1 ∗ AnySlot (F := F) c k 2)
    ∗ bigSep Finset.univ fun j : Fin 8 => (semVal ((c : Thread nD τ), osem (k, j)) 0 : sProp 𝕄))

theorem eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide), bigSep_insert (by decide),
    bigSep_insert (by decide), bigSep_insert (by decide), bigSep_insert (by decide), bigSep_insert (by decide), bigSep_singleton]
  rfl

theorem osem_val : ∀ k : Fin 6, SemLoc.dma (sendS k (64 + 2)) = osem (k, 0) ∧ SemLoc.dma (sendS k (62 + 2)) = osem (k, 1) ∧ SemLoc.dma (sendS k (63 + 2)) = osem (k, 2)
    ∧ SemLoc.dma (recvS k 63) = osem (k, 3) ∧ SemLoc.dma (recvS k 64) = osem (k, 4) ∧ SemLoc.dma (recvS k 62) = osem (k, 5)
    ∧ SemLoc.dma (storeS k) = osem (k, 6) ∧ SemLoc.reg (credS k) = osem (k, 7) := by decide +kernel

theorem cells8 :
    iprop((semVal (sendC c k 64) 0 ∗ semVal (sendC c k 62) 0 ∗ semVal (sendC c k 63) 0)
      ∗ (semVal (recvC c k 63) 0 ∗ semVal (recvC c k 64) 0 ∗ semVal (recvC c k 62) 0)
      ∗ semVal (storeC c k) 0 ∗ semVal (credC c k) 0)
      ⊢ (bigSep Finset.univ fun j : Fin 8 => (semVal ((c : Thread nD τ), osem (k, j)) 0 : sProp 𝕄)) := by
  obtain ⟨s0, s1, s2, s3, s4, s5, s6, s7⟩ := osem_val k
  unfold sendC recvC storeC credC
  rw [eight, s0, s1, s2, s3, s4, s5, s6, s7]
  iintro ⟨⟨H0, H1, H2⟩, ⟨H3, H4, H5⟩, H6, H7⟩
  isplitl [H0]; · iexact H0
  isplitl [H1]; · iexact H1
  isplitl [H2]; · iexact H2
  isplitl [H3]; · iexact H3
  isplitl [H4]; · iexact H4
  isplitl [H5]; · iexact H5
  isplitl [H6] <;> iassumption

/-- A stream's cells all closed. -/
theorem close8 :
    iprop(Env D κ κ' ∗ W3 (SendPos c k) 62 ∗ W3 (RecvPos c k) 62 ∗ At (storeC c k) 32 ∗ At (credC c k) 1)
      ⊢ (|={Set.univ}=> (bigSep Finset.univ fun j : Fin 8 => (semVal ((c : Thread nD τ), osem (k, j)) 0 : sProp 𝕄)) : sProp 𝕄) := by
  unfold W3 SendPos RecvPos
  iintro ⟨#HE, ⟨HS0, HS1, HS2⟩, ⟨HR0, HR1, HR2⟩, Hst, Hcr⟩
  imod (close D κ κ' (mem_send c k 62) (62 / 3) (done_send D c k (by omega))) $$ [HS0] with HS0
  · isplitr; · iexact HE
    iexact HS0
  imod (close D κ κ' (mem_send c k 63) (63 / 3) (done_send D c k (by omega))) $$ [HS1] with HS1
  · isplitr; · iexact HE
    iexact HS1
  imod (close D κ κ' (mem_send c k 64) (64 / 3) (done_send D c k (by omega))) $$ [HS2] with HS2
  · isplitr; · iexact HE
    iexact HS2
  imod (close D κ κ' (mem_recv c k 62) (62 / 3) (done_recv D c k (by omega))) $$ [HR0] with HR0
  · isplitr; · iexact HE
    iexact HR0
  imod (close D κ κ' (mem_recv c k 63) (63 / 3) (done_recv D c k (by omega))) $$ [HR1] with HR1
  · isplitr; · iexact HE
    iexact HR1
  imod (close D κ κ' (mem_recv c k 64) (64 / 3) (done_recv D c k (by omega))) $$ [HR2] with HR2
  · isplitr; · iexact HE
    iexact HR2
  imod (close D κ κ' (mem_store c k) 32 (done_store D c k)) $$ [Hst] with Hst
  · isplitr; · iexact HE
    iexact Hst
  imod (close D κ κ' (mem_cred c k) 1 (done_cred D c k)) $$ [Hcr] with Hcr
  · isplitr; · iexact HE
    iexact Hcr
  imodintro
  iapply (cells8 c k)
  isplitl [HS0 HS1 HS2]
  · isplitl [HS2]; · iexact HS2
    isplitl [HS0] <;> iassumption
  isplitl [HR0 HR1 HR2]
  · isplitl [HR1]; · iexact HR1
    isplitl [HR2] <;> iassumption
  isplitl [Hst] <;> iassumption

theorem end_step (Or : CellTallies nD τ sig ℕ) (hO : Above 125 Or) (Q : PUnit → sProp 𝕄) :
    iprop(Env D κ κ' ∗ Owes c Or ∗ SA c k D 31 ∗ Wt (F := F) c k)
      ⊢ iprop((Owes c Or -∗ Fin' c k D -∗ Q ⟨⟩) -∗ WP c (endK k) Q) := by
  unfold endK SA CpP StP Wt
  rw [if_neg (by omega : ¬ 31 < 31), if_neg (by omega : ¬ 31 = 0), ← bind_pure (semWaitWord (credS k) 2#32)]
  simp only [Prog.lift, Prog.bind_op, Prog.bind_ret, Prog.pure_eq_ret]
  unfold Core'
  rw [show min (30 + 31) 60 = 60 from rfl, Ico_first (by omega : 60 < 62) (Crd c k), Ico_first (by omega : 60 + 1 < 62) (Crd c k)]
  iintro ⟨#HE, HO, ⟨HhL, ⟨Hc, Hat⟩, ⟨HR, HS, HD, #HRel, HCr, HSnd, HRcv, ⟨HC0, HC1, -⟩, -⟩, -, Hdone, -⟩, ⟨Hw2, Hw0⟩⟩ Hk
  iapply (wp_stored D κ κ' c k (r := 31) (by omega) _ _ (out_credit k _ _) _ _ Or (hO.mono (by omega))) $$ [Hat Hc HO]
  · isplitr; · iexact HE
    isplitl [Hat]; · iexact Hat
    isplitl [Hc] <;> iassumption
  unfold storePay
  iintro Hat HO ⟨Hout, HhR⟩
  iapply (wp_credits c k D κ κ' Or hO) $$ [HCr HC0 HC1 HO]
  · isplitr; · iexact HE
    isplitl [HCr]; · iexact HCr
    unfold Crd
    isplitl [HC0]; · iexact HC0
    isplitl [HC1] <;> iassumption
  iintro Hcr HO
  iapply fupd_wp
  imod (close8 c k D κ κ') $$ [HR HS Hat Hcr] with Hsem
  · isplitr; · iexact HE
    isplitl [HS]; · iexact HS
    isplitl [HR]; · iexact HR
    isplitl [Hat] <;> iassumption
  ihave #Hr62 := (Rels_get k (d := c) (n := 31 + 31 + 1) (m := 62) (by omega)) $$ HRel
  ihave #Hr63 := (Rels_get k (d := c) (n := 31 + 31 + 1) (m := 63) (by omega)) $$ HRel
  unfold Rel
  icases Hr62 with ⟨#Hq62, -⟩
  icases Hr63 with ⟨#Hq63, -⟩
  imod (take D κ κ' k c 62) $$ [Hw2] with Hs2
  · isplitr; · iexact HE
    isplitr; · iexact Hq62
    iexact Hw2
  imod (take D κ κ' k c 63) $$ [Hw0] with Hs0
  · isplitr; · iexact HE
    isplitr; · iexact Hq63
    iexact Hw0
  imodintro
  iapply (wp_done c)
  iapply Hk $$ HO
  unfold Fin' AnySlot
  isplitl [Hdone Hout]
  · iapply (Ico_last (a := 31) (b := 62) (by omega) (OutDone c k D))
    unfold OutDone
    isplitl [Hdone] <;> iassumption
  isplitl [HhL HhR Hs2 Hs0]
  · isplitl [Hs0]; · rw [show slotM k 0 = slotM k 63 from slot_mod k (by omega)]; iexact Hs0
    isplitl [HhL HhR]
    · iexists (D.ct k c 62)
      rw [show slotM k 1 = slotM k 64 from slot_mod k (by omega)]
      iapply (owns_halves (c : Thread nD τ) (slotM k 64) fullShare (D.ct k c 62)).2
      isplitl [HhL]; · iexact HhL
      rw [show slotM k 64 = slotM k 61 from slot_mod k (by omega)]
      iexact HhR
    · rw [show slotM k 2 = slotM k 62 from slot_mod k (by omega)]; iexact Hs2
  iexact Hsem

end

end Cert.Proof

end
-- ==== Proof.Body.lean ====
/-
  The body of the kernel on one device, from what the launch gives it to what it leaves.
-/
module

public import proofs.«01_k».proof.Proof.End

@[expose] public section

set_option maxRecDepth 65536
set_option maxHeartbeats 1600000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ### Six streams, one after another -/

theorem six6 (Φ : Fin 6 → sProp 𝕄) :
    bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, bigSep_insert (by decide), bigSep_insert (by decide), bigSep_insert (by decide),
    bigSep_insert (by decide), bigSep_insert (by decide), bigSep_singleton]
  rfl

section
variable (c : Dev nD)

/-- One step of each stream in turn, that shares `S` and takes the stream from `A` to `B`. -/
theorem six0 {α : Type} (p : Fin 6 → Prog (TpuEff nD τ sig (Elt F) Λ₀ .tc) PUnit) (S : sProp 𝕄) (A B : Fin 6 → sProp 𝕄)
    (h : ∀ k (Q : PUnit → sProp 𝕄), iprop(S ∗ A k) ⊢ iprop((S -∗ B k -∗ Q ⟨⟩) -∗ WP c (p k) Q))
    (kk : PUnit → Prog (TpuEff nD τ sig (Elt F) Λ₀ .tc) α) (Q : α → sProp 𝕄) :
    iprop(S ∗ bigSep Finset.univ A) ⊢ iprop((S -∗ bigSep Finset.univ B -∗ WP c (kk ⟨⟩) Q)
      -∗ WP c (p 0 >>= fun _ => p 1 >>= fun _ => p 2 >>= fun _ => p 3 >>= fun _ => p 4 >>= fun _ => p 5 >>= kk) Q) := by
  rw [six6, six6]
  iintro ⟨HS, H0, H1, H2, H3, H4, H5⟩ Hk
  iapply (wp_seq c (p 0))
  iapply (h 0) $$ [HS H0]
  · isplitl [HS] <;> iassumption
  iintro HS H0
  iapply (wp_seq c (p 1))
  iapply (h 1) $$ [HS H1]
  · isplitl [HS] <;> iassumption
  iintro HS H1
  iapply (wp_seq c (p 2))
  iapply (h 2) $$ [HS H2]
  · isplitl [HS] <;> iassumption
  iintro HS H2
  iapply (wp_seq c (p 3))
  iapply (h 3) $$ [HS H3]
  · isplitl [HS] <;> iassumption
  iintro HS H3
  iapply (wp_seq c (p 4))
  iapply (h 4) $$ [HS H4]
  · isplitl [HS] <;> iassumption
  iintro HS H4
  iapply (wp_seq c (p 5))
  iapply (h 5) $$ [HS H5]
  · isplitl [HS] <;> iassumption
  iintro HS H5
  iapply Hk $$ HS
  isplitl [H0]; · iexact H0
  isplitl [H1]; · iexact H1
  isplitl [H2]; · iexact H2
  isplitl [H3]; · iexact H3
  isplitl [H4] <;> iassumption

/-- The same for a step that also changes what the device owes. -/
theorem six {α : Type} (n : ℕ) (p : Fin 6 → Prog (TpuEff nD τ sig (Elt F) Λ₀ .tc) PUnit) (O O' : Fin 6 → CellTallies nD τ sig ℕ)
    (hO : ∀ k, Above n (O k)) (hO' : ∀ k, Above n (O' k)) (S : sProp 𝕄) (A B : Fin 6 → sProp 𝕄)
    (h : ∀ k Or, Above n Or → ∀ (Q : PUnit → sProp 𝕄), iprop(S ∗ Owes c (Or + O k) ∗ A k)
      ⊢ iprop((S -∗ Owes c (Or + O' k) -∗ B k -∗ Q ⟨⟩) -∗ WP c (p k) Q))
    (kk : PUnit → Prog (TpuEff nD τ sig (Elt F) Λ₀ .tc) α) (Q : α → sProp 𝕄) :
    iprop(S ∗ Owes c (∑ k, O k) ∗ bigSep Finset.univ A) ⊢ iprop((S -∗ Owes c (∑ k, O' k) -∗ bigSep Finset.univ B -∗ WP c (kk ⟨⟩) Q)
      -∗ WP c (p 0 >>= fun _ => p 1 >>= fun _ => p 2 >>= fun _ => p 3 >>= fun _ => p 4 >>= fun _ => p 5 >>= kk) Q) := by
  rw [six6, six6, Fin.sum_univ_six, Fin.sum_univ_six]
  iintro ⟨HS, HO, H0, H1, H2, H3, H4, H5⟩ Hk
  iapply (wp_seq c (p 0))
  rw [show O 0 + O 1 + O 2 + O 3 + O 4 + O 5 = O 1 + O 2 + O 3 + O 4 + O 5 + O 0 by ac_rfl]
  iapply (h 0 _ (((((hO 1).add (hO 2)).add (hO 3)).add (hO 4)).add (hO 5))) $$ [HS HO H0]
  · isplitl [HS]; · iexact HS
    isplitl [HO] <;> iassumption
  iintro HS HO H0
  iapply (wp_seq c (p 1))
  rw [show O 1 + O 2 + O 3 + O 4 + O 5 + O' 0 = O' 0 + O 2 + O 3 + O 4 + O 5 + O 1 by ac_rfl]
  iapply (h 1 _ (((((hO' 0).add (hO 2)).add (hO 3)).add (hO 4)).add (hO 5))) $$ [HS HO H1]
  · isplitl [HS]; · iexact HS
    isplitl [HO] <;> iassumption
  iintro HS HO H1
  iapply (wp_seq c (p 2))
  rw [show O' 0 + O 2 + O 3 + O 4 + O 5 + O' 1 = O' 0 + O' 1 + O 3 + O 4 + O 5 + O 2 by ac_rfl]
  iapply (h 2 _ (((((hO' 0).add (hO' 1)).add (hO 3)).add (hO 4)).add (hO 5))) $$ [HS HO H2]
  · isplitl [HS]; · iexact HS
    isplitl [HO] <;> iassumption
  iintro HS HO H2
  iapply (wp_seq c (p 3))
  rw [show O' 0 + O' 1 + O 3 + O 4 + O 5 + O' 2 = O' 0 + O' 1 + O' 2 + O 4 + O 5 + O 3 by ac_rfl]
  iapply (h 3 _ (((((hO' 0).add (hO' 1)).add (hO' 2)).add (hO 4)).add (hO 5))) $$ [HS HO H3]
  · isplitl [HS]; · iexact HS
    isplitl [HO] <;> iassumption
  iintro HS HO H3
  iapply (wp_seq c (p 4))
  rw [show O' 0 + O' 1 + O' 2 + O 4 + O 5 + O' 3 = O' 0 + O' 1 + O' 2 + O' 3 + O 5 + O 4 by ac_rfl]
  iapply (h 4 _ (((((hO' 0).add (hO' 1)).add (hO' 2)).add (hO' 3)).add (hO 5))) $$ [HS HO H4]
  · isplitl [HS]; · iexact HS
    isplitl [HO] <;> iassumption
  iintro HS HO H4
  iapply (wp_seq c (p 5))
  rw [show O' 0 + O' 1 + O' 2 + O' 3 + O 5 + O' 4 = O' 0 + O' 1 + O' 2 + O' 3 + O' 4 + O 5 by ac_rfl]
  iapply (h 5 _ (((((hO' 0).add (hO' 1)).add (hO' 2)).add (hO' 3)).add (hO' 4))) $$ [HS HO H5]
  · isplitl [HS]; · iexact HS
    isplitl [HO] <;> iassumption
  iintro HS HO H5
  iapply Hk $$ HS HO
  isplitl [H0]; · iexact H0
  isplitl [H1]; · iexact H1
  isplitl [H2]; · iexact H2
  isplitl [H3]; · iexact H3
  isplitl [H4] <;> iassumption

variable (D : Inp F) (κ : GSem nD τ sig → ℕ) (κ' : Key → ℕ)

/-! ### Before the loops -/

/-- What the launch gives stream `k`. -/
def InitS (k : Fin 6) : sProp 𝕄 :=
  iprop(W3 (RecvPos c k) 0 ∗ W3 (SendPos c k) 0 ∗ W3 (Rdr c k) 0 ∗ (AnySlot (F := F) c k 0 ∗ AnySlot (F := F) c k 1 ∗ AnySlot (F := F) c k 2)
    ∗ At (credC c k) 0 ∗ At (storeC c k) 0 ∗ (bigSep (Finset.Ico 0 62) (Snd c k)) ∗ (bigSep (Finset.Ico 0 62) (Rcv c k))
    ∗ (bigSep (Finset.Ico 0 62) (Crd c k)) ∗ (bigSep (Finset.Ico 0 32) (Sto c k)) ∗ (bigSep (Finset.Ico 31 63) (OutTodo (F := F) c k))
    ∗ Wt (F := F) c k)

/-- What a device says of stream `k` at the barrier. -/
def Msg (k : Fin 6) : sProp 𝕄 := iprop(Rel c k 0 ∗ Rel c k 1 ∗ reached ER (credC c k) 0)
instance Msg_persistent (k : Fin 6) : BI.Persistent (Msg (F := F) c k) := by unfold Msg; infer_instance

/-- Stream `k` with its two first slots released. -/
def PreS (k : Fin 6) : sProp 𝕄 :=
  iprop(W3 (RecvPos c k) 0 ∗ W3 (SendPos c k) 0 ∗ W3 (Rdr c k) 2 ∗ CrPos c k 0 ∗ (bigSep (Finset.Ico 0 62) (Snd c k)) ∗ (bigSep (Finset.Ico 0 62) (Rcv c k))
    ∗ (bigSep (Finset.Ico 0 62) (Crd c k)))

theorem prep (k : Fin 6) :
    iprop(Env D κ κ' ∗ InitS (F := F) c k)
      ⊢ (|={Set.univ}=> (Msg c k ∗ PreS c k ∗ AnySlot (F := F) c k 2 ∗ SM0 (F := F) c k ∗ Wt (F := F) c k) : sProp 𝕄) := by
  unfold InitS AnySlot
  iintro ⟨#HE, HR, HS, HD, ⟨⟨%X0, H0⟩, ⟨%X1, H1⟩, H2⟩, Hcr, Hst, HSnd, HRcv, HCrd, HSto, HOut, HW⟩
  ihave HD := (W3_succ (Rdr (F := F) c k) 0) $$ HD
  icases HD with ⟨HD, HDk⟩
  imod (release D κ κ' c k 0 X0) $$ [HD H0] with ⟨HD, #Hq0⟩
  · isplitr; · iexact HE
    isplitl [HD]; · unfold Rdr; iexact HD
    iexact H0
  ihave HD := HDk $$ [HD]
  · unfold Rdr; iexact HD
  ihave HD := (W3_succ (Rdr (F := F) c k) 1) $$ HD
  icases HD with ⟨HD, HDk⟩
  imod (release D κ κ' c k 1 X1) $$ [HD H1] with ⟨HD, #Hq1⟩
  · isplitr; · iexact HE
    isplitl [HD]; · unfold Rdr; iexact HD
    iexact H1
  ihave HD := HDk $$ [HD]
  · unfold Rdr; iexact HD
  unfold W3 RecvPos At
  icases HR with ⟨⟨HR0, #Hr0⟩, ⟨HR1, #Hr1⟩, HR2⟩
  icases Hcr with ⟨Hcr, #Hrc⟩
  imodintro
  isplitr
  · unfold Msg Rel
    isplitr
    · isplitr; · iexact Hq0
      iexact Hr0
    isplitr
    · isplitr; · iexact Hq1
      iexact Hr1
    iexact Hrc
  isplitl [HR0 HR1 HR2 HS HD Hcr HSnd HRcv HCrd]
  · unfold PreS W3 RecvPos At
    isplitl [HR0 HR1 HR2]
    · isplitl [HR0]
      · isplitl [HR0]; · iexact HR0
        iexact Hr0
      isplitl [HR1]
      · isplitl [HR1]; · iexact HR1
        iexact Hr1
      iexact HR2
    isplitl [HS]; · iexact HS
    isplitl [HD]; · iexact HD
    isplitl [Hcr]
    · unfold CrPos
      iexists ∅
      isplitr; · ipureintro; exact ⟨Finset.empty_subset _, Nat.zero_le _⟩
      isplitl [Hcr]; · iexact Hcr
      rw [bigSep_empty]; iempintro
    isplitl [HSnd]; · iexact HSnd
    isplitl [HRcv] <;> iassumption
  isplitl [H2]; · iexact H2
  isplitl [Hst HSto HOut]
  · unfold SM0 At
    isplitl [Hst]; · iexact Hst
    isplitl [HSto] <;> iassumption
  iexact HW

/-- Before the first copy, the neighbour's message having come. -/
theorem ready (k : Fin 6) :
    iprop(barPay (F := F) c k ∗ reached ER (credC (up k c) k) 0 ∗ Msg c k ∗ PreS c k ∗ own' c (slotM k 2) fullShare (D.ct k c 0)) ⊢ S0 c k D := by
  unfold barPay Msg PreS S0 Core'
  iintro ⟨⟨#Hb0, #Hb1, -⟩, #Hrc, ⟨#Hm0, #Hm1, -⟩, ⟨HR, HS, HD, HCr, HSnd, HRcv, HCrd⟩, Hs⟩
  isplitl [Hs]; · iexact Hs
  isplitr; · iexact Hb0
  isplitl [HR]; · iexact HR
  isplitl [HS]; · iexact HS
  isplitl [HD]; · iexact HD
  isplitr
  · unfold Rels
    rw [bigSep_range_succ, bigSep_range_succ, Finset.range_zero, bigSep_empty]
    isplitr; · iexact Hm1
    isplitr; · iexact Hm0
    iempintro
  isplitl [HCr]; · iexact HCr
  isplitl [HSnd]; · iexact HSnd
  isplitl [HRcv]; · iexact HRcv
  isplitl [HCrd]; · iexact HCrd
  isplitr; · iexact Hrc
  iexact Hb1

end

end Cert.Proof

end
-- ==== Proof.Run.lean ====
/-
  The whole body of the kernel on one device: the barrier, the two loops, the ends.
-/
module

public import proofs.«01_k».proof.Proof.Body

@[expose] public section

set_option maxRecDepth 65536
set_option maxHeartbeats 1600000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section
variable (c : Dev nD) (D : Inp F) (κ : GSem nD τ sig → ℕ) (κ' : Key → ℕ)

theorem mul6 (j : Fin 6) : f6 j.val = j := Fin.ext (Nat.mod_eq_of_lt j.isLt)

/-- Two neighbours told at the barrier. -/
theorem bar_pair {α : Type} (k k' : Fin 6) (O : CellTallies nD τ sig ℕ)
    (kk : PUnit → Prog (TpuEff nD τ sig (Elt F) Λ₀ .tc) α) (Q : α → sProp 𝕄) :
    iprop(Env D κ κ' ∗ Ids (F := F) c ∗ (bigSep Finset.univ fun d => reached ER (barC d) 0) ∗ (bigSep Finset.univ fun k => Msg (F := F) c k)
        ∗ Owes c (O + tallyAt (barC (up k' c)) 0 1 + tallyAt (barC (up k c)) 0 1)
        ∗ dutyTok ER (barC (up k c)) 0 k.val ∗ dutyTok ER (barC (up k' c)) 0 k'.val)
      ⊢ iprop((Ids (F := F) c -∗ Owes c O -∗ WP c (kk ⟨⟩) Q) -∗ WP c (barPair (F := F) (iU k) (iU k') >>= kk) Q) := by
  have hU : k0_chk25 (idTab c (iU k)) := by rw [idTab_iU]; exact chk25_ok _
  have hU' : k0_chk25 (idTab c (iU k')) := by rw [idTab_iU]; exact chk25_ok _
  have msg : ∀ j : Fin 6, (bigSep Finset.univ fun k => (Msg c k : sProp 𝕄)) ⊢ Msg c j := fun j => bigSep_elim (Finset.mem_univ j)
  have bars : ∀ d : Dev nD, (bigSep Finset.univ fun d => (reached ER (barC d) 0 : sProp 𝕄)) ⊢ reached ER (barC d) 0 := fun d => bigSep_elim (Finset.mem_univ d)
  unfold barPair
  simp only [Prog.lift, Prog.bind_op, Prog.bind_ret, Prog.pure_eq_ret, bind_assoc]
  iintro ⟨#HE, HI, #HB, #HM, HO, Ht, Ht'⟩ Hk
  ihave #HBk := (bars (up k c)) $$ HB
  ihave #HBk' := (bars (up k' c)) $$ HB
  ihave #HMk := (msg k) $$ HM
  ihave #HMk' := (msg k') $$ HM
  ihave #HMo := (msg (op k)) $$ HM
  ihave #HMo' := (msg (op k')) $$ HM
  unfold Msg
  icases HMk with ⟨#Hk0, #Hk1, -⟩
  icases HMk' with ⟨#Hk0', #Hk1', -⟩
  icases HMo with ⟨-, -, #Hc0⟩
  icases HMo' with ⟨-, -, #Hc0'⟩
  iapply (wp_ldId c (iU k)) $$ HI
  iintro HI
  iapply (wp_as c hU)
  iapply (wp_ldId c (iU k')) $$ HI
  iintro HI
  iapply (wp_as c hU')
  iapply (wp_giveBar D κ κ' c k _ (dev_up c k _ hU (idTab_iU k c)) (O + tallyAt (barC (up k' c)) 0 1)) $$ [HO Ht]
  · isplitr; · iexact HE
    isplitl [HO]; · iexact HO
    isplitl [Ht]; · iexact Ht
    isplitr; · iexact Hk0
    isplitr; · iexact Hk1
    isplitr; · iexact Hc0
    iexact HBk
  iintro HO
  iapply (wp_giveBar D κ κ' c k' _ (dev_up c k' _ hU' (idTab_iU k' c)) O) $$ [HO Ht']
  · isplitr; · iexact HE
    isplitl [HO]; · iexact HO
    isplitl [Ht']; · iexact Ht'
    isplitr; · iexact Hk0'
    isplitr; · iexact Hk1'
    isplitr; · iexact Hc0'
    iexact HBk'
  iintro HO
  iapply Hk $$ HI HO

/-- The weights narrowed. -/
theorem narrow {α : Type} (kk : PUnit → Prog (TpuEff nD τ sig (Elt F) Λ₀ .tc) α) (Q : α → sProp 𝕄) :
    iprop(own' c wM fullShare (D.w c) ∗ ∃ X, own' c wbM fullShare X)
      ⊢ iprop((own' c wM fullShare (D.w c) -∗ own' c wbM fullShare (D.wb c) -∗ WP c (kk ⟨⟩) Q) -∗ WP c (narrowW (F := F) >>= kk) Q) := by
  unfold narrowW
  simp only [Prog.lift, Prog.bind_op, Prog.bind_ret, Prog.pure_eq_ret, bind_assoc]
  iintro ⟨HW, ⟨%X, HX⟩⟩ Hk
  iapply (wp_ld c wM) $$ HW
  iintro HW
  iapply (wp_ld c wbM) $$ HX
  iintro HX
  have e : View.ld (Val := Elt F) (D.w c) (Rect.unit (s := S128x8192) ![0, 0] S128x8192.size inb_S128x8192_S128x8192_0_0) = D.w c :=
    funext fun j => congrArg (D.w c) (emb00 inb_S128x8192_S128x8192_0_0 j)
  iapply (wp_st c wbM (Rect.unit (s := S128x8192) ![0, 0] S128x8192.size inb_S128x8192_S128x8192_0_0) (whole00 _) _ (D.wb c)
    (fun j => by rw [e]; exact congrArg (D.wb c) (emb00 inb_S128x8192_S128x8192_0_0 j))) $$ HX
  iintro HX
  iapply Hk $$ HW HX

/-! ### The parts of the body -/

/-- What the body needs besides the streams' own. -/
def HeadPre : sProp 𝕄 :=
  iprop((bigSep Finset.univ fun d => reached ER (barC d) 0) ∗ own' c xM fullShare (D.x c) ∗ own' c wM fullShare (D.w c) ∗ (∃ X, own' c wbM fullShare X)
    ∗ At (barC c) 0 ∗ cred (tallyAt (barC c) 0 6) ∗ bigSep Finset.univ fun k : Fin 6 => dutyTok ER (barC (up k c)) 0 k.val)
/-- What a device owes at the start. -/
def O₀ : CellTallies nD τ sig ℕ := ∑ k : Fin 6, OwR c k 0 0 + ∑ k : Fin 6, tallyAt (barC (up k c)) 0 1

theorem six_fupd (A B : Fin 6 → sProp 𝕄) (h : ∀ k, A k ⊢ (|={Set.univ}=> B k : sProp 𝕄)) :
    bigSep Finset.univ A ⊢ (|={Set.univ}=> bigSep Finset.univ B : sProp 𝕄) := by
  rw [six6, six6]
  iintro ⟨H0, H1, H2, H3, H4, H5⟩
  imod (h 0) $$ H0 with H0
  imod (h 1) $$ H1 with H1
  imod (h 2) $$ H2 with H2
  imod (h 3) $$ H3 with H3
  imod (h 4) $$ H4 with H4
  imod (h 5) $$ H5 with H5
  imodintro
  isplitl [H0]; · iexact H0
  isplitl [H1]; · iexact H1
  isplitl [H2]; · iexact H2
  isplitl [H3]; · iexact H3
  isplitl [H4] <;> iassumption

theorem sep_univ (A B : Fin 6 → sProp 𝕄) :
    (bigSep Finset.univ fun k => iprop(A k ∗ B k)) = iprop(bigSep Finset.univ A ∗ bigSep Finset.univ B) := bigSep_sep' _ _ _

theorem sep5 (A B C E G : Fin 6 → sProp 𝕄) :
    (bigSep Finset.univ fun k => iprop(A k ∗ B k ∗ C k ∗ E k ∗ G k))
      ⊢ iprop(bigSep Finset.univ A ∗ bigSep Finset.univ B ∗ bigSep Finset.univ C ∗ bigSep Finset.univ E ∗ bigSep Finset.univ G) := by
  rw [sep_univ A (fun k => iprop(B k ∗ C k ∗ E k ∗ G k)), sep_univ B (fun k => iprop(C k ∗ E k ∗ G k)), sep_univ C (fun k => iprop(E k ∗ G k)), sep_univ E G]

theorem six_pers (R : sProp 𝕄) [BI.Persistent R] (Φ : Fin 6 → sProp 𝕄) (h : ∀ k, R ⊢ Φ k) : R ⊢ bigSep Finset.univ Φ := by
  rw [six6]
  iintro #H
  isplitr; · iapply (h 0); iexact H
  isplitr; · iapply (h 1); iexact H
  isplitr; · iapply (h 2); iexact H
  isplitr; · iapply (h 3); iexact H
  isplitr; · iapply (h 4); iexact H
  iapply (h 5); iexact H

theorem six_with (R : sProp 𝕄) [BI.Persistent R] (A : Fin 6 → sProp 𝕄) : iprop(R ∗ bigSep Finset.univ A) ⊢ bigSep Finset.univ fun k => iprop(R ∗ A k) := by
  rw [sep_univ]
  iintro ⟨#H, HA⟩
  isplitr
  · iapply (six_pers R (fun _ => R) (fun _ => Entails.of_eq rfl)); iexact H
  · iexact HA

/-- All that a device awaits at the barrier, by stream. -/
theorem bar_parts : (bigSep (Finset.range 6) fun j => (barPay c (f6 j) : sProp 𝕄)) ⊢ bigSep Finset.univ fun k : Fin 6 => iprop(barPay c k ∗ reached ER (credC (up k c) k) 0) := by
  have g : ∀ k : Fin 6, (bigSep (Finset.range 6) fun j => (barPay c (f6 j) : sProp 𝕄)) ⊢ barPay c k := fun k => by
    have := bigSep_elim (s := Finset.range 6) (Φ := fun j => (barPay c (f6 j) : sProp 𝕄)) (i := k.val) (Finset.mem_range.mpr k.isLt)
    rw [mul6] at this; exact this
  have g' : ∀ k : Fin 6, (barPay c (op k) : sProp 𝕄) ⊢ reached ER (credC (up k c) k) 0 := fun k => by
    unfold barPay
    rw [dn_op, op_op]
    iintro ⟨-, -, H⟩; iexact H
  refine six_pers _ _ fun k => ?_
  iintro #H
  isplitr
  · iapply (g k); iexact H
  · iapply (g' k); iapply (g (op k)); iexact H

theorem ready' (k : Fin 6) : iprop((barPay (F := F) c k ∗ reached ER (credC (up k c) k) 0) ∗ Msg c k ∗ PreS c k ∗ own' c (slotM k 2) fullShare (D.ct k c 0)) ⊢ S0 c k D := by
  iintro ⟨⟨H1, H2⟩, H3, H4, H5⟩
  iapply (ready c D k)
  isplitl [H1]; · iexact H1
  isplitl [H2]; · iexact H2
  isplitl [H3]; · iexact H3
  isplitl [H4] <;> iassumption
theorem ready6 : iprop((bigSep Finset.univ fun k : Fin 6 => iprop(barPay c k ∗ reached ER (credC (up k c) k) 0)) ∗ (bigSep Finset.univ fun k => Msg (F := F) c k)
      ∗ (bigSep Finset.univ fun k => PreS (F := F) c k) ∗ bigSep Finset.univ fun k => own' c (slotM k 2) fullShare (D.ct k c 0))
    ⊢ bigSep Finset.univ fun k => S0 c k D := by
  rw [← sep_univ, ← sep_univ, ← sep_univ]
  exact bigSep_mono fun k _ => ready' c D k

/-- Between the parts of the body: what the streams share. -/
def Sh : sProp 𝕄 := iprop(Env D κ κ' ∗ Ids c)

theorem head_run {Q : PUnit → sProp 𝕄} :
    iprop(Sh c D κ κ' ∗ HeadPre c D ∗ Owes c (O₀ c) ∗ (bigSep Finset.univ fun k => InitS (F := F) c k) ∗ bigSep Finset.univ fun k => AnyP (F := F) c k)
      ⊢ iprop((Sh c D κ κ' -∗ XW c D -∗ own' c wM fullShare (D.w c) -∗ At (barC c) 1 -∗ Owes c (∑ k : Fin 6, OwR c k 1 0)
          -∗ (bigSep Finset.univ fun k => SR c k D 0) -∗ (bigSep Finset.univ fun k => AnyP (F := F) c k)
          -∗ (bigSep Finset.univ fun k => SM0 (F := F) c k) -∗ (bigSep Finset.univ fun k => Wt (F := F) c k) -∗ Q ⟨⟩)
        -∗ WP c (bodyHead (D.scale c)) Q) := by
  unfold Sh HeadPre bodyHead
  rw [← bind_pure (copy0 5)]
  iintro ⟨⟨#HE, HI⟩, ⟨#HB, HX, HW, HWb, Hat, Hcr, Htok⟩, HO, HS, HP⟩ Hk
  iapply fupd_wp
  ihave HS := (six_with (Env D κ κ') _) $$ [HS]
  · isplitr; · iexact HE
    iexact HS
  imod (six_fupd _ _ (fun k => prep c D κ κ' k)) $$ HS with HS
  imodintro
  ihave HS := (sep5 _ _ _ _ _) $$ HS
  icases HS with ⟨#HM, HPre, Hs2, HSM, HWt⟩
  ihave Htok := (Entails.of_eq (six6 (fun k : Fin 6 => dutyTok ER (barC (up k c)) 0 k.val))) $$ Htok
  icases Htok with ⟨T0, T1, T2, T3, T4, T5⟩
  unfold O₀
  rw [Fin.sum_univ_six (fun k => tallyAt (barC (up k c)) 0 1)]
  rw [show ∀ A a0 a1 a2 a3 a4 a5 : CellTallies nD τ sig ℕ, A + (a0 + a1 + a2 + a3 + a4 + a5) = A + a5 + a4 + a3 + a2 + a1 + a0 from fun _ _ _ _ _ _ _ => by ac_rfl]
  iapply (bar_pair c D κ κ' 0 1) $$ [HI HO T0 T1]
  · isplitr; · iexact HE
    isplitl [HI]; · iexact HI
    isplitr; · iexact HB
    isplitr; · iexact HM
    isplitl [HO]; · iexact HO
    isplitl [T0] <;> iassumption
  iintro HI HO
  iapply (bar_pair c D κ κ' 2 3) $$ [HI HO T2 T3]
  · isplitr; · iexact HE
    isplitl [HI]; · iexact HI
    isplitr; · iexact HB
    isplitr; · iexact HM
    isplitl [HO]; · iexact HO
    isplitl [T2] <;> iassumption
  iintro HI HO
  iapply (bar_pair c D κ κ' 4 5) $$ [HI HO T4 T5]
  · isplitr; · iexact HE
    isplitl [HI]; · iexact HI
    isplitr; · iexact HB
    isplitr; · iexact HM
    isplitl [HO]; · iexact HO
    isplitl [T4] <;> iassumption
  iintro HI HO
  iapply (wp_bar D κ κ' c (∑ k : Fin 6, OwR c k 0 0) (Above.sum _ _ _ fun k _ => Above.owr c k (by omega) (by omega))) $$ [Hat Hcr HO]
  · isplitr; · iexact HE
    isplitl [Hat]; · iexact Hat
    isplitl [Hcr] <;> iassumption
  iintro Hat HO Hpay
  ihave Hpay := (bar_parts c) $$ Hpay
  iapply (narrow c D) $$ [HW HWb]
  · isplitl [HW] <;> iassumption
  iintro HW HWb
  ihave HA := (Entails.of_eq (sep_univ (fun k => AnyP (F := F) c k) (fun k => AnySlot (F := F) c k 2)).symm) $$ [HP Hs2]
  · isplitl [HP] <;> iassumption
  iapply (six0 c (fun k => initK k (D.scale c)) iprop(Ids c ∗ XW c D) (fun k => iprop(AnyP (F := F) c k ∗ AnySlot (F := F) c k 2))
    (fun k => iprop(AnyP (F := F) c k ∗ own' c (slotM k 2) fullShare (D.ct k c 0))) (fun k Q => by
      unfold AnySlot
      iintro ⟨⟨HI, HX⟩, HP, HS⟩ Hk
      iapply (init_step c k D Q) $$ [HI HX HP HS]
      · isplitl [HI]; · iexact HI
        isplitl [HX]; · iexact HX
        isplitl [HP] <;> iassumption
      iintro HI HX HP HS
      iapply Hk $$ [HI HX] [HP HS]
      · isplitl [HI] <;> iassumption
      · isplitl [HP] <;> iassumption)) $$ [HI HX HWb HA]
  · isplitl [HI HX HWb]
    · isplitl [HI]; · iexact HI
      unfold XW; isplitl [HX] <;> iassumption
    iexact HA
  iintro ⟨HI, HX⟩ HA
  ihave HA := (Entails.of_eq (sep_univ _ _)) $$ HA
  icases HA with ⟨HP, Hs2⟩
  ihave HS0 := (ready6 c D) $$ [Hpay HPre Hs2]
  · isplitl [Hpay]; · iexact Hpay
    isplitr; · iexact HM
    isplitl [HPre] <;> iassumption
  iapply (six c 0 (fun k => copy0 k) (fun k => OwR c k 0 0) (fun k => OwR c k 1 0) (fun k => Above.owr c k (by omega) (by omega))
    (fun k => Above.owr c k (by omega) (by omega)) iprop(Env D κ κ' ∗ Ids c) (fun k => S0 c k D) (fun k => SR c k D 0) (fun k Or _ Q => by
      iintro ⟨⟨#HE, HI⟩, HO, HS⟩ Hk
      iapply (copy0_step c k D κ κ' Or Q) $$ [HI HO HS]
      · isplitr; · iexact HE
        isplitl [HI]; · iexact HI
        isplitl [HO] <;> iassumption
      iintro HI HO HS
      iapply Hk $$ [HI] HO HS
      isplitr; · iexact HE
      iexact HI)) $$ [HI HO HS0]
  · isplitl [HI]
    · isplitr; · iexact HE
      iexact HI
    isplitl [HO] <;> iassumption
  iintro HSh HO HSR
  iapply (wp_done c)
  iapply Hk $$ HSh HX HW Hat HO HSR HP HSM HWt

/-! ### The loops -/

/-- Before trip `t` of the reduce-scatter. -/
def IR (t : ℕ) : sProp 𝕄 :=
  iprop(Sh c D κ κ' ∗ XW c D ∗ Owes c (∑ k : Fin 6, OwR c k (t + 1) t) ∗ (bigSep Finset.univ fun k => SR c k D t) ∗ bigSep Finset.univ fun k => AnyP (F := F) c k)

theorem rs_trip (t : Fin k0_t1_loop.trips) : IR c D κ κ' t.val ⊢ WP c (rsTrip (D.scale c) t) (fun _ => IR c D κ κ' (t.val + 1)) := by
  have ht := lt_trips1 t
  unfold IR rsTrip Sh
  rw [← bind_pure (rsStep 5 t)]
  iintro ⟨⟨#HE, HI⟩, HX, HO, HS, HP⟩
  iapply (six0 c (fun k => rsFill k (D.scale c) t) iprop(Ids c ∗ XW c D) (fun k => AnyP (F := F) c k)
    (fun k => own' c (pbuf k) fullShare (D.part k c (lab k c (t.val + 1)))) (fun k Q => by
      iintro ⟨⟨HI, HX⟩, HP⟩ Hk
      iapply (rs_fill c k D t Q) $$ [HI HX HP]
      · isplitl [HI]; · iexact HI
        isplitl [HX] <;> iassumption
      iintro HI HX HP
      iapply Hk $$ [HI HX] HP
      isplitl [HI] <;> iassumption)) $$ [HI HX HP]
  · isplitl [HI HX]
    · isplitl [HI] <;> iassumption
    iexact HP
  iintro ⟨HI, HX⟩ HP
  ihave HA := (Entails.of_eq (sep_univ (fun k => SR c k D t.val) (fun k => own' c (pbuf k) fullShare (D.part k c (lab k c (t.val + 1))))).symm) $$ [HS HP]
  · isplitl [HS] <;> iassumption
  iapply (six c (2 * t.val + 2) (fun k => rsStep (F := F) k t) (fun k => OwR c k (t.val + 1) t.val) (fun k => OwR c k (t.val + 2) (t.val + 1))
    (fun k => Above.owr c k (by omega) (by omega)) (fun k => Above.owr c k (by omega) (by omega)) iprop(Env D κ κ' ∗ Ids c)
    (fun k => iprop(SR c k D t.val ∗ own' c (pbuf k) fullShare (D.part k c (lab k c (t.val + 1)))))
    (fun k => iprop(SR c k D (t.val + 1) ∗ AnyP (F := F) c k)) (fun k Or hOr Q => by
      unfold AnyP
      iintro ⟨⟨#HE, HI⟩, HO, HS, HP⟩ Hk
      iapply (rs_step c k D κ κ' t Or hOr Q) $$ [HI HO HS HP]
      · isplitr; · iexact HE
        isplitl [HI]; · iexact HI
        isplitl [HO]; · iexact HO
        isplitl [HS] <;> iassumption
      iintro HI HO HS HP
      iapply Hk $$ [HI] HO [HS HP]
      · isplitr; · iexact HE
        iexact HI
      · isplitl [HS] <;> iassumption)) $$ [HI HO HA]
  · isplitl [HI]
    · isplitr; · iexact HE
      iexact HI
    isplitl [HO] <;> iassumption
  iintro ⟨-, HI⟩ HO HA
  ihave HA := (Entails.of_eq (sep_univ _ _)) $$ HA
  icases HA with ⟨HS, HP⟩
  iapply (wp_done c)
  isplitl [HI]
  · isplitr; · iexact HE
    iexact HI
  isplitl [HX]; · iexact HX
  isplitl [HO]; · iexact HO
  isplitl [HS] <;> iassumption

/-- Before trip `t` of the all-gather. -/
def IA (t : ℕ) : sProp 𝕄 :=
  iprop(Sh c D κ κ' ∗ Owes c (∑ k : Fin 6, OwR c k (32 + t) (31 + t)) ∗ bigSep Finset.univ fun k => SA c k D t)

theorem ag_trip (t : Fin k0_t2_loop.trips) : IA c D κ κ' t.val ⊢ WP c (agTrip (F := F) t) (fun _ => IA c D κ κ' (t.val + 1)) := by
  have ht := lt_trips2 t
  unfold IA agTrip
  rw [← bind_pure (agStep 5 t)]
  iintro ⟨HSh, HO, HS⟩
  iapply (six c (2 * (31 + t.val) + 2) (fun k => agStep (F := F) k t) (fun k => OwR c k (32 + t.val) (31 + t.val)) (fun k => OwR c k (33 + t.val) (32 + t.val))
    (fun k => Above.owr c k (by omega) (by omega)) (fun k => Above.owr c k (by omega) (by omega)) (Sh c D κ κ')
    (fun k => SA c k D t.val) (fun k => SA c k D (t.val + 1)) (fun k Or hOr Q => by
      unfold Sh
      iintro ⟨⟨#HE, HI⟩, HO, HS⟩ Hk
      iapply (ag_step c k D κ κ' t Or hOr Q) $$ [HI HO HS]
      · isplitr; · iexact HE
        isplitl [HI]; · iexact HI
        isplitl [HO] <;> iassumption
      iintro HI HO HS
      iapply Hk $$ [HI] HO HS
      isplitr; · iexact HE
      iexact HI)) $$ [HSh HO HS]
  · isplitl [HSh]; · iexact HSh
    isplitl [HO] <;> iassumption
  iintro HSh HO HS
  rw [show 32 + (t.val + 1) = 33 + t.val by omega, show 31 + (t.val + 1) = 32 + t.val by omega]
  iapply (wp_done c)
  isplitl [HSh]; · iexact HSh
  isplitl [HO] <;> iassumption

/-! ### The whole body -/

/-- The staged scales. -/
def SS : sProp 𝕄 := iprop(own' c sxM fullShare (D.sx c) ∗ own' c swM fullShare (D.sw c))

/-- What the launch gives the body of device `c`. -/
def BodyPre : sProp 𝕄 :=
  iprop(SS c D ∗ Sh c D κ κ' ∗ HeadPre c D ∗ Owes c (O₀ c) ∗ (bigSep Finset.univ fun k => InitS (F := F) c k) ∗ bigSep Finset.univ fun k => AnyP (F := F) c k)
/-- What the body of device `c` leaves. -/
def BodyPost : sProp 𝕄 :=
  iprop(SS c D ∗ Ids c ∗ XW c D ∗ own' c wM fullShare (D.w c) ∗ semVal (barC c) 0 ∗ Owes c 0
    ∗ (bigSep Finset.univ fun k => Fin' c k D) ∗ bigSep Finset.univ fun k => AnyP (F := F) c k)

theorem z1_emb : (Rect.unit (s := S1) ![0] S1.size inb_S1_S1_0).emb (Shape.Idx.first (numel1_S1.symm ▸ Nat.one_pos)) = z1 :=
  funext fun a => Fin.ext (by have h1 := ((Rect.unit (s := S1) ![0] S1.size inb_S1_S1_0).emb (Shape.Idx.first (numel1_S1.symm ▸ Nat.one_pos)) a).isLt
                              have h2 := (z1 a).isLt
                              have : S1.size a = 1 := by revert a; decide
                              omega)

theorem body_run : BodyPre c D κ κ' ⊢ WP c (bodyK (F := F)) (fun _ => BodyPost c D) := by
  have l1 := wp_ldW (F := F) c sxM (Rect.unit (s := S1) ![0] S1.size inb_S1_S1_0) numel1_S1 rfl fullShare (D.sx c) (α := PUnit)
  have l2 := wp_ldW (F := F) c swM (Rect.unit (s := S1) ![0] S1.size inb_S1_S1_0) numel1_S1 rfl fullShare (D.sw c) (α := PUnit)
  rw [z1_emb] at l1 l2
  unfold BodyPre bodyK SS
  rw [← bind_pure (endK 5)]
  iintro ⟨⟨H1, H2⟩, HSh, HH, HO, HS, HP⟩
  iapply (l1 _ _) $$ H1
  iintro H1
  iapply (l2 _ _) $$ H2
  iintro H2
  rw [show k0_pay13 (D.sx c z1) (D.sw c z1) = D.scale c from rfl]
  iapply (wp_seq c (bodyHead (D.scale c)))
  iapply (head_run c D κ κ') $$ [HSh HH HO HS HP]
  · isplitl [HSh]; · iexact HSh
    isplitl [HH]; · iexact HH
    isplitl [HO]; · iexact HO
    isplitl [HS] <;> iassumption
  iintro HSh HX HW Hat HO HS HP HSM HWt
  iapply (Scf.wp_for_bind frame (wpE (defs₀ (F := F)) 𝒱₀ (c : Thread nD τ) none) Set.univ k0_t1_loop.lb k0_t1_loop.ub k0_t1_loop.st k0_t1_ok ⟨⟩ (fun t _ => rsTrip (D.scale c) t)
    (fun t _ => IR c D κ κ' t) (fun t _ => rs_trip c D κ κ' t)) $$ [HSh HX HO HS HP]
  · unfold IR
    isplitl [HSh]; · iexact HSh
    isplitl [HX]; · iexact HX
    isplitl [HO]; · iexact HO
    isplitl [HS] <;> iassumption
  iintro %acc HR
  rw [show Scf.trips k0_t1_loop.lb k0_t1_loop.ub k0_t1_loop.st = 31 from trips1]
  unfold IR
  icases HR with ⟨HSh, HX, HO, HS, HP⟩
  ihave HA := (Entails.of_eq (sep_univ (fun k => SR c k D 31) (fun k => SM0 (F := F) c k)).symm) $$ [HS HSM]
  · isplitl [HS] <;> iassumption
  iapply (six c 0 (fun k => midK (F := F) k) (fun k => OwR c k (31 + 1) 31) (fun k => OwR c k (31 + 1) 31)
    (fun k => Above.owr c k (by omega) (by omega)) (fun k => Above.owr c k (by omega) (by omega)) (Sh c D κ κ')
    (fun k => iprop(SR c k D 31 ∗ SM0 (F := F) c k)) (fun k => SA c k D 0) (fun k Or hOr Q => by
      unfold Sh
      iintro ⟨⟨#HE, HI⟩, HO, HS⟩ Hk
      iapply (mid_step c k D κ κ' (Or + OwR c k (31 + 1) 31) (hOr.add (Above.owr c k (by omega) (by omega))) Q) $$ [HI HO HS]
      · isplitr; · iexact HE
        isplitl [HI]; · iexact HI
        isplitl [HO] <;> iassumption
      iintro HI HO HS
      iapply Hk $$ [HI] HO HS
      isplitr; · iexact HE
      iexact HI)) $$ [HSh HO HA]
  · isplitl [HSh]; · iexact HSh
    isplitl [HO] <;> iassumption
  iintro HSh HO HS
  iapply (Scf.wp_for_bind frame (wpE (defs₀ (F := F)) 𝒱₀ (c : Thread nD τ) none) Set.univ k0_t2_loop.lb k0_t2_loop.ub k0_t2_loop.st k0_t2_ok ⟨⟩ (fun t _ => agTrip t)
    (fun t _ => IA c D κ κ' t) (fun t _ => ag_trip c D κ κ' t)) $$ [HSh HO HS]
  · unfold IA
    isplitl [HSh]; · iexact HSh
    isplitl [HO] <;> iassumption
  iintro %acc' HR
  rw [show Scf.trips k0_t2_loop.lb k0_t2_loop.ub k0_t2_loop.st = 31 from trips2]
  unfold IA
  icases HR with ⟨HSh, HO, HS⟩
  have h0 : ∀ k : Fin 6, OwR c k (32 + 31) (31 + 31) = 0 := fun k => OwR_end c k (by omega) (by omega)
  ihave HA := (Entails.of_eq (sep_univ (fun k => SA c k D 31) (fun k => Wt (F := F) c k)).symm) $$ [HS HWt]
  · isplitl [HS] <;> iassumption
  iapply (six c 125 (fun k => endK (F := F) k) (fun k => OwR c k (32 + 31) (31 + 31)) (fun _ => 0)
    (fun k => by rw [h0]; exact Above.zero _) (fun k => Above.zero _) (Sh c D κ κ')
    (fun k => iprop(SA c k D 31 ∗ Wt (F := F) c k)) (fun k => Fin' c k D) (fun k Or hOr Q => by
      unfold Sh
      rw [h0, add_zero]
      iintro ⟨⟨#HE, HI⟩, HO, HS, HW⟩ Hk
      iapply (end_step c k D κ κ' Or hOr Q) $$ [HO HS HW]
      · isplitr; · iexact HE
        isplitl [HO]; · iexact HO
        isplitl [HS] <;> iassumption
      iintro HO HS
      iapply Hk $$ [HI] HO HS
      isplitr; · iexact HE
      iexact HI)) $$ [HSh HO HA]
  · isplitl [HSh]; · iexact HSh
    isplitl [HO] <;> iassumption
  rw [Finset.sum_const_zero]
  unfold Sh
  iintro ⟨#HE, HI⟩ HO HS
  iapply fupd_wp
  imod (close D κ κ' (mem_bar c) 1 (done_bar D c)) $$ [Hat] with Hsem
  · isplitr; · iexact HE
    iexact Hat
  imodintro
  iapply (wp_done c)
  unfold BodyPost SS
  isplitl [H1 H2]
  · isplitl [H1] <;> iassumption
  isplitl [HI]; · iexact HI
  isplitl [HX]; · iexact HX
  isplitl [HW]; · iexact HW
  isplitl [Hsem]; · iexact Hsem
  isplitl [HO]; · iexact HO
  isplitl [HS] <;> iassumption

end

end Cert.Proof

end
-- ==== Proof.Deal.lean ====
/-
  How the tokens, the records of the slots and the credits of the launch are dealt out to the devices and streams.
-/
module

public import proofs.«01_k».proof.Proof.Run
public import Idealize.SL.BI.BigOpNat
public import Idealize.ShloMosaic.Lib.SparseCore.Launch

@[expose] public section

set_option maxRecDepth 65536
set_option maxHeartbeats 1600000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ### A family over devices and streams, shifted along the rings -/

/-- Each device and stream, and the device that the stream leads to. -/
def ringE : Dev nD × Fin 6 ≃ Dev nD × Fin 6 where
  toFun x := (dn x.2 x.1, x.2)
  invFun x := (up x.2 x.1, x.2)
  left_inv x := Prod.ext (up_dn x.2 x.1) rfl
  right_inv x := Prod.ext (dn_up x.2 x.1) rfl

theorem all_dn (Φ : Dev nD → Fin 6 → sProp 𝕄) :
    (bigSep Finset.univ fun c => bigSep Finset.univ fun k => Φ c k) = bigSep Finset.univ fun c => bigSep Finset.univ fun k => Φ (dn k c) k := by
  rw [← bigSep_univ_prod (fun x : Dev nD × Fin 6 => Φ x.1 x.2), bigSep_univ_equiv ringE, bigSep_univ_prod]
  rfl
theorem all_up (Φ : Dev nD → Fin 6 → sProp 𝕄) :
    (bigSep Finset.univ fun c => bigSep Finset.univ fun k => Φ c k) = bigSep Finset.univ fun c => bigSep Finset.univ fun k => Φ (up k c) k := by
  rw [← bigSep_univ_prod (fun x : Dev nD × Fin 6 => Φ x.1 x.2), bigSep_univ_equiv ringE.symm, bigSep_univ_prod]
  rfl

/-- Two such families joined. -/
theorem all_sep (Φ Ψ : Dev nD → Fin 6 → sProp 𝕄) :
    iprop((bigSep Finset.univ fun c => bigSep Finset.univ fun k => Φ c k) ∗ bigSep Finset.univ fun c => bigSep Finset.univ fun k => Ψ c k)
      ⊢ bigSep Finset.univ fun c => bigSep Finset.univ fun k => iprop(Φ c k ∗ Ψ c k) := by
  refine Entails.of_eq ?_
  rw [← bigSep_sep']
  exact bigSep_congr fun c _ => (bigSep_sep' _ _ _).symm
/-- Two inner families joined. -/
theorem all_sep' (n : ℕ) (Φ Ψ : Dev nD → Fin 6 → ℕ → sProp 𝕄) :
    iprop((bigSep Finset.univ fun c => bigSep Finset.univ fun k => bigSep (Finset.Ico 0 n) (Φ c k))
      ∗ bigSep Finset.univ fun c => bigSep Finset.univ fun k => bigSep (Finset.Ico 0 n) (Ψ c k))
      ⊢ bigSep Finset.univ fun c => bigSep Finset.univ fun k => bigSep (Finset.Ico 0 n) fun h => iprop(Φ c k h ∗ Ψ c k h) := by
  refine (all_sep _ _).trans (Entails.of_eq ?_)
  exact bigSep_congr fun c _ => bigSep_congr fun k _ => (bigSep_sep' _ _ _).symm

/-! ### The tokens of all duties -/

abbrev Tok := GSem nD τ sig × ℕ × ℕ
abbrev Ix3 := Dev nD × Fin 6 × ℕ

theorem tok_dev {t t' : Tok} (h : t = t') : t.1.1.1 = t'.1.1.1 := by rw [h]
theorem tok_kind {t t' : Tok} (h : t = t') : kind t.1.2 = kind t'.1.2 := by rw [h]

def sendT : Ix3 ↪ Tok := ⟨fun x => (sendC x.1 x.2.1 x.2.2, x.2.2 / 3, 0), fun x y h => by
  have h1 : x.1 = y.1 := tok_dev h
  have h2 : kind (.dma (sendS x.2.1 (x.2.2 + 2))) = kind (.dma (sendS y.2.1 (y.2.2 + 2))) := tok_kind h
  have h3 : x.2.2 / 3 = y.2.2 / 3 := congrArg (fun t : Tok => t.2.1) h
  rw [kind_send, kind_send, Kind'.send.injEq] at h2
  exact Prod.ext h1 (Prod.ext h2.1 (by have := h2.2; omega))⟩
def recvT : Ix3 ↪ Tok := ⟨fun x => (recvC x.1 x.2.1 x.2.2, x.2.2 / 3, 0), fun x y h => by
  have h1 : x.1 = y.1 := tok_dev h
  have h2 : kind (.dma (recvS x.2.1 x.2.2)) = kind (.dma (recvS y.2.1 y.2.2)) := tok_kind h
  have h3 : x.2.2 / 3 = y.2.2 / 3 := congrArg (fun t : Tok => t.2.1) h
  rw [kind_recv, kind_recv, Kind'.recv.injEq] at h2
  exact Prod.ext h1 (Prod.ext h2.1 (by have := h2.2; omega))⟩
def storeT : Ix3 ↪ Tok := ⟨fun x => (storeC x.1 x.2.1, x.2.2, 0), fun x y h => by
  have h1 : x.1 = y.1 := tok_dev h
  have h2 : kind (.dma (storeS x.2.1)) = kind (.dma (storeS y.2.1)) := tok_kind h
  have h3 : x.2.2 = y.2.2 := congrArg (fun t : Tok => t.2.1) h
  rw [kind_store, kind_store, Kind'.store.injEq] at h2
  exact Prod.ext h1 (Prod.ext h2 h3)⟩
def credT : Ix3 ↪ Tok := ⟨fun x => (credC x.1 x.2.1, 0, x.2.2), fun x y h => by
  have h1 : x.1 = y.1 := tok_dev h
  have h2 : kind (.reg (credS x.2.1)) = kind (.reg (credS y.2.1)) := tok_kind h
  have h3 : x.2.2 = y.2.2 := congrArg (fun t : Tok => t.2.2) h
  rw [kind_cred, kind_cred, Kind'.cred.injEq] at h2
  exact Prod.ext h1 (Prod.ext h2 h3)⟩
def barT : Dev nD × Fin 6 ↪ Tok := ⟨fun x => (barC x.1, 0, x.2.val), fun x y h => by
  have h1 : x.1 = y.1 := tok_dev h
  have h3 : x.2.val = y.2.val := congrArg (fun t : Tok => t.2.2) h
  exact Prod.ext h1 (Fin.ext h3)⟩

/-- The indices of `n` duties of every stream of every device. -/
abbrev box (n : ℕ) : Finset Ix3 := Finset.univ ×ˢ (Finset.univ ×ˢ Finset.range n)

/-- A number for each kind of cell. -/
def tag : Kind' → ℕ
  | .send _ _ => 0 | .recv _ _ => 1 | .store _ => 2 | .cred _ => 3 | .bar => 4 | .other => 5

theorem tag_send {n : ℕ} {t : Tok} (h : t ∈ (box n).map sendT) : tag (kind t.1.2) = 0 := by
  obtain ⟨x, -, rfl⟩ := Finset.mem_map.mp h
  show tag (kind (.dma (sendS x.2.1 (x.2.2 + 2)))) = 0; rw [kind_send]; rfl
theorem tag_recv {n : ℕ} {t : Tok} (h : t ∈ (box n).map recvT) : tag (kind t.1.2) = 1 := by
  obtain ⟨x, -, rfl⟩ := Finset.mem_map.mp h
  show tag (kind (.dma (recvS x.2.1 x.2.2))) = 1; rw [kind_recv]; rfl
theorem tag_store {n : ℕ} {t : Tok} (h : t ∈ (box n).map storeT) : tag (kind t.1.2) = 2 := by
  obtain ⟨x, -, rfl⟩ := Finset.mem_map.mp h
  show tag (kind (.dma (storeS x.2.1))) = 2; rw [kind_store]; rfl
theorem tag_cred {n : ℕ} {t : Tok} (h : t ∈ (box n).map credT) : tag (kind t.1.2) = 3 := by
  obtain ⟨x, -, rfl⟩ := Finset.mem_map.mp h
  show tag (kind (.reg (credS x.2.1))) = 3; rw [kind_cred]; rfl
theorem tag_bar {t : Tok} (h : t ∈ Finset.univ.map barT) : tag (kind t.1.2) = 4 := by
  obtain ⟨x, -, rfl⟩ := Finset.mem_map.mp h
  show tag (kind (.reg barS)) = 4; rw [kind_bar]; rfl

/-- Every duty's token: of the barrier, the departures, the arrivals, the stores, the credits. -/
def toks : Finset Tok :=
  Finset.univ.map barT ∪ ((box 62).map sendT ∪ ((box 62).map recvT ∪ ((box 32).map storeT ∪ (box 62).map credT)))

theorem box_deal (n : ℕ) (e : Ix3 ↪ Tok) (Φ : Tok → sProp 𝕄) :
    bigSep ((box n).map e) Φ = bigSep Finset.univ fun c => bigSep Finset.univ fun k => bigSep (Finset.Ico 0 n) fun h => Φ (e (c, k, h)) := by
  rw [bigSep_map, SparseCore.bigSep_product]
  refine bigSep_congr fun c _ => ?_
  rw [SparseCore.bigSep_product, Finset.range_eq_Ico]

theorem toks_eq (Φ : Tok → sProp 𝕄) : bigSep toks Φ = iprop(bigSep (Finset.univ.map barT) Φ ∗ bigSep ((box 62).map sendT) Φ
    ∗ bigSep ((box 62).map recvT) Φ ∗ bigSep ((box 32).map storeT) Φ ∗ bigSep ((box 62).map credT) Φ) := by
  have d1 : Disjoint ((box 32).map storeT) ((box 62).map credT) := Finset.disjoint_left.mpr fun t h h' => by
    have := tag_store h; have := tag_cred h'; omega
  have d2 : Disjoint ((box 62).map recvT) ((box 32).map storeT ∪ (box 62).map credT) := Finset.disjoint_left.mpr fun t h h' => by
    have := tag_recv h
    rcases Finset.mem_union.mp h' with h' | h'
    · have := tag_store h'; omega
    · have := tag_cred h'; omega
  have d3 : Disjoint ((box 62).map sendT) ((box 62).map recvT ∪ ((box 32).map storeT ∪ (box 62).map credT)) := Finset.disjoint_left.mpr fun t h h' => by
    have := tag_send h
    rcases Finset.mem_union.mp h' with h' | h'
    · have := tag_recv h'; omega
    rcases Finset.mem_union.mp h' with h' | h'
    · have := tag_store h'; omega
    · have := tag_cred h'; omega
  have d4 : Disjoint (Finset.univ.map barT) ((box 62).map sendT ∪ ((box 62).map recvT ∪ ((box 32).map storeT ∪ (box 62).map credT))) :=
    Finset.disjoint_left.mpr fun t h h' => by
    have := tag_bar h
    rcases Finset.mem_union.mp h' with h' | h'
    · have := tag_send h'; omega
    rcases Finset.mem_union.mp h' with h' | h'
    · have := tag_recv h'; omega
    rcases Finset.mem_union.mp h' with h' | h'
    · have := tag_store h'; omega
    · have := tag_cred h'; omega
  unfold toks
  rw [BI.bigSep_union d4, BI.bigSep_union d3, BI.bigSep_union d2, BI.bigSep_union d1]
  rfl

/-! ### The slots' tokens -/

theorem slots66 (Ψ : ℕ → ℕ → sProp 𝕄) :
    (bigSep (Finset.range 3) fun s => bigSep (Finset.range 22) fun n => Ψ s n) = bigSep (Finset.range 66) fun g => Ψ (g % 3) (g / 3) := by
  have e : (Finset.range 3 ×ˢ Finset.range 22 : Finset (ℕ × ℕ))
      = (Finset.range 66).map ⟨fun g => (g % 3, g / 3), fun a b h => by
          have h1 : a % 3 = b % 3 := congrArg Prod.fst h
          have h2 : a / 3 = b / 3 := congrArg Prod.snd h
          omega⟩ := by decide +kernel
  rw [← SparseCore.bigSep_product (Finset.range 3) (Finset.range 22) (fun x => Ψ x.1 x.2), e, bigSep_map]
  rfl

theorem slots_split (c : Dev nD) (k : Fin 6) :
    (bigSep (Finset.range 3) fun s => bigSep (Finset.range 22) fun n => (writeTok EK ((c, k, s) : Key) (n + 1) : sProp 𝕄))
      ⊢ iprop((bigSep (Finset.Ico 0 62) fun g => writeTok EK (keyOf c k g) (g / 3 + 1)) ∗ Wt (F := F) c k) := by
  rw [slots66 (fun s n => (writeTok EK ((c, k, s) : Key) (n + 1) : sProp 𝕄))]
  rw [bigSep_range_succ, bigSep_range_succ, bigSep_range_succ, bigSep_range_succ, Finset.range_eq_Ico]
  unfold Wt
  iintro ⟨-, -, H1, H2, H⟩
  isplitl [H]; · iexact H
  isplitl [H2]; · iexact H2
  iexact H1

theorem writes_deal :
    bigSep (keys ×ˢ Finset.range 22) (fun x => (writeTok EK x.1 (x.2 + 1) : sProp 𝕄))
      ⊢ iprop((bigSep Finset.univ fun c => bigSep Finset.univ fun k => bigSep (Finset.Ico 0 62) fun g => writeTok EK (keyOf c k g) (g / 3 + 1))
        ∗ bigSep Finset.univ fun c => bigSep Finset.univ fun k => Wt (F := F) c k) := by
  rw [SparseCore.bigSep_product, SparseCore.bigSep_product]
  have h : (bigSep Finset.univ fun c : Dev nD => bigSep (Finset.univ ×ˢ Finset.range 3) fun x : Fin 6 × ℕ => bigSep (Finset.range 22) fun n =>
        (writeTok EK ((c, x) : Key) (n + 1) : sProp 𝕄))
      ⊢ bigSep Finset.univ fun c => bigSep Finset.univ fun k =>
          iprop((bigSep (Finset.Ico 0 62) fun g => writeTok EK (keyOf c k g) (g / 3 + 1)) ∗ Wt (F := F) c k) := by
    refine bigSep_mono fun c _ => ?_
    rw [SparseCore.bigSep_product]
    exact bigSep_mono fun k _ => slots_split c k
  refine h.trans (Entails.of_eq ?_)
  rw [← bigSep_sep']
  exact bigSep_congr fun c _ => bigSep_sep' _ _ _

theorem three (Φ : ℕ → sProp 𝕄) : bigSep (Finset.range 3) Φ = iprop(Φ 2 ∗ Φ 1 ∗ Φ 0 ∗ emp) := by
  rw [bigSep_range_succ, bigSep_range_succ, bigSep_range_succ, Finset.range_zero, bigSep_empty]; rfl

theorem readers3 (c : Dev nD) (k : Fin 6) :
    (bigSep (Finset.range 3) fun s => (readerAt EK ((c, k, s) : Key) 0 : sProp 𝕄)) ⊢ W3 (Rdr (F := F) c k) 0 := by
  rw [three]
  unfold W3 Rdr
  iintro ⟨H2, H1, H0, -⟩
  isplitl [H0]; · iexact H0
  isplitl [H1] <;> iassumption

theorem readers_deal :
    bigSep keys (fun x => (readerAt EK x 0 : sProp 𝕄)) ⊢ bigSep Finset.univ fun c => bigSep Finset.univ fun k => W3 (Rdr (F := F) c k) 0 := by
  rw [SparseCore.bigSep_product]
  refine bigSep_mono fun c _ => ?_
  rw [SparseCore.bigSep_product]
  exact bigSep_mono fun k _ => readers3 c k

/-! ### The credits of the launch -/

theorem bar6 (c : Dev nD) : (bigSep Finset.univ fun _ : Fin 6 => (cred (tallyAt (barC c) 0 1) : sProp 𝕄)) ⊢ cred (tallyAt (barC c) 0 6) := by
  rw [← Pipeline.cred_finsetSum]
  refine Entails.of_eq (congrArg cred ?_)
  rw [Fin.sum_univ_six, tallyAt_add, tallyAt_add, tallyAt_add, tallyAt_add, tallyAt_add]

theorem owr_cred (c : Dev nD) (k : Fin 6) :
    (Pipeline.launchCred (fun d => OwR d k 0 0) c : sProp 𝕄)
      ⊢ iprop((bigSep (Finset.Ico 0 62) fun h => cred (tallyAt (recvC c k h) h (N k))) ∗ bigSep (Finset.Ico 0 62) (Crd (F := F) c k)) := by
  unfold OwR
  rw [Pipeline.launchCred_add, Pipeline.launchCred_sum, Pipeline.launchCred_sum]
  refine BIClass.sep_mono (bigSep_mono fun h _ => ?_) (bigSep_mono fun h _ => ?_)
  · exact Pipeline.launchCred_tallyAt (.dma (recvS k h)) (dn k) (up k) (dn_up k) (up_dn k) h (N k) c
  · exact Pipeline.launchCred_tallyAt (.reg (credS k)) (up k) (dn k) (up_dn k) (dn_up k) h 1 c

theorem creds (c : Dev nD) :
    (Pipeline.launchCred O₀ c : sProp 𝕄) ⊢ iprop(cred (tallyAt (barC c) 0 6)
      ∗ bigSep Finset.univ fun k : Fin 6 => iprop((bigSep (Finset.Ico 0 62) fun h => cred (tallyAt (recvC c k h) h (N k))) ∗ bigSep (Finset.Ico 0 62) (Crd (F := F) c k))) := by
  unfold O₀
  rw [Pipeline.launchCred_add, Pipeline.launchCred_sum, Pipeline.launchCred_sum]
  have h1 : (bigSep Finset.univ fun k : Fin 6 => (Pipeline.launchCred (fun d => tallyAt (barC (up k d)) 0 1) c : sProp 𝕄))
      ⊢ cred (tallyAt (barC c) 0 6) :=
    (bigSep_mono fun k _ => Pipeline.launchCred_tallyAt (.reg barS) (up k) (dn k) (up_dn k) (dn_up k) 0 1 c).trans (bar6 c)
  have h2 : (bigSep Finset.univ fun k : Fin 6 => (Pipeline.launchCred (fun d => OwR d k 0 0) c : sProp 𝕄))
      ⊢ bigSep Finset.univ fun k : Fin 6 => iprop((bigSep (Finset.Ico 0 62) fun h => cred (tallyAt (recvC c k h) h (N k))) ∗ bigSep (Finset.Ico 0 62) (Crd (F := F) c k)) :=
    bigSep_mono fun k _ => owr_cred c k
  iintro ⟨H1, H2⟩
  isplitl [H2]
  · iapply h1; iexact H2
  · iapply h2; iexact H1

/-! ### The dealing -/

theorem sends_deal :
    bigSep ((box 62).map sendT) (fun x => (dutyTok ER x.1 x.2.1 x.2.2 : sProp 𝕄))
      ⊢ bigSep Finset.univ fun c => bigSep Finset.univ fun k => bigSep (Finset.Ico 0 62) fun g => dutyTok ER (sendC c k g) (g / 3) 0 :=
  Entails.of_eq (box_deal 62 sendT _)
theorem recvs_deal :
    bigSep ((box 62).map recvT) (fun x => (dutyTok ER x.1 x.2.1 x.2.2 : sProp 𝕄))
      ⊢ bigSep Finset.univ fun c => bigSep Finset.univ fun k => bigSep (Finset.Ico 0 62) fun g => dutyTok ER (recvC (dn k c) k g) (g / 3) 0 :=
  Entails.of_eq ((box_deal 62 recvT _).trans
    (all_dn fun c k => bigSep (Finset.Ico 0 62) fun g => (dutyTok ER (recvC c k g) (g / 3) 0 : sProp 𝕄)))
theorem stores_deal :
    bigSep ((box 32).map storeT) (fun x => (dutyTok ER x.1 x.2.1 x.2.2 : sProp 𝕄))
      ⊢ bigSep Finset.univ fun c => bigSep Finset.univ fun k => bigSep (Finset.Ico 0 32) (Sto (F := F) c k) :=
  Entails.of_eq (box_deal 32 storeT _)
theorem creds_deal :
    bigSep ((box 62).map credT) (fun x => (dutyTok ER x.1 x.2.1 x.2.2 : sProp 𝕄))
      ⊢ bigSep Finset.univ fun c => bigSep Finset.univ fun k => bigSep (Finset.Ico 0 62) fun h => dutyTok ER (credC (up k c) k) 0 h :=
  Entails.of_eq ((box_deal 62 credT _).trans
    (all_up fun c k => bigSep (Finset.Ico 0 62) fun h => (dutyTok ER (credC c k) 0 h : sProp 𝕄)))
theorem bars_deal :
    bigSep (Finset.univ.map barT) (fun x => (dutyTok ER x.1 x.2.1 x.2.2 : sProp 𝕄))
      ⊢ bigSep Finset.univ fun c => bigSep Finset.univ fun k : Fin 6 => dutyTok ER (barC (up k c)) 0 k.val :=
  Entails.of_eq ((bigSep_map barT).trans ((bigSep_univ_prod _).trans
    (all_up fun c k => (dutyTok ER (barC c) 0 k.val : sProp 𝕄))))
theorem writes_dn :
    (bigSep Finset.univ fun c => bigSep Finset.univ fun k => bigSep (Finset.Ico 0 62) fun g => (writeTok EK (keyOf c k g) (g / 3 + 1) : sProp 𝕄))
      ⊢ bigSep Finset.univ fun c => bigSep Finset.univ fun k => bigSep (Finset.Ico 0 62) fun g => writeTok EK (keyOf (dn k c) k g) (g / 3 + 1) :=
  Entails.of_eq (all_dn fun c k => bigSep (Finset.Ico 0 62) fun g => (writeTok EK (keyOf c k g) (g / 3 + 1) : sProp 𝕄))
theorem creds_all :
    (bigSep Finset.univ fun c => (Pipeline.launchCred O₀ c : sProp 𝕄)) ⊢ iprop((bigSep Finset.univ fun c => cred (tallyAt (barC c) 0 6))
      ∗ (bigSep Finset.univ fun c => bigSep Finset.univ fun k => bigSep (Finset.Ico 0 62) fun h => cred (tallyAt (recvC c k h) h (N k)))
      ∗ bigSep Finset.univ fun c => bigSep Finset.univ fun k => bigSep (Finset.Ico 0 62) (Crd (F := F) c k)) := by
  have h : (bigSep Finset.univ fun c => (Pipeline.launchCred O₀ c : sProp 𝕄)) ⊢ bigSep Finset.univ fun c => iprop(cred (tallyAt (barC c) 0 6)
      ∗ bigSep Finset.univ fun k : Fin 6 => iprop((bigSep (Finset.Ico 0 62) fun h => cred (tallyAt (recvC c k h) h (N k))) ∗ bigSep (Finset.Ico 0 62) (Crd (F := F) c k))) :=
    bigSep_mono fun c _ => creds c
  refine h.trans (Entails.of_eq ?_)
  rw [bigSep_sep']
  refine congrArg (fun X => iprop(_ ∗ X)) ?_
  rw [← bigSep_sep']
  exact bigSep_congr fun c _ => bigSep_sep' _ _ _

/-- What a stream of a device is dealt before its cells are opened. -/
def GS (c : Dev nD) (k : Fin 6) : sProp 𝕄 :=
  iprop(W3 (Rdr c k) 0 ∗ bigSep (Finset.Ico 0 62) (Snd c k) ∗ bigSep (Finset.Ico 0 62) (Rcv c k) ∗ bigSep (Finset.Ico 0 62) (Crd c k)
    ∗ bigSep (Finset.Ico 0 32) (Sto c k) ∗ Wt c k)

theorem deal : iprop(bigSep toks (fun x => (dutyTok ER x.1 x.2.1 x.2.2 : sProp 𝕄)) ∗ bigSep keys (fun x => (readerAt EK x 0 : sProp 𝕄))
      ∗ bigSep (keys ×ˢ Finset.range 22) (fun x => (writeTok EK x.1 (x.2 + 1) : sProp 𝕄)) ∗ bigSep Finset.univ fun c => (Pipeline.launchCred O₀ c : sProp 𝕄))
    ⊢ iprop((bigSep Finset.univ fun c => cred (tallyAt (barC c) 0 6))
      ∗ (bigSep Finset.univ fun c => bigSep Finset.univ fun k : Fin 6 => dutyTok ER (barC (up k c)) 0 k.val)
      ∗ bigSep Finset.univ fun c => bigSep Finset.univ fun k => GS (F := F) c k) := by
  rw [toks_eq]
  iintro ⟨⟨Hb, Hs, Hr, Ht, Hc⟩, Hd, Hw, HO⟩
  ihave Hb := (bars_deal (F := F)) $$ Hb
  ihave Hs := (sends_deal (F := F)) $$ Hs
  ihave Hr := (recvs_deal (F := F)) $$ Hr
  ihave Ht := (stores_deal (F := F)) $$ Ht
  ihave Hc := (creds_deal (F := F)) $$ Hc
  ihave Hd := (readers_deal (F := F)) $$ Hd
  ihave Hw := (writes_deal (F := F)) $$ Hw
  icases Hw with ⟨Hw, HW⟩
  ihave Hw := (writes_dn (F := F)) $$ Hw
  ihave HO := (creds_all (F := F)) $$ HO
  icases HO with ⟨HB, HN, HC⟩
  isplitl [HB]; · iexact HB
  isplitl [Hb]; · iexact Hb
  ihave Hrw := (all_sep' 62 _ _) $$ [Hr Hw]
  · isplitl [Hr]; · iexact Hr
    iexact Hw
  ihave HS := (all_sep' 62 _ _) $$ [Hs Hrw]
  · isplitl [Hs]; · iexact Hs
    iexact Hrw
  ihave HR := (all_sep' 62 _ _) $$ [HN Hc]
  · isplitl [HN]; · iexact HN
    iexact Hc
  ihave H := (all_sep _ _) $$ [Ht HW]
  · isplitl [Ht]; · iexact Ht
    iexact HW
  ihave H := (all_sep _ _) $$ [HC H]
  · isplitl [HC]; · iexact HC
    iexact H
  ihave H := (all_sep _ _) $$ [HR H]
  · isplitl [HR]; · iexact HR
    iexact H
  ihave H := (all_sep _ _) $$ [HS H]
  · isplitl [HS]; · iexact HS
    iexact H
  ihave H := (all_sep _ _) $$ [Hd H]
  · isplitl [Hd]; · iexact Hd
    iexact H
  iexact H

/-! ### The cells of one device opened -/

theorem inv_at (D : Inp F) (κ : GSem nD τ sig → ℕ) {g : GSem nD τ sig} (h : g ∈ (barCells ∪ scCells : Finset (GSem nD τ sig))) :
    (bigSep (barCells ∪ scCells) fun g => (cellInv ER (Rd D) (κ g) g : sProp 𝕄)) ⊢ cellInv ER (Rd D) (κ g) g :=
  bigSep_elim h

theorem at_all (D : Inp F) (κ : GSem nD τ sig → ℕ) (c : Dev nD) :
    iprop((bigSep (barCells ∪ scCells) fun g => cellInv ER (Rd D) (κ g) g)
      ∗ (bigSep Finset.univ fun x : Fin 6 × Fin 8 => (openTok ER ((c : Thread nD τ), osem x) : sProp 𝕄))
      ∗ bigSep Finset.univ fun x : Fin 6 × Fin 8 => semVal ((c : Thread nD τ), osem x) 0)
      ⊢ |={Set.univ}=> bigSep Finset.univ fun x : Fin 6 × Fin 8 => At (F := F) ((c : Thread nD τ), osem x) 0 := by
  have h : ∀ x ∈ (Finset.univ : Finset (Fin 6 × Fin 8)), iprop((bigSep (barCells ∪ scCells) fun g => cellInv ER (Rd D) (κ g) g)
      ∗ (openTok ER ((c : Thread nD τ), osem x) : sProp 𝕄) ∗ semVal ((c : Thread nD τ), osem x) 0)
      ⊢ |={Set.univ}=> At (F := F) ((c : Thread nD τ), osem x) 0 := by
    intro x _
    iintro ⟨#HI, Ho, Hv⟩
    ihave #Hc := (inv_at D κ (mem_sc c x rfl)) $$ HI
    iapply (Rounds.cell_open ER (Rd D) (g := ((c : Thread nD τ), osem x)) (Set.mem_univ _))
    isplitl []; · iexact Hc
    isplitl [Ho] <;> iassumption
  have e : iprop((bigSep Finset.univ fun x : Fin 6 × Fin 8 => (openTok ER ((c : Thread nD τ), osem x) : sProp 𝕄))
      ∗ bigSep Finset.univ fun x : Fin 6 × Fin 8 => semVal ((c : Thread nD τ), osem x) 0)
      = bigSep Finset.univ fun x : Fin 6 × Fin 8 => iprop((openTok ER ((c : Thread nD τ), osem x) : sProp 𝕄) ∗ semVal ((c : Thread nD τ), osem x) 0) :=
    (bigSep_sep' _ _ _).symm
  rw [e]
  exact (bigSep_with_persistent h).trans (bigSep_fupd _ _)

/-- One stream's positions. -/
def Pos (c : Dev nD) (k : Fin 6) : sProp 𝕄 :=
  iprop(W3 (RecvPos c k) 0 ∗ W3 (SendPos c k) 0 ∗ At (credC c k) 0 ∗ At (storeC c k) 0)

theorem osem_val0 : ∀ k : Fin 6, osem (k, 0) = SemLoc.dma (sendS k (0 + 1 + 2)) ∧ osem (k, 1) = SemLoc.dma (sendS k (0 + 2 + 2)) ∧ osem (k, 2) = SemLoc.dma (sendS k (0 + 2))
    ∧ osem (k, 3) = SemLoc.dma (recvS k 0) ∧ osem (k, 4) = SemLoc.dma (recvS k (0 + 1)) ∧ osem (k, 5) = SemLoc.dma (recvS k (0 + 2))
    ∧ osem (k, 6) = SemLoc.dma (storeS k) ∧ osem (k, 7) = SemLoc.reg (credS k) := by decide +kernel

theorem pos8 (c : Dev nD) (k : Fin 6) :
    (bigSep Finset.univ fun j : Fin 8 => At (F := F) ((c : Thread nD τ), osem (k, j)) 0) ⊢ Pos c k := by
  obtain ⟨s0, s1, s2, s3, s4, s5, s6, s7⟩ := osem_val0 k
  rw [eight, s0, s1, s2, s3, s4, s5, s6, s7]
  unfold Pos W3 RecvPos SendPos
  iintro ⟨H0, H1, H2, H3, H4, H5, H6, H7⟩
  isplitl [H3 H4 H5]
  · isplitl [H3]; · iexact H3
    isplitl [H4]; · iexact H4
    iexact H5
  isplitl [H0 H1 H2]
  · isplitl [H2]; · iexact H2
    isplitl [H0]; · iexact H0
    iexact H1
  isplitl [H7]; · iexact H7
  iexact H6

theorem pos_all (D : Inp F) (κ : GSem nD τ sig → ℕ) (c : Dev nD) :
    iprop((bigSep (barCells ∪ scCells) fun g => cellInv ER (Rd D) (κ g) g)
      ∗ (bigSep Finset.univ fun x : Fin 6 × Fin 8 => (openTok ER ((c : Thread nD τ), osem x) : sProp 𝕄))
      ∗ bigSep Finset.univ fun x : Fin 6 × Fin 8 => semVal ((c : Thread nD τ), osem x) 0)
      ⊢ |={Set.univ}=> bigSep Finset.univ fun k : Fin 6 => Pos (F := F) c k := by
  have h : (bigSep Finset.univ fun x : Fin 6 × Fin 8 => At (F := F) ((c : Thread nD τ), osem x) 0)
      ⊢ bigSep Finset.univ fun k : Fin 6 => Pos (F := F) c k := by
    rw [bigSep_univ_prod]
    exact bigSep_mono fun k _ => pos8 c k
  exact (at_all D κ c).trans (fupd_mono h)

end Cert.Proof

end
-- ==== Proof.Split.lean ====
/-
  The buffers cut into the slots and rectangles that the copies use, and put together again.
-/
module

public import proofs.«01_k».proof.Proof.Run
public import Idealize.SL.BI.BigOpNat
public import Idealize.ShloMosaic.Lib.SparseCore.Launch

@[expose] public section

set_option maxRecDepth 65536
set_option maxHeartbeats 1600000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ### One function out of pieces -/

/-- Values on the rectangles of a disjoint family are the values of one function. -/
theorem glue {V : Type} [Nonempty V] {T : Type} {sh : Shape} (r : T → Rect sh) (hd : ∀ t t', t ≠ t' → Disjoint (r t).set (r t').set)
    (Y : ∀ t, (r t).shape.Idx → V) : ∃ X : sh.Idx → V, ∀ t j, X ((r t).emb j) = Y t j := by
  classical
  refine ⟨fun i => if h : ∃ p : (Σ t, (r t).shape.Idx), (r p.1).emb p.2 = i then Y h.choose.1 h.choose.2 else Classical.arbitrary V, ?_⟩
  intro t j
  have h : ∃ p : (Σ t, (r t).shape.Idx), (r p.1).emb p.2 = (r t).emb j := ⟨⟨t, j⟩, rfl⟩
  show (if h : ∃ p : (Σ t, (r t).shape.Idx), (r p.1).emb p.2 = (r t).emb j then Y h.choose.1 h.choose.2 else Classical.arbitrary V) = _
  rw [dif_pos h]
  have hs := h.choose_spec
  generalize h.choose = p at hs
  obtain ⟨t', j'⟩ := p
  have m (t) (j : (r t).shape.Idx) : (r t).emb j ∈ (r t).set := by
    rw [← Rect.map_emb_univ]; exact Finset.mem_map_of_mem _ (Finset.mem_univ _)
  have e : t' = t := by
    by_contra hne
    exact Finset.disjoint_left.mp (hd t' t hne) (m t' j') (hs ▸ m t j)
  subst e
  rw [(r t').emb.injective hs]

/-! ### A view and its squeezed form -/

theorem any_squeeze (c : Dev nD) {sp : Space} {s s' : Shape} {e : EltTy} (m : Memref sig .tc sp s e) (h : s.Squeezes s') (q : PosShare TreeShare)
    (Y : s.Idx → Elt F e) : own' c m q Y ⊢ iprop(∃ X, own' c (m.squeeze s' h) q X) := by
  have hs : m.view.set = (m.squeeze s' h).view.set := (View.set_reshape m.view h.numel_eq).symm
  unfold own' owns
  iintro ⟨%f, %hf, H⟩
  iexists _
  iexists f
  isplitr
  · ipureintro; rfl
  · rw [← hs]; iexact H
theorem any_unsqueeze (c : Dev nD) {sp : Space} {s s' : Shape} {e : EltTy} (m : Memref sig .tc sp s e) (h : s.Squeezes s') (q : PosShare TreeShare)
    (X : s'.Idx → Elt F e) : own' c (m.squeeze s' h) q X ⊢ iprop(∃ Y, own' c m q Y) := by
  have hs : m.view.set = (m.squeeze s' h).view.set := (View.set_reshape m.view h.numel_eq).symm
  unfold own' owns
  iintro ⟨%f, %hf, H⟩
  iexists (m.view.read (Elt F) f)
  iexists f
  isplitr
  · ipureintro; rfl
  · rw [hs]; iexact H

/-! ### The three slots of a buffer -/

abbrev rS (k : Fin 6) (t : Fin 3) : Rect (Sq3 k) := Rect.unit (s := Sq3 k) ![t.val % 3, 0, 0] (Sq1 k).size (inSlot k t.val)

theorem rS_mem (k : Fin 6) (t : Fin 3) (i : (Sq3 k).Idx) : i ∈ (rS k t).set ↔ (i 0).val = t.val := by
  rw [Rect.mem_set_unit]
  constructor
  · intro h
    have h0 := h 0
    have a1 : t.val % 3 ≤ (i 0).val := h0.1
    have a2 : (i 0).val < t.val % 3 + 1 := h0.2
    omega
  · intro h a
    fin_cases a
    · show t.val % 3 ≤ (i 0).val ∧ (i 0).val < t.val % 3 + 1
      omega
    · exact ⟨Nat.zero_le _, by show (i 1).val < 0 + 128; have := (i 1).isLt; have e : (Sq3 k).size 1 = 128 := rfl; omega⟩
    · exact ⟨Nat.zero_le _, by show (i 2).val < 0 + wd k; have := (i 2).isLt; have e : (Sq3 k).size 2 = wd k := rfl; omega⟩

theorem rS_disj (k : Fin 6) (t t' : Fin 3) (h : t ≠ t') : Disjoint (rS k t).set (rS k t').set := by
  rw [Finset.disjoint_left]
  intro i h1 h2
  rw [rS_mem] at h1 h2
  exact h (Fin.ext (h1.symm.trans h2))
theorem rS_cov (k : Fin 6) : (Finset.univ : Finset (Fin 3)).biUnion (fun t => (rS k t).set) = Finset.univ := by
  ext i
  simp only [Finset.mem_biUnion, Finset.mem_univ, true_and, iff_true]
  exact ⟨⟨(i 0).val, (i 0).isLt⟩, (rS_mem k _ i).mpr rfl⟩

theorem fin3 (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide), bigSep_singleton]; rfl

theorem slots_of_comm (c : Dev nD) (k : Fin 6) :
    iprop(∃ X, own' (F := F) c (comm k) fullShare X) ⊢ iprop(AnySlot c k 0 ∗ AnySlot c k 1 ∗ AnySlot c k 2) := by
  iintro ⟨%X, H⟩
  ihave H := (owns_rects (c : Thread nD τ) (comm k) fullShare (rS k) (fun _ _ => rfl) (rS_disj k) (rS_cov k) X) $$ H
  ihave H := (Entails.of_eq (fin3 (fun t => own' (F := F) c ((comm k).slice (rS k t) (fun _ => rfl)) fullShare (fun j => X ((rS k t).emb j))))) $$ H
  icases H with ⟨H0, H1, H2⟩
  unfold AnySlot
  isplitl [H0]
  · iapply (any_squeeze c _ (squeezesSq k) fullShare _); iexact H0
  isplitl [H1]
  · iapply (any_squeeze c _ (squeezesSq k) fullShare _); iexact H1
  · iapply (any_squeeze c _ (squeezesSq k) fullShare _); iexact H2

theorem slot_unsq (c : Dev nD) (k : Fin 6) (t : Fin 3) (X : (Sq2 k).Idx → Elt F .f32) :
    own' (F := F) c (slotM k t.val) fullShare X ⊢ iprop(∃ Y, own' (F := F) c ((comm k).slice (rS k t) (fun _ => rfl)) fullShare Y) :=
  any_unsqueeze c ((comm k).slice (rS k t) (fun _ => rfl)) (squeezesSq k) fullShare X

theorem comm_of_slots (c : Dev nD) (k : Fin 6) :
    iprop(AnySlot (F := F) c k 0 ∗ AnySlot c k 1 ∗ AnySlot c k 2) ⊢ iprop(∃ X, own' (F := F) c (comm k) fullShare X) := by
  unfold AnySlot
  iintro ⟨⟨%X0, H0⟩, ⟨%X1, H1⟩, ⟨%X2, H2⟩⟩
  ihave H0 := (show own' (F := F) c (slotM k 0) fullShare X0 ⊢ _ from slot_unsq c k 0 X0) $$ H0
  icases H0 with ⟨%Y0, H0⟩
  ihave H1 := (show own' (F := F) c (slotM k 1) fullShare X1 ⊢ _ from slot_unsq c k 1 X1) $$ H1
  icases H1 with ⟨%Y1, H1⟩
  ihave H2 := (show own' (F := F) c (slotM k 2) fullShare X2 ⊢ _ from slot_unsq c k 2 X2) $$ H2
  icases H2 with ⟨%Y2, H2⟩
  let Y : ∀ t : Fin 3, (rS k t).shape.Idx → Elt F .f32 := fun t => match t with | 0 => Y0 | 1 => Y1 | 2 => Y2
  haveI : Nonempty (Elt F .f32) := ⟨(Elt.inhabited F .f32).default⟩
  obtain ⟨X, hX⟩ := glue (V := Elt F .f32) (rS k) (rS_disj k) Y
  have e0 : (fun j => X ((rS k 0).emb j)) = Y0 := funext fun j => hX 0 j
  have e1 : (fun j => X ((rS k 1).emb j)) = Y1 := funext fun j => hX 1 j
  have e2 : (fun j => X ((rS k 2).emb j)) = Y2 := funext fun j => hX 2 j
  iexists X
  iapply (owns_of_rects (c : Thread nD τ) (comm k) fullShare (rS k) (fun _ _ => rfl) (rS_disj k) (rS_cov k) X)
  iapply (Entails.of_eq (fin3 (fun t => own' (F := F) c ((comm k).slice (rS k t) (fun _ => rfl)) fullShare (fun j => X ((rS k t).emb j)))).symm)
  rw [e0, e1, e2]
  isplitl [H0]; · iexact H0
  isplitl [H1] <;> iassumption

/-! ### The rectangles of the result -/

theorem cols_uniq : ∀ (k k' : Fin 6) (j : ℕ), co k ≤ j → j < co k + wd k → co k' ≤ j → j < co k' + wd k' → k = k' := by
  intro k k' j h1 h2 h3 h4
  fin_cases k <;> fin_cases k' <;> simp only [co, wd] at * <;> first | rfl | omega
theorem cols_cov (j : ℕ) (h : j < 8192) : ∃ k : Fin 6, co k ≤ j ∧ j < co k + wd k := by
  by_cases h1 : j < 1408; · exact ⟨0, by simp only [co, wd]; omega⟩
  by_cases h2 : j < 2816; · exact ⟨1, by simp only [co, wd]; omega⟩
  by_cases h3 : j < 4224; · exact ⟨2, by simp only [co, wd]; omega⟩
  by_cases h4 : j < 5504; · exact ⟨3, by simp only [co, wd]; omega⟩
  by_cases h5 : j < 6912; · exact ⟨4, by simp only [co, wd]; omega⟩
  exact ⟨5, by simp only [co, wd]; omega⟩

abbrev rO (x : Fin 6 × Fin 32) : Rect S4096x8192 :=
  Rect.unit (s := S4096x8192) ![128 * chunkOf x.1 x.2.val, co x.1] (Sq2 x.1).size (chkOut_row x.1 x.2.val)

theorem rO_mem (x : Fin 6 × Fin 32) (i : S4096x8192.Idx) : i ∈ (rO x).set ↔
    (i 0).val / 128 = chunkOf x.1 x.2.val ∧ co x.1 ≤ (i 1).val ∧ (i 1).val < co x.1 + wd x.1 := by
  refine (Rect.mem_set_unit (s := S4096x8192)).trans ?_
  constructor
  · intro h
    have h0 : 128 * chunkOf x.1 x.2.val ≤ (i 0).val ∧ (i 0).val < 128 * chunkOf x.1 x.2.val + 128 := h 0
    have h1 : co x.1 ≤ (i 1).val ∧ (i 1).val < co x.1 + wd x.1 := h 1
    exact ⟨by omega, h1⟩
  · intro h a
    fin_cases a
    · show 128 * chunkOf x.1 x.2.val ≤ (i 0).val ∧ (i 0).val < 128 * chunkOf x.1 x.2.val + 128
      omega
    · exact h.2

theorem rO_disj (x y : Fin 6 × Fin 32) (h : x ≠ y) : Disjoint (rO x).set (rO y).set := by
  rw [Finset.disjoint_left]
  intro i h1 h2
  rw [rO_mem] at h1 h2
  refine h ?_
  obtain ⟨k, q⟩ := x
  obtain ⟨k', q'⟩ := y
  obtain rfl : k = k' := cols_uniq k k' _ h1.2.1 h1.2.2 h2.2.1 h2.2.2
  have e : chunkOf k q.val = chunkOf k q'.val := h1.1.symm.trans h2.1
  have e' := congrArg (chunkOf k) e
  rw [chunkOf_chunkOf, chunkOf_chunkOf, Nat.mod_eq_of_lt q.isLt, Nat.mod_eq_of_lt q'.isLt] at e'
  rw [Fin.ext e']
theorem rO_cov : (Finset.univ : Finset (Fin 6 × Fin 32)).biUnion (fun x => (rO x).set) = Finset.univ := by
  ext i
  simp only [Finset.mem_biUnion, Finset.mem_univ, true_and, iff_true]
  obtain ⟨k, hk⟩ := cols_cov (i 1).val (i 1).isLt
  have hi : (i 0).val < 4096 := (i 0).isLt
  refine ⟨(k, ⟨chunkOf k ((i 0).val / 128), chunkOf_lt k _⟩), (rO_mem _ i).mpr ⟨?_, hk⟩⟩
  show _ = chunkOf k (chunkOf k _)
  rw [chunkOf_chunkOf]; omega

theorem out_exists (D : Inp F) : ∃ X : S4096x8192.Idx → Elt F .f32, ∀ (x : Fin 6 × Fin 32) (j : (rO x).shape.Idx),
    X ((rO x).emb j) = D.acc x.1 x.2.val 31 j :=
  haveI : Nonempty (Elt F .f32) := ⟨(Elt.inhabited F .f32).default⟩
  glue (V := Elt F .f32) rO rO_disj fun x j => D.acc x.1 x.2.val 31 j
/-- The result: on each stream's columns and each chunk's rows, the chunk after all its additions. -/
def Inp.out (D : Inp F) : S4096x8192.Idx → Elt F .f32 := (out_exists D).choose
theorem Inp.out_at (D : Inp F) (k : Fin 6) (q : Fin 32) (j : (Sq2 k).Idx) : D.out ((rO (k, q)).emb j) = D.acc k q.val 31 j :=
  (out_exists D).choose_spec (k, q) j

/-- The store in which device `c` writes the chunk of place `q`. -/
def gOf (k : Fin 6) (c : Dev nD) (q : Fin 32) : ℕ := 31 + (pos k c + 65 - q.val) % 32
theorem lab_gOf (k : Fin 6) (c : Dev nD) (q : Fin 32) : lab k c (gOf k c q) = q.val := by
  have := pos_lt k c; have := q.isLt
  unfold lab gOf; omega
theorem gOf_lab (k : Fin 6) (c : Dev nD) (g : ℕ) (h : 31 ≤ g) (h' : g < 63) : gOf k c ⟨lab k c g, lab_lt k c g⟩ = g := by
  have := pos_lt k c
  unfold lab gOf; simp only; omega
def gEmb (k : Fin 6) (c : Dev nD) : Fin 32 ↪ ℕ :=
  ⟨gOf k c, fun a b h => Fin.ext (by rw [← lab_gOf k c a, ← lab_gOf k c b, h])⟩
theorem gEmb_map (k : Fin 6) (c : Dev nD) : Finset.Ico 31 63 = (Finset.univ : Finset (Fin 32)).map (gEmb k c) := by
  ext g
  rw [Finset.mem_Ico, Finset.mem_map]
  constructor
  · intro h
    exact ⟨⟨lab k c g, lab_lt k c g⟩, Finset.mem_univ _, gOf_lab k c g h.1 h.2⟩
  · rintro ⟨q, -, rfl⟩
    show 31 ≤ gOf k c q ∧ gOf k c q < 63
    unfold gOf; omega

theorem out_family (c : Dev nD) (Φ : Fin 6 → ℕ → sProp 𝕄) :
    (bigSep Finset.univ fun k : Fin 6 => bigSep (Finset.Ico 31 63) (Φ k)) = bigSep Finset.univ fun x : Fin 6 × Fin 32 => Φ x.1 (gOf x.1 c x.2) := by
  rw [bigSep_univ_prod]
  refine bigSep_congr fun k _ => ?_
  rw [gEmb_map k c, bigSep_map]; rfl

theorem todo_piece (c : Dev nD) (Y : S4096x8192.Idx → Elt F .f32) (x : Fin 6 × Fin 32) :
    own' (F := F) c (outM.slice (rO x) (fun _ => rfl)) fullShare (fun j => Y ((rO x).emb j)) ⊢ OutTodo (F := F) c x.1 (gOf x.1 c x.2) := by
  unfold OutTodo
  rw [lab_gOf]
  iintro H
  iexists (fun j => Y ((rO x).emb j))
  iexact H

theorem done_piece (c : Dev nD) (D : Inp F) (x : Fin 6 × Fin 32) :
    OutDone (F := F) c x.1 D (gOf x.1 c x.2)
      ⊢ own' (F := F) c (outM.slice (rO x) (fun _ => rfl)) fullShare (fun j => D.out ((rO x).emb j)) := by
  have e : D.ct x.1 c (gOf x.1 c x.2) = fun j => D.out ((rO x).emb j) := by
    funext j
    refine Eq.trans ?_ (Inp.out_at D x.1 x.2 j).symm
    unfold Inp.ct
    rw [lab_gOf, min_eq_right (show 31 ≤ gOf x.1 c x.2 by unfold gOf; omega)]
  unfold OutDone
  rw [e, lab_gOf]

theorem todo_of_out (c : Dev nD) (Y : S4096x8192.Idx → Elt F .f32) :
    own' (F := F) c outM fullShare Y ⊢ bigSep Finset.univ fun k : Fin 6 => bigSep (Finset.Ico 31 63) (OutTodo c k) := by
  rw [out_family c]
  have h : (bigSep Finset.univ fun x => own' (F := F) c (outM.slice (rO x) (fun _ => rfl)) fullShare (fun j => Y ((rO x).emb j)))
      ⊢ bigSep Finset.univ fun x : Fin 6 × Fin 32 => OutTodo (F := F) c x.1 (gOf x.1 c x.2) :=
    bigSep_mono fun x _ => todo_piece c Y x
  exact (owns_rects (c : Thread nD τ) outM fullShare rO (fun _ _ => rfl) rO_disj rO_cov Y).trans h

theorem out_of_done (c : Dev nD) (D : Inp F) :
    (bigSep Finset.univ fun k : Fin 6 => bigSep (Finset.Ico 31 63) (OutDone c k D)) ⊢ own' (F := F) c outM fullShare D.out := by
  rw [out_family c]
  have h : (bigSep Finset.univ fun x : Fin 6 × Fin 32 => OutDone (F := F) c x.1 D (gOf x.1 c x.2))
      ⊢ bigSep Finset.univ fun x => own' (F := F) c (outM.slice (rO x) (fun _ => rfl)) fullShare (fun j => D.out ((rO x).emb j)) :=
    bigSep_mono fun x _ => done_piece c D x
  exact h.trans (owns_of_rects (c : Thread nD τ) outM fullShare rO (fun _ _ => rfl) rO_disj rO_cov D.out)

end Cert.Proof

end
-- ==== Proof.Ids.lean ====
/-
  The nine words that the host code computes on each device: its place and its neighbours on the three cycles.
-/
module

public import proofs.«01_k».proof.Proof.Run
public import proofs.«01_k».proof.Proof.Gen.KernelIdeal.Regions
public import Idealize.SL.BI.BigOpNat
public import Idealize.ShloMosaic.Lib.SparseCore.Launch

@[expose] public section

set_option maxRecDepth 65536
set_option maxHeartbeats 1600000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ### The two functions that the host code calls -/

/-- The entry of a table of 32 words at an index that may be negative; the least word where it is out of range. -/
def takeF (T : S32.Idx → BitVec 32) (i : S_.Idx → BitVec 32) : S_.Idx → BitVec 32 :=
  let w : S_.Idx → BitVec 32 := select (cmpi .slt i (constantI S_ 32 0#32)) (addi i (constantI S_ 32 32#32)) i
  let v : S1.Idx → BitVec 32 := broadcastInDim S1 ![] bcast_S_S1 w
  select (Host.reduce IntOp.andi (andi (cmpi .sge v (broadcastInDim S1 ![] bcast_S_S1 (constantI S_ 32 0#32))) (cmpi .sle v (constantI S1 32 31#32)))
      (constantI S_ 1 1#1) reducesTo_S1_S_d0 h_S_)
    (Host.gather gather_S32_S1_S__n_0_n_n_0_0_1 T v) (constantI S_ 32 2147483648#32)

/-- The remainder with the sign of the divisor. -/
def remF (a n : S_.Idx → BitVec 32) : S_.Idx → BitVec 32 :=
  let d : S_.Idx → BitVec 32 := select (cmpi .eq n (constantI S_ 32 0#32)) (constantI S_ 32 1#32) n
  let r : S_.Idx → BitVec 32 := Host.remsi a d
  select (andi (cmpi .ne (cmpi .slt r (constantI S_ 32 0#32)) (cmpi .slt d (constantI S_ 32 0#32))) (cmpi .ne r (constantI S_ 32 0#32)))
    (addi r d) r

/-- A device's number, as the host code computes it. -/
def selfW (c : Dev nD) : S_.Idx → BitVec 32 :=
  Host.remui (Host.divui (constantI S_ 32 (Dev.word c)) (constantI S_ 32 1#32)) (constantI S_ 32 32#32)
/-- The word of a table at a device's own number. -/
def placeW (T : S32.Idx → BitVec 32) (c : Dev nD) : S_.Idx → BitVec 32 := takeF T (selfW c)
/-- The word of a table one place on, round the cycle. -/
def nextW (T : S32.Idx → BitVec 32) (p : S_.Idx → BitVec 32) : S_.Idx → BitVec 32 :=
  takeF T (remF (addi p (constantI S_ 32 1#32)) (constantI S_ 32 32#32))
/-- The word of a table one place back. -/
def prevW (T : S32.Idx → BitVec 32) (p : S_.Idx → BitVec 32) : S_.Idx → BitVec 32 :=
  takeF T (remF (subi (addi p (constantI S_ 32 32#32)) (constantI S_ 32 1#32)) (constantI S_ 32 32#32))
/-- A printed table as an array. -/
def tabW (f : Fin 32 → BitVec 32) : S32.Idx → BitVec 32 := fun i => f (S32.rowMajor i)

variable (m : (ℓ : Loc nD τ sig) → Buf (Elt F) ℓ)

/-! ### The tables and the device's number -/

theorem tab_0 (c : Dev nD) : V1 m c main_c = tabW lit0 := by after_results_simp; rfl
theorem tab_1 (c : Dev nD) : V1 m c main_c_0 = tabW lit1 := by after_results_simp; rfl
theorem tab_2 (c : Dev nD) : V1 m c main_c_1 = tabW lit2 := by after_results_simp; rfl
theorem tab_3 (c : Dev nD) : V1 m c main_c_2 = tabW lit3 := by after_results_simp; rfl
theorem tab_4 (c : Dev nD) : V1 m c main_c_3 = tabW lit4 := by after_results_simp; rfl
theorem tab_5 (c : Dev nD) : V1 m c main_c_4 = tabW lit5 := by after_results_simp; rfl
theorem tab_6 (c : Dev nD) : V1 m c main_c_5 = tabW lit6 := by after_results_simp; rfl
theorem tab_7 (c : Dev nD) : V1 m c main_c_6 = tabW lit7 := by after_results_simp; rfl
theorem tab_8 (c : Dev nD) : V1 m c main_c_7 = tabW lit8 := by after_results_simp; rfl
theorem self_1 (c : Dev nD) : V1 m c main_v4 = selfW c := by after_results_simp; rfl

/-! ### What each stretch of host code leaves, of any contents before it -/

section Stretches
variable (V : Valuation τ sig (Elt F))

theorem after_1_main_v5 : StableHlo.after hostOps0_1 V main_v5 = takeF (V main_c) (V main_v4) := by after_results_simp; rfl
theorem after_2_main_v6 : StableHlo.after hostOps0_2 V main_v6 = addi (V main_v5 : S_.Idx → BitVec 32) (constantI S_ 32 1#32) := by after_results_simp
theorem after_2_main_c_11 : StableHlo.after hostOps0_2 V main_c_11 = (constantI S_ 32 32#32 : S_.Idx → BitVec 32) := by after_results_simp
theorem after_3_main_v7 : StableHlo.after hostOps0_3 V main_v7 = remF (V main_v6) (V main_c_11) := by after_results_simp; rfl
theorem after_4_main_v8 : StableHlo.after hostOps0_4 V main_v8 = takeF (V main_c_0) (V main_v7) := by after_results_simp; rfl
theorem after_5_main_v10 : StableHlo.after hostOps0_5 V main_v10 = subi (addi (V main_v5 : S_.Idx → BitVec 32) (constantI S_ 32 32#32)) (constantI S_ 32 1#32) := by after_results_simp
theorem after_5_main_c_14 : StableHlo.after hostOps0_5 V main_c_14 = (constantI S_ 32 32#32 : S_.Idx → BitVec 32) := by after_results_simp
theorem after_6_main_v11 : StableHlo.after hostOps0_6 V main_v11 = remF (V main_v10) (V main_c_14) := by after_results_simp; rfl
theorem after_7_main_v12 : StableHlo.after hostOps0_7 V main_v12 = takeF (V main_c_1) (V main_v11) := by after_results_simp; rfl
theorem after_8_main_v13 : StableHlo.after hostOps0_8 V main_v13 = takeF (V main_c_2) (V main_v4) := by after_results_simp; rfl
theorem after_9_main_v14 : StableHlo.after hostOps0_9 V main_v14 = addi (V main_v13 : S_.Idx → BitVec 32) (constantI S_ 32 1#32) := by after_results_simp
theorem after_9_main_c_16 : StableHlo.after hostOps0_9 V main_c_16 = (constantI S_ 32 32#32 : S_.Idx → BitVec 32) := by after_results_simp
theorem after_10_main_v15 : StableHlo.after hostOps0_10 V main_v15 = remF (V main_v14) (V main_c_16) := by after_results_simp; rfl
theorem after_11_main_v16 : StableHlo.after hostOps0_11 V main_v16 = takeF (V main_c_3) (V main_v15) := by after_results_simp; rfl
theorem after_12_main_v18 : StableHlo.after hostOps0_12 V main_v18 = subi (addi (V main_v13 : S_.Idx → BitVec 32) (constantI S_ 32 32#32)) (constantI S_ 32 1#32) := by after_results_simp
theorem after_12_main_c_19 : StableHlo.after hostOps0_12 V main_c_19 = (constantI S_ 32 32#32 : S_.Idx → BitVec 32) := by after_results_simp
theorem after_13_main_v19 : StableHlo.after hostOps0_13 V main_v19 = remF (V main_v18) (V main_c_19) := by after_results_simp; rfl
theorem after_14_main_v20 : StableHlo.after hostOps0_14 V main_v20 = takeF (V main_c_4) (V main_v19) := by after_results_simp; rfl
theorem after_15_main_v21 : StableHlo.after hostOps0_15 V main_v21 = takeF (V main_c_5) (V main_v4) := by after_results_simp; rfl
theorem after_16_main_v22 : StableHlo.after hostOps0_16 V main_v22 = addi (V main_v21 : S_.Idx → BitVec 32) (constantI S_ 32 1#32) := by after_results_simp
theorem after_16_main_c_21 : StableHlo.after hostOps0_16 V main_c_21 = (constantI S_ 32 32#32 : S_.Idx → BitVec 32) := by after_results_simp
theorem after_17_main_v23 : StableHlo.after hostOps0_17 V main_v23 = remF (V main_v22) (V main_c_21) := by after_results_simp; rfl
theorem after_18_main_v24 : StableHlo.after hostOps0_18 V main_v24 = takeF (V main_c_6) (V main_v23) := by after_results_simp; rfl
theorem after_19_main_v26 : StableHlo.after hostOps0_19 V main_v26 = subi (addi (V main_v21 : S_.Idx → BitVec 32) (constantI S_ 32 32#32)) (constantI S_ 32 1#32) := by after_results_simp
theorem after_19_main_c_24 : StableHlo.after hostOps0_19 V main_c_24 = (constantI S_ 32 32#32 : S_.Idx → BitVec 32) := by after_results_simp
theorem after_20_main_v27 : StableHlo.after hostOps0_20 V main_v27 = remF (V main_v26) (V main_c_24) := by after_results_simp; rfl
theorem after_21_main_v28 : StableHlo.after hostOps0_21 V main_v28 = takeF (V main_c_7) (V main_v27) := by after_results_simp; rfl

end Stretches

/-! ### The words of each cycle -/

theorem place_0 (c : Dev nD) : V2 m c main_v5 = placeW (tabW lit0) c :=
  (after_1_main_v5 _).trans (congrArg₂ takeF (tab_0 m c) (self_1 m c))
theorem next_0 (c : Dev nD) : V5 m c main_v8 = nextW (tabW lit1) (placeW (tabW lit0) c) :=
  (after_4_main_v8 _).trans (congrArg₂ takeF ((V4_of m c main_c_0 (by decide)).trans <| (V3_of m c main_c_0 (by decide)).trans <| (V2_of m c main_c_0 (by decide)).trans <| tab_1 m c)
    ((after_3_main_v7 _).trans (congrArg₂ remF ((after_2_main_v6 _).trans (congrArg (fun x : S_.Idx → BitVec 32 => addi x (constantI S_ 32 1#32)) (place_0 m c))) (after_2_main_c_11 _))))
theorem prev_0 (c : Dev nD) : V8 m c main_v12 = prevW (tabW lit2) (placeW (tabW lit0) c) :=
  (after_7_main_v12 _).trans (congrArg₂ takeF ((V7_of m c main_c_1 (by decide)).trans <| (V6_of m c main_c_1 (by decide)).trans <| (V5_of m c main_c_1 (by decide)).trans <| (V4_of m c main_c_1 (by decide)).trans <| (V3_of m c main_c_1 (by decide)).trans <| (V2_of m c main_c_1 (by decide)).trans <| tab_2 m c)
    ((after_6_main_v11 _).trans (congrArg₂ remF ((after_5_main_v10 _).trans (congrArg (fun x : S_.Idx → BitVec 32 => subi (addi x (constantI S_ 32 32#32)) (constantI S_ 32 1#32))
      ((V5_of m c main_v5 (by decide)).trans <| (V4_of m c main_v5 (by decide)).trans <| (V3_of m c main_v5 (by decide)).trans <| place_0 m c))) (after_5_main_c_14 _))))
theorem place_1 (c : Dev nD) : V9 m c main_v13 = placeW (tabW lit3) c :=
  (after_8_main_v13 _).trans (congrArg₂ takeF ((V8_of m c main_c_2 (by decide)).trans <| (V7_of m c main_c_2 (by decide)).trans <| (V6_of m c main_c_2 (by decide)).trans <| (V5_of m c main_c_2 (by decide)).trans <| (V4_of m c main_c_2 (by decide)).trans <| (V3_of m c main_c_2 (by decide)).trans <| (V2_of m c main_c_2 (by decide)).trans <| tab_3 m c) ((V8_of m c main_v4 (by decide)).trans <| (V7_of m c main_v4 (by decide)).trans <| (V6_of m c main_v4 (by decide)).trans <| (V5_of m c main_v4 (by decide)).trans <| (V4_of m c main_v4 (by decide)).trans <| (V3_of m c main_v4 (by decide)).trans <| (V2_of m c main_v4 (by decide)).trans <| self_1 m c))
theorem next_1 (c : Dev nD) : V12 m c main_v16 = nextW (tabW lit4) (placeW (tabW lit3) c) :=
  (after_11_main_v16 _).trans (congrArg₂ takeF ((V11_of m c main_c_3 (by decide)).trans <| (V10_of m c main_c_3 (by decide)).trans <| (V9_of m c main_c_3 (by decide)).trans <| (V8_of m c main_c_3 (by decide)).trans <| (V7_of m c main_c_3 (by decide)).trans <| (V6_of m c main_c_3 (by decide)).trans <| (V5_of m c main_c_3 (by decide)).trans <| (V4_of m c main_c_3 (by decide)).trans <| (V3_of m c main_c_3 (by decide)).trans <| (V2_of m c main_c_3 (by decide)).trans <| tab_4 m c)
    ((after_10_main_v15 _).trans (congrArg₂ remF ((after_9_main_v14 _).trans (congrArg (fun x : S_.Idx → BitVec 32 => addi x (constantI S_ 32 1#32)) (place_1 m c))) (after_9_main_c_16 _))))
theorem prev_1 (c : Dev nD) : V15 m c main_v20 = prevW (tabW lit5) (placeW (tabW lit3) c) :=
  (after_14_main_v20 _).trans (congrArg₂ takeF ((V14_of m c main_c_4 (by decide)).trans <| (V13_of m c main_c_4 (by decide)).trans <| (V12_of m c main_c_4 (by decide)).trans <| (V11_of m c main_c_4 (by decide)).trans <| (V10_of m c main_c_4 (by decide)).trans <| (V9_of m c main_c_4 (by decide)).trans <| (V8_of m c main_c_4 (by decide)).trans <| (V7_of m c main_c_4 (by decide)).trans <| (V6_of m c main_c_4 (by decide)).trans <| (V5_of m c main_c_4 (by decide)).trans <| (V4_of m c main_c_4 (by decide)).trans <| (V3_of m c main_c_4 (by decide)).trans <| (V2_of m c main_c_4 (by decide)).trans <| tab_5 m c)
    ((after_13_main_v19 _).trans (congrArg₂ remF ((after_12_main_v18 _).trans (congrArg (fun x : S_.Idx → BitVec 32 => subi (addi x (constantI S_ 32 32#32)) (constantI S_ 32 1#32))
      ((V12_of m c main_v13 (by decide)).trans <| (V11_of m c main_v13 (by decide)).trans <| (V10_of m c main_v13 (by decide)).trans <| place_1 m c))) (after_12_main_c_19 _))))
theorem place_2 (c : Dev nD) : V16 m c main_v21 = placeW (tabW lit6) c :=
  (after_15_main_v21 _).trans (congrArg₂ takeF ((V15_of m c main_c_5 (by decide)).trans <| (V14_of m c main_c_5 (by decide)).trans <| (V13_of m c main_c_5 (by decide)).trans <| (V12_of m c main_c_5 (by decide)).trans <| (V11_of m c main_c_5 (by decide)).trans <| (V10_of m c main_c_5 (by decide)).trans <| (V9_of m c main_c_5 (by decide)).trans <| (V8_of m c main_c_5 (by decide)).trans <| (V7_of m c main_c_5 (by decide)).trans <| (V6_of m c main_c_5 (by decide)).trans <| (V5_of m c main_c_5 (by decide)).trans <| (V4_of m c main_c_5 (by decide)).trans <| (V3_of m c main_c_5 (by decide)).trans <| (V2_of m c main_c_5 (by decide)).trans <| tab_6 m c) ((V15_of m c main_v4 (by decide)).trans <| (V14_of m c main_v4 (by decide)).trans <| (V13_of m c main_v4 (by decide)).trans <| (V12_of m c main_v4 (by decide)).trans <| (V11_of m c main_v4 (by decide)).trans <| (V10_of m c main_v4 (by decide)).trans <| (V9_of m c main_v4 (by decide)).trans <| (V8_of m c main_v4 (by decide)).trans <| (V7_of m c main_v4 (by decide)).trans <| (V6_of m c main_v4 (by decide)).trans <| (V5_of m c main_v4 (by decide)).trans <| (V4_of m c main_v4 (by decide)).trans <| (V3_of m c main_v4 (by decide)).trans <| (V2_of m c main_v4 (by decide)).trans <| self_1 m c))
theorem next_2 (c : Dev nD) : V19 m c main_v24 = nextW (tabW lit7) (placeW (tabW lit6) c) :=
  (after_18_main_v24 _).trans (congrArg₂ takeF ((V18_of m c main_c_6 (by decide)).trans <| (V17_of m c main_c_6 (by decide)).trans <| (V16_of m c main_c_6 (by decide)).trans <| (V15_of m c main_c_6 (by decide)).trans <| (V14_of m c main_c_6 (by decide)).trans <| (V13_of m c main_c_6 (by decide)).trans <| (V12_of m c main_c_6 (by decide)).trans <| (V11_of m c main_c_6 (by decide)).trans <| (V10_of m c main_c_6 (by decide)).trans <| (V9_of m c main_c_6 (by decide)).trans <| (V8_of m c main_c_6 (by decide)).trans <| (V7_of m c main_c_6 (by decide)).trans <| (V6_of m c main_c_6 (by decide)).trans <| (V5_of m c main_c_6 (by decide)).trans <| (V4_of m c main_c_6 (by decide)).trans <| (V3_of m c main_c_6 (by decide)).trans <| (V2_of m c main_c_6 (by decide)).trans <| tab_7 m c)
    ((after_17_main_v23 _).trans (congrArg₂ remF ((after_16_main_v22 _).trans (congrArg (fun x : S_.Idx → BitVec 32 => addi x (constantI S_ 32 1#32)) (place_2 m c))) (after_16_main_c_21 _))))
theorem prev_2 (c : Dev nD) : V22 m c main_v28 = prevW (tabW lit8) (placeW (tabW lit6) c) :=
  (after_21_main_v28 _).trans (congrArg₂ takeF ((V21_of m c main_c_7 (by decide)).trans <| (V20_of m c main_c_7 (by decide)).trans <| (V19_of m c main_c_7 (by decide)).trans <| (V18_of m c main_c_7 (by decide)).trans <| (V17_of m c main_c_7 (by decide)).trans <| (V16_of m c main_c_7 (by decide)).trans <| (V15_of m c main_c_7 (by decide)).trans <| (V14_of m c main_c_7 (by decide)).trans <| (V13_of m c main_c_7 (by decide)).trans <| (V12_of m c main_c_7 (by decide)).trans <| (V11_of m c main_c_7 (by decide)).trans <| (V10_of m c main_c_7 (by decide)).trans <| (V9_of m c main_c_7 (by decide)).trans <| (V8_of m c main_c_7 (by decide)).trans <| (V7_of m c main_c_7 (by decide)).trans <| (V6_of m c main_c_7 (by decide)).trans <| (V5_of m c main_c_7 (by decide)).trans <| (V4_of m c main_c_7 (by decide)).trans <| (V3_of m c main_c_7 (by decide)).trans <| (V2_of m c main_c_7 (by decide)).trans <| tab_8 m c)
    ((after_20_main_v27 _).trans (congrArg₂ remF ((after_19_main_v26 _).trans (congrArg (fun x : S_.Idx → BitVec 32 => subi (addi x (constantI S_ 32 32#32)) (constantI S_ 32 1#32))
      ((V19_of m c main_v21 (by decide)).trans <| (V18_of m c main_v21 (by decide)).trans <| (V17_of m c main_v21 (by decide)).trans <| place_2 m c))) (after_19_main_c_24 _))))

/-! ### The nine words -/

/-- Nine words put side by side. -/
def nine (u : Fin 9 → S_.Idx → BitVec 32) : S9.Idx → BitVec 32 :=
  concatenate S9 0 [⟨S1, broadcastInDim S1 ![] bcast_S_S1 (u 0)⟩, ⟨S1, broadcastInDim S1 ![] bcast_S_S1 (u 1)⟩, ⟨S1, broadcastInDim S1 ![] bcast_S_S1 (u 2)⟩, ⟨S1, broadcastInDim S1 ![] bcast_S_S1 (u 3)⟩, ⟨S1, broadcastInDim S1 ![] bcast_S_S1 (u 4)⟩, ⟨S1, broadcastInDim S1 ![] bcast_S_S1 (u 5)⟩, ⟨S1, broadcastInDim S1 ![] bcast_S_S1 (u 6)⟩, ⟨S1, broadcastInDim S1 ![] bcast_S_S1 (u 7)⟩, ⟨S1, broadcastInDim S1 ![] bcast_S_S1 (u 8)⟩] concatenates_S1_S1_S1_S1_S1_S1_S1_S1_S1_S9_d0

theorem after_22 (V : Valuation τ sig (Elt F)) : StableHlo.after hostOps0_22 V main_v38
    = nine ![V main_v5, V main_v12, V main_v8, V main_v13, V main_v20, V main_v16, V main_v21, V main_v28, V main_v24] := by after_results_simp; rfl

/-- The nine words as the host code computes them on a device. -/
def nineW (c : Dev nD) : S9.Idx → BitVec 32 := nine ![
  placeW (tabW lit0) c,
  prevW (tabW lit2) (placeW (tabW lit0) c),
  nextW (tabW lit1) (placeW (tabW lit0) c),
  placeW (tabW lit3) c,
  prevW (tabW lit5) (placeW (tabW lit3) c),
  nextW (tabW lit4) (placeW (tabW lit3) c),
  placeW (tabW lit6) c,
  prevW (tabW lit8) (placeW (tabW lit6) c),
  nextW (tabW lit7) (placeW (tabW lit6) c)]

set_option maxHeartbeats 8000000 in
theorem nineW_eq : ∀ c : Dev nD, nineW c = fun i => idTab c (i 0) := by decide +kernel

/-- What the kernel reads: on each device its own nine words. -/
theorem ids_eq (c : Dev nD) : V23 m c main_v38 = fun i => idTab c (i 0) := by
  refine (after_22 _).trans (Eq.trans (congrArg nine ?_) (nineW_eq c))
  have h0 : V22 m c main_v5 = _ := ((V22_of m c main_v5 (by decide)).trans <| (V21_of m c main_v5 (by decide)).trans <| (V20_of m c main_v5 (by decide)).trans <| (V19_of m c main_v5 (by decide)).trans <| (V18_of m c main_v5 (by decide)).trans <| (V17_of m c main_v5 (by decide)).trans <| (V16_of m c main_v5 (by decide)).trans <| (V15_of m c main_v5 (by decide)).trans <| (V14_of m c main_v5 (by decide)).trans <| (V13_of m c main_v5 (by decide)).trans <| (V12_of m c main_v5 (by decide)).trans <| (V11_of m c main_v5 (by decide)).trans <| (V10_of m c main_v5 (by decide)).trans <| (V9_of m c main_v5 (by decide)).trans <| (V8_of m c main_v5 (by decide)).trans <| (V7_of m c main_v5 (by decide)).trans <| (V6_of m c main_v5 (by decide)).trans <| (V5_of m c main_v5 (by decide)).trans <| (V4_of m c main_v5 (by decide)).trans <| (V3_of m c main_v5 (by decide)).trans <| place_0 m c)
  have h1 : V22 m c main_v12 = _ := ((V22_of m c main_v12 (by decide)).trans <| (V21_of m c main_v12 (by decide)).trans <| (V20_of m c main_v12 (by decide)).trans <| (V19_of m c main_v12 (by decide)).trans <| (V18_of m c main_v12 (by decide)).trans <| (V17_of m c main_v12 (by decide)).trans <| (V16_of m c main_v12 (by decide)).trans <| (V15_of m c main_v12 (by decide)).trans <| (V14_of m c main_v12 (by decide)).trans <| (V13_of m c main_v12 (by decide)).trans <| (V12_of m c main_v12 (by decide)).trans <| (V11_of m c main_v12 (by decide)).trans <| (V10_of m c main_v12 (by decide)).trans <| (V9_of m c main_v12 (by decide)).trans <| prev_0 m c)
  have h2 : V22 m c main_v8 = _ := ((V22_of m c main_v8 (by decide)).trans <| (V21_of m c main_v8 (by decide)).trans <| (V20_of m c main_v8 (by decide)).trans <| (V19_of m c main_v8 (by decide)).trans <| (V18_of m c main_v8 (by decide)).trans <| (V17_of m c main_v8 (by decide)).trans <| (V16_of m c main_v8 (by decide)).trans <| (V15_of m c main_v8 (by decide)).trans <| (V14_of m c main_v8 (by decide)).trans <| (V13_of m c main_v8 (by decide)).trans <| (V12_of m c main_v8 (by decide)).trans <| (V11_of m c main_v8 (by decide)).trans <| (V10_of m c main_v8 (by decide)).trans <| (V9_of m c main_v8 (by decide)).trans <| (V8_of m c main_v8 (by decide)).trans <| (V7_of m c main_v8 (by decide)).trans <| (V6_of m c main_v8 (by decide)).trans <| next_0 m c)
  have h3 : V22 m c main_v13 = _ := ((V22_of m c main_v13 (by decide)).trans <| (V21_of m c main_v13 (by decide)).trans <| (V20_of m c main_v13 (by decide)).trans <| (V19_of m c main_v13 (by decide)).trans <| (V18_of m c main_v13 (by decide)).trans <| (V17_of m c main_v13 (by decide)).trans <| (V16_of m c main_v13 (by decide)).trans <| (V15_of m c main_v13 (by decide)).trans <| (V14_of m c main_v13 (by decide)).trans <| (V13_of m c main_v13 (by decide)).trans <| (V12_of m c main_v13 (by decide)).trans <| (V11_of m c main_v13 (by decide)).trans <| (V10_of m c main_v13 (by decide)).trans <| place_1 m c)
  have h4 : V22 m c main_v20 = _ := ((V22_of m c main_v20 (by decide)).trans <| (V21_of m c main_v20 (by decide)).trans <| (V20_of m c main_v20 (by decide)).trans <| (V19_of m c main_v20 (by decide)).trans <| (V18_of m c main_v20 (by decide)).trans <| (V17_of m c main_v20 (by decide)).trans <| (V16_of m c main_v20 (by decide)).trans <| prev_1 m c)
  have h5 : V22 m c main_v16 = _ := ((V22_of m c main_v16 (by decide)).trans <| (V21_of m c main_v16 (by decide)).trans <| (V20_of m c main_v16 (by decide)).trans <| (V19_of m c main_v16 (by decide)).trans <| (V18_of m c main_v16 (by decide)).trans <| (V17_of m c main_v16 (by decide)).trans <| (V16_of m c main_v16 (by decide)).trans <| (V15_of m c main_v16 (by decide)).trans <| (V14_of m c main_v16 (by decide)).trans <| (V13_of m c main_v16 (by decide)).trans <| next_1 m c)
  have h6 : V22 m c main_v21 = _ := ((V22_of m c main_v21 (by decide)).trans <| (V21_of m c main_v21 (by decide)).trans <| (V20_of m c main_v21 (by decide)).trans <| (V19_of m c main_v21 (by decide)).trans <| (V18_of m c main_v21 (by decide)).trans <| (V17_of m c main_v21 (by decide)).trans <| place_2 m c)
  have h7 : V22 m c main_v28 = _ := (prev_2 m c)
  have h8 : V22 m c main_v24 = _ := ((V22_of m c main_v24 (by decide)).trans <| (V21_of m c main_v24 (by decide)).trans <| (V20_of m c main_v24 (by decide)).trans <| next_2 m c)
  rw [h0, h1, h2, h3, h4, h5, h6, h7, h8]

end Cert.Proof

end
-- ==== Proof.Region.lean ====
/-
  The kernel region of one device: what its windows hold, what the body is given and leaves, and the region as the launch
  takes it.
-/
module

public import proofs.«01_k».proof.Proof.Deal
public import proofs.«01_k».proof.Proof.Split
public import proofs.«01_k».proof.Proof.Ids
public import proofs.«01_k».proof.Proof.Gen.KernelIdeal.Launch
public import proofs.«01_k».proof.Proof.Gen.KernelIdeal.Regions
public import proofs.«01_k».proof.Proof.Gen.KernelIdeal.Points
public import Idealize.SL.BI.BigOpNat
public import Idealize.ShloMosaic.Lib.SparseCore.Launch

@[expose] public section

set_option maxRecDepth 65536
set_option maxHeartbeats 1600000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

open Idealize.ShloMosaic.Pipeline (Dat BodyObligation)

variable (m : (ℓ : Loc nD τ sig) → Buf (Elt F) ℓ)

/-! ### The arrays -/

/-- The devices' arguments. -/
def inp : Inp F where
  x c := m ((c : Thread nD τ).loc main_arg0)
  w c := m ((c : Thread nD τ).loc main_arg1)
  sx c := m ((c : Thread nD τ).loc main_arg2)
  sw c := m ((c : Thread nD τ).loc main_arg3)

/-- What the region leaves: the result of every device. -/
def outs : Outs (F := F) := fun _ r c =>
  Function.update (β := fun r : Ref sig .tc => Buf (Elt F) ((c : Thread nD τ).loc r)) (fun r => m ((c : Thread nD τ).loc r)) main_v39 ((inp m).out) r

theorem V24_out (c : Dev nD) : V24 m (outs m) c main_v39 = (inp m).out := by
  unfold V24 outs
  rw [Function.update_self, Function.update_self]

theorem V23_arg0 (c : Dev nD) : V23 m c main_arg0 = (inp m).x c := (V24_of m (outs m) c main_arg0 (by decide)).symm.trans (V24_main_arg0 m (outs m) c)
theorem V23_arg1 (c : Dev nD) : V23 m c main_arg1 = (inp m).w c := (V24_of m (outs m) c main_arg1 (by decide)).symm.trans (V24_main_arg1 m (outs m) c)
theorem V23_arg2 (c : Dev nD) : V23 m c main_arg2 = (inp m).sx c := (V24_of m (outs m) c main_arg2 (by decide)).symm.trans (V24_main_arg2 m (outs m) c)
theorem V23_arg3 (c : Dev nD) : V23 m c main_arg3 = (inp m).sw c := (V24_of m (outs m) c main_arg3 (by decide)).symm.trans (V24_main_arg3 m (outs m) c)

/-! ### The windows' blocks -/

/-- Window `w`'s block, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V23 m c (Pipeline.arrRef spec0 w))

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 1) = 0 := (by decide +kernel : ∀ t : Fin grid0.N, _)
theorem idx3 : ∀ t : Fin cfg0.N, win0_3.index t (0 : Fin 1) = 0 := (by decide +kernel : ∀ t : Fin grid0.N, _)
theorem idx4 : ∀ t : Fin cfg0.N, win0_4.index t (0 : Fin 1) = 0 := (by decide +kernel : ∀ t : Fin grid0.N, _)

theorem blk0 (t : Fin cfg0.N) (j : S4096x128.Idx) : ((cfg0.win 0).blk t).view.emb j = j := by
  obtain ⟨e0, e1⟩ := idx0 t
  funext a; apply Fin.ext
  match a with
  | ⟨0, _⟩ => show win0_0.index t (0 : Fin 2) * 4096 + 1 * (j 0).val = (j 0).val; omega
  | ⟨1, _⟩ => show win0_0.index t (1 : Fin 2) * 128 + 1 * (j 1).val = (j 1).val; omega
theorem blk1 (t : Fin cfg0.N) (j : S128x8192.Idx) : ((cfg0.win 1).blk t).view.emb j = j := by
  obtain ⟨e0, e1⟩ := idx1 t
  funext a; apply Fin.ext
  match a with
  | ⟨0, _⟩ => show win0_1.index t (0 : Fin 2) * 128 + 1 * (j 0).val = (j 0).val; omega
  | ⟨1, _⟩ => show win0_1.index t (1 : Fin 2) * 8192 + 1 * (j 1).val = (j 1).val; omega
theorem blk2 (t : Fin cfg0.N) (j : S1.Idx) : ((cfg0.win 2).blk t).view.emb j = j := by
  have e0 := idx2 t
  funext a; apply Fin.ext
  match a with
  | ⟨0, _⟩ => show win0_2.index t (0 : Fin 1) * 1 + 1 * (j 0).val = (j 0).val; omega
theorem blk3 (t : Fin cfg0.N) (j : S1.Idx) : ((cfg0.win 3).blk t).view.emb j = j := by
  have e0 := idx3 t
  funext a; apply Fin.ext
  match a with
  | ⟨0, _⟩ => show win0_3.index t (0 : Fin 1) * 1 + 1 * (j 0).val = (j 0).val; omega
theorem blk4 (t : Fin cfg0.N) (j : S9.Idx) : ((cfg0.win 4).blk t).view.emb j = j := by
  have e0 := idx4 t
  funext a; apply Fin.ext
  match a with
  | ⟨0, _⟩ => show win0_4.index t (0 : Fin 1) * 9 + 1 * (j 0).val = (j 0).val; omega

theorem iblk0 (c : Dev nD) (t : Fin cfg0.N) : iblk m c 0 t = (inp m).x c := by
  rw [← V23_arg0]; funext j; show V23 m c main_arg0 (((cfg0.win 0).blk t).view.emb j) = V23 m c main_arg0 j; rw [blk0]
theorem iblk1 (c : Dev nD) (t : Fin cfg0.N) : iblk m c 1 t = (inp m).w c := by
  rw [← V23_arg1]; funext j; show V23 m c main_arg1 (((cfg0.win 1).blk t).view.emb j) = V23 m c main_arg1 j; rw [blk1]
theorem iblk2 (c : Dev nD) (t : Fin cfg0.N) : iblk m c 2 t = (inp m).sx c := by
  rw [← V23_arg2]; funext j; show V23 m c main_arg2 (((cfg0.win 2).blk t).view.emb j) = V23 m c main_arg2 j; rw [blk2]
theorem iblk3 (c : Dev nD) (t : Fin cfg0.N) : iblk m c 3 t = (inp m).sw c := by
  rw [← V23_arg3]; funext j; show V23 m c main_arg3 (((cfg0.win 3).blk t).view.emb j) = V23 m c main_arg3 j; rw [blk3]
theorem iblk4 (c : Dev nD) (t : Fin cfg0.N) : iblk m c 4 t = fun i => idTab c (i 0) := by
  rw [← ids_eq m c]; funext j; show V23 m c main_v38 (((cfg0.win 4).blk t).view.emb j) = V23 m c main_v38 j; rw [blk4]

/-! ### The device's state around the region -/

/-- The kernel's own buffers, at any contents. -/
def Scr (c : Dev nD) : sProp 𝕄 :=
  iprop((bigSep Finset.univ fun k : Fin 6 => iprop(∃ X, own' (F := F) c (comm k) fullShare X)) ∗ (bigSep Finset.univ fun k : Fin 6 => AnyP (F := F) c k)
    ∗ ∃ X, own' (F := F) c wbM fullShare X)

/-- The protocol's part of what the body is given. -/
def Xk (c : Dev nD) : sProp 𝕄 :=
  iprop((∃ (κ : GSem nD τ sig → ℕ) (κ' : Key → ℕ), Env (inp m) κ κ') ∗ (bigSep Finset.univ fun d => reached ER (barC d) 0) ∗ At (barC c) 0
    ∗ cred (tallyAt (barC c) 0 6) ∗ (bigSep Finset.univ fun k : Fin 6 => dutyTok ER (barC (up k c)) 0 k.val)
    ∗ bigSep Finset.univ fun k : Fin 6 => iprop(Pos (F := F) c k ∗ GS (F := F) c k))
/-- The six streams' counters and the stores', at zero. -/
def Sems (c : Dev nD) : sProp 𝕄 := bigSep Finset.univ fun x : Fin 6 × Fin 8 => semVal ((c : Thread nD τ), osem x) 0
/-- Before the body. -/
def Φ₀ (c : Dev nD) : sProp 𝕄 :=
  iprop(Xk m c ∗ Scr c ∗ (∃ Y, own' (F := F) c outM fullShare Y) ∗ ∃ r, prngReg c r)
/-- After it. -/
def Φ₁ (c : Dev nD) : sProp 𝕄 :=
  iprop(semVal (barC c) 0 ∗ Sems c ∗ Scr c ∗ own' c outM fullShare (inp m).out ∗ ∃ r, prngReg c r)

def dat (c : Dev nD) : Dat τ (Elt F) ℕ ℕ UU ℕ cfg0 c where
  A w := V23 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := if t.val = 0 then Φ₀ m c else Φ₁ m c
  q _ := fullShare
  owed t := if t.val = 0 then O₀ c else 0

abbrev pdats : (p : Fin 1) → (c : Dev nD) → Dat τ (Elt F) ℕ ℕ UU ℕ (Pipeline.pin (pcfgs (F := F)) adm p) c
  | 0 => dat m

theorem after0 (c : Dev nD) (t : Fin cfg0.N) : (dat m c).after 0 t = iblk m c 0 t := by dsimp only [dat]
theorem before0 (c : Dev nD) (t : Fin cfg0.N) (d) : (dat m c).before 0 t d = iblk m c 0 t :=
  ((dat m c).before_in_eq_fetched 0 rfl (fun _ => rfl) (fun _ _ _ => rfl) (fun t => by rw [after0]; unfold Dat.blockOf iblk; try rfl) t d).trans
    (by unfold Dat.fetched Dat.blockOf iblk; try rfl)
theorem after1 (c : Dev nD) (t : Fin cfg0.N) : (dat m c).after 1 t = iblk m c 1 t := by dsimp only [dat]
theorem before1 (c : Dev nD) (t : Fin cfg0.N) (d) : (dat m c).before 1 t d = iblk m c 1 t :=
  ((dat m c).before_in_eq_fetched 1 rfl (fun _ => rfl) (fun _ _ _ => rfl) (fun t => by rw [after1]; unfold Dat.blockOf iblk; try rfl) t d).trans
    (by unfold Dat.fetched Dat.blockOf iblk; try rfl)
theorem after2 (c : Dev nD) (t : Fin cfg0.N) : (dat m c).after 2 t = iblk m c 2 t := by dsimp only [dat]
theorem before2 (c : Dev nD) (t : Fin cfg0.N) (d) : (dat m c).before 2 t d = iblk m c 2 t :=
  ((dat m c).before_in_eq_fetched 2 rfl (fun _ => rfl) (fun _ _ _ => rfl) (fun t => by rw [after2]; unfold Dat.blockOf iblk; try rfl) t d).trans
    (by unfold Dat.fetched Dat.blockOf iblk; try rfl)
theorem after3 (c : Dev nD) (t : Fin cfg0.N) : (dat m c).after 3 t = iblk m c 3 t := by dsimp only [dat]
theorem before3 (c : Dev nD) (t : Fin cfg0.N) (d) : (dat m c).before 3 t d = iblk m c 3 t :=
  ((dat m c).before_in_eq_fetched 3 rfl (fun _ => rfl) (fun _ _ _ => rfl) (fun t => by rw [after3]; unfold Dat.blockOf iblk; try rfl) t d).trans
    (by unfold Dat.fetched Dat.blockOf iblk; try rfl)
theorem after4 (c : Dev nD) (t : Fin cfg0.N) : (dat m c).after 4 t = iblk m c 4 t := by dsimp only [dat]
theorem before4 (c : Dev nD) (t : Fin cfg0.N) (d) : (dat m c).before 4 t d = iblk m c 4 t :=
  ((dat m c).before_in_eq_fetched 4 rfl (fun _ => rfl) (fun _ _ _ => rfl) (fun t => by rw [after4]; unfold Dat.blockOf iblk; try rfl) t d).trans
    (by unfold Dat.fetched Dat.blockOf iblk; try rfl)

theorem owed_first (c : Dev nD) : (dat m c).owed t0_0.castSucc = O₀ c := by
  show (if (t0_0.castSucc : Fin (cfg0.N + 1)).val = 0 then O₀ c else 0) = O₀ c; exact if_pos rfl
theorem owed_zero (c : Dev nD) : (pdats m 0 c).owed 0 = O₀ c := by
  show (if ((0 : Fin (cfg0.N + 1)).val = 0) then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owesAt_in (c : Dev nD) (t : Fin (cfg0.N + 1)) (O : CellTallies nD τ sig ℕ) (h0 : (dat m c).owed t = O) :
    Owes c O ⊢ ((dat m c).owesAt 0 t : sProp 𝕄) := by
  unfold Owes Dat.owesAt Pipeline.owesWithin Dat.bound
  rw [h0, show (dat m c).recorded t = Set.univ from rfl]
  iintro ⟨%W, HO⟩
  iexists W
  isplitr; · ipureintro; exact fun _ _ => Or.inl trivial
  iexact HO
theorem owesAt_out (c : Dev nD) (t : Fin (cfg0.N + 1)) (O : CellTallies nD τ sig ℕ) (h0 : (dat m c).owed t = O) :
    ((dat m c).owesAt 0 t : sProp 𝕄) ⊢ Owes c O := by
  unfold Owes Dat.owesAt Pipeline.owesWithin
  rw [h0]
  iintro ⟨%W, -, HO⟩
  iexists W; iexact HO

theorem defs₀_row (t : Fin cfg0.N) : defs₀ (F := F) .tc cfg0.body (cfg0.bodyArgs t (cfg0.slots t)) = bodyAt0 t := by
  unfold defs₀; rw [Defs.onTc_tc]

/-- One stream's part of what the body is given. -/
theorem init_one (c : Dev nD) (k : Fin 6) :
    iprop(((∃ X, own' (F := F) c (comm k) fullShare X) ∗ bigSep (Finset.Ico 31 63) (OutTodo (F := F) c k)) ∗ Pos (F := F) c k ∗ GS (F := F) c k)
      ⊢ InitS (F := F) c k := by
  unfold InitS Pos GS
  iintro ⟨⟨HX, HT⟩, ⟨HR, HS, HC, HSt⟩, HRd, H1, H2, H3, H4, HW⟩
  isplitl [HR]; · iexact HR
  isplitl [HS]; · iexact HS
  isplitl [HRd]; · iexact HRd
  isplitl [HX]; · iapply (slots_of_comm c k) $$ HX
  isplitl [HC]; · iexact HC
  isplitl [HSt]; · iexact HSt
  isplitl [H1]; · iexact H1
  isplitl [H2]; · iexact H2
  isplitl [H3]; · iexact H3
  isplitl [H4]; · iexact H4
  isplitl [HT]; · iexact HT
  iexact HW
theorem init_all (c : Dev nD) :
    iprop((bigSep Finset.univ fun k : Fin 6 => iprop(∃ X, own' (F := F) c (comm k) fullShare X))
        ∗ (bigSep Finset.univ fun k : Fin 6 => bigSep (Finset.Ico 31 63) (OutTodo (F := F) c k))
        ∗ bigSep Finset.univ fun k : Fin 6 => iprop(Pos (F := F) c k ∗ GS (F := F) c k))
      ⊢ bigSep Finset.univ fun k : Fin 6 => InitS (F := F) c k := by
  have h : (bigSep Finset.univ fun k : Fin 6 => iprop(((∃ X, own' (F := F) c (comm k) fullShare X) ∗ bigSep (Finset.Ico 31 63) (OutTodo (F := F) c k))
      ∗ Pos (F := F) c k ∗ GS (F := F) c k)) ⊢ bigSep Finset.univ fun k : Fin 6 => InitS (F := F) c k := bigSep_mono fun k _ => init_one c k
  rw [sep_univ, sep_univ] at h
  iintro ⟨H1, H2, H3⟩
  iapply h
  isplitl [H1 H2]
  · isplitl [H1] <;> iassumption
  iexact H3

theorem fin_one (c : Dev nD) (D : Inp F) (k : Fin 6) :
    Fin' c k D ⊢ iprop((bigSep (Finset.Ico 31 63) (OutDone c k D)) ∗ (∃ X, own' (F := F) c (comm k) fullShare X)
      ∗ bigSep Finset.univ fun j : Fin 8 => (semVal ((c : Thread nD τ), osem (k, j)) 0 : sProp 𝕄)) := by
  unfold Fin'
  iintro ⟨H1, H2, H3⟩
  isplitl [H1]; · iexact H1
  isplitl [H2]; · iapply (comm_of_slots c k) $$ H2
  iexact H3
theorem fin_all (c : Dev nD) (D : Inp F) :
    (bigSep Finset.univ fun k : Fin 6 => Fin' c k D) ⊢ iprop(own' c outM fullShare D.out
      ∗ (bigSep Finset.univ fun k : Fin 6 => iprop(∃ X, own' (F := F) c (comm k) fullShare X)) ∗ Sems (F := F) c) := by
  have h : (bigSep Finset.univ fun k : Fin 6 => Fin' c k D) ⊢ bigSep Finset.univ fun k : Fin 6 =>
      iprop((bigSep (Finset.Ico 31 63) (OutDone c k D)) ∗ (∃ X, own' (F := F) c (comm k) fullShare X)
      ∗ bigSep Finset.univ fun j : Fin 8 => (semVal ((c : Thread nD τ), osem (k, j)) 0 : sProp 𝕄)) := bigSep_mono fun k _ => fin_one c D k
  rw [sep_univ, sep_univ] at h
  unfold Sems
  rw [bigSep_univ_prod]
  refine h.trans ?_
  iintro ⟨H1, H2, H3⟩
  isplitl [H1]; · iapply (out_of_done c D) $$ H1
  isplitl [H2] <;> iassumption

theorem wp_conseq' (c : Dev nD) {P Q : sProp 𝕄} {p : Prog (TpuEff nD τ sig (Elt F) Λ₀ .tc) PUnit} (h : P ⊢ WP c p (fun _ => Q)) (R : PUnit → sProp 𝕄) :
    P ⊢ iprop((Q -∗ R ⟨⟩) -∗ wp frame (wpE (defs₀ (F := F)) 𝒱₀ (c : Thread nD τ) none) Set.univ p R) := by
  iintro HP HQ
  iapply (wp_wand frame (wpE (defs₀ (F := F)) 𝒱₀ (c : Thread nD τ) none) (Q := fun _ => Q)) $$ [HP] [HQ]
  · iapply h $$ HP
  iintro %x
  cases x
  iexact HQ

set_option backward.isDefEq.respectTransparency.types false in
/-- The body of device `c`, from the region's state before it to the one after it. -/
theorem body_ob (c : Dev nD) : BodyObligation (dat m c) (defs₀ (F := F)) 𝒱₀ 0 Set.univ := fun t => by
  obtain rfl := fin_N0 t
  rw [bigSep_W0, bigSep_W0, defs₀_row, body_eq]
  rw [show (dat m c).Φ t0_0.castSucc = Φ₀ m c from rfl, show (dat m c).Φ t0_0.succ = Φ₁ m c from rfl]
  iintro ⟨Hphi, HO, ⟨%d0, H0⟩, ⟨%d1, H1⟩, ⟨%d2, H2⟩, ⟨%d3, H3⟩, ⟨%d4, H4⟩⟩
  ihave HO := (owesAt_out m c _ (O₀ c) (owed_first m c)) $$ HO
  ihave H0 := (Entails.of_eq (congrArg (fun X : S4096x128.Idx → Elt F .fp8e5m2 => own' c xM fullShare X) ((before0 m c t0_0 d0).trans (iblk0 m c _)))) $$ H0
  ihave H1 := (Entails.of_eq (congrArg (fun X : S128x8192.Idx → Elt F .fp8e5m2 => own' c wM fullShare X) ((before1 m c t0_0 d1).trans (iblk1 m c _)))) $$ H1
  ihave H2 := (Entails.of_eq (congrArg (fun X : S1.Idx → Elt F .f32 => own' c sxM fullShare X) ((before2 m c t0_0 d2).trans (iblk2 m c _)))) $$ H2
  ihave H3 := (Entails.of_eq (congrArg (fun X : S1.Idx → Elt F .f32 => own' c swM fullShare X) ((before3 m c t0_0 d3).trans (iblk3 m c _)))) $$ H3
  ihave H4 := (Entails.of_eq (congrArg (fun X : S9.Idx → Elt F .i32 => own' c idM fullShare X) ((before4 m c t0_0 d4).trans (iblk4 m c _)))) $$ H4
  unfold Φ₀ Xk Scr
  icases Hphi with ⟨⟨⟨%κ, %κ', #HE⟩, HR, Hat, Hcr, Htok, HG⟩, ⟨HC, HP, HW⟩, ⟨%Y, HY⟩, Hpr⟩
  iapply (wp_conseq' c (body_run c (inp m) κ κ')) $$ [HO H0 H1 H2 H3 H4 HR Hat Hcr Htok HG HC HP HW HY]
  · unfold BodyPre SS Sh HeadPre
    isplitl [H2 H3]
    · isplitl [H2] <;> iassumption
    isplitl [H4]
    · isplitr; · iexact HE
      iexact H4
    isplitl [HR H0 H1 HW Hat Hcr Htok]
    · isplitl [HR]; · iexact HR
      isplitl [H0]; · iexact H0
      isplitl [H1]; · iexact H1
      isplitl [HW]; · iexact HW
      isplitl [Hat]; · iexact Hat
      isplitl [Hcr]; · iexact Hcr
      iexact Htok
    isplitl [HO]; · iexact HO
    isplitr [HP]
    · iapply (init_all c)
      isplitl [HC]; · iexact HC
      isplitl [HY]; · iapply (todo_of_out c Y) $$ HY
      iexact HG
    iexact HP
  unfold BodyPost SS XW
  iintro ⟨⟨H2, H3⟩, H4, ⟨H0, HW⟩, H1, Hb, HO, HF, HP⟩
  ihave HF := (fin_all c (inp m)) $$ HF
  icases HF with ⟨HY, HC, HS⟩
  isplitl [Hb HS HC HP HW HY Hpr]
  · unfold Φ₁ Scr
    isplitl [Hb]; · iexact Hb
    isplitl [HS]; · iexact HS
    isplitl [HC HP HW]
    · isplitl [HC]; · iexact HC
      isplitl [HP]; · iexact HP
      iexists _; iexact HW
    isplitl [HY]; · iexact HY
    iexact Hpr
  isplitl [HO]; · iapply (owesAt_in m c t0_0.succ 0 (owed_last m c)) $$ HO
  isplitl [H0]; · iapply (Entails.of_eq (congrArg (fun X : S4096x128.Idx → Elt F .fp8e5m2 => own' c xM fullShare X) ((after0 m c t0_0).trans (iblk0 m c _)).symm)) $$ H0
  isplitl [H1]; · iapply (Entails.of_eq (congrArg (fun X : S128x8192.Idx → Elt F .fp8e5m2 => own' c wM fullShare X) ((after1 m c t0_0).trans (iblk1 m c _)).symm)) $$ H1
  isplitl [H2]; · iapply (Entails.of_eq (congrArg (fun X : S1.Idx → Elt F .f32 => own' c sxM fullShare X) ((after2 m c t0_0).trans (iblk2 m c _)).symm)) $$ H2
  isplitl [H3]; · iapply (Entails.of_eq (congrArg (fun X : S1.Idx → Elt F .f32 => own' c swM fullShare X) ((after3 m c t0_0).trans (iblk3 m c _)).symm)) $$ H3
  iapply (Entails.of_eq (congrArg (fun X : S9.Idx → Elt F .i32 => own' c idM fullShare X) ((after4 m c t0_0).trans (iblk4 m c _)).symm)) $$ H4

/-! ### The region as the launch takes it -/

/-- What device `c` brings to the region: every invariant, its positions, tokens and credits. -/
def Gh (c : Dev nD) : sProp 𝕄 :=
  iprop(atPos ER (barC c) 0 ∅ 0 ∗ (bigSep Finset.univ fun x : Fin 6 × Fin 8 => openTok ER ((c : Thread nD τ), osem x))
    ∗ cred (tallyAt (barC c) 0 6) ∗ (bigSep Finset.univ fun k : Fin 6 => dutyTok ER (barC (up k c)) 0 k.val)
    ∗ bigSep Finset.univ fun k : Fin 6 => GS (F := F) c k)
/-- What all devices may consult. -/
def Recs (κ : GSem nD τ sig → ℕ) (κ' : Key → ℕ) : sProp 𝕄 :=
  iprop((bigSep (barCells ∪ scCells) fun g => cellInv ER (Rd (inp m)) (κ g) g) ∗ (bigSep keys fun x => slotInv EK (κ' x) x (slotS x))
    ∗ bigSep Finset.univ fun d => reached ER (barC d) 0)
instance Recs_persistent (κ κ') : BI.Persistent (Recs m κ κ') := by unfold Recs; infer_instance
def Tk (c : Dev nD) : sProp 𝕄 := iprop(∃ (κ : GSem nD τ sig → ℕ) (κ' : Key → ℕ), Recs m κ κ' ∗ Gh (F := F) c)
def Yk (c : Dev nD) : sProp 𝕄 := semVal (barC c) 0

theorem reached_one (c : Dev nD) : (bigSep Finset.univ fun d => (reached ER (barC d) 0 : sProp 𝕄)) ⊢ reached ER (barC c) 0 :=
  bigSep_elim (Finset.mem_univ c)

theorem ownSems_eq (c : Dev nD) : (Pipeline.ownSems0 osem c : sProp 𝕄) = Sems c := rfl

theorem hopen (c : Dev nD) : iprop(Tk m c ∗ Pipeline.ownSems0 osem c ∗ levAts L lv) ⊢ (|={Set.univ}=> Xk m c : sProp 𝕄) := by
  rw [ownSems_eq]
  unfold Tk Gh Recs Xk Sems
  iintro ⟨⟨%κ, %κ', ⟨#HI, #HS, #HR⟩, Hat, Hop, Hcr, Htok, HG⟩, Hsem, #Hlev⟩
  imod (pos_all (inp m) κ c) $$ [Hop Hsem] with HP
  · isplitr; · iexact HI
    isplitl [Hop] <;> iassumption
  imodintro
  isplitr
  · iexists κ, κ'
    unfold Env
    isplitr; · iexact Hlev
    isplitr; · iexact HI
    iexact HS
  isplitr; · iexact HR
  isplitl [Hat]
  · unfold At
    isplitl [Hat]; · iexact Hat
    iapply (reached_one c); iexact HR
  isplitl [Hcr]; · iexact Hcr
  isplitl [Htok]; · iexact Htok
  iapply (Entails.of_eq (sep_univ (fun k => Pos (F := F) c k) (fun k => GS (F := F) c k)).symm)
  isplitl [HP] <;> iassumption

theorem scr_in (c : Dev nD) : (Pipeline.scopedRest (Ix := ℕ) (Name := ℕ) (U := UU) (Lvl := ℕ) (Val := Elt F) spec0 c : sProp 𝕄) ⊢ Scr c := by
  rw [scopedRest0_eq]
  unfold Scr AnyP
  rw [six6, six6]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩⟩
  isplitl [H0 H1 H2 H3 H4 H5]
  · isplitl [H0]; · iexists f0; iapply (Entails.of_eq (owns_whole (c : Thread nD τ) cc0_scratch0 fullShare f0).symm) $$ H0
    isplitl [H1]; · iexists f1; iapply (Entails.of_eq (owns_whole (c : Thread nD τ) cc0_scratch1 fullShare f1).symm) $$ H1
    isplitl [H2]; · iexists f2; iapply (Entails.of_eq (owns_whole (c : Thread nD τ) cc0_scratch2 fullShare f2).symm) $$ H2
    isplitl [H3]; · iexists f3; iapply (Entails.of_eq (owns_whole (c : Thread nD τ) cc0_scratch3 fullShare f3).symm) $$ H3
    isplitl [H4]; · iexists f4; iapply (Entails.of_eq (owns_whole (c : Thread nD τ) cc0_scratch4 fullShare f4).symm) $$ H4
    iexists f5; iapply (Entails.of_eq (owns_whole (c : Thread nD τ) cc0_scratch5 fullShare f5).symm) $$ H5
  isplitl [H6 H7 H8 H9 H10 H11]
  · isplitl [H6]; · iexists f6; iapply (Entails.of_eq (owns_whole (c : Thread nD τ) cc0_scratch6 fullShare f6).symm) $$ H6
    isplitl [H7]; · iexists f7; iapply (Entails.of_eq (owns_whole (c : Thread nD τ) cc0_scratch7 fullShare f7).symm) $$ H7
    isplitl [H8]; · iexists f8; iapply (Entails.of_eq (owns_whole (c : Thread nD τ) cc0_scratch8 fullShare f8).symm) $$ H8
    isplitl [H9]; · iexists f9; iapply (Entails.of_eq (owns_whole (c : Thread nD τ) cc0_scratch9 fullShare f9).symm) $$ H9
    isplitl [H10]; · iexists f10; iapply (Entails.of_eq (owns_whole (c : Thread nD τ) cc0_scratch10 fullShare f10).symm) $$ H10
    iexists f11; iapply (Entails.of_eq (owns_whole (c : Thread nD τ) cc0_scratch11 fullShare f11).symm) $$ H11
  iexists f12; iapply (Entails.of_eq (owns_whole (c : Thread nD τ) cc0_scratch12 fullShare f12).symm) $$ H12

theorem scr_out (c : Dev nD) : Scr c ⊢ (Pipeline.scopedRest (Ix := ℕ) (Name := ℕ) (U := UU) (Lvl := ℕ) (Val := Elt F) spec0 c : sProp 𝕄) := by
  rw [scopedRest0_eq]
  unfold Scr AnyP
  rw [six6, six6]
  iintro ⟨⟨⟨%f0, H0⟩, ⟨%f1, H1⟩, ⟨%f2, H2⟩, ⟨%f3, H3⟩, ⟨%f4, H4⟩, ⟨%f5, H5⟩⟩, ⟨⟨%f6, H6⟩, ⟨%f7, H7⟩, ⟨%f8, H8⟩, ⟨%f9, H9⟩, ⟨%f10, H10⟩, ⟨%f11, H11⟩⟩, ⟨%f12, H12⟩⟩
  isplitl [H0]; · iexists f0; iapply (Entails.of_eq (owns_whole (c : Thread nD τ) cc0_scratch0 fullShare f0)) $$ H0
  isplitl [H1]; · iexists f1; iapply (Entails.of_eq (owns_whole (c : Thread nD τ) cc0_scratch1 fullShare f1)) $$ H1
  isplitl [H2]; · iexists f2; iapply (Entails.of_eq (owns_whole (c : Thread nD τ) cc0_scratch2 fullShare f2)) $$ H2
  isplitl [H3]; · iexists f3; iapply (Entails.of_eq (owns_whole (c : Thread nD τ) cc0_scratch3 fullShare f3)) $$ H3
  isplitl [H4]; · iexists f4; iapply (Entails.of_eq (owns_whole (c : Thread nD τ) cc0_scratch4 fullShare f4)) $$ H4
  isplitl [H5]; · iexists f5; iapply (Entails.of_eq (owns_whole (c : Thread nD τ) cc0_scratch5 fullShare f5)) $$ H5
  isplitl [H6]; · iexists f6; iapply (Entails.of_eq (owns_whole (c : Thread nD τ) cc0_scratch6 fullShare f6)) $$ H6
  isplitl [H7]; · iexists f7; iapply (Entails.of_eq (owns_whole (c : Thread nD τ) cc0_scratch7 fullShare f7)) $$ H7
  isplitl [H8]; · iexists f8; iapply (Entails.of_eq (owns_whole (c : Thread nD τ) cc0_scratch8 fullShare f8)) $$ H8
  isplitl [H9]; · iexists f9; iapply (Entails.of_eq (owns_whole (c : Thread nD τ) cc0_scratch9 fullShare f9)) $$ H9
  isplitl [H10]; · iexists f10; iapply (Entails.of_eq (owns_whole (c : Thread nD τ) cc0_scratch10 fullShare f10)) $$ H10
  isplitl [H11]; · iexists f11; iapply (Entails.of_eq (owns_whole (c : Thread nD τ) cc0_scratch11 fullShare f11)) $$ H11
  iexists f12; iapply (Entails.of_eq (owns_whole (c : Thread nD τ) cc0_scratch12 fullShare f12)) $$ H12

/-- The one unscoped buffer that the kernel takes whole, without a window: its result. -/
abbrev Hs : Finset (DevRef τ sig) := {Proc.devRef .tc main_v39}
/-- The unscoped buffers that are no window's. -/
abbrev Sr : Finset (DevRef τ sig) := Pipeline.ucRefs τ sig \ Pipeline.arrRefs (τ := τ) spec0

theorem held_out (c : Dev nD) (W : Valuation τ sig (Elt F)) :
    (StableHlo.held (c.tc : Thread nD τ) Hs W : sProp 𝕄) = own' c outM fullShare (W main_v39) := by
  unfold StableHlo.held
  rw [BI.bigSep_singleton]
  exact (owns_whole (c : Thread nD τ) main_v39 fullShare _).symm

theorem hin (c : Dev nD) : iprop(Pipeline.scopedRest (Pipeline.pin (pcfgs (F := F)) adm 0).spec c ∗ (∃ r, prngReg c r)
      ∗ StableHlo.held (c.tc : Thread nD τ) Hs (V23 m c) ∗ Xk m c) ⊢ (pdats m 0 c).Φ 0 := by
  rw [show (pdats m 0 c).Φ 0 = Φ₀ m c from rfl, held_out]
  unfold Φ₀
  iintro ⟨Hs, Hp, Ho, HX⟩
  isplitl [HX]; · iexact HX
  isplitl [Hs]; · iapply (scr_in c) $$ Hs
  isplitl [Ho]; · iexists _; iexact Ho
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (V24 m (outs m) c) ∗ Pipeline.ownSems0 osem c ∗ Yk c) := by
  rw [show (pdats m 0 c).Φ (Fin.last _) = Φ₁ m c from rfl, held_out, V24_out, ownSems_eq]
  unfold Φ₁ Yk
  iintro ⟨Hb, HS, Hs, Ho, Hp⟩
  isplitl [Hs]; · iapply (scr_out c) $$ Hs
  isplitl [Hp]; · iexact Hp
  isplitl [Ho]; · iexact Ho
  isplitl [HS]; · iexact HS
  iexact Hb

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_O₀ (c : Dev nD) : Above 0 (O₀ c) :=
  .add (.sum 0 _ _ fun k _ => .owr c k (by omega) (by omega))
    (.sum 0 _ _ fun k _ => .tally _ _ _ (by rw [L_tc]; decide) (by rw [lv_bar]; decide))

theorem cutD (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then O₀ c else 0 := rfl
  rw [e] at h
  split at h
  · exact above_O₀ c g i h
  · exact absurd h (Nat.lt_irrefl 0)

theorem ho : Pipeline.OwnSemFacts spec0 osem := ⟨by decide +kernel, osem_inj, by decide +kernel⟩

theorem hs_sub : Hs ⊆ Sr := by decide +kernel
theorem arr_sub : Pipeline.arrRefs (τ := τ) spec0 ⊆ Pipeline.ucRefs τ sig := by decide +kernel
theorem rest_eq (c : Dev nD) (b : DevRef τ sig) (hb : b ∈ Sr \ Hs) : V24 m (outs m) c b = V23 m c b := by
  unfold V24
  exact Function.update_of_ne (fun e => (Finset.mem_sdiff.mp hb).2 (Finset.mem_singleton.mpr e)) _ _
theorem arr_ne : ∀ w : Fin 5, Pipeline.arrRef spec0 w ≠ main_v39 := by decide +kernel
theorem stag : ∀ (w : Fin 5) (s : Fin (spec0 w).nbuf), kind (SemLoc.dma ((spec0 w).sem s)) = .other := by decide +kernel

theorem stag_L (c : Dev nD) (w : Fin 5) (s : Fin (spec0 w).nbuf) : 0 ∈ L ((c : Thread nD τ), SemLoc.dma ((spec0 w).sem s)) := by
  rw [L_tc]; decide
theorem stag_lv (c : Dev nD) (w : Fin 5) (s : Fin (spec0 w).nbuf) : lv ((c : Thread nD τ), SemLoc.dma ((spec0 w).sem s)) 0 ≤ 0 := by
  unfold lv; rw [stag]
theorem arr_after (c : Dev nD) (w : Fin 5) : (pdats m 0 c).arrAt w (Pipeline.pin (pcfgs (F := F)) adm 0).N = V24 m (outs m) c (Pipeline.arrRef spec0 w) := by
  refine ((dat m c).arrAt_in w (by revert w; decide +kernel) _).trans ?_
  exact (V24_of m (outs m) c _ (fun h => arr_ne w (List.mem_singleton.mp h))).symm

set_option backward.isDefEq.respectTransparency.types false in
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem ho
    Hs Sr hs_sub kitP rfl (fun c => (body_ob m c).loose)
    (fun _ => 0) O₀ (fun c => (owed_zero m c).trans (zero_add _).symm) (owed_last m) (fun _ => rfl)
    (fun c w => by unfold Dat.share; split <;> rfl)
    (V23 m) (V24 m (outs m)) (rest_eq m)
    (Tk m) Yk (Xk m) Yk (hopen m) (hin m) (hout m)
    (fun c => by iintro H; imodintro; iexact H)
    (fun _ => 0)
    ⟨fun c w s => stag_L c w s, fun c w s => stag_lv c w s, fun c t g i h => cutD m c t g i h⟩
    (fun _ => iprop(emp))
    (fun c w => rfl) (fun c w => arr_after m c w)

end Cert.Proof

end
-- ==== Proof.Launch.lean ====
/-
  The run of the kernel on all devices: the launch deals every device its part of the protocol, and the run leaves the
  result, the arguments and the counters.
-/
module

public import proofs.«01_k».proof.Proof.Region
public import Idealize.SL.BI.BigOpNat
public import Idealize.ShloMosaic.Lib.SparseCore.Launch

@[expose] public section

set_option maxRecDepth 65536
set_option maxHeartbeats 1600000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

open Idealize.ShloMosaic.Pipeline (Dat BodyObligation Seg)

variable (m : (ℓ : Loc nD τ sig) → Buf (Elt F) ℓ) (ρ : Dev nD → PrngReg)

/-! ### What rides beside the buffers -/

/-- Beside the unscoped buffers: before the region, after it. -/
def E : Fin 2 → Dev nD → sProp 𝕄
  | 0, c => iprop((∃ r, prngReg c r) ∗ Tk m c ∗ Owes c (O₀ c))
  | 1, c => iprop(semVal (barC c) 0 ∗ Owes c 0)

theorem reg0_pre (c : Dev nD) :
    iprop(StableHlo.held (c : Thread nD τ) (Pipeline.ucRefs τ sig) (V23 m c) ∗ E m 0 c) ⊢ (reg0 m).pre c := by
  show _ ⊢ iprop(StableHlo.held (c.tc : Thread nD τ) (Pipeline.arrRefs (τ := τ) (pcfgs (F := F) 0).spec) (V23 m c) ∗ (∃ r, prngReg c r)
    ∗ (StableHlo.held (c.tc : Thread nD τ) Sr (V23 m c) ∗ emp) ∗ Tk m c ∗ ∃ Wd, owes (c : Thread nD τ) (0 + O₀ c) Wd)
  rw [zero_add, StableHlo.held_sub_split (c : Thread nD τ) arr_sub (V23 m c)]
  show iprop(_ ∗ ((∃ r, prngReg c r) ∗ Tk m c ∗ Owes c (O₀ c))) ⊢ _
  unfold Owes
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg0_post (c : Dev nD) :
    (reg0 m).post c ⊢ iprop(StableHlo.held (c : Thread nD τ) (Pipeline.ucRefs τ sig) (V24 m (outs m) c) ∗ E m 1 c) := by
  show iprop(StableHlo.held (c.tc : Thread nD τ) (Pipeline.arrRefs (τ := τ) (pcfgs (F := F) 0).spec) (V24 m (outs m) c) ∗ (∃ r, prngReg c r)
    ∗ (StableHlo.held (c.tc : Thread nD τ) Sr (V24 m (outs m) c) ∗ emp) ∗ Yk c ∗ ∃ Wd, owes (c : Thread nD τ) (0 : CellTallies nD τ sig ℕ) Wd) ⊢ _
  rw [StableHlo.held_sub_split (c : Thread nD τ) arr_sub (V24 m (outs m) c)]
  show _ ⊢ iprop(_ ∗ (semVal (barC c) 0 ∗ Owes c 0))
  unfold Owes Yk
  iintro ⟨Ha, -, ⟨Hr, -⟩, Hb, HO⟩
  isplitl [Ha Hr]
  · isplitl [Ha] <;> iassumption
  isplitl [Hb] <;> iassumption

/-! ### The launch -/

theorem cells_disj : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

/-- The launch element of the protocol. -/
def uX : UP := (launchOf barCells scCells toks, initSlots keys 22)
/-- The launch element. -/
def u₀ : UU :=
  (initOf (Pipeline.cells (Pipeline.pin (pcfgs (F := F)) adm) cellOf_inj) (Pipeline.launchToks (Pipeline.pin (pcfgs (F := F)) adm) cellOf_inj), uX)

/-- A resource that device 0 alone keeps for all. -/
def atZero (X : sProp 𝕄) (c : Dev nD) : sProp 𝕄 := if c = 0 then X else iprop(emp)
theorem all_atZero (X : sProp 𝕄) : bigSep Finset.univ (atZero X) = X := by
  have h0 : ∀ c ∈ Finset.univ.erase (0 : Dev nD), atZero X c = (BI.emp : sProp 𝕄) := fun c hc => by
    unfold atZero; rw [if_neg (Finset.ne_of_mem_erase hc)]; rfl
  rw [bigSep_univ_at _ (0 : Dev nD), bigSep_congr h0, BI.bigSep_emp_const]
  unfold atZero; rw [if_pos rfl]
  exact BI.equiv_iff.mp sep_emp

def G : Dev nD → sProp 𝕄 := atZero (BI.own (EX (F := F) uX))

theorem own_uX : BI.own (EX (F := F) uX) ⊢ iprop(BI.own (ER (F := F) (launchOf barCells scCells toks)) ∗ BI.own (EK (F := F) (initSlots keys 22))) :=
  own_pair_emb EX _ _

theorem unscopedSems_eq (c : Dev nD) : (unscopedSems0 c : sProp 𝕄) = semVal (barC c) 0 := by
  unfold unscopedSems0
  rw [show (Finset.univ.filter fun sm : SemLoc sig => ¬ sm.isScoped .tc) = {SemLoc.reg barS} from by decide +kernel, BI.bigSep_singleton]

/-- What of device `c`'s launch holdings is not the protocol's. -/
def Rest (c : Dev nD) : sProp 𝕄 :=
  iprop(StableHlo.held (c : Thread nD τ) (Pipeline.ucRefs τ sig) (V0 m c) ∗ Owes c (O₀ c) ∗ ∃ r, prngReg c r)

theorem start_one (κ : GSem nD τ sig → ℕ) (κ' : Key → ℕ) (c : Dev nD) :
    iprop(Recs m κ κ' ∗ Gh (F := F) c ∗ Rest m c) ⊢ iprop(StableHlo.held (c : Thread nD τ) (Pipeline.ucRefs τ sig) (V0 m c) ∗ E m 0 c) := by
  show _ ⊢ iprop(_ ∗ ((∃ r, prngReg c r) ∗ Tk m c ∗ Owes c (O₀ c)))
  unfold Rest Tk
  iintro ⟨#HR, HG, Hh, HO, Hp⟩
  isplitl [Hh]; · iexact Hh
  isplitl [Hp]; · iexact Hp
  isplitl [HG]
  · iexists κ, κ'
    isplitr; · iexact HR
    iexact HG
  iexact HO

theorem hold_one (c : Dev nD) : iprop(unscopedBufs c (fun b => m ((c.tc : Thread nD τ).loc b)) ∗ unscopedSems0 c
      ∗ owes (c : Thread nD τ) (O₀ c) ∅ ∗ Pipeline.launchCred O₀ c ∗ prngReg c (ρ c) ∗ G (F := F) c)
    ⊢ iprop(Rest m c ∗ (semVal (barC c) 0 ∗ Pipeline.launchCred O₀ c ∗ G (F := F) c)) := by
  rw [show unscopedBufs c (fun b => m ((c.tc : Thread nD τ).loc b)) = StableHlo.held (c : Thread nD τ) (Pipeline.ucRefs τ sig) (V0 m c) from
    Pipeline.unscopedBufs_held (Ix := ℕ) (Name := ℕ) (U := UU) (Lvl := ℕ) c (V0 m c), unscopedSems_eq]
  unfold Rest Owes
  iintro ⟨Hh, Hb, HO, Hc, Hp, HG⟩
  isplitl [Hh HO Hp]
  · isplitl [Hh]; · iexact Hh
    isplitl [HO]; · iexists ∅; iexact HO
    iexists (ρ c); iexact Hp
  isplitl [Hb]; · iexact Hb
  isplitl [Hc] <;> iassumption

theorem hold_all : (bigSep Finset.univ fun c : Dev nD => iprop(unscopedBufs c (fun b => m ((c.tc : Thread nD τ).loc b)) ∗ unscopedSems0 c
      ∗ owes (c : Thread nD τ) (O₀ c) ∅ ∗ Pipeline.launchCred O₀ c ∗ prngReg c (ρ c) ∗ G (F := F) c))
    ⊢ iprop((bigSep Finset.univ fun c : Dev nD => Rest m c) ∗ (bigSep Finset.univ fun c : Dev nD => semVal (barC c) 0)
      ∗ (bigSep Finset.univ fun c : Dev nD => Pipeline.launchCred O₀ c) ∗ BI.own (EX (F := F) uX)) := by
  have h : (bigSep Finset.univ fun c : Dev nD => iprop(unscopedBufs c (fun b => m ((c.tc : Thread nD τ).loc b)) ∗ unscopedSems0 c
      ∗ owes (c : Thread nD τ) (O₀ c) ∅ ∗ Pipeline.launchCred O₀ c ∗ prngReg c (ρ c) ∗ G (F := F) c))
    ⊢ bigSep Finset.univ fun c : Dev nD => iprop(Rest m c ∗ (semVal (barC c) 0 ∗ Pipeline.launchCred O₀ c ∗ G (F := F) c)) :=
    bigSep_mono fun c _ => hold_one m ρ c
  have h' : (bigSep Finset.univ fun c : Dev nD => iprop(Rest m c ∗ (semVal (barC c) 0 ∗ Pipeline.launchCred O₀ c ∗ G (F := F) c)))
    ⊢ iprop((bigSep Finset.univ fun c : Dev nD => Rest m c) ∗ (bigSep Finset.univ fun c : Dev nD => semVal (barC c) 0)
      ∗ (bigSep Finset.univ fun c : Dev nD => Pipeline.launchCred O₀ c) ∗ BI.own (EX (F := F) uX)) :=
    Entails.of_eq (by rw [bigSep_sep', bigSep_sep', bigSep_sep', show bigSep Finset.univ (fun c : Dev nD => G (F := F) c) = _ from all_atZero _])
  exact h.trans h'

theorem bars_in : (bigSep Finset.univ fun c : Dev nD => (semVal (barC c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem bars_at : bigSep barCells (fun g => (atPos ER g 0 ∅ 0 : sProp 𝕄)) ⊢ bigSep Finset.univ fun c : Dev nD => (atPos ER (barC c) 0 ∅ 0 : sProp 𝕄) :=
  Entails.of_eq (bigSep_map (s := Finset.univ) barEmb (Φ := fun g : GSem nD τ sig => (atPos ER g 0 ∅ 0 : sProp 𝕄)))
theorem bars_reached : bigSep barCells (fun g => (reached ER g 0 : sProp 𝕄)) ⊢ bigSep Finset.univ fun c : Dev nD => (reached ER (barC c) 0 : sProp 𝕄) :=
  Entails.of_eq (bigSep_map (s := Finset.univ) barEmb (Φ := fun g : GSem nD τ sig => (reached ER g 0 : sProp 𝕄)))
theorem opens_out : bigSep scCells (fun g => (openTok ER g : sProp 𝕄))
    ⊢ bigSep Finset.univ fun c : Dev nD => bigSep Finset.univ fun x : Fin 6 × Fin 8 => (openTok ER ((c : Thread nD τ), osem x) : sProp 𝕄) :=
  Entails.of_eq (by rw [bigSep_map, bigSep_univ_prod]; rfl)

theorem start_all (κ : GSem nD τ sig → ℕ) (κ' : Key → ℕ) :
    iprop(Recs m κ κ' ∗ bigSep Finset.univ fun c : Dev nD => iprop(Gh (F := F) c ∗ Rest m c))
      ⊢ bigSep Finset.univ fun c : Dev nD => iprop(StableHlo.held (c : Thread nD τ) (Pipeline.ucRefs τ sig) (V0 m c) ∗ E m 0 c) :=
  bigSep_with_persistent (R := Recs m κ κ') (Φ := fun c => iprop(Gh (F := F) c ∗ Rest m c)) fun c _ => start_one m κ κ' c

theorem gh_all : iprop((bigSep Finset.univ fun c : Dev nD => (atPos ER (barC c) 0 ∅ 0 : sProp 𝕄))
      ∗ (bigSep Finset.univ fun c : Dev nD => bigSep Finset.univ fun x : Fin 6 × Fin 8 => (openTok ER ((c : Thread nD τ), osem x) : sProp 𝕄))
      ∗ (bigSep Finset.univ fun c => cred (tallyAt (barC c) 0 6))
      ∗ (bigSep Finset.univ fun c => bigSep Finset.univ fun k : Fin 6 => dutyTok ER (barC (up k c)) 0 k.val)
      ∗ bigSep Finset.univ fun c => bigSep Finset.univ fun k => GS (F := F) c k)
    ⊢ bigSep Finset.univ fun c : Dev nD => Gh (F := F) c := by
  unfold Gh
  rw [bigSep_sep', bigSep_sep', bigSep_sep', bigSep_sep']

/-- The cells of the protocol open, and its tokens are there. -/
theorem open_cells : iprop(bigSep barCells (fun g => (semVal g 0 : sProp 𝕄)) ∗ BI.own (ER (F := F) (launchOf barCells scCells toks)))
    ⊢ iprop(|={Set.univ}=> ∃ κ : GSem nD τ sig → ℕ, (bigSep (barCells ∪ scCells) fun g => cellInv ER (Rd (inp m)) (κ g) g)
      ∗ bigSep barCells (fun g => (reached ER g 0 : sProp 𝕄)) ∗ bigSep barCells (fun g => (atPos ER g 0 ∅ 0 : sProp 𝕄))
      ∗ bigSep scCells (fun g => (openTok ER g : sProp 𝕄)) ∗ bigSep toks (fun x => (dutyTok ER x.1 x.2.1 x.2.2 : sProp 𝕄))) := by
  iintro H
  imod (Rounds.fund_launch ER (Rd (inp m)) cells_disj (fun g _ h => h) toks) $$ H with ⟨%κ, -, Hinv, Hr, Hat, Hop, Htok⟩
  imodintro
  iexists κ
  isplitl [Hinv]; · iexact Hinv
  isplitl [Hr]; · iexact Hr
  isplitl [Hat]; · iexact Hat
  isplitl [Hop] <;> iassumption

theorem open_slots : (BI.own (EK (F := F) (initSlots keys 22)) : sProp 𝕄)
    ⊢ iprop(|={Set.univ}=> ∃ κ' : Key → ℕ, (bigSep keys fun x => slotInv EK (κ' x) x (slotS (F := F) x))
      ∗ (bigSep keys fun x => readerAt EK x 0) ∗ bigSep (keys ×ˢ Finset.range 22) fun x => writeTok EK x.1 (x.2 + 1)) := by
  iintro H
  imod (Release.slots_init EK keys 22 (slotS (F := F))) $$ H with ⟨%κ', -, Hs, Hrd, Hwr⟩
  imodintro
  iexists κ'
  isplitl [Hs]; · iexact Hs
  isplitl [Hrd] <;> iassumption

/-- The launch: from what the devices hold at the start to the protocol's parts on every device. -/
theorem init : iprop((bigSep Finset.univ fun c : Dev nD => iprop(unscopedBufs c (fun b => m ((c.tc : Thread nD τ).loc b)) ∗ unscopedSems0 c
      ∗ owes (c : Thread nD τ) (O₀ c) ∅ ∗ Pipeline.launchCred O₀ c ∗ prngReg c (ρ c) ∗ G (F := F) c)) ∗ levAts L lv)
    ⊢ (|={Set.univ}=> bigSep Finset.univ (fun c : Dev nD => iprop(StableHlo.held (c : Thread nD τ) (Pipeline.ucRefs τ sig) (V0 m c) ∗ E m 0 c)) : sProp 𝕄) := by
  iintro ⟨H, -⟩
  ihave H := (hold_all m ρ) $$ H
  icases H with ⟨HB, Hv, HC, HX⟩
  ihave HX := (own_uX (F := F)) $$ HX
  icases HX with ⟨HR, HK⟩
  imod (open_cells m) $$ [Hv HR] with ⟨%κ, #Hinv, #Hr, Hat, Hop, Htok⟩
  · isplitl [Hv]
    · iapply bars_in $$ Hv
    · iexact HR
  imod (open_slots (F := F)) $$ HK with ⟨%κ', #Hslot, Hrd, Hwr⟩
  ihave HD := (deal (F := F)) $$ [Htok Hrd Hwr HC]
  · isplitl [Htok]; · iexact Htok
    isplitl [Hrd]; · iexact Hrd
    isplitl [Hwr] <;> iassumption
  icases HD with ⟨Hcr, Hdt, HG⟩
  imodintro
  iapply (start_all m κ κ')
  isplitr
  · unfold Recs
    isplitr; · iexact Hinv
    isplitr; · iexact Hslot
    iapply bars_reached; iexact Hr
  rw [bigSep_sep']
  isplitr [HB]
  · iapply (gh_all (F := F))
    isplitl [Hat]; · iapply bars_at $$ Hat
    isplitl [Hop]; · iapply opens_out $$ Hop
    isplitl [Hcr]; · iexact Hcr
    isplitl [Hdt] <;> iassumption
  iexact HB

theorem unscoped_sem : ∀ sm : SemLoc sig, sm.isScoped .tc = false → sm = .reg barS := by decide +kernel

theorem fund : (ownU (u₀ (F := F)) : sProp 𝕄) ⊢ |={Set.univ}=> iprop(BI.own (EP (F := F) (initOf (Pipeline.cells (Pipeline.pin (pcfgs (F := F)) adm) cellOf_inj)
      (Pipeline.launchToks (Pipeline.pin (pcfgs (F := F)) adm) cellOf_inj))) ∗ bigSep Finset.univ (G (F := F))) := by
  unfold u₀ G
  rw [all_atZero]
  iintro Hu
  ihave H := (ownU_pair _ _) $$ Hu
  icases H with ⟨HP, HX⟩
  imodintro
  isplitl [HP]; · iexact HP
  iexact HX

/-- Where a device ends. -/
def Tn (c : Dev nD) : sProp 𝕄 := iprop(StableHlo.held (c : Thread nD τ) (Pipeline.ucRefs τ sig) (V24 m (outs m) c) ∗ semVal (barC c) 0)

/-- What a final state holds of device `c`. -/
def Holds (c : Dev nD) (s : MemSt nD τ sig (Elt F)) : Prop :=
  s.mem ((c.tc : Thread nD τ).loc main_v39) = (inp m).out
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)

theorem finish (c : Dev nD) (s' : Phys nD τ sig (Elt F)) :
    iprop(Tn m c ∗ SI s') ⊢ |={Set.univ}=> iprop(⌜Holds m c s'.mem ∧ s'.mem.sem (barC c) = 0⌝ ∗ SI s') := by
  unfold Tn StableHlo.held
  iintro ⟨⟨Hh, Hb⟩, HSI⟩
  icombine HSI Hb gives %hb
  ihave Hr := (pointsTo_read_all (Pipeline.ucRefs τ sig) (fun b => ((c : Thread nD τ).1, b)) (V24 m (outs m) c) s') $$ [Hh HSI]
  · isplitl [Hh] <;> iassumption
  icases Hr with ⟨%h, HSI⟩
  imodintro
  isplitr
  · ipureintro
    exact ⟨⟨(h (Proc.devRef .tc main_v39) (Finset.mem_filter.mpr ⟨StableHlo.devRef_mem_tcRefs main_v39, by decide⟩)).trans (V24_out m c),
      (h (Proc.devRef .tc main_arg0) (Finset.mem_filter.mpr ⟨StableHlo.devRef_mem_tcRefs main_arg0, by decide⟩)).trans (V24_main_arg0 m (outs m) c),
      (h (Proc.devRef .tc main_arg1) (Finset.mem_filter.mpr ⟨StableHlo.devRef_mem_tcRefs main_arg1, by decide⟩)).trans (V24_main_arg1 m (outs m) c),
      (h (Proc.devRef .tc main_arg2) (Finset.mem_filter.mpr ⟨StableHlo.devRef_mem_tcRefs main_arg2, by decide⟩)).trans (V24_main_arg2 m (outs m) c),
      (h (Proc.devRef .tc main_arg3) (Finset.mem_filter.mpr ⟨StableHlo.devRef_mem_tcRefs main_arg3, by decide⟩)).trans (V24_main_arg3 m (outs m) c)⟩,
      by simpa using hb⟩
  iexact HSI

set_option backward.isDefEq.respectTransparency.types false in
/-- THE RUN: every fair execution of the kernel on the 32 devices terminates; every device ends with the same result
    `(inp m).out` and its arguments as launched, and every counter is back at zero. -/
theorem run_main : θ_run defs (onTc (τ := τ) (main (F := F))) ⟨m, fun _ => 0, ρ⟩ (fun r => (∀ c : Dev nD, Holds m c r.2) ∧ r.2.sem = fun _ => 0) := by
  refine Pipeline.θ_run_regions_kit_dev_sems (pcfgs (F := F)) adm (pdats m) 0 cellOf_inj EP defs₀ 𝒱₀ L lv m ρ main
    (segs m 𝒱₀ L lv (E m) 0 (pdats m) (reg0 m))
    (fun c Q => by
      rewrite [main_chain c, Seg.run_eq_chain,
        show (segs m 𝒱₀ L lv (E m) 0 (pdats m) (reg0 m) c).map Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, StableHlo.seq hostOps0_12, StableHlo.seq hostOps0_13, StableHlo.seq hostOps0_14,
          StableHlo.seq hostOps0_15, StableHlo.seq hostOps0_16, StableHlo.seq hostOps0_17, StableHlo.seq hostOps0_18, StableHlo.seq hostOps0_19,
          StableHlo.seq hostOps0_20, StableHlo.seq hostOps0_21, StableHlo.seq hostOps0_22, Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne (G (F := F)) (u₀ (F := F)) fund
    (T₀ := fun c => iprop(StableHlo.held (c : Thread nD τ) (Pipeline.ucRefs τ sig) (V0 m c) ∗ E m 0 c))
    (Tₙ := Tn m)
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, reg0_pre m c, (reg0_post m c).trans ?_⟩)
    (hinit := init m ρ) (QY := fun c s => Holds m c s ∧ s.sem (barC c) = 0) (hfin := finish m)
    (hQ := fun s h hs => ⟨fun c => (h c).1, sem_eq_zero hs fun c sm hsm => by
      obtain rfl := unscoped_sem sm hsm
      exact (h c).2⟩)
  show iprop(StableHlo.held (c : Thread nD τ) (Pipeline.ucRefs τ sig) (V24 m (outs m) c) ∗ (semVal (barC c) 0 ∗ Owes c 0))
    ⊢ iprop(Tn m c ∗ ∃ W, owes (c.tc : Thread nD τ) (0 : CellTallies nD τ sig ℕ) W)
  unfold Tn Owes
  iintro ⟨Hh, Hb, HO⟩
  isplitr [HO]
  · isplitl [Hh] <;> iassumption
  iexact HO

end Cert.Proof

end
-- ==== Proof.Same.lean ====
/-
  The kernel's program and its ideal program are one text: the same body table and the same `@main`.
-/
module

public import proofs.«01_k».proof.Proof.Gen.Kernel.Launch
public import proofs.«01_k».proof.Proof.Gen.KernelIdeal.Launch

@[expose] public section

set_option maxRecDepth 65536
set_option maxHeartbeats 20000000

noncomputable section

namespace Cert.Proof

open Idealize.ShloMosaic Idealize.SL.Sem

variable {F : FTy → Type} [FloatOps F]

/-- One device's kernel body is the same text in both programs. -/
theorem body_same : Cert.Kernel.cc0_body (F := F) = Cert.KernelIdeal.cc0_body (F := F) := rfl

/-- So are the tables that hold it, before and after the pipeline wraps it. -/
theorem table_same : Cert.Kernel.defs₀ (F := F) = Cert.KernelIdeal.defs₀ (F := F) := by
  unfold Cert.Kernel.defs₀ Cert.KernelIdeal.defs₀
  rw [body_same]
  refine congrArg Defs.onTc (funext fun l => funext fun x => ?_)
  match l, x with
  | 0, (t, s) => rfl
  | ⟨n + 1, h⟩, _ => exact absurd h (Nat.not_lt.2 (Nat.le_add_left _ _))

theorem defs_same : Cert.Kernel.defs (F := F) = Cert.KernelIdeal.defs (F := F) :=
  congrArg (Pipeline.defs Cert.KernelIdeal.pcfgs) table_same

/-- Two lists with equal heads and equal tails are equal. -/
theorem cons_same {α : Type 1} {a b : α} {l l' : List α} (h : a = b) (h' : l = l') : a :: l = b :: l' := by rw [h, h']

/-- Stretch by stretch, the two programs run the same operations. -/
theorem main_same : Cert.Kernel.main (F := F) = Cert.KernelIdeal.main (F := F) := by
  funext c
  refine (Cert.Kernel.Gen.main_chain c).trans (.trans ?_ (Cert.KernelIdeal.Gen.main_chain c).symm)
  refine congrArg Pipeline.chain ?_
  iterate 24 refine cons_same rfl ?_
  rfl

/-- What holds of the ideal program's runs over some float values holds of the kernel's over the same values. -/
theorem run_same (s) (Q) (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_same, main_same]
  exact h

end Cert.Proof

end
-- ==== Proof.Value.lean ====
/-
  The result over the extended reals: at every index the sum over the devices of their scaled products; the sum over the
  devices of a product of blocks is the product of the whole arrays.
-/
module

public import proofs.«01_k».proof.Proof.Split
public import proofs.«01_k».proof.Proof.Gen.ReferenceIdeal.Value
public import Idealize.ShloMosaic.Lib.MatmulPlain
public import Idealize.ShloMosaic.Lib.Layout
public import Idealize.ShloMosaic.PureOps.Ideal.Laws
public import Idealize.SL.BI.BigOpNat
public import Idealize.ShloMosaic.Lib.SparseCore.Launch

@[expose] public section

set_option maxRecDepth 65536
set_option maxHeartbeats 1600000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

/-! ### One device's product of one chunk -/

theorem dotK_plain (k : Fin 6) : dotK k = DotDims.plain 128 128 (wd k) := by fin_cases k <;> rfl

theorem payP_at (k : Fin 6) (s : Ideal .f32) (x : Vec Ideal S128x128 .fp8e5m2) (w : Vec Ideal (Sq2 k) .bf16) (r : Fin 128) (c : Fin (wd k)) :
    payP k s x w (ix2 r c) = (∑ j : Fin 128, (x (ix2 r j) : EReal) * (w (ix2 j c) : EReal)) * (s : EReal) := by
  unfold payP
  rw [shapeCast_self, shapeCast_self, dotK_plain]
  refine congrArg (fun t : EReal => t * s) ?_
  refine (Ideal.matmul_plain_apply none _ _ _ r c).trans ?_
  show Ideal.ofBits .f32 0x00000000#32 + _ = _
  rw [Ideal.ofBits_zero_f32, zero_add]
  rfl

/-- Rows of chunk `n`: row `r` of the chunk is row `128 · chunk + r`. -/
theorem row_lt (k : Fin 6) (n : ℕ) (r : Fin 128) : 128 * chunkOf k n + r.val < 4096 := by
  have := chunkOf_lt k n; have := r.isLt; omega
theorem col_lt (k : Fin 6) (c : Fin (wd k)) : co k + c.val < 8192 := by
  have h := c.isLt
  fin_cases k <;> · simp only [wd, co] at h ⊢; omega
theorem co_add (k : Fin 6) : co k + wd k ≤ 8192 := by fin_cases k <;> decide

variable (D : Inp Ideal)

theorem xr_at (k : Fin 6) (d : Dev nD) (n : ℕ) (r j : Fin 128) :
    D.xr k d n (ix2 r j) = D.x d (ix2 ⟨128 * chunkOf k n + r.val, row_lt k n r⟩ j) := by
  unfold Inp.xr
  refine congrArg (D.x d) (funext fun a => Fin.ext ?_)
  match a with
  | ⟨0, _⟩ => show 128 * chunkOf k n + 1 * r.val = _; rw [Nat.one_mul]
  | ⟨1, _⟩ => show 0 + 1 * j.val = _; rw [Nat.one_mul, Nat.zero_add]

theorem wb_id (w : Vec Ideal S128x8192 .fp8e5m2) : k0_pay14 (F := Ideal) w = w := by
  unfold k0_pay14
  exact (shapeCast_self _ _).trans (shapeCast_self w _)

theorem wc_at (k : Fin 6) (d : Dev nD) (j : Fin 128) (c : Fin (wd k)) :
    D.wc k d (ix2 j c) = D.w d (ix2 j ⟨co k + c.val, col_lt k c⟩) := by
  unfold Inp.wc Inp.wb
  rw [wb_id]
  refine congrArg (D.w d) (funext fun a => Fin.ext ?_)
  match a with
  | ⟨0, _⟩ => show 0 + 1 * j.val = _; rw [Nat.one_mul, Nat.zero_add]
  | ⟨1, _⟩ => show co k + 1 * c.val = _; rw [Nat.one_mul]

/-- Device `d`'s share of the result at row `r` and column `c`: its columns of row `r` times its rows of column `c`, scaled. -/
def share (d : Dev nD) (r : Fin 4096) (c : Fin 8192) : EReal :=
  (∑ j : Fin 128, (D.x d (ix2 r j) : EReal) * (D.w d (ix2 j c) : EReal)) * ((D.sx d z1 : EReal) * (D.sw d z1 : EReal))

theorem part_at (k : Fin 6) (d : Dev nD) (n : ℕ) (r : Fin 128) (c : Fin (wd k)) :
    D.part k d n (ix2 r c) = share D d ⟨128 * chunkOf k n + r.val, row_lt k n r⟩ ⟨co k + c.val, col_lt k c⟩ := by
  unfold Inp.part
  refine (payP_at k _ _ _ r c).trans ?_
  unfold share
  refine congrArg₂ (fun s t : EReal => s * t) (Finset.sum_congr rfl fun j _ => ?_) rfl
  rw [xr_at, wc_at]

/-! ### The sum along a ring -/

theorem acc_sum (k : Fin 6) (q n : ℕ) (j : (Sq2 k).Idx) :
    D.acc k q n j = ∑ i ∈ Finset.range (n + 1), (D.part k (at' k (q + i)) q j : EReal) := by
  induction n with
  | zero => rw [Finset.sum_range_one]; rfl
  | succ n ih => rw [Finset.sum_range_succ, ← ih]; rfl

/-- 32 steps along a ring meet every device once. -/
theorem ring_sum (k : Fin 6) (q : Fin 32) (f : Dev nD → EReal) : ∑ i ∈ Finset.range 32, f (at' k (q.val + i)) = ∑ d : Dev nD, f d := by
  refine Finset.sum_nbij' (fun i => at' k (q.val + i)) (fun d => (pos k d + 32 - q.val) % 32) (fun _ _ => Finset.mem_univ _) (fun d _ => ?_)
    (fun i hi => ?_) (fun d _ => ?_) (fun _ _ => rfl)
  · exact Finset.mem_range.mpr (Nat.mod_lt _ (by decide))
  · have hi := Finset.mem_range.mp hi
    have hq := q.isLt
    show (pos k (at' k (q.val + i)) + 32 - q.val) % 32 = i
    rw [pos_at]; omega
  · have hp := pos_lt k d
    have hq := q.isLt
    show at' k (q.val + (pos k d + 32 - q.val) % 32) = d
    rw [← at'_mod, show (q.val + (pos k d + 32 - q.val) % 32) % 32 = pos k d by omega, at_pos]

/-- THE RESULT at row `r` and column `c`: the sum of the devices' shares. -/
theorem out_sum (i : S4096x8192.Idx) : D.out i = ∑ d : Dev nD, share D d (i 0) (i 1) := by
  have hi : i ∈ (Finset.univ : Finset (Fin 6 × Fin 32)).biUnion (fun x => (rO x).set) := rO_cov ▸ Finset.mem_univ i
  obtain ⟨⟨k, q⟩, -, hi⟩ := Finset.mem_biUnion.mp hi
  rw [← Rect.map_emb_univ] at hi
  obtain ⟨j, -, rfl⟩ := Finset.mem_map.mp hi
  refine (Inp.out_at D k q j).trans ?_
  rw [acc_sum, ring_sum k q (fun d => D.part k d q.val j)]
  refine Finset.sum_congr rfl fun d _ => ?_
  have e : j = ix2 (n0 := 128) (n1 := wd k) (j 0) (j 1) := eq_ix2 j
  refine (congrArg (D.part k d q.val) e).trans ((part_at D k d q.val (j 0) (j 1)).trans ?_)
  refine congrArg₂ (share D d) (Fin.ext ?_) (Fin.ext ?_)
  · show 128 * chunkOf k q.val + (j 0).val = 128 * chunkOf k q.val + 1 * (j 0).val
    rw [Nat.one_mul]
  · show co k + (j 1).val = co k + 1 * (j 1).val
    rw [Nat.one_mul]

/-! ### The whole product -/

/-- A scale that is neither negative nor infinite may be taken out of a sum. -/
theorem sum_scale {ι : Type} (s : Finset ι) (f : ι → EReal) {t : EReal} (h0 : 0 ≤ t) (h1 : t ≠ ⊤) : (∑ i ∈ s, f i) * t = ∑ i ∈ s, f i * t := by
  classical
  induction s using Finset.induction_on with
  | empty => simp
  | insert a s ha ih => rw [Finset.sum_insert ha, Finset.sum_insert ha, ← ih, EReal.right_distrib_of_nonneg_of_ne_top h0 h1]

/-- A sum over 4096 places is the sum over the devices of the sums over their 128 places. -/
theorem sum_blocks (f : Fin 4096 → EReal) :
    ∑ t : Fin 4096, f t = ∑ d : Fin 32, ∑ j : Fin 128, f ⟨d.val * 128 + j.val, by have := d.isLt; have := j.isLt; omega⟩ := by
  rw [← Fintype.sum_prod_type']
  refine (Fintype.sum_equiv (finProdFinEquiv (m := 32) (n := 128)) _ _ fun x => ?_).symm
  refine congrArg f (Fin.ext ?_)
  show x.1.val * 128 + x.2.val = x.2.val + 128 * x.1.val
  omega

/-- The reference at an index. -/
theorem ref_at (a0 : Vec Ideal Cert.ReferenceIdeal.S4096x4096 .fp8e5m2) (a1 : Vec Ideal S4096x8192 .fp8e5m2) (a2 a3 : Vec Ideal S1 .f32) (i : S4096x8192.Idx) :
    Cert.ReferenceIdeal.Value.G4 (F := Ideal) a0 a1 a2 a3 i
      = (∑ t : Fin 4096, (a0 (ix2 (i 0) t) : EReal) * (a1 (ix2 t (i 1)) : EReal)) * ((a2 z1 : EReal) * (a3 z1 : EReal)) := by
  show Cert.ReferenceIdeal.Gen.k0_pay1 (F := Ideal) a0 a1 a2 a3 i = _
  unfold Cert.ReferenceIdeal.Gen.k0_pay1
  refine congrArg₂ (fun s t : EReal => s * t) ?_ ?_
  · have e : i = ix2 (n0 := 4096) (n1 := 8192) (i 0) (i 1) := eq_ix2 i
    refine Eq.trans ?_ ((Ideal.matmul_plain_apply (M := 4096) (K := 4096) (N := 8192) (φ₁ := .f32) (φ₂ := .f32) none a0 a1
      (constant S4096x8192 .f32 0x00000000#32) (i 0) (i 1)).trans ?_)
    · exact congrArg (FloatOps.matmul (F := Ideal) (DotDims.plain 4096 4096 8192) none a0 a1 (constant S4096x8192 .f32 0x00000000#32)) e
    · show Ideal.ofBits .f32 0x00000000#32 + _ = _
      rw [Ideal.ofBits_zero_f32, zero_add]
  · have hz (y : S1.Idx) : y = z1 := funext fun a => Fin.ext (by fin_cases a; have h := (y 0).isLt; have h' := (z1 0).isLt; change (y 0).val < 1 at h; change (z1 0).val < 1 at h'; show (y 0).val = (z1 0).val; omega)
    exact congrArg₂ (fun s t : EReal => s * t) (congrArg a2 (hz _)) (congrArg a3 (hz _))

end Cert.Proof

end
-- ==== Proof.Equal.lean ====
/-
  The result of the kernel on the blocks of two whole arrays is the reference's result on the arrays, where the product of
  the two scales is neither negative nor infinite.
-/
module

public import proofs.«01_k».proof.Proof.Value
public import proofs.«01_k».proof.Pre_scales_fit_KernelIdeal
public import proofs.«01_k».proof.Proof.Gen.ReferenceIdeal.Value
public import Idealize.ShloMosaic.Lib.MatmulPlain
public import Idealize.ShloMosaic.Lib.Layout
public import Idealize.ShloMosaic.PureOps.Ideal.Laws
public import Idealize.SL.BI.BigOpNat
public import Idealize.ShloMosaic.Lib.SparseCore.Launch

@[expose] public section

set_option maxRecDepth 65536
set_option maxHeartbeats 1600000

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.ValueIdx

/-! ### The blocks of the whole arrays -/

section
variable (D : Inp Ideal) (X : Vec Ideal ⟨2, ![4096, 4096]⟩ .fp8e5m2) (W : Vec Ideal ⟨2, ![4096, 8192]⟩ .fp8e5m2) (sx sw : Vec Ideal S1 .f32)

/-- Column `j` of device `d`'s block of `x` is column `128 d + j` of the whole. -/
theorem blk_x (d : Fin 32) (r : Fin 4096) (j : Fin 128) :
    Layout.block ⟨2, ![4096, 128]⟩ ⟨2, ![4096, 4096]⟩ 1 32 d X (by decide) (ix2 r j) = X (ix2 r ⟨d.val * 128 + j.val, by omega⟩) := by
  refine congrArg X (funext fun a => ?_)
  match a with
  | 0 => rfl
  | 1 => rfl

/-- Row `j` of device `d`'s block of the weights is row `128 d + j` of the whole. -/
theorem blk_w (d : Fin 32) (j : Fin 128) (c : Fin 8192) :
    Layout.block ⟨2, ![128, 8192]⟩ ⟨2, ![4096, 8192]⟩ 0 32 d W (by decide) (ix2 j c) = W (ix2 ⟨d.val * 128 + j.val, by omega⟩ c) := by
  refine congrArg W (funext fun a => ?_)
  match a with
  | 0 => rfl
  | 1 => rfl

/-- On the blocks of `X` and `W` the kernel's result is the reference's. -/
theorem out_ref (hx : ∀ d, D.x d = Layout.block ⟨2, ![4096, 128]⟩ ⟨2, ![4096, 4096]⟩ 1 32 d X (by decide))
    (hw : ∀ d, D.w d = Layout.block ⟨2, ![128, 8192]⟩ ⟨2, ![4096, 8192]⟩ 0 32 d W (by decide))
    (hsx : ∀ d, D.sx d = sx) (hsw : ∀ d, D.sw d = sw)
    (h0 : (0 : EReal) ≤ (sx z1 : EReal) * (sw z1 : EReal)) (h1 : (sx z1 : EReal) * (sw z1 : EReal) ≠ (⊤ : EReal)) :
    D.out = Cert.ReferenceIdeal.Value.G4 (F := Ideal) X W sx sw := by
  funext i
  refine (out_sum D i).trans (.trans ?_ (ref_at X W sx sw i).symm)
  rw [sum_blocks, sum_scale _ _ h0 h1]
  refine Finset.sum_congr rfl fun d _ => ?_
  unfold share
  rw [hx, hw, hsx, hsw]
  refine congrArg (· * _) (Finset.sum_congr rfl fun j _ => ?_)
  exact congrArg₂ (· * ·) (blk_x X d (i 0) j) (blk_w W d j (i 1))

end

/-! ### The precondition -/

/-- The word of +inf is the greatest extended real. -/
theorem inf_word : Ideal.ofBits .f32 0x7F800000#32 = (⊤ : EReal) := by
  simp [Ideal.ofBits, Ideal.ieee]

/-- A one-bit truth value that is 1 is true. -/
theorem of_one {p : Prop} [Decidable p] (h : BitVec.ofBool (decide p) = 1#1) : p := by
  by_contra hp
  rw [decide_eq_false hp] at h
  exact absurd h (by decide)

/-- What the precondition says of the scales. -/
theorem fits [Cert.Pre_scales_fit_KernelIdeal.Facts] (x : Vec Ideal S4096x128 .fp8e5m2) (w : Vec Ideal S128x8192 .fp8e5m2) (sx sw : Vec Ideal S1 .f32)
    (h : Cert.Pre_scales_fit_KernelIdeal.fn (F := Ideal) x w sx sw = fun _ => 1#1) :
    (0 : EReal) ≤ (sx z1 : EReal) * (sw z1 : EReal) ∧ (sx z1 : EReal) * (sw z1 : EReal) ≠ (⊤ : EReal) := by
  have hz := congrFun h z1
  have ha : BitVec.ofBool (decide (Ideal.ofBits .f32 0x00000000#32 ≤ (sx z1 : EReal) * (sw z1 : EReal)))
      &&& BitVec.ofBool (decide ((sx z1 : EReal) * (sw z1 : EReal) < Ideal.ofBits .f32 0x7F800000#32)) = 1#1 := hz
  rw [Ideal.ofBits_zero_f32, inf_word] at ha
  have two : ∀ a b : BitVec 1, a &&& b = 1#1 → a = 1#1 ∧ b = 1#1 := by decide
  exact ⟨of_one (two _ _ ha).1, ne_of_lt (of_one (two _ _ ha).2)⟩

end Cert.Proof

end
-- ==== Proof.lean ====
/-
  The claims of the certificate.
-/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Frame
public import proofs.«01_k».proof.Proof.Gen.ReferenceIdeal.Value
public import proofs.«01_k».proof.Proof.Launch
public import proofs.«01_k».proof.Proof.Same
public import proofs.«01_k».proof.Proof.Value
public import proofs.«01_k».proof.Proof.Equal

@[expose] public section

set_option maxRecDepth 65536
set_option maxHeartbeats 8000000

noncomputable section

namespace Cert.Proof

open Idealize.ShloMosaic Idealize.SL.Sem

/-- The program over the extended reals terminates without fault, leaves its arguments as they were and every counter at zero. -/
theorem frame_kernelIdeal : Cert.quiescent_KernelIdeal := fun m ρ _ =>
  (θ_run Cert.KernelIdeal.defs _ _).mono (fun _ h => ⟨fun c => (h.1 c).2, h.2⟩) (run_main (F := Ideal) m ρ)

/-- So does the program over the floats: it is the same text. -/
theorem frame_kernel : Cert.quiescent_Kernel := fun m ρ _ =>
  run_same _ _ ((θ_run Cert.KernelIdeal.defs _ _).mono (fun _ h => ⟨fun c => (h.1 c).2, h.2⟩) (run_main (F := Bits) m ρ))

/-- And the reference. -/
theorem frame_reference : Cert.quiescent_ReferenceIdeal := fun m ρ _ => Cert.ReferenceIdeal.Gen.frame m ρ

instance : Cert.Pre_scales_fit_KernelIdeal.Facts := ⟨by decide⟩
instance : Cert.Pre_scales_fit_ReferenceIdeal.Facts := ⟨by decide⟩

/-- Over the extended reals every device ends with the reference's result, where the product of the scales is neither
negative nor infinite. -/
theorem same_value : Cert.algebraic_KernelIdeal_ReferenceIdeal_pre_scales_fit_KernelIdeal := by
  intro m g m' g' hpre hin
  have hs := fits _ _ _ _ (hpre 0)
  rw [(hin 0).2.2.1, (hin 0).2.2.2] at hs
  have hout := out_ref (inp m) _ _ _ _ (fun d => (hin d).1) (fun d => (hin d).2.1) (fun d => (hin d).2.2.1)
    (fun d => (hin d).2.2.2) hs.1 hs.2
  refine ⟨_, (θ_run Cert.KernelIdeal.defs _ _).mono (fun _ h c => ⟨(h.1 c).1.trans hout, (h.1 c).2⟩) (run_main (F := Ideal) m g),
    (θ_run Cert.ReferenceIdeal.defs _ _).mono (fun _ h => h 0) (Cert.ReferenceIdeal.Value.run m' g')⟩

/-- Every claim of the certificate. -/
theorem claim : Cert.Claim := ⟨Cert.Kernel.Gen.facts, Cert.KernelIdeal.Gen.facts, Cert.ReferenceIdeal.Gen.facts,
  inferInstance, inferInstance, frame_kernel, frame_kernelIdeal, fun m ρ _ => frame_kernelIdeal m ρ trivial,
  frame_reference, fun m ρ _ => frame_reference m ρ trivial, trivial, same_value⟩

end Cert.Proof

end
